-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelW1 (m : (ℓ : Loc Cert.KernelW1.nD Cert.KernelW1.τ Cert.KernelW1.sig) → Buf (Elt Bits) ℓ) : Prop :=
  True

def Pre_KernelW1Ideal (m : (ℓ : Loc Cert.KernelW1Ideal.nD Cert.KernelW1Ideal.τ Cert.KernelW1Ideal.sig) → Buf (Elt Ideal) ℓ) : Prop :=
  True

def Pre_ReferenceW1Ideal (m : (ℓ : Loc Cert.ReferenceW1Ideal.nD Cert.ReferenceW1Ideal.τ Cert.ReferenceW1Ideal.sig) → Buf (Elt Ideal) ℓ) : Prop :=
  True

def Pre_KernelH1 (m : (ℓ : Loc Cert.KernelH1.nD Cert.KernelH1.τ Cert.KernelH1.sig) → Buf (Elt Bits) ℓ) : Prop :=
  True

def Pre_KernelH1Ideal (m : (ℓ : Loc Cert.KernelH1Ideal.nD Cert.KernelH1Ideal.τ Cert.KernelH1Ideal.sig) → Buf (Elt Ideal) ℓ) : Prop :=
  True

def Pre_ReferenceH1Ideal (m : (ℓ : Loc Cert.ReferenceH1Ideal.nD Cert.ReferenceH1Ideal.τ Cert.ReferenceH1Ideal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelW2 (m : (ℓ : Loc Cert.KernelW2.nD Cert.KernelW2.τ Cert.KernelW2.sig) → Buf (Elt Bits) ℓ) : Prop :=
  True

def Pre_KernelW2Ideal (m : (ℓ : Loc Cert.KernelW2Ideal.nD Cert.KernelW2Ideal.τ Cert.KernelW2Ideal.sig) → Buf (Elt Ideal) ℓ) : Prop :=
  True

def Pre_ReferenceW2Ideal (m : (ℓ : Loc Cert.ReferenceW2Ideal.nD Cert.ReferenceW2Ideal.τ Cert.ReferenceW2Ideal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelH0 (m : (ℓ : Loc Cert.KernelH0.nD Cert.KernelH0.τ Cert.KernelH0.sig) → Buf (Elt Bits) ℓ) : Prop :=
  True

def Pre_KernelH0Ideal (m : (ℓ : Loc Cert.KernelH0Ideal.nD Cert.KernelH0Ideal.τ Cert.KernelH0Ideal.sig) → Buf (Elt Ideal) ℓ) : Prop :=
  True

def Pre_ReferenceH0Ideal (m : (ℓ : Loc Cert.ReferenceH0Ideal.nD Cert.ReferenceH0Ideal.τ Cert.ReferenceH0Ideal.sig) → Buf (Elt Ideal) ℓ) : Prop :=
  True

def Pre_KernelWpg (m : (ℓ : Loc Cert.KernelWpg.nD Cert.KernelWpg.τ Cert.KernelWpg.sig) → Buf (Elt Bits) ℓ) : Prop :=
  True

def Pre_KernelWpgIdeal (m : (ℓ : Loc Cert.KernelWpgIdeal.nD Cert.KernelWpgIdeal.τ Cert.KernelWpgIdeal.sig) → Buf (Elt Ideal) ℓ) : Prop :=
  True

def Pre_ReferenceWpgIdeal (m : (ℓ : Loc Cert.ReferenceWpgIdeal.nD Cert.ReferenceWpgIdeal.τ Cert.ReferenceWpgIdeal.sig) → Buf (Elt Ideal) ℓ) : Prop :=
  True

def Pre_KernelH2 (m : (ℓ : Loc Cert.KernelH2.nD Cert.KernelH2.τ Cert.KernelH2.sig) → Buf (Elt Bits) ℓ) : Prop :=
  True

def Pre_KernelH2Ideal (m : (ℓ : Loc Cert.KernelH2Ideal.nD Cert.KernelH2Ideal.τ Cert.KernelH2Ideal.sig) → Buf (Elt Ideal) ℓ) : Prop :=
  True

def Pre_ReferenceH2Ideal (m : (ℓ : Loc Cert.ReferenceH2Ideal.nD Cert.ReferenceH2Ideal.τ Cert.ReferenceH2Ideal.sig) → Buf (Elt Ideal) ℓ) : Prop :=
  True

def Pre_KernelWcp (m : (ℓ : Loc Cert.KernelWcp.nD Cert.KernelWcp.τ Cert.KernelWcp.sig) → Buf (Elt Bits) ℓ) : Prop :=
  True

def Pre_KernelWcpIdeal (m : (ℓ : Loc Cert.KernelWcpIdeal.nD Cert.KernelWcpIdeal.τ Cert.KernelWcpIdeal.sig) → Buf (Elt Ideal) ℓ) : Prop :=
  True

def Pre_ReferenceWcpIdeal (m : (ℓ : Loc Cert.ReferenceWcpIdeal.nD Cert.ReferenceWcpIdeal.τ Cert.ReferenceWcpIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_ReferenceFfIdeal (m : (ℓ : Loc Cert.ReferenceFfIdeal.nD Cert.ReferenceFfIdeal.τ Cert.ReferenceFfIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_qk [hPre_finite_qk : Cert.Pre_finite_qk.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_qk.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2))) = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_qk [hPre_finite_qk : Cert.Pre_finite_qk.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_qk.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelW1 [hKernelW1 : Cert.KernelW1.Facts] : Prop :=
  ∀ (m : (ℓ : Loc Cert.KernelW1.nD Cert.KernelW1.τ Cert.KernelW1.sig) → Buf (Elt Bits) ℓ) (g : Dev Cert.KernelW1.nD → PrngReg), Pre_KernelW1 m →
    θ_run (Cert.KernelW1.defs (F := Bits)) (onTc (τ := Cert.KernelW1.τ) (Cert.KernelW1.main (F := Bits))) ⟨m, fun _ => 0, g⟩ (fun r => (∀ c : Dev Cert.KernelW1.nD,
      r.2.mem ((c.tc : Thread Cert.KernelW1.nD Cert.KernelW1.τ).loc Cert.KernelW1.main_arg0) = m ((c.tc : Thread Cert.KernelW1.nD Cert.KernelW1.τ).loc Cert.KernelW1.main_arg0)
      ∧ r.2.mem ((c.tc : Thread Cert.KernelW1.nD Cert.KernelW1.τ).loc Cert.KernelW1.main_arg1) = m ((c.tc : Thread Cert.KernelW1.nD Cert.KernelW1.τ).loc Cert.KernelW1.main_arg1))
      ∧ r.2.sem = fun _ => 0)

def quiescent_KernelW1Ideal [hKernelW1Ideal : Cert.KernelW1Ideal.Facts] : Prop :=
  ∀ (m : (ℓ : Loc Cert.KernelW1Ideal.nD Cert.KernelW1Ideal.τ Cert.KernelW1Ideal.sig) → Buf (Elt Ideal) ℓ) (g : Dev Cert.KernelW1Ideal.nD → PrngReg), Pre_KernelW1Ideal m →
    θ_run (Cert.KernelW1Ideal.defs (F := Ideal)) (onTc (τ := Cert.KernelW1Ideal.τ) (Cert.KernelW1Ideal.main (F := Ideal))) ⟨m, fun _ => 0, g⟩ (fun r => (∀ c : Dev Cert.KernelW1Ideal.nD,
      r.2.mem ((c.tc : Thread Cert.KernelW1Ideal.nD Cert.KernelW1Ideal.τ).loc Cert.KernelW1Ideal.main_arg0) = m ((c.tc : Thread Cert.KernelW1Ideal.nD Cert.KernelW1Ideal.τ).loc Cert.KernelW1Ideal.main_arg0)
      ∧ r.2.mem ((c.tc : Thread Cert.KernelW1Ideal.nD Cert.KernelW1Ideal.τ).loc Cert.KernelW1Ideal.main_arg1) = m ((c.tc : Thread Cert.KernelW1Ideal.nD Cert.KernelW1Ideal.τ).loc Cert.KernelW1Ideal.main_arg1))
      ∧ r.2.sem = fun _ => 0)

def quiescent_ReferenceW1Ideal [hReferenceW1Ideal : Cert.ReferenceW1Ideal.Facts] : Prop :=
  ∀ (m : (ℓ : Loc Cert.ReferenceW1Ideal.nD Cert.ReferenceW1Ideal.τ Cert.ReferenceW1Ideal.sig) → Buf (Elt Ideal) ℓ) (g : Dev Cert.ReferenceW1Ideal.nD → PrngReg), Pre_ReferenceW1Ideal m →
    θ_run (Cert.ReferenceW1Ideal.defs (F := Ideal)) (onTc (τ := Cert.ReferenceW1Ideal.τ) (Cert.ReferenceW1Ideal.main (F := Ideal))) ⟨m, fun _ => 0, g⟩ (fun r => (∀ c : Dev Cert.ReferenceW1Ideal.nD,
      r.2.mem ((c.tc : Thread Cert.ReferenceW1Ideal.nD Cert.ReferenceW1Ideal.τ).loc Cert.ReferenceW1Ideal.main_arg0) = m ((c.tc : Thread Cert.ReferenceW1Ideal.nD Cert.ReferenceW1Ideal.τ).loc Cert.ReferenceW1Ideal.main_arg0)
      ∧ r.2.mem ((c.tc : Thread Cert.ReferenceW1Ideal.nD Cert.ReferenceW1Ideal.τ).loc Cert.ReferenceW1Ideal.main_arg1) = m ((c.tc : Thread Cert.ReferenceW1Ideal.nD Cert.ReferenceW1Ideal.τ).loc Cert.ReferenceW1Ideal.main_arg1))
      ∧ r.2.sem = fun _ => 0)

def quiescent_KernelH1 [hKernelH1 : Cert.KernelH1.Facts] : Prop :=
  ∀ (m : (ℓ : Loc Cert.KernelH1.nD Cert.KernelH1.τ Cert.KernelH1.sig) → Buf (Elt Bits) ℓ) (g : Dev Cert.KernelH1.nD → PrngReg), Pre_KernelH1 m →
    θ_run (Cert.KernelH1.defs (F := Bits)) (onTc (τ := Cert.KernelH1.τ) (Cert.KernelH1.main (F := Bits))) ⟨m, fun _ => 0, g⟩ (fun r => (∀ c : Dev Cert.KernelH1.nD,
      r.2.mem ((c.tc : Thread Cert.KernelH1.nD Cert.KernelH1.τ).loc Cert.KernelH1.main_arg0) = m ((c.tc : Thread Cert.KernelH1.nD Cert.KernelH1.τ).loc Cert.KernelH1.main_arg0)
      ∧ r.2.mem ((c.tc : Thread Cert.KernelH1.nD Cert.KernelH1.τ).loc Cert.KernelH1.main_arg1) = m ((c.tc : Thread Cert.KernelH1.nD Cert.KernelH1.τ).loc Cert.KernelH1.main_arg1))
      ∧ r.2.sem = fun _ => 0)

def quiescent_KernelH1Ideal [hKernelH1Ideal : Cert.KernelH1Ideal.Facts] : Prop :=
  ∀ (m : (ℓ : Loc Cert.KernelH1Ideal.nD Cert.KernelH1Ideal.τ Cert.KernelH1Ideal.sig) → Buf (Elt Ideal) ℓ) (g : Dev Cert.KernelH1Ideal.nD → PrngReg), Pre_KernelH1Ideal m →
    θ_run (Cert.KernelH1Ideal.defs (F := Ideal)) (onTc (τ := Cert.KernelH1Ideal.τ) (Cert.KernelH1Ideal.main (F := Ideal))) ⟨m, fun _ => 0, g⟩ (fun r => (∀ c : Dev Cert.KernelH1Ideal.nD,
      r.2.mem ((c.tc : Thread Cert.KernelH1Ideal.nD Cert.KernelH1Ideal.τ).loc Cert.KernelH1Ideal.main_arg0) = m ((c.tc : Thread Cert.KernelH1Ideal.nD Cert.KernelH1Ideal.τ).loc Cert.KernelH1Ideal.main_arg0)
      ∧ r.2.mem ((c.tc : Thread Cert.KernelH1Ideal.nD Cert.KernelH1Ideal.τ).loc Cert.KernelH1Ideal.main_arg1) = m ((c.tc : Thread Cert.KernelH1Ideal.nD Cert.KernelH1Ideal.τ).loc Cert.KernelH1Ideal.main_arg1))
      ∧ r.2.sem = fun _ => 0)

def quiescent_ReferenceH1Ideal [hReferenceH1Ideal : Cert.ReferenceH1Ideal.Facts] : Prop :=
  ∀ (m : (ℓ : Loc Cert.ReferenceH1Ideal.nD Cert.ReferenceH1Ideal.τ Cert.ReferenceH1Ideal.sig) → Buf (Elt Ideal) ℓ) (g : Dev Cert.ReferenceH1Ideal.nD → PrngReg), Pre_ReferenceH1Ideal m →
    θ_run (Cert.ReferenceH1Ideal.defs (F := Ideal)) (onTc (τ := Cert.ReferenceH1Ideal.τ) (Cert.ReferenceH1Ideal.main (F := Ideal))) ⟨m, fun _ => 0, g⟩ (fun r => (∀ c : Dev Cert.ReferenceH1Ideal.nD,
      r.2.mem ((c.tc : Thread Cert.ReferenceH1Ideal.nD Cert.ReferenceH1Ideal.τ).loc Cert.ReferenceH1Ideal.main_arg0) = m ((c.tc : Thread Cert.ReferenceH1Ideal.nD Cert.ReferenceH1Ideal.τ).loc Cert.ReferenceH1Ideal.main_arg0)
      ∧ r.2.mem ((c.tc : Thread Cert.ReferenceH1Ideal.nD Cert.ReferenceH1Ideal.τ).loc Cert.ReferenceH1Ideal.main_arg1) = m ((c.tc : Thread Cert.ReferenceH1Ideal.nD Cert.ReferenceH1Ideal.τ).loc Cert.ReferenceH1Ideal.main_arg1))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_KernelW2 [hKernelW2 : Cert.KernelW2.Facts] : Prop :=
  ∀ (m : (ℓ : Loc Cert.KernelW2.nD Cert.KernelW2.τ Cert.KernelW2.sig) → Buf (Elt Bits) ℓ) (g : Dev Cert.KernelW2.nD → PrngReg), Pre_KernelW2 m →
    θ_run (Cert.KernelW2.defs (F := Bits)) (onTc (τ := Cert.KernelW2.τ) (Cert.KernelW2.main (F := Bits))) ⟨m, fun _ => 0, g⟩ (fun r => (∀ c : Dev Cert.KernelW2.nD,
      r.2.mem ((c.tc : Thread Cert.KernelW2.nD Cert.KernelW2.τ).loc Cert.KernelW2.main_arg0) = m ((c.tc : Thread Cert.KernelW2.nD Cert.KernelW2.τ).loc Cert.KernelW2.main_arg0)
      ∧ r.2.mem ((c.tc : Thread Cert.KernelW2.nD Cert.KernelW2.τ).loc Cert.KernelW2.main_arg1) = m ((c.tc : Thread Cert.KernelW2.nD Cert.KernelW2.τ).loc Cert.KernelW2.main_arg1))
      ∧ r.2.sem = fun _ => 0)

def quiescent_KernelW2Ideal [hKernelW2Ideal : Cert.KernelW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg), Pre_KernelW2Ideal m →
    θ_run (Cert.KernelW2Ideal.defs (F := Ideal)) (onTc (τ := Cert.KernelW2Ideal.τ) (Cert.KernelW2Ideal.main (F := Ideal))) ⟨m, fun _ => 0, g⟩ (fun r => (∀ c : Dev Cert.KernelW2Ideal.nD,
      r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
      ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1))
      ∧ r.2.sem = fun _ => 0)

def quiescent_ReferenceW2Ideal [hReferenceW2Ideal : Cert.ReferenceW2Ideal.Facts] : Prop :=
  ∀ (m : (ℓ : Loc Cert.ReferenceW2Ideal.nD Cert.ReferenceW2Ideal.τ Cert.ReferenceW2Ideal.sig) → Buf (Elt Ideal) ℓ) (g : Dev Cert.ReferenceW2Ideal.nD → PrngReg), Pre_ReferenceW2Ideal m →
    θ_run (Cert.ReferenceW2Ideal.defs (F := Ideal)) (onTc (τ := Cert.ReferenceW2Ideal.τ) (Cert.ReferenceW2Ideal.main (F := Ideal))) ⟨m, fun _ => 0, g⟩ (fun r => (∀ c : Dev Cert.ReferenceW2Ideal.nD,
      r.2.mem ((c.tc : Thread Cert.ReferenceW2Ideal.nD Cert.ReferenceW2Ideal.τ).loc Cert.ReferenceW2Ideal.main_arg0) = m ((c.tc : Thread Cert.ReferenceW2Ideal.nD Cert.ReferenceW2Ideal.τ).loc Cert.ReferenceW2Ideal.main_arg0)
      ∧ r.2.mem ((c.tc : Thread Cert.ReferenceW2Ideal.nD Cert.ReferenceW2Ideal.τ).loc Cert.ReferenceW2Ideal.main_arg1) = m ((c.tc : Thread Cert.ReferenceW2Ideal.nD Cert.ReferenceW2Ideal.τ).loc Cert.ReferenceW2Ideal.main_arg1))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelH0 [hKernelH0 : Cert.KernelH0.Facts] : Prop :=
  ∀ (m : (ℓ : Loc Cert.KernelH0.nD Cert.KernelH0.τ Cert.KernelH0.sig) → Buf (Elt Bits) ℓ) (g : Dev Cert.KernelH0.nD → PrngReg), Pre_KernelH0 m →
    θ_run (Cert.KernelH0.defs (F := Bits)) (onTc (τ := Cert.KernelH0.τ) (Cert.KernelH0.main (F := Bits))) ⟨m, fun _ => 0, g⟩ (fun r => (∀ c : Dev Cert.KernelH0.nD,
      r.2.mem ((c.tc : Thread Cert.KernelH0.nD Cert.KernelH0.τ).loc Cert.KernelH0.main_arg0) = m ((c.tc : Thread Cert.KernelH0.nD Cert.KernelH0.τ).loc Cert.KernelH0.main_arg0)
      ∧ r.2.mem ((c.tc : Thread Cert.KernelH0.nD Cert.KernelH0.τ).loc Cert.KernelH0.main_arg1) = m ((c.tc : Thread Cert.KernelH0.nD Cert.KernelH0.τ).loc Cert.KernelH0.main_arg1))
      ∧ r.2.sem = fun _ => 0)

def quiescent_KernelH0Ideal [hKernelH0Ideal : Cert.KernelH0Ideal.Facts] : Prop :=
  ∀ (m : (ℓ : Loc Cert.KernelH0Ideal.nD Cert.KernelH0Ideal.τ Cert.KernelH0Ideal.sig) → Buf (Elt Ideal) ℓ) (g : Dev Cert.KernelH0Ideal.nD → PrngReg), Pre_KernelH0Ideal m →
    θ_run (Cert.KernelH0Ideal.defs (F := Ideal)) (onTc (τ := Cert.KernelH0Ideal.τ) (Cert.KernelH0Ideal.main (F := Ideal))) ⟨m, fun _ => 0, g⟩ (fun r => (∀ c : Dev Cert.KernelH0Ideal.nD,
      r.2.mem ((c.tc : Thread Cert.KernelH0Ideal.nD Cert.KernelH0Ideal.τ).loc Cert.KernelH0Ideal.main_arg0) = m ((c.tc : Thread Cert.KernelH0Ideal.nD Cert.KernelH0Ideal.τ).loc Cert.KernelH0Ideal.main_arg0)
      ∧ r.2.mem ((c.tc : Thread Cert.KernelH0Ideal.nD Cert.KernelH0Ideal.τ).loc Cert.KernelH0Ideal.main_arg1) = m ((c.tc : Thread Cert.KernelH0Ideal.nD Cert.KernelH0Ideal.τ).loc Cert.KernelH0Ideal.main_arg1))
      ∧ r.2.sem = fun _ => 0)

def quiescent_ReferenceH0Ideal [hReferenceH0Ideal : Cert.ReferenceH0Ideal.Facts] : Prop :=
  ∀ (m : (ℓ : Loc Cert.ReferenceH0Ideal.nD Cert.ReferenceH0Ideal.τ Cert.ReferenceH0Ideal.sig) → Buf (Elt Ideal) ℓ) (g : Dev Cert.ReferenceH0Ideal.nD → PrngReg), Pre_ReferenceH0Ideal m →
    θ_run (Cert.ReferenceH0Ideal.defs (F := Ideal)) (onTc (τ := Cert.ReferenceH0Ideal.τ) (Cert.ReferenceH0Ideal.main (F := Ideal))) ⟨m, fun _ => 0, g⟩ (fun r => (∀ c : Dev Cert.ReferenceH0Ideal.nD,
      r.2.mem ((c.tc : Thread Cert.ReferenceH0Ideal.nD Cert.ReferenceH0Ideal.τ).loc Cert.ReferenceH0Ideal.main_arg0) = m ((c.tc : Thread Cert.ReferenceH0Ideal.nD Cert.ReferenceH0Ideal.τ).loc Cert.ReferenceH0Ideal.main_arg0)
      ∧ r.2.mem ((c.tc : Thread Cert.ReferenceH0Ideal.nD Cert.ReferenceH0Ideal.τ).loc Cert.ReferenceH0Ideal.main_arg1) = m ((c.tc : Thread Cert.ReferenceH0Ideal.nD Cert.ReferenceH0Ideal.τ).loc Cert.ReferenceH0Ideal.main_arg1))
      ∧ r.2.sem = fun _ => 0)

def quiescent_KernelWpg [hKernelWpg : Cert.KernelWpg.Facts] : Prop :=
  ∀ (m : (ℓ : Loc Cert.KernelWpg.nD Cert.KernelWpg.τ Cert.KernelWpg.sig) → Buf (Elt Bits) ℓ) (g : Dev Cert.KernelWpg.nD → PrngReg), Pre_KernelWpg m →
    θ_run (Cert.KernelWpg.defs (F := Bits)) (onTc (τ := Cert.KernelWpg.τ) (Cert.KernelWpg.main (F := Bits))) ⟨m, fun _ => 0, g⟩ (fun r => (∀ c : Dev Cert.KernelWpg.nD,
      r.2.mem ((c.tc : Thread Cert.KernelWpg.nD Cert.KernelWpg.τ).loc Cert.KernelWpg.main_arg0) = m ((c.tc : Thread Cert.KernelWpg.nD Cert.KernelWpg.τ).loc Cert.KernelWpg.main_arg0)
      ∧ r.2.mem ((c.tc : Thread Cert.KernelWpg.nD Cert.KernelWpg.τ).loc Cert.KernelWpg.main_arg1) = m ((c.tc : Thread Cert.KernelWpg.nD Cert.KernelWpg.τ).loc Cert.KernelWpg.main_arg1))
      ∧ r.2.sem = fun _ => 0)

def quiescent_KernelWpgIdeal [hKernelWpgIdeal : Cert.KernelWpgIdeal.Facts] : Prop :=
  ∀ (m : (ℓ : Loc Cert.KernelWpgIdeal.nD Cert.KernelWpgIdeal.τ Cert.KernelWpgIdeal.sig) → Buf (Elt Ideal) ℓ) (g : Dev Cert.KernelWpgIdeal.nD → PrngReg), Pre_KernelWpgIdeal m →
    θ_run (Cert.KernelWpgIdeal.defs (F := Ideal)) (onTc (τ := Cert.KernelWpgIdeal.τ) (Cert.KernelWpgIdeal.main (F := Ideal))) ⟨m, fun _ => 0, g⟩ (fun r => (∀ c : Dev Cert.KernelWpgIdeal.nD,
      r.2.mem ((c.tc : Thread Cert.KernelWpgIdeal.nD Cert.KernelWpgIdeal.τ).loc Cert.KernelWpgIdeal.main_arg0) = m ((c.tc : Thread Cert.KernelWpgIdeal.nD Cert.KernelWpgIdeal.τ).loc Cert.KernelWpgIdeal.main_arg0)
      ∧ r.2.mem ((c.tc : Thread Cert.KernelWpgIdeal.nD Cert.KernelWpgIdeal.τ).loc Cert.KernelWpgIdeal.main_arg1) = m ((c.tc : Thread Cert.KernelWpgIdeal.nD Cert.KernelWpgIdeal.τ).loc Cert.KernelWpgIdeal.main_arg1))
      ∧ r.2.sem = fun _ => 0)

def quiescent_ReferenceWpgIdeal [hReferenceWpgIdeal : Cert.ReferenceWpgIdeal.Facts] : Prop :=
  ∀ (m : (ℓ : Loc Cert.ReferenceWpgIdeal.nD Cert.ReferenceWpgIdeal.τ Cert.ReferenceWpgIdeal.sig) → Buf (Elt Ideal) ℓ) (g : Dev Cert.ReferenceWpgIdeal.nD → PrngReg), Pre_ReferenceWpgIdeal m →
    θ_run (Cert.ReferenceWpgIdeal.defs (F := Ideal)) (onTc (τ := Cert.ReferenceWpgIdeal.τ) (Cert.ReferenceWpgIdeal.main (F := Ideal))) ⟨m, fun _ => 0, g⟩ (fun r => (∀ c : Dev Cert.ReferenceWpgIdeal.nD,
      r.2.mem ((c.tc : Thread Cert.ReferenceWpgIdeal.nD Cert.ReferenceWpgIdeal.τ).loc Cert.ReferenceWpgIdeal.main_arg0) = m ((c.tc : Thread Cert.ReferenceWpgIdeal.nD Cert.ReferenceWpgIdeal.τ).loc Cert.ReferenceWpgIdeal.main_arg0)
      ∧ r.2.mem ((c.tc : Thread Cert.ReferenceWpgIdeal.nD Cert.ReferenceWpgIdeal.τ).loc Cert.ReferenceWpgIdeal.main_arg1) = m ((c.tc : Thread Cert.ReferenceWpgIdeal.nD Cert.ReferenceWpgIdeal.τ).loc Cert.ReferenceWpgIdeal.main_arg1))
      ∧ r.2.sem = fun _ => 0)

def quiescent_KernelH2 [hKernelH2 : Cert.KernelH2.Facts] : Prop :=
  ∀ (m : (ℓ : Loc Cert.KernelH2.nD Cert.KernelH2.τ Cert.KernelH2.sig) → Buf (Elt Bits) ℓ) (g : Dev Cert.KernelH2.nD → PrngReg), Pre_KernelH2 m →
    θ_run (Cert.KernelH2.defs (F := Bits)) (onTc (τ := Cert.KernelH2.τ) (Cert.KernelH2.main (F := Bits))) ⟨m, fun _ => 0, g⟩ (fun r => (∀ c : Dev Cert.KernelH2.nD,
      r.2.mem ((c.tc : Thread Cert.KernelH2.nD Cert.KernelH2.τ).loc Cert.KernelH2.main_arg0) = m ((c.tc : Thread Cert.KernelH2.nD Cert.KernelH2.τ).loc Cert.KernelH2.main_arg0)
      ∧ r.2.mem ((c.tc : Thread Cert.KernelH2.nD Cert.KernelH2.τ).loc Cert.KernelH2.main_arg1) = m ((c.tc : Thread Cert.KernelH2.nD Cert.KernelH2.τ).loc Cert.KernelH2.main_arg1))
      ∧ r.2.sem = fun _ => 0)

def quiescent_KernelH2Ideal [hKernelH2Ideal : Cert.KernelH2Ideal.Facts] : Prop :=
  ∀ (m : (ℓ : Loc Cert.KernelH2Ideal.nD Cert.KernelH2Ideal.τ Cert.KernelH2Ideal.sig) → Buf (Elt Ideal) ℓ) (g : Dev Cert.KernelH2Ideal.nD → PrngReg), Pre_KernelH2Ideal m →
    θ_run (Cert.KernelH2Ideal.defs (F := Ideal)) (onTc (τ := Cert.KernelH2Ideal.τ) (Cert.KernelH2Ideal.main (F := Ideal))) ⟨m, fun _ => 0, g⟩ (fun r => (∀ c : Dev Cert.KernelH2Ideal.nD,
      r.2.mem ((c.tc : Thread Cert.KernelH2Ideal.nD Cert.KernelH2Ideal.τ).loc Cert.KernelH2Ideal.main_arg0) = m ((c.tc : Thread Cert.KernelH2Ideal.nD Cert.KernelH2Ideal.τ).loc Cert.KernelH2Ideal.main_arg0)
      ∧ r.2.mem ((c.tc : Thread Cert.KernelH2Ideal.nD Cert.KernelH2Ideal.τ).loc Cert.KernelH2Ideal.main_arg1) = m ((c.tc : Thread Cert.KernelH2Ideal.nD Cert.KernelH2Ideal.τ).loc Cert.KernelH2Ideal.main_arg1))
      ∧ r.2.sem = fun _ => 0)

def quiescent_ReferenceH2Ideal [hReferenceH2Ideal : Cert.ReferenceH2Ideal.Facts] : Prop :=
  ∀ (m : (ℓ : Loc Cert.ReferenceH2Ideal.nD Cert.ReferenceH2Ideal.τ Cert.ReferenceH2Ideal.sig) → Buf (Elt Ideal) ℓ) (g : Dev Cert.ReferenceH2Ideal.nD → PrngReg), Pre_ReferenceH2Ideal m →
    θ_run (Cert.ReferenceH2Ideal.defs (F := Ideal)) (onTc (τ := Cert.ReferenceH2Ideal.τ) (Cert.ReferenceH2Ideal.main (F := Ideal))) ⟨m, fun _ => 0, g⟩ (fun r => (∀ c : Dev Cert.ReferenceH2Ideal.nD,
      r.2.mem ((c.tc : Thread Cert.ReferenceH2Ideal.nD Cert.ReferenceH2Ideal.τ).loc Cert.ReferenceH2Ideal.main_arg0) = m ((c.tc : Thread Cert.ReferenceH2Ideal.nD Cert.ReferenceH2Ideal.τ).loc Cert.ReferenceH2Ideal.main_arg0)
      ∧ r.2.mem ((c.tc : Thread Cert.ReferenceH2Ideal.nD Cert.ReferenceH2Ideal.τ).loc Cert.ReferenceH2Ideal.main_arg1) = m ((c.tc : Thread Cert.ReferenceH2Ideal.nD Cert.ReferenceH2Ideal.τ).loc Cert.ReferenceH2Ideal.main_arg1))
      ∧ r.2.sem = fun _ => 0)

def quiescent_KernelWcp [hKernelWcp : Cert.KernelWcp.Facts] : Prop :=
  ∀ (m : (ℓ : Loc Cert.KernelWcp.nD Cert.KernelWcp.τ Cert.KernelWcp.sig) → Buf (Elt Bits) ℓ) (g : Dev Cert.KernelWcp.nD → PrngReg), Pre_KernelWcp m →
    θ_run (Cert.KernelWcp.defs (F := Bits)) (onTc (τ := Cert.KernelWcp.τ) (Cert.KernelWcp.main (F := Bits))) ⟨m, fun _ => 0, g⟩ (fun r => (∀ c : Dev Cert.KernelWcp.nD,
      r.2.mem ((c.tc : Thread Cert.KernelWcp.nD Cert.KernelWcp.τ).loc Cert.KernelWcp.main_arg0) = m ((c.tc : Thread Cert.KernelWcp.nD Cert.KernelWcp.τ).loc Cert.KernelWcp.main_arg0)
      ∧ r.2.mem ((c.tc : Thread Cert.KernelWcp.nD Cert.KernelWcp.τ).loc Cert.KernelWcp.main_arg1) = m ((c.tc : Thread Cert.KernelWcp.nD Cert.KernelWcp.τ).loc Cert.KernelWcp.main_arg1))
      ∧ r.2.sem = fun _ => 0)

def quiescent_KernelWcpIdeal [hKernelWcpIdeal : Cert.KernelWcpIdeal.Facts] : Prop :=
  ∀ (m : (ℓ : Loc Cert.KernelWcpIdeal.nD Cert.KernelWcpIdeal.τ Cert.KernelWcpIdeal.sig) → Buf (Elt Ideal) ℓ) (g : Dev Cert.KernelWcpIdeal.nD → PrngReg), Pre_KernelWcpIdeal m →
    θ_run (Cert.KernelWcpIdeal.defs (F := Ideal)) (onTc (τ := Cert.KernelWcpIdeal.τ) (Cert.KernelWcpIdeal.main (F := Ideal))) ⟨m, fun _ => 0, g⟩ (fun r => (∀ c : Dev Cert.KernelWcpIdeal.nD,
      r.2.mem ((c.tc : Thread Cert.KernelWcpIdeal.nD Cert.KernelWcpIdeal.τ).loc Cert.KernelWcpIdeal.main_arg0) = m ((c.tc : Thread Cert.KernelWcpIdeal.nD Cert.KernelWcpIdeal.τ).loc Cert.KernelWcpIdeal.main_arg0)
      ∧ r.2.mem ((c.tc : Thread Cert.KernelWcpIdeal.nD Cert.KernelWcpIdeal.τ).loc Cert.KernelWcpIdeal.main_arg1) = m ((c.tc : Thread Cert.KernelWcpIdeal.nD Cert.KernelWcpIdeal.τ).loc Cert.KernelWcpIdeal.main_arg1))
      ∧ r.2.sem = fun _ => 0)

def quiescent_ReferenceWcpIdeal [hReferenceWcpIdeal : Cert.ReferenceWcpIdeal.Facts] : Prop :=
  ∀ (m : (ℓ : Loc Cert.ReferenceWcpIdeal.nD Cert.ReferenceWcpIdeal.τ Cert.ReferenceWcpIdeal.sig) → Buf (Elt Ideal) ℓ) (g : Dev Cert.ReferenceWcpIdeal.nD → PrngReg), Pre_ReferenceWcpIdeal m →
    θ_run (Cert.ReferenceWcpIdeal.defs (F := Ideal)) (onTc (τ := Cert.ReferenceWcpIdeal.τ) (Cert.ReferenceWcpIdeal.main (F := Ideal))) ⟨m, fun _ => 0, g⟩ (fun r => (∀ c : Dev Cert.ReferenceWcpIdeal.nD,
      r.2.mem ((c.tc : Thread Cert.ReferenceWcpIdeal.nD Cert.ReferenceWcpIdeal.τ).loc Cert.ReferenceWcpIdeal.main_arg0) = m ((c.tc : Thread Cert.ReferenceWcpIdeal.nD Cert.ReferenceWcpIdeal.τ).loc Cert.ReferenceWcpIdeal.main_arg0)
      ∧ r.2.mem ((c.tc : Thread Cert.ReferenceWcpIdeal.nD Cert.ReferenceWcpIdeal.τ).loc Cert.ReferenceWcpIdeal.main_arg1) = m ((c.tc : Thread Cert.ReferenceWcpIdeal.nD Cert.ReferenceWcpIdeal.τ).loc Cert.ReferenceWcpIdeal.main_arg1))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1))
      ∧ r.2.sem = fun _ => 0)

def quiescent_ReferenceFfIdeal [hReferenceFfIdeal : Cert.ReferenceFfIdeal.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2)
      ∧ r.2.mem ((c.tc : Thread Cert.KernelY.nD Cert.KernelY.τ).loc Cert.KernelY.main_arg3) = m ((c.tc : Thread Cert.KernelY.nD Cert.KernelY.τ).loc Cert.KernelY.main_arg3))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
      ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2)
      ∧ r.2.mem ((c.tc : Thread Cert.ReferenceYIdeal.nD Cert.ReferenceYIdeal.τ).loc Cert.ReferenceYIdeal.main_arg3) = m ((c.tc : Thread Cert.ReferenceYIdeal.nD Cert.ReferenceYIdeal.τ).loc Cert.ReferenceYIdeal.main_arg3))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2)
      ∧ r.2.mem ((c.tc : Thread Cert.KernelG.nD Cert.KernelG.τ).loc Cert.KernelG.main_arg3) = m ((c.tc : Thread Cert.KernelG.nD Cert.KernelG.τ).loc Cert.KernelG.main_arg3))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
      ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2)
      ∧ r.2.mem ((c.tc : Thread Cert.ReferenceGIdeal.nD Cert.ReferenceGIdeal.τ).loc Cert.ReferenceGIdeal.main_arg3) = m ((c.tc : Thread Cert.ReferenceGIdeal.nD Cert.ReferenceGIdeal.τ).loc Cert.ReferenceGIdeal.main_arg3))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ r.2.sem = fun _ => 0)

def quiescent_KernelFwdIdeal_pre_finite_qk [hKernelFwdIdeal : Cert.KernelFwdIdeal.Facts] [hPre_finite_qk : Cert.Pre_finite_qk.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_qk m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2))
      ∧ r.2.sem = fun _ => 0)

def quiescent_ReferenceFwdIdeal_pre_finite_qk [hReferenceFwdIdeal : Cert.ReferenceFwdIdeal.Facts] [hPre_finite_qk : Cert.Pre_finite_qk.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_qk m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelW1_KernelW1Ideal : Prop :=
  True

def algebraic_KernelW1Ideal_ReferenceW1Ideal [hKernelW1Ideal : Cert.KernelW1Ideal.Facts] [hReferenceW1Ideal : Cert.ReferenceW1Ideal.Facts] : Prop :=
  ∀ (m : (ℓ : Loc Cert.KernelW1Ideal.nD Cert.KernelW1Ideal.τ Cert.KernelW1Ideal.sig) → Buf (Elt Ideal) ℓ) (g : Dev Cert.KernelW1Ideal.nD → PrngReg)
    (m' : (ℓ : Loc Cert.ReferenceW1Ideal.nD Cert.ReferenceW1Ideal.τ Cert.ReferenceW1Ideal.sig) → Buf (Elt Ideal) ℓ) (g' : Dev Cert.ReferenceW1Ideal.nD → PrngReg), Pre_KernelW1Ideal m →
    (∀ c : Dev Cert.KernelW1Ideal.nD,
      m' ((c.tc : Thread Cert.ReferenceW1Ideal.nD Cert.ReferenceW1Ideal.τ).loc Cert.ReferenceW1Ideal.main_arg0) = m ((c.tc : Thread Cert.KernelW1Ideal.nD Cert.KernelW1Ideal.τ).loc Cert.KernelW1Ideal.main_arg0)
      ∧ m' ((c.tc : Thread Cert.ReferenceW1Ideal.nD Cert.ReferenceW1Ideal.τ).loc Cert.ReferenceW1Ideal.main_arg1) = m ((c.tc : Thread Cert.KernelW1Ideal.nD Cert.KernelW1Ideal.τ).loc Cert.KernelW1Ideal.main_arg1)) →
    ∃ (v0 : (c : Dev Cert.KernelW1Ideal.nD) → Buf (Elt Ideal) ((c.tc : Thread Cert.KernelW1Ideal.nD Cert.KernelW1Ideal.τ).loc Cert.KernelW1Ideal.main_v0)),
      θ_run (Cert.KernelW1Ideal.defs (F := Ideal)) (onTc (τ := Cert.KernelW1Ideal.τ) (Cert.KernelW1Ideal.main (F := Ideal))) ⟨m, fun _ => 0, g⟩ (fun r => ∀ c : Dev Cert.KernelW1Ideal.nD,
          r.2.mem ((c.tc : Thread Cert.KernelW1Ideal.nD Cert.KernelW1Ideal.τ).loc Cert.KernelW1Ideal.main_v0) = v0 c
          ∧ r.2.mem ((c.tc : Thread Cert.KernelW1Ideal.nD Cert.KernelW1Ideal.τ).loc Cert.KernelW1Ideal.main_arg0) = m ((c.tc : Thread Cert.KernelW1Ideal.nD Cert.KernelW1Ideal.τ).loc Cert.KernelW1Ideal.main_arg0)
          ∧ r.2.mem ((c.tc : Thread Cert.KernelW1Ideal.nD Cert.KernelW1Ideal.τ).loc Cert.KernelW1Ideal.main_arg1) = m ((c.tc : Thread Cert.KernelW1Ideal.nD Cert.KernelW1Ideal.τ).loc Cert.KernelW1Ideal.main_arg1))
      ∧ θ_run (Cert.ReferenceW1Ideal.defs (F := Ideal)) (onTc (τ := Cert.ReferenceW1Ideal.τ) (Cert.ReferenceW1Ideal.main (F := Ideal))) ⟨m', fun _ => 0, g'⟩ (fun r => ∀ c : Dev Cert.ReferenceW1Ideal.nD,
          r.2.mem ((c.tc : Thread Cert.ReferenceW1Ideal.nD Cert.ReferenceW1Ideal.τ).loc Cert.ReferenceW1Ideal.main_v8) = v0 c
          ∧ r.2.mem ((c.tc : Thread Cert.ReferenceW1Ideal.nD Cert.ReferenceW1Ideal.τ).loc Cert.ReferenceW1Ideal.main_arg0) = m' ((c.tc : Thread Cert.ReferenceW1Ideal.nD Cert.ReferenceW1Ideal.τ).loc Cert.ReferenceW1Ideal.main_arg0)
          ∧ r.2.mem ((c.tc : Thread Cert.ReferenceW1Ideal.nD Cert.ReferenceW1Ideal.τ).loc Cert.ReferenceW1Ideal.main_arg1) = m' ((c.tc : Thread Cert.ReferenceW1Ideal.nD Cert.ReferenceW1Ideal.τ).loc Cert.ReferenceW1Ideal.main_arg1))

def preserves_KernelH1_KernelH1Ideal : Prop :=
  True

def algebraic_KernelH1Ideal_ReferenceH1Ideal [hKernelH1Ideal : Cert.KernelH1Ideal.Facts] [hReferenceH1Ideal : Cert.ReferenceH1Ideal.Facts] : Prop :=
  ∀ (m : (ℓ : Loc Cert.KernelH1Ideal.nD Cert.KernelH1Ideal.τ Cert.KernelH1Ideal.sig) → Buf (Elt Ideal) ℓ) (g : Dev Cert.KernelH1Ideal.nD → PrngReg)
    (m' : (ℓ : Loc Cert.ReferenceH1Ideal.nD Cert.ReferenceH1Ideal.τ Cert.ReferenceH1Ideal.sig) → Buf (Elt Ideal) ℓ) (g' : Dev Cert.ReferenceH1Ideal.nD → PrngReg), Pre_KernelH1Ideal m →
    (∀ c : Dev Cert.KernelH1Ideal.nD,
      m' ((c.tc : Thread Cert.ReferenceH1Ideal.nD Cert.ReferenceH1Ideal.τ).loc Cert.ReferenceH1Ideal.main_arg0) = m ((c.tc : Thread Cert.KernelH1Ideal.nD Cert.KernelH1Ideal.τ).loc Cert.KernelH1Ideal.main_arg0)
      ∧ m' ((c.tc : Thread Cert.ReferenceH1Ideal.nD Cert.ReferenceH1Ideal.τ).loc Cert.ReferenceH1Ideal.main_arg1) = m ((c.tc : Thread Cert.KernelH1Ideal.nD Cert.KernelH1Ideal.τ).loc Cert.KernelH1Ideal.main_arg1)) →
    ∃ (v0 : (c : Dev Cert.KernelH1Ideal.nD) → Buf (Elt Ideal) ((c.tc : Thread Cert.KernelH1Ideal.nD Cert.KernelH1Ideal.τ).loc Cert.KernelH1Ideal.main_v0)),
      θ_run (Cert.KernelH1Ideal.defs (F := Ideal)) (onTc (τ := Cert.KernelH1Ideal.τ) (Cert.KernelH1Ideal.main (F := Ideal))) ⟨m, fun _ => 0, g⟩ (fun r => ∀ c : Dev Cert.KernelH1Ideal.nD,
          r.2.mem ((c.tc : Thread Cert.KernelH1Ideal.nD Cert.KernelH1Ideal.τ).loc Cert.KernelH1Ideal.main_v0) = v0 c
          ∧ r.2.mem ((c.tc : Thread Cert.KernelH1Ideal.nD Cert.KernelH1Ideal.τ).loc Cert.KernelH1Ideal.main_arg0) = m ((c.tc : Thread Cert.KernelH1Ideal.nD Cert.KernelH1Ideal.τ).loc Cert.KernelH1Ideal.main_arg0)
          ∧ r.2.mem ((c.tc : Thread Cert.KernelH1Ideal.nD Cert.KernelH1Ideal.τ).loc Cert.KernelH1Ideal.main_arg1) = m ((c.tc : Thread Cert.KernelH1Ideal.nD Cert.KernelH1Ideal.τ).loc Cert.KernelH1Ideal.main_arg1))
      ∧ θ_run (Cert.ReferenceH1Ideal.defs (F := Ideal)) (onTc (τ := Cert.ReferenceH1Ideal.τ) (Cert.ReferenceH1Ideal.main (F := Ideal))) ⟨m', fun _ => 0, g'⟩ (fun r => ∀ c : Dev Cert.ReferenceH1Ideal.nD,
          r.2.mem ((c.tc : Thread Cert.ReferenceH1Ideal.nD Cert.ReferenceH1Ideal.τ).loc Cert.ReferenceH1Ideal.main_v7) = v0 c
          ∧ r.2.mem ((c.tc : Thread Cert.ReferenceH1Ideal.nD Cert.ReferenceH1Ideal.τ).loc Cert.ReferenceH1Ideal.main_arg0) = m' ((c.tc : Thread Cert.ReferenceH1Ideal.nD Cert.ReferenceH1Ideal.τ).loc Cert.ReferenceH1Ideal.main_arg0)
          ∧ r.2.mem ((c.tc : Thread Cert.ReferenceH1Ideal.nD Cert.ReferenceH1Ideal.τ).loc Cert.ReferenceH1Ideal.main_arg1) = m' ((c.tc : Thread Cert.ReferenceH1Ideal.nD Cert.ReferenceH1Ideal.τ).loc Cert.ReferenceH1Ideal.main_arg1))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v0)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v0) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v15) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def preserves_KernelW2_KernelW2Ideal : Prop :=
  True

def algebraic_KernelW2Ideal_ReferenceW2Ideal [hKernelW2Ideal : Cert.KernelW2Ideal.Facts] [hReferenceW2Ideal : Cert.ReferenceW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg)
    (m' : (ℓ : Loc Cert.ReferenceW2Ideal.nD Cert.ReferenceW2Ideal.τ Cert.ReferenceW2Ideal.sig) → Buf (Elt Ideal) ℓ) (g' : Dev Cert.ReferenceW2Ideal.nD → PrngReg), Pre_KernelW2Ideal m →
    (∀ c : Dev Cert.KernelW2Ideal.nD,
      m' ((c.tc : Thread Cert.ReferenceW2Ideal.nD Cert.ReferenceW2Ideal.τ).loc Cert.ReferenceW2Ideal.main_arg0) = m ((c.tc : Thread Cert.KernelW2Ideal.nD Cert.KernelW2Ideal.τ).loc Cert.KernelW2Ideal.main_arg0)
      ∧ m' ((c.tc : Thread Cert.ReferenceW2Ideal.nD Cert.ReferenceW2Ideal.τ).loc Cert.ReferenceW2Ideal.main_arg1) = m ((c.tc : Thread Cert.KernelW2Ideal.nD Cert.KernelW2Ideal.τ).loc Cert.KernelW2Ideal.main_arg1)) →
    ∃ (v0 : (c : Dev Cert.KernelW2Ideal.nD) → Buf (Elt Ideal) ((c.tc : Thread Cert.KernelW2Ideal.nD Cert.KernelW2Ideal.τ).loc Cert.KernelW2Ideal.main_v0)),
      θ_run (Cert.KernelW2Ideal.defs (F := Ideal)) (onTc (τ := Cert.KernelW2Ideal.τ) (Cert.KernelW2Ideal.main (F := Ideal))) ⟨m, fun _ => 0, g⟩ (fun r => ∀ c : Dev Cert.KernelW2Ideal.nD,
          r.2.mem ((c.tc : Thread Cert.KernelW2Ideal.nD Cert.KernelW2Ideal.τ).loc Cert.KernelW2Ideal.main_v0) = v0 c
          ∧ r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
          ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1))
      ∧ θ_run (Cert.ReferenceW2Ideal.defs (F := Ideal)) (onTc (τ := Cert.ReferenceW2Ideal.τ) (Cert.ReferenceW2Ideal.main (F := Ideal))) ⟨m', fun _ => 0, g'⟩ (fun r => ∀ c : Dev Cert.ReferenceW2Ideal.nD,
          r.2.mem ((c.tc : Thread Cert.ReferenceW2Ideal.nD Cert.ReferenceW2Ideal.τ).loc Cert.ReferenceW2Ideal.main_v8) = v0 c
          ∧ r.2.mem ((c.tc : Thread Cert.ReferenceW2Ideal.nD Cert.ReferenceW2Ideal.τ).loc Cert.ReferenceW2Ideal.main_arg0) = m' ((c.tc : Thread Cert.ReferenceW2Ideal.nD Cert.ReferenceW2Ideal.τ).loc Cert.ReferenceW2Ideal.main_arg0)
          ∧ r.2.mem ((c.tc : Thread Cert.ReferenceW2Ideal.nD Cert.ReferenceW2Ideal.τ).loc Cert.ReferenceW2Ideal.main_arg1) = m' ((c.tc : Thread Cert.ReferenceW2Ideal.nD Cert.ReferenceW2Ideal.τ).loc Cert.ReferenceW2Ideal.main_arg1))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v8) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelH0_KernelH0Ideal : Prop :=
  True

def algebraic_KernelH0Ideal_ReferenceH0Ideal [hKernelH0Ideal : Cert.KernelH0Ideal.Facts] [hReferenceH0Ideal : Cert.ReferenceH0Ideal.Facts] : Prop :=
  ∀ (m : (ℓ : Loc Cert.KernelH0Ideal.nD Cert.KernelH0Ideal.τ Cert.KernelH0Ideal.sig) → Buf (Elt Ideal) ℓ) (g : Dev Cert.KernelH0Ideal.nD → PrngReg)
    (m' : (ℓ : Loc Cert.ReferenceH0Ideal.nD Cert.ReferenceH0Ideal.τ Cert.ReferenceH0Ideal.sig) → Buf (Elt Ideal) ℓ) (g' : Dev Cert.ReferenceH0Ideal.nD → PrngReg), Pre_KernelH0Ideal m →
    (∀ c : Dev Cert.KernelH0Ideal.nD,
      m' ((c.tc : Thread Cert.ReferenceH0Ideal.nD Cert.ReferenceH0Ideal.τ).loc Cert.ReferenceH0Ideal.main_arg0) = m ((c.tc : Thread Cert.KernelH0Ideal.nD Cert.KernelH0Ideal.τ).loc Cert.KernelH0Ideal.main_arg0)
      ∧ m' ((c.tc : Thread Cert.ReferenceH0Ideal.nD Cert.ReferenceH0Ideal.τ).loc Cert.ReferenceH0Ideal.main_arg1) = m ((c.tc : Thread Cert.KernelH0Ideal.nD Cert.KernelH0Ideal.τ).loc Cert.KernelH0Ideal.main_arg1)) →
    ∃ (v0 : (c : Dev Cert.KernelH0Ideal.nD) → Buf (Elt Ideal) ((c.tc : Thread Cert.KernelH0Ideal.nD Cert.KernelH0Ideal.τ).loc Cert.KernelH0Ideal.main_v0)),
      θ_run (Cert.KernelH0Ideal.defs (F := Ideal)) (onTc (τ := Cert.KernelH0Ideal.τ) (Cert.KernelH0Ideal.main (F := Ideal))) ⟨m, fun _ => 0, g⟩ (fun r => ∀ c : Dev Cert.KernelH0Ideal.nD,
          r.2.mem ((c.tc : Thread Cert.KernelH0Ideal.nD Cert.KernelH0Ideal.τ).loc Cert.KernelH0Ideal.main_v0) = v0 c
          ∧ r.2.mem ((c.tc : Thread Cert.KernelH0Ideal.nD Cert.KernelH0Ideal.τ).loc Cert.KernelH0Ideal.main_arg0) = m ((c.tc : Thread Cert.KernelH0Ideal.nD Cert.KernelH0Ideal.τ).loc Cert.KernelH0Ideal.main_arg0)
          ∧ r.2.mem ((c.tc : Thread Cert.KernelH0Ideal.nD Cert.KernelH0Ideal.τ).loc Cert.KernelH0Ideal.main_arg1) = m ((c.tc : Thread Cert.KernelH0Ideal.nD Cert.KernelH0Ideal.τ).loc Cert.KernelH0Ideal.main_arg1))
      ∧ θ_run (Cert.ReferenceH0Ideal.defs (F := Ideal)) (onTc (τ := Cert.ReferenceH0Ideal.τ) (Cert.ReferenceH0Ideal.main (F := Ideal))) ⟨m', fun _ => 0, g'⟩ (fun r => ∀ c : Dev Cert.ReferenceH0Ideal.nD,
          r.2.mem ((c.tc : Thread Cert.ReferenceH0Ideal.nD Cert.ReferenceH0Ideal.τ).loc Cert.ReferenceH0Ideal.main_v7) = v0 c
          ∧ r.2.mem ((c.tc : Thread Cert.ReferenceH0Ideal.nD Cert.ReferenceH0Ideal.τ).loc Cert.ReferenceH0Ideal.main_arg0) = m' ((c.tc : Thread Cert.ReferenceH0Ideal.nD Cert.ReferenceH0Ideal.τ).loc Cert.ReferenceH0Ideal.main_arg0)
          ∧ r.2.mem ((c.tc : Thread Cert.ReferenceH0Ideal.nD Cert.ReferenceH0Ideal.τ).loc Cert.ReferenceH0Ideal.main_arg1) = m' ((c.tc : Thread Cert.ReferenceH0Ideal.nD Cert.ReferenceH0Ideal.τ).loc Cert.ReferenceH0Ideal.main_arg1))

def preserves_KernelWpg_KernelWpgIdeal : Prop :=
  True

def algebraic_KernelWpgIdeal_ReferenceWpgIdeal [hKernelWpgIdeal : Cert.KernelWpgIdeal.Facts] [hReferenceWpgIdeal : Cert.ReferenceWpgIdeal.Facts] : Prop :=
  ∀ (m : (ℓ : Loc Cert.KernelWpgIdeal.nD Cert.KernelWpgIdeal.τ Cert.KernelWpgIdeal.sig) → Buf (Elt Ideal) ℓ) (g : Dev Cert.KernelWpgIdeal.nD → PrngReg)
    (m' : (ℓ : Loc Cert.ReferenceWpgIdeal.nD Cert.ReferenceWpgIdeal.τ Cert.ReferenceWpgIdeal.sig) → Buf (Elt Ideal) ℓ) (g' : Dev Cert.ReferenceWpgIdeal.nD → PrngReg), Pre_KernelWpgIdeal m →
    (∀ c : Dev Cert.KernelWpgIdeal.nD,
      m' ((c.tc : Thread Cert.ReferenceWpgIdeal.nD Cert.ReferenceWpgIdeal.τ).loc Cert.ReferenceWpgIdeal.main_arg0) = m ((c.tc : Thread Cert.KernelWpgIdeal.nD Cert.KernelWpgIdeal.τ).loc Cert.KernelWpgIdeal.main_arg0)
      ∧ m' ((c.tc : Thread Cert.ReferenceWpgIdeal.nD Cert.ReferenceWpgIdeal.τ).loc Cert.ReferenceWpgIdeal.main_arg1) = m ((c.tc : Thread Cert.KernelWpgIdeal.nD Cert.KernelWpgIdeal.τ).loc Cert.KernelWpgIdeal.main_arg1)) →
    ∃ (v0 : (c : Dev Cert.KernelWpgIdeal.nD) → Buf (Elt Ideal) ((c.tc : Thread Cert.KernelWpgIdeal.nD Cert.KernelWpgIdeal.τ).loc Cert.KernelWpgIdeal.main_v0)),
      θ_run (Cert.KernelWpgIdeal.defs (F := Ideal)) (onTc (τ := Cert.KernelWpgIdeal.τ) (Cert.KernelWpgIdeal.main (F := Ideal))) ⟨m, fun _ => 0, g⟩ (fun r => ∀ c : Dev Cert.KernelWpgIdeal.nD,
          r.2.mem ((c.tc : Thread Cert.KernelWpgIdeal.nD Cert.KernelWpgIdeal.τ).loc Cert.KernelWpgIdeal.main_v0) = v0 c
          ∧ r.2.mem ((c.tc : Thread Cert.KernelWpgIdeal.nD Cert.KernelWpgIdeal.τ).loc Cert.KernelWpgIdeal.main_arg0) = m ((c.tc : Thread Cert.KernelWpgIdeal.nD Cert.KernelWpgIdeal.τ).loc Cert.KernelWpgIdeal.main_arg0)
          ∧ r.2.mem ((c.tc : Thread Cert.KernelWpgIdeal.nD Cert.KernelWpgIdeal.τ).loc Cert.KernelWpgIdeal.main_arg1) = m ((c.tc : Thread Cert.KernelWpgIdeal.nD Cert.KernelWpgIdeal.τ).loc Cert.KernelWpgIdeal.main_arg1))
      ∧ θ_run (Cert.ReferenceWpgIdeal.defs (F := Ideal)) (onTc (τ := Cert.ReferenceWpgIdeal.τ) (Cert.ReferenceWpgIdeal.main (F := Ideal))) ⟨m', fun _ => 0, g'⟩ (fun r => ∀ c : Dev Cert.ReferenceWpgIdeal.nD,
          r.2.mem ((c.tc : Thread Cert.ReferenceWpgIdeal.nD Cert.ReferenceWpgIdeal.τ).loc Cert.ReferenceWpgIdeal.main_v6) = v0 c
          ∧ r.2.mem ((c.tc : Thread Cert.ReferenceWpgIdeal.nD Cert.ReferenceWpgIdeal.τ).loc Cert.ReferenceWpgIdeal.main_arg0) = m' ((c.tc : Thread Cert.ReferenceWpgIdeal.nD Cert.ReferenceWpgIdeal.τ).loc Cert.ReferenceWpgIdeal.main_arg0)
          ∧ r.2.mem ((c.tc : Thread Cert.ReferenceWpgIdeal.nD Cert.ReferenceWpgIdeal.τ).loc Cert.ReferenceWpgIdeal.main_arg1) = m' ((c.tc : Thread Cert.ReferenceWpgIdeal.nD Cert.ReferenceWpgIdeal.τ).loc Cert.ReferenceWpgIdeal.main_arg1))

def preserves_KernelH2_KernelH2Ideal : Prop :=
  True

def algebraic_KernelH2Ideal_ReferenceH2Ideal [hKernelH2Ideal : Cert.KernelH2Ideal.Facts] [hReferenceH2Ideal : Cert.ReferenceH2Ideal.Facts] : Prop :=
  ∀ (m : (ℓ : Loc Cert.KernelH2Ideal.nD Cert.KernelH2Ideal.τ Cert.KernelH2Ideal.sig) → Buf (Elt Ideal) ℓ) (g : Dev Cert.KernelH2Ideal.nD → PrngReg)
    (m' : (ℓ : Loc Cert.ReferenceH2Ideal.nD Cert.ReferenceH2Ideal.τ Cert.ReferenceH2Ideal.sig) → Buf (Elt Ideal) ℓ) (g' : Dev Cert.ReferenceH2Ideal.nD → PrngReg), Pre_KernelH2Ideal m →
    (∀ c : Dev Cert.KernelH2Ideal.nD,
      m' ((c.tc : Thread Cert.ReferenceH2Ideal.nD Cert.ReferenceH2Ideal.τ).loc Cert.ReferenceH2Ideal.main_arg0) = m ((c.tc : Thread Cert.KernelH2Ideal.nD Cert.KernelH2Ideal.τ).loc Cert.KernelH2Ideal.main_arg0)
      ∧ m' ((c.tc : Thread Cert.ReferenceH2Ideal.nD Cert.ReferenceH2Ideal.τ).loc Cert.ReferenceH2Ideal.main_arg1) = m ((c.tc : Thread Cert.KernelH2Ideal.nD Cert.KernelH2Ideal.τ).loc Cert.KernelH2Ideal.main_arg1)) →
    ∃ (v0 : (c : Dev Cert.KernelH2Ideal.nD) → Buf (Elt Ideal) ((c.tc : Thread Cert.KernelH2Ideal.nD Cert.KernelH2Ideal.τ).loc Cert.KernelH2Ideal.main_v0)),
      θ_run (Cert.KernelH2Ideal.defs (F := Ideal)) (onTc (τ := Cert.KernelH2Ideal.τ) (Cert.KernelH2Ideal.main (F := Ideal))) ⟨m, fun _ => 0, g⟩ (fun r => ∀ c : Dev Cert.KernelH2Ideal.nD,
          r.2.mem ((c.tc : Thread Cert.KernelH2Ideal.nD Cert.KernelH2Ideal.τ).loc Cert.KernelH2Ideal.main_v0) = v0 c
          ∧ r.2.mem ((c.tc : Thread Cert.KernelH2Ideal.nD Cert.KernelH2Ideal.τ).loc Cert.KernelH2Ideal.main_arg0) = m ((c.tc : Thread Cert.KernelH2Ideal.nD Cert.KernelH2Ideal.τ).loc Cert.KernelH2Ideal.main_arg0)
          ∧ r.2.mem ((c.tc : Thread Cert.KernelH2Ideal.nD Cert.KernelH2Ideal.τ).loc Cert.KernelH2Ideal.main_arg1) = m ((c.tc : Thread Cert.KernelH2Ideal.nD Cert.KernelH2Ideal.τ).loc Cert.KernelH2Ideal.main_arg1))
      ∧ θ_run (Cert.ReferenceH2Ideal.defs (F := Ideal)) (onTc (τ := Cert.ReferenceH2Ideal.τ) (Cert.ReferenceH2Ideal.main (F := Ideal))) ⟨m', fun _ => 0, g'⟩ (fun r => ∀ c : Dev Cert.ReferenceH2Ideal.nD,
          r.2.mem ((c.tc : Thread Cert.ReferenceH2Ideal.nD Cert.ReferenceH2Ideal.τ).loc Cert.ReferenceH2Ideal.main_v5) = v0 c
          ∧ r.2.mem ((c.tc : Thread Cert.ReferenceH2Ideal.nD Cert.ReferenceH2Ideal.τ).loc Cert.ReferenceH2Ideal.main_arg0) = m' ((c.tc : Thread Cert.ReferenceH2Ideal.nD Cert.ReferenceH2Ideal.τ).loc Cert.ReferenceH2Ideal.main_arg0)
          ∧ r.2.mem ((c.tc : Thread Cert.ReferenceH2Ideal.nD Cert.ReferenceH2Ideal.τ).loc Cert.ReferenceH2Ideal.main_arg1) = m' ((c.tc : Thread Cert.ReferenceH2Ideal.nD Cert.ReferenceH2Ideal.τ).loc Cert.ReferenceH2Ideal.main_arg1))

def preserves_KernelWcp_KernelWcpIdeal : Prop :=
  True

def algebraic_KernelWcpIdeal_ReferenceWcpIdeal [hKernelWcpIdeal : Cert.KernelWcpIdeal.Facts] [hReferenceWcpIdeal : Cert.ReferenceWcpIdeal.Facts] : Prop :=
  ∀ (m : (ℓ : Loc Cert.KernelWcpIdeal.nD Cert.KernelWcpIdeal.τ Cert.KernelWcpIdeal.sig) → Buf (Elt Ideal) ℓ) (g : Dev Cert.KernelWcpIdeal.nD → PrngReg)
    (m' : (ℓ : Loc Cert.ReferenceWcpIdeal.nD Cert.ReferenceWcpIdeal.τ Cert.ReferenceWcpIdeal.sig) → Buf (Elt Ideal) ℓ) (g' : Dev Cert.ReferenceWcpIdeal.nD → PrngReg), Pre_KernelWcpIdeal m →
    (∀ c : Dev Cert.KernelWcpIdeal.nD,
      m' ((c.tc : Thread Cert.ReferenceWcpIdeal.nD Cert.ReferenceWcpIdeal.τ).loc Cert.ReferenceWcpIdeal.main_arg0) = m ((c.tc : Thread Cert.KernelWcpIdeal.nD Cert.KernelWcpIdeal.τ).loc Cert.KernelWcpIdeal.main_arg0)
      ∧ m' ((c.tc : Thread Cert.ReferenceWcpIdeal.nD Cert.ReferenceWcpIdeal.τ).loc Cert.ReferenceWcpIdeal.main_arg1) = m ((c.tc : Thread Cert.KernelWcpIdeal.nD Cert.KernelWcpIdeal.τ).loc Cert.KernelWcpIdeal.main_arg1)) →
    ∃ (v0 : (c : Dev Cert.KernelWcpIdeal.nD) → Buf (Elt Ideal) ((c.tc : Thread Cert.KernelWcpIdeal.nD Cert.KernelWcpIdeal.τ).loc Cert.KernelWcpIdeal.main_v0)),
      θ_run (Cert.KernelWcpIdeal.defs (F := Ideal)) (onTc (τ := Cert.KernelWcpIdeal.τ) (Cert.KernelWcpIdeal.main (F := Ideal))) ⟨m, fun _ => 0, g⟩ (fun r => ∀ c : Dev Cert.KernelWcpIdeal.nD,
          r.2.mem ((c.tc : Thread Cert.KernelWcpIdeal.nD Cert.KernelWcpIdeal.τ).loc Cert.KernelWcpIdeal.main_v0) = v0 c
          ∧ r.2.mem ((c.tc : Thread Cert.KernelWcpIdeal.nD Cert.KernelWcpIdeal.τ).loc Cert.KernelWcpIdeal.main_arg0) = m ((c.tc : Thread Cert.KernelWcpIdeal.nD Cert.KernelWcpIdeal.τ).loc Cert.KernelWcpIdeal.main_arg0)
          ∧ r.2.mem ((c.tc : Thread Cert.KernelWcpIdeal.nD Cert.KernelWcpIdeal.τ).loc Cert.KernelWcpIdeal.main_arg1) = m ((c.tc : Thread Cert.KernelWcpIdeal.nD Cert.KernelWcpIdeal.τ).loc Cert.KernelWcpIdeal.main_arg1))
      ∧ θ_run (Cert.ReferenceWcpIdeal.defs (F := Ideal)) (onTc (τ := Cert.ReferenceWcpIdeal.τ) (Cert.ReferenceWcpIdeal.main (F := Ideal))) ⟨m', fun _ => 0, g'⟩ (fun r => ∀ c : Dev Cert.ReferenceWcpIdeal.nD,
          r.2.mem ((c.tc : Thread Cert.ReferenceWcpIdeal.nD Cert.ReferenceWcpIdeal.τ).loc Cert.ReferenceWcpIdeal.main_v8) = v0 c
          ∧ r.2.mem ((c.tc : Thread Cert.ReferenceWcpIdeal.nD Cert.ReferenceWcpIdeal.τ).loc Cert.ReferenceWcpIdeal.main_arg0) = m' ((c.tc : Thread Cert.ReferenceWcpIdeal.nD Cert.ReferenceWcpIdeal.τ).loc Cert.ReferenceWcpIdeal.main_arg0)
          ∧ r.2.mem ((c.tc : Thread Cert.ReferenceWcpIdeal.nD Cert.ReferenceWcpIdeal.τ).loc Cert.ReferenceWcpIdeal.main_arg1) = m' ((c.tc : Thread Cert.ReferenceWcpIdeal.nD Cert.ReferenceWcpIdeal.τ).loc Cert.ReferenceWcpIdeal.main_arg1))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v7) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v0)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v0) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v5) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelFf_KernelFfIdeal : Prop :=
  True

def algebraic_KernelFfIdeal_ReferenceFfIdeal [hKernelFfIdeal : Cert.KernelFfIdeal.Facts] [hReferenceFfIdeal : Cert.ReferenceFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.ReferenceFfIdeal.nD Cert.ReferenceFfIdeal.τ Cert.ReferenceFfIdeal.sig) → Buf (Elt Ideal) ℓ) (g' : Dev Cert.ReferenceFfIdeal.nD → PrngReg), Pre_KernelFfIdeal m →
    (∀ c : Dev Cert.KernelFfIdeal.nD,
      m' ((c.tc : Thread Cert.ReferenceFfIdeal.nD Cert.ReferenceFfIdeal.τ).loc Cert.ReferenceFfIdeal.main_arg0) = m ((c.tc : Thread Cert.KernelFfIdeal.nD Cert.KernelFfIdeal.τ).loc Cert.KernelFfIdeal.main_arg0)
      ∧ m' ((c.tc : Thread Cert.ReferenceFfIdeal.nD Cert.ReferenceFfIdeal.τ).loc Cert.ReferenceFfIdeal.main_arg1) = m ((c.tc : Thread Cert.KernelFfIdeal.nD Cert.KernelFfIdeal.τ).loc Cert.KernelFfIdeal.main_arg1)) →
    ∃ (v0 : (c : Dev Cert.KernelFfIdeal.nD) → Buf (Elt Ideal) ((c.tc : Thread Cert.KernelFfIdeal.nD Cert.KernelFfIdeal.τ).loc Cert.KernelFfIdeal.main_v0)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v0) = v0 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1))
      ∧ θ_run (Cert.ReferenceFfIdeal.defs (F := Ideal)) (onTc (τ := Cert.ReferenceFfIdeal.τ) (Cert.ReferenceFfIdeal.main (F := Ideal))) ⟨m', fun _ => 0, g'⟩ (fun r => ∀ c : Dev Cert.ReferenceFfIdeal.nD,
          r.2.mem ((c.tc : Thread Cert.ReferenceFfIdeal.nD Cert.ReferenceFfIdeal.τ).loc Cert.ReferenceFfIdeal.main_v5) = v0 c
          ∧ r.2.mem ((c.tc : Thread Cert.ReferenceFfIdeal.nD Cert.ReferenceFfIdeal.τ).loc Cert.ReferenceFfIdeal.main_arg0) = m' ((c.tc : Thread Cert.ReferenceFfIdeal.nD Cert.ReferenceFfIdeal.τ).loc Cert.ReferenceFfIdeal.main_arg0)
          ∧ r.2.mem ((c.tc : Thread Cert.ReferenceFfIdeal.nD Cert.ReferenceFfIdeal.τ).loc Cert.ReferenceFfIdeal.main_arg1) = m' ((c.tc : Thread Cert.ReferenceFfIdeal.nD Cert.ReferenceFfIdeal.τ).loc Cert.ReferenceFfIdeal.main_arg1))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)) →
    ∃ (v0 : (c : Dev Cert.KernelMIdeal.nD) → Buf (Elt Ideal) ((c.tc : Thread Cert.KernelMIdeal.nD Cert.KernelMIdeal.τ).loc Cert.KernelMIdeal.main_v0_0)) (v1 : (c : Dev Cert.KernelMIdeal.nD) → Buf (Elt Ideal) ((c.tc : Thread Cert.KernelMIdeal.nD Cert.KernelMIdeal.τ).loc Cert.KernelMIdeal.main_v0_1)) (v2 : (c : Dev Cert.KernelMIdeal.nD) → Buf (Elt Ideal) ((c.tc : Thread Cert.KernelMIdeal.nD Cert.KernelMIdeal.τ).loc Cert.KernelMIdeal.main_v0_2)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v0_0) = v0 c
          ∧ r.2.mem ((c.tc : Thread Cert.KernelMIdeal.nD Cert.KernelMIdeal.τ).loc Cert.KernelMIdeal.main_v0_1) = v1 c
          ∧ r.2.mem ((c.tc : Thread Cert.KernelMIdeal.nD Cert.KernelMIdeal.τ).loc Cert.KernelMIdeal.main_v0_2) = v2 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v36) = v0 c
          ∧ r.2.mem ((c.tc : Thread Cert.ReferenceMIdeal.nD Cert.ReferenceMIdeal.τ).loc Cert.ReferenceMIdeal.main_v37) = v1 c
          ∧ r.2.mem ((c.tc : Thread Cert.ReferenceMIdeal.nD Cert.ReferenceMIdeal.τ).loc Cert.ReferenceMIdeal.main_v39) = v2 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)) →
    ∃ (v0 : (c : Dev Cert.KernelOIdeal.nD) → Buf (Elt Ideal) ((c.tc : Thread Cert.KernelOIdeal.nD Cert.KernelOIdeal.τ).loc Cert.KernelOIdeal.main_v0_0)) (v1 : (c : Dev Cert.KernelOIdeal.nD) → Buf (Elt Ideal) ((c.tc : Thread Cert.KernelOIdeal.nD Cert.KernelOIdeal.τ).loc Cert.KernelOIdeal.main_v0_1)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0_0) = v0 c
          ∧ r.2.mem ((c.tc : Thread Cert.KernelOIdeal.nD Cert.KernelOIdeal.τ).loc Cert.KernelOIdeal.main_v0_1) = v1 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v5) = v0 c
          ∧ r.2.mem ((c.tc : Thread Cert.ReferenceOIdeal.nD Cert.ReferenceOIdeal.τ).loc Cert.ReferenceOIdeal.main_v20) = v1 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)) →
    ∃ (v0 : (c : Dev Cert.KernelXIdeal.nD) → Buf (Elt Ideal) ((c.tc : Thread Cert.KernelXIdeal.nD Cert.KernelXIdeal.τ).loc Cert.KernelXIdeal.main_v0_0)) (v1 : (c : Dev Cert.KernelXIdeal.nD) → Buf (Elt Ideal) ((c.tc : Thread Cert.KernelXIdeal.nD Cert.KernelXIdeal.τ).loc Cert.KernelXIdeal.main_v0_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0_0) = v0 c
          ∧ r.2.mem ((c.tc : Thread Cert.KernelXIdeal.nD Cert.KernelXIdeal.τ).loc Cert.KernelXIdeal.main_v0_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v3) = v0 c
          ∧ r.2.mem ((c.tc : Thread Cert.ReferenceXIdeal.nD Cert.ReferenceXIdeal.τ).loc Cert.ReferenceXIdeal.main_v18) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)
      ∧ m' ((c.tc : Thread Cert.ReferenceYIdeal.nD Cert.ReferenceYIdeal.τ).loc Cert.ReferenceYIdeal.main_arg3) = m ((c.tc : Thread Cert.KernelYIdeal.nD Cert.KernelYIdeal.τ).loc Cert.KernelYIdeal.main_arg3)) →
    ∃ (v0 : (c : Dev Cert.KernelYIdeal.nD) → Buf (Elt Ideal) ((c.tc : Thread Cert.KernelYIdeal.nD Cert.KernelYIdeal.τ).loc Cert.KernelYIdeal.main_v0_0)) (v1 : (c : Dev Cert.KernelYIdeal.nD) → Buf (Elt Ideal) ((c.tc : Thread Cert.KernelYIdeal.nD Cert.KernelYIdeal.τ).loc Cert.KernelYIdeal.main_v0_1)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0_0) = v0 c
          ∧ r.2.mem ((c.tc : Thread Cert.KernelYIdeal.nD Cert.KernelYIdeal.τ).loc Cert.KernelYIdeal.main_v0_1) = v1 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
          ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v7) = v0 c
          ∧ r.2.mem ((c.tc : Thread Cert.ReferenceYIdeal.nD Cert.ReferenceYIdeal.τ).loc Cert.ReferenceYIdeal.main_v23) = v1 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2)
          ∧ r.2.mem ((c.tc : Thread Cert.ReferenceYIdeal.nD Cert.ReferenceYIdeal.τ).loc Cert.ReferenceYIdeal.main_arg3) = m' ((c.tc : Thread Cert.ReferenceYIdeal.nD Cert.ReferenceYIdeal.τ).loc Cert.ReferenceYIdeal.main_arg3))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)
      ∧ m' ((c.tc : Thread Cert.ReferenceGIdeal.nD Cert.ReferenceGIdeal.τ).loc Cert.ReferenceGIdeal.main_arg3) = m ((c.tc : Thread Cert.KernelGIdeal.nD Cert.KernelGIdeal.τ).loc Cert.KernelGIdeal.main_arg3)) →
    ∃ (v0 : (c : Dev Cert.KernelGIdeal.nD) → Buf (Elt Ideal) ((c.tc : Thread Cert.KernelGIdeal.nD Cert.KernelGIdeal.τ).loc Cert.KernelGIdeal.main_v0_0)) (v1 : (c : Dev Cert.KernelGIdeal.nD) → Buf (Elt Ideal) ((c.tc : Thread Cert.KernelGIdeal.nD Cert.KernelGIdeal.τ).loc Cert.KernelGIdeal.main_v0_1)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v0_0) = v0 c
          ∧ r.2.mem ((c.tc : Thread Cert.KernelGIdeal.nD Cert.KernelGIdeal.τ).loc Cert.KernelGIdeal.main_v0_1) = v1 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
          ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v11) = v0 c
          ∧ r.2.mem ((c.tc : Thread Cert.ReferenceGIdeal.nD Cert.ReferenceGIdeal.τ).loc Cert.ReferenceGIdeal.main_v12) = v1 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2)
          ∧ r.2.mem ((c.tc : Thread Cert.ReferenceGIdeal.nD Cert.ReferenceGIdeal.τ).loc Cert.ReferenceGIdeal.main_arg3) = m' ((c.tc : Thread Cert.ReferenceGIdeal.nD Cert.ReferenceGIdeal.τ).loc Cert.ReferenceGIdeal.main_arg3))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)) →
    ∃ (v0 : (c : Dev Cert.KernelCIdeal.nD) → Buf (Elt Ideal) ((c.tc : Thread Cert.KernelCIdeal.nD Cert.KernelCIdeal.τ).loc Cert.KernelCIdeal.main_v0)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v0) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v4) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1))

def preserves_KernelFwd_KernelFwdIdeal : Prop :=
  True

def algebraic_KernelFwdIdeal_ReferenceFwdIdeal_pre_finite_qk [hKernelFwdIdeal : Cert.KernelFwdIdeal.Facts] [hReferenceFwdIdeal : Cert.ReferenceFwdIdeal.Facts] [hPre_finite_qk : Cert.Pre_finite_qk.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_qk m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)) →
    ∃ (v0 : (c : Dev Cert.KernelFwdIdeal.nD) → Buf (Elt Ideal) ((c.tc : Thread Cert.KernelFwdIdeal.nD Cert.KernelFwdIdeal.τ).loc Cert.KernelFwdIdeal.main_v7_0)) (v1 : (c : Dev Cert.KernelFwdIdeal.nD) → Buf (Elt Ideal) ((c.tc : Thread Cert.KernelFwdIdeal.nD Cert.KernelFwdIdeal.τ).loc Cert.KernelFwdIdeal.main_v7_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v7_0) = v0 c
          ∧ r.2.mem ((c.tc : Thread Cert.KernelFwdIdeal.nD Cert.KernelFwdIdeal.τ).loc Cert.KernelFwdIdeal.main_v7_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v21) = v0 c
          ∧ r.2.mem ((c.tc : Thread Cert.ReferenceFwdIdeal.nD Cert.ReferenceFwdIdeal.τ).loc Cert.ReferenceFwdIdeal.main_v28) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2))

def Claim : Prop :=
  ∃ (hKernel : Cert.Kernel.Facts) (hKernelIdeal : Cert.KernelIdeal.Facts) (hReferenceIdeal : Cert.ReferenceIdeal.Facts) (hKernelW1 : Cert.KernelW1.Facts) (hKernelW1Ideal : Cert.KernelW1Ideal.Facts) (hReferenceW1Ideal : Cert.ReferenceW1Ideal.Facts) (hKernelH1 : Cert.KernelH1.Facts) (hKernelH1Ideal : Cert.KernelH1Ideal.Facts) (hReferenceH1Ideal : Cert.ReferenceH1Ideal.Facts) (hKernelA : Cert.KernelA.Facts) (hKernelAIdeal : Cert.KernelAIdeal.Facts) (hReferenceAIdeal : Cert.ReferenceAIdeal.Facts) (hKernelW2 : Cert.KernelW2.Facts) (hKernelW2Ideal : Cert.KernelW2Ideal.Facts) (hReferenceW2Ideal : Cert.ReferenceW2Ideal.Facts) (hKernelWin : Cert.KernelWin.Facts) (hKernelWinIdeal : Cert.KernelWinIdeal.Facts) (hReferenceWinIdeal : Cert.ReferenceWinIdeal.Facts) (hKernelH0 : Cert.KernelH0.Facts) (hKernelH0Ideal : Cert.KernelH0Ideal.Facts) (hReferenceH0Ideal : Cert.ReferenceH0Ideal.Facts) (hKernelWpg : Cert.KernelWpg.Facts) (hKernelWpgIdeal : Cert.KernelWpgIdeal.Facts) (hReferenceWpgIdeal : Cert.ReferenceWpgIdeal.Facts) (hKernelH2 : Cert.KernelH2.Facts) (hKernelH2Ideal : Cert.KernelH2Ideal.Facts) (hReferenceH2Ideal : Cert.ReferenceH2Ideal.Facts) (hKernelWcp : Cert.KernelWcp.Facts) (hKernelWcpIdeal : Cert.KernelWcpIdeal.Facts) (hReferenceWcpIdeal : Cert.ReferenceWcpIdeal.Facts) (hKernelAct : Cert.KernelAct.Facts) (hKernelActIdeal : Cert.KernelActIdeal.Facts) (hReferenceActIdeal : Cert.ReferenceActIdeal.Facts) (hKernelZ : Cert.KernelZ.Facts) (hKernelZIdeal : Cert.KernelZIdeal.Facts) (hReferenceZIdeal : Cert.ReferenceZIdeal.Facts) (hKernelFf : Cert.KernelFf.Facts) (hKernelFfIdeal : Cert.KernelFfIdeal.Facts) (hReferenceFfIdeal : Cert.ReferenceFfIdeal.Facts) (hKernelM : Cert.KernelM.Facts) (hKernelMIdeal : Cert.KernelMIdeal.Facts) (hReferenceMIdeal : Cert.ReferenceMIdeal.Facts) (hKernelO : Cert.KernelO.Facts) (hKernelOIdeal : Cert.KernelOIdeal.Facts) (hReferenceOIdeal : Cert.ReferenceOIdeal.Facts) (hKernelX : Cert.KernelX.Facts) (hKernelXIdeal : Cert.KernelXIdeal.Facts) (hReferenceXIdeal : Cert.ReferenceXIdeal.Facts) (hKernelY : Cert.KernelY.Facts) (hKernelYIdeal : Cert.KernelYIdeal.Facts) (hReferenceYIdeal : Cert.ReferenceYIdeal.Facts) (hKernelG : Cert.KernelG.Facts) (hKernelGIdeal : Cert.KernelGIdeal.Facts) (hReferenceGIdeal : Cert.ReferenceGIdeal.Facts) (hKernelC : Cert.KernelC.Facts) (hKernelCIdeal : Cert.KernelCIdeal.Facts) (hReferenceCIdeal : Cert.ReferenceCIdeal.Facts) (hKernelFwd : Cert.KernelFwd.Facts) (hKernelFwdIdeal : Cert.KernelFwdIdeal.Facts) (hReferenceFwdIdeal : Cert.ReferenceFwdIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelW1 (hKernelW1 := hKernelW1)
    ∧ quiescent_KernelW1Ideal (hKernelW1Ideal := hKernelW1Ideal)
    ∧ quiescent_ReferenceW1Ideal (hReferenceW1Ideal := hReferenceW1Ideal)
    ∧ quiescent_KernelH1 (hKernelH1 := hKernelH1)
    ∧ quiescent_KernelH1Ideal (hKernelH1Ideal := hKernelH1Ideal)
    ∧ quiescent_ReferenceH1Ideal (hReferenceH1Ideal := hReferenceH1Ideal)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelW2 (hKernelW2 := hKernelW2)
    ∧ quiescent_KernelW2Ideal (hKernelW2Ideal := hKernelW2Ideal)
    ∧ quiescent_ReferenceW2Ideal (hReferenceW2Ideal := hReferenceW2Ideal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelH0 (hKernelH0 := hKernelH0)
    ∧ quiescent_KernelH0Ideal (hKernelH0Ideal := hKernelH0Ideal)
    ∧ quiescent_ReferenceH0Ideal (hReferenceH0Ideal := hReferenceH0Ideal)
    ∧ quiescent_KernelWpg (hKernelWpg := hKernelWpg)
    ∧ quiescent_KernelWpgIdeal (hKernelWpgIdeal := hKernelWpgIdeal)
    ∧ quiescent_ReferenceWpgIdeal (hReferenceWpgIdeal := hReferenceWpgIdeal)
    ∧ quiescent_KernelH2 (hKernelH2 := hKernelH2)
    ∧ quiescent_KernelH2Ideal (hKernelH2Ideal := hKernelH2Ideal)
    ∧ quiescent_ReferenceH2Ideal (hReferenceH2Ideal := hReferenceH2Ideal)
    ∧ quiescent_KernelWcp (hKernelWcp := hKernelWcp)
    ∧ quiescent_KernelWcpIdeal (hKernelWcpIdeal := hKernelWcpIdeal)
    ∧ quiescent_ReferenceWcpIdeal (hReferenceWcpIdeal := hReferenceWcpIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelFf (hKernelFf := hKernelFf)
    ∧ quiescent_KernelFfIdeal (hKernelFfIdeal := hKernelFfIdeal)
    ∧ quiescent_ReferenceFfIdeal (hReferenceFfIdeal := hReferenceFfIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelFwd (hKernelFwd := hKernelFwd)
    ∧ quiescent_KernelFwdIdeal (hKernelFwdIdeal := hKernelFwdIdeal)
    ∧ quiescent_KernelFwdIdeal_pre_finite_qk (hKernelFwdIdeal := hKernelFwdIdeal) (hPre_finite_qk := hPre_finite_qk)
    ∧ quiescent_ReferenceFwdIdeal (hReferenceFwdIdeal := hReferenceFwdIdeal)
    ∧ quiescent_ReferenceFwdIdeal_pre_finite_qk (hReferenceFwdIdeal := hReferenceFwdIdeal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelW1_KernelW1Ideal
    ∧ algebraic_KernelW1Ideal_ReferenceW1Ideal (hKernelW1Ideal := hKernelW1Ideal) (hReferenceW1Ideal := hReferenceW1Ideal)
    ∧ preserves_KernelH1_KernelH1Ideal
    ∧ algebraic_KernelH1Ideal_ReferenceH1Ideal (hKernelH1Ideal := hKernelH1Ideal) (hReferenceH1Ideal := hReferenceH1Ideal)
    ∧ preserves_KernelA_KernelAIdeal
    ∧ algebraic_KernelAIdeal_ReferenceAIdeal (hKernelAIdeal := hKernelAIdeal) (hReferenceAIdeal := hReferenceAIdeal)
    ∧ preserves_KernelW2_KernelW2Ideal
    ∧ algebraic_KernelW2Ideal_ReferenceW2Ideal (hKernelW2Ideal := hKernelW2Ideal) (hReferenceW2Ideal := hReferenceW2Ideal)
    ∧ preserves_KernelWin_KernelWinIdeal
    ∧ algebraic_KernelWinIdeal_ReferenceWinIdeal (hKernelWinIdeal := hKernelWinIdeal) (hReferenceWinIdeal := hReferenceWinIdeal)
    ∧ preserves_KernelH0_KernelH0Ideal
    ∧ algebraic_KernelH0Ideal_ReferenceH0Ideal (hKernelH0Ideal := hKernelH0Ideal) (hReferenceH0Ideal := hReferenceH0Ideal)
    ∧ preserves_KernelWpg_KernelWpgIdeal
    ∧ algebraic_KernelWpgIdeal_ReferenceWpgIdeal (hKernelWpgIdeal := hKernelWpgIdeal) (hReferenceWpgIdeal := hReferenceWpgIdeal)
    ∧ preserves_KernelH2_KernelH2Ideal
    ∧ algebraic_KernelH2Ideal_ReferenceH2Ideal (hKernelH2Ideal := hKernelH2Ideal) (hReferenceH2Ideal := hReferenceH2Ideal)
    ∧ preserves_KernelWcp_KernelWcpIdeal
    ∧ algebraic_KernelWcpIdeal_ReferenceWcpIdeal (hKernelWcpIdeal := hKernelWcpIdeal) (hReferenceWcpIdeal := hReferenceWcpIdeal)
    ∧ preserves_KernelAct_KernelActIdeal
    ∧ algebraic_KernelActIdeal_ReferenceActIdeal (hKernelActIdeal := hKernelActIdeal) (hReferenceActIdeal := hReferenceActIdeal)
    ∧ preserves_KernelZ_KernelZIdeal
    ∧ algebraic_KernelZIdeal_ReferenceZIdeal (hKernelZIdeal := hKernelZIdeal) (hReferenceZIdeal := hReferenceZIdeal)
    ∧ preserves_KernelFf_KernelFfIdeal
    ∧ algebraic_KernelFfIdeal_ReferenceFfIdeal (hKernelFfIdeal := hKernelFfIdeal) (hReferenceFfIdeal := hReferenceFfIdeal)
    ∧ preserves_KernelM_KernelMIdeal
    ∧ algebraic_KernelMIdeal_ReferenceMIdeal (hKernelMIdeal := hKernelMIdeal) (hReferenceMIdeal := hReferenceMIdeal)
    ∧ preserves_KernelO_KernelOIdeal
    ∧ algebraic_KernelOIdeal_ReferenceOIdeal (hKernelOIdeal := hKernelOIdeal) (hReferenceOIdeal := hReferenceOIdeal)
    ∧ preserves_KernelX_KernelXIdeal
    ∧ algebraic_KernelXIdeal_ReferenceXIdeal (hKernelXIdeal := hKernelXIdeal) (hReferenceXIdeal := hReferenceXIdeal)
    ∧ preserves_KernelY_KernelYIdeal
    ∧ algebraic_KernelYIdeal_ReferenceYIdeal (hKernelYIdeal := hKernelYIdeal) (hReferenceYIdeal := hReferenceYIdeal)
    ∧ preserves_KernelG_KernelGIdeal
    ∧ algebraic_KernelGIdeal_ReferenceGIdeal (hKernelGIdeal := hKernelGIdeal) (hReferenceGIdeal := hReferenceGIdeal)
    ∧ preserves_KernelC_KernelCIdeal
    ∧ algebraic_KernelCIdeal_ReferenceCIdeal (hKernelCIdeal := hKernelCIdeal) (hReferenceCIdeal := hReferenceCIdeal)
    ∧ preserves_KernelFwd_KernelFwdIdeal
    ∧ algebraic_KernelFwdIdeal_ReferenceFwdIdeal_pre_finite_qk (hKernelFwdIdeal := hKernelFwdIdeal) (hReferenceFwdIdeal := hReferenceFwdIdeal) (hPre_finite_qk := hPre_finite_qk)
-- ==== Pre_finite.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩

class Facts : Prop where
  slices_S8192x9216_S8192x512_0_4608 : S8192x9216.Slices ![0, 4608] S8192x512
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v14 : IVec S_ 1) (main_v15 : FVec F S8192x2048 .bf16) (main_v16 : FVec F S8192x2048 .bf16) : IVec S_ 1 :=
  let main_v17 : IVec S8192x2048 1 := cmpf .olt main_v15 main_v16
  let main_c_5 : IVec S_ 1 := constantI S_ 1 1#1
  let main_v18 : IVec S_ 1 := (fun x v => Host.reduce IntOp.andi x v reducesTo_S8192x2048_S_d0_1 h_S_) main_v17 main_c_5
  let main_v19 : IVec S_ 1 := andi main_v14 main_v18
  main_v19

def fn {F : FTy → Type} [FloatOps F] (main_arg0 : FVec F S8192x2048 .f32) (main_arg1 : FVec F S8192x512 .f32) (main_arg2 : FVec F S8192x9216 .bf16) (main_arg3 : FVec F S8192x2048 .bf16) (main_arg4 : FVec F S8192x9216 .bf16) : IVec S_ 1 :=
  let main_v0 : FVec F S8192x512 .bf16 := (extractStridedSlice S8192x512 ![0, 4608] · slices_S8192x9216_S8192x512_0_4608) main_arg2
  let main_v1 : FVec F S8192x2048 .f32 := Host.absf main_arg0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x512 .f32 := Host.absf main_arg1
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v4 main_v8
  let main_v10 : FVec F S8192x512 .bf16 := Host.absf main_v0
  let main_cst_2 : FVec F S_ .bf16 := constant S_ .bf16 0x7F80#16
  let main_v11 : FVec F S8192x512 .bf16 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v9 main_v13
  let main_v15 : FVec F S8192x2048 .bf16 := Host.absf main_arg3
  let main_cst_4 : FVec F S_ .bf16 := constant S_ .bf16 0x7F80#16
  let main_v16 : FVec F S8192x2048 .bf16 := broadcastInDim S8192x2048 ![] bcast_S_S8192x2048 main_cst_4
  fn_part1 (F := F) main_v14 main_v15 main_v16
-- ==== Pre_finite_qk.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x2048 .f32) (main_arg1 : FVec F S8192x512 .f32) (main_arg2 : FVec F S8192x9216 .bf16) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩
abbrev S8192x4x4x128 : Shape := ⟨4, ![8192, 4, 4, 128]⟩
abbrev S8192x4x128 : Shape := ⟨3, ![8192, 4, 128]⟩
abbrev S4x8192x8192x4 : Shape := ⟨4, ![4, 8192, 8192, 4]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S16x8192x1 : Shape := ⟨3, ![16, 8192, 1]⟩
abbrev S16x8192x128 : Shape := ⟨3, ![16, 8192, 128]⟩
abbrev S512x512 : Shape := ⟨2, ![512, 512]⟩
abbrev S8192x128 : Shape := ⟨2, ![8192, 128]⟩
abbrev S4x512x128 : Shape := ⟨3, ![4, 512, 128]⟩
abbrev S2048x128 : Shape := ⟨2, ![2048, 128]⟩
abbrev S2048x512 : Shape := ⟨2, ![2048, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 50
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .bf16⟩
  | .hbm, ⟨3, _⟩ => ⟨S8192x2048, .bf16⟩
  | .hbm, ⟨4, _⟩ => ⟨S8192x9216, .bf16⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8192x512, .bf16⟩
  | .hbm, ⟨14, _⟩ => ⟨S8192x4x4x128, .f32⟩
  | .hbm, ⟨15, _⟩ => ⟨S8192x4x128, .f32⟩
  | .hbm, ⟨16, _⟩ => ⟨S8192x512, .bf16⟩
  | .hbm, ⟨17, _⟩ => ⟨S8192x512, .f32⟩
  | .hbm, ⟨18, _⟩ => ⟨S8192x4x128, .f32⟩
  | .hbm, ⟨19, _⟩ => ⟨S4x8192x8192x4, .f32⟩
  | .hbm, ⟨20, _⟩ => ⟨S4x4x8192x8192, .f32⟩
  | .hbm, ⟨21, _⟩ => ⟨S_, .f32⟩
  | .hbm, ⟨22, _⟩ => ⟨S4x4x8192x8192, .f32⟩
  | .hbm, ⟨23, _⟩ => ⟨S4x4x8192x8192, .f32⟩
  | .hbm, ⟨24, _⟩ => ⟨S_, .f32⟩
  | .hbm, ⟨25, _⟩ => ⟨S4x4x8192, .f32⟩
  | .hbm, ⟨26, _⟩ => ⟨S4x4x8192x1, .f32⟩
  | .hbm, ⟨27, _⟩ => ⟨S4x4x8192x8192, .f32⟩
  | .hbm, ⟨28, _⟩ => ⟨S4x4x8192x8192, .f32⟩
  | .hbm, ⟨29, _⟩ => ⟨S4x4x8192x8192, .f32⟩
  | .hbm, ⟨30, _⟩ => ⟨S_, .f32⟩
  | .hbm, ⟨31, _⟩ => ⟨S4x4x8192, .f32⟩
  | .hbm, ⟨32, _⟩ => ⟨S4x4x8192x1, .f32⟩
  | .hbm, ⟨33, _⟩ => ⟨S4x4x8192x8192, .f32⟩
  | .hbm, ⟨34, _⟩ => ⟨S4x4x8192x8192, .f32⟩
  | .hbm, ⟨35, _⟩ => ⟨S4x128x4x8192, .f32⟩
  | .hbm, ⟨36, _⟩ => ⟨S8192x4x4x128, .f32⟩
  | .hbm, ⟨37, _⟩ => ⟨S8192x2048, .f32⟩
  | .hbm, ⟨38, _⟩ => ⟨S8192x2048, .bf16⟩
  | .hbm, ⟨39, _⟩ => ⟨S4x4x8192x1, .f32⟩
  | .hbm, ⟨40, _⟩ => ⟨S4x4x8192x1, .f32⟩
  | .hbm, ⟨41, _⟩ => ⟨S_, .f32⟩
  | .hbm, ⟨42, _⟩ => ⟨S_, .f32⟩
  | .hbm, ⟨43, _⟩ => ⟨S4x4x8192x1, .f32⟩
  | .hbm, ⟨44, _⟩ => ⟨S4x4x8192x1, .f32⟩
  | .hbm, ⟨45, _⟩ => ⟨S16x8192x1, .f32⟩
  | .hbm, ⟨46, _⟩ => ⟨S16x8192x128, .f32⟩
  | .hbm, ⟨47, _⟩ => ⟨S8192x2048, .bf16⟩
  | .hbm, ⟨48, _⟩ => ⟨S8192x512, .f32⟩
  | .hbm, ⟨49, _⟩ => ⟨S8192x9216, .bf16⟩
  | .local _ .vmem, ⟨0, _⟩ => ⟨S512x512, .bf16⟩
  | .local _ .vmem, ⟨1, _⟩ => ⟨S512x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x512x128, .f32⟩
  | .local _ .vmem, ⟨11, _⟩ => ⟨S4x512x128, .f32⟩
  | .local _ .vmem, ⟨12, _⟩ => ⟨S512x512, .bf16⟩
  | .local _ .vmem, ⟨13, _⟩ => ⟨S512x512, .bf16⟩
  | .local _ .vmem, ⟨14, _⟩ => ⟨S8192x128, .f32⟩
  | .local _ .vmem, ⟨15, _⟩ => ⟨S8192x128, .f32⟩
  | .local _ .vmem, ⟨16, _⟩ => ⟨S8192x128, .bf16⟩
  | .local _ .vmem, ⟨17, _⟩ => ⟨S8192x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x512, .bf16⟩
  | .local _ .vmem, ⟨23, _⟩ => ⟨S2048x512, .bf16⟩
  | .local _ .vmem, ⟨24, _⟩ => ⟨S2048x128, .f32⟩
  | .local _ .vmem, ⟨25, _⟩ => ⟨S8192x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_65 : BitVec 32 := 0#32
  let c16_i32 : BitVec 32 := 16#32
  let v111 : BitVec 32 := Scalar.addi c0_i32_65 c16_i32
  let c1_i32 : BitVec 32 := 1#32
  ⟨c0_i32_65, v111, c1_i32⟩
def k0_mult1 (k0_t1 : Fin k0_t1_loop.trips) : BitVec 32 :=
  let c0_i32_65 : BitVec 32 := 0#32
  let c1_i32 : BitVec 32 := 1#32
  let arg20 : BitVec 32 := Scf.iv c0_i32_65 c1_i32 k0_t1
  let c512_i32 : BitVec 32 := 512#32
  let v127 : BitVec 32 := Scalar.muli arg20 c512_i32
  v127
def k0_off1 (k0_t1 : Fin k0_t1_loop.trips) : Fin 2 → Nat :=
  let c0_i32_65 : BitVec 32 := 0#32
  let c1_i32 : BitVec 32 := 1#32
  let arg20 : BitVec 32 := Scf.iv c0_i32_65 c1_i32 k0_t1
  let c512_i32 : BitVec 32 := 512#32
  let v127 : BitVec 32 := Scalar.muli arg20 c512_i32
  let v128 : BitVec 32 := v127
  let v129 : Index := Scalar.indexCast v128
  let c0_84 : Index := 0#32
  ![v129.toNat, 0]
def k0_cond2 (i : grid0.Coords) : BitVec 1 :=
  let arg1 : BitVec 32 := BitVec.ofNat 32 (i 1).val
  let c15_i32 : BitVec 32 := 15#32
  let v124 : BitVec 1 := Scalar.cmpi .eq arg1 c15_i32
  let v125 : BitVec 32 := Scalar.extui v124
  let c0_i32_83 : BitVec 32 := 0#32
  let v126 : BitVec 1 := Scalar.cmpi .ne v125 c0_i32_83
  v126

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x2048 : Shape := ⟨2, ![8192, 2048]⟩
abbrev S8192x512 : Shape := ⟨2, ![8192, 512]⟩
abbrev S8192x9216 : Shape := ⟨2, ![8192, 9216]⟩
abbrev S8192x4x4x128 : Shape := ⟨4, ![8192, 4, 4, 128]⟩
abbrev S8192x4x128 : Shape := ⟨3, ![8192, 4, 128]⟩
abbrev S4x8192x8192x4 : Shape := ⟨4, ![4, 8192, 8192, 4]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S4x128x8192 : Shape := ⟨3, ![4, 128, 8192]⟩
abbrev S4x8192x4x128 : Shape := ⟨4, ![4, 8192, 4, 128]⟩
abbrev S4x8192x128 : Shape := ⟨3, ![4, 8192, 128]⟩
abbrev S8192x4608 : Shape := ⟨2, ![8192, 4608]⟩
abbrev S8192x4096 : Shape := ⟨2, ![8192, 4096]⟩

abbrev nBuf : Space → Nat
  | .hbm => 99
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .bf16⟩
  | .hbm, ⟨3, _⟩ => ⟨S8192x2048, .bf16⟩
  | .hbm, ⟨4, _⟩ => ⟨S8192x9216, .bf16⟩
  | .hbm, ⟨5, _⟩ => ⟨S8192x512, .bf16⟩
  | .hbm, ⟨6, _⟩ => ⟨S8192x512, .f32⟩
  | .hbm, ⟨7, _⟩ => ⟨S8192x4x4x128, .f32⟩
  | .hbm, ⟨8, _⟩ => ⟨S8192x4x128, .f32⟩
  | .hbm, ⟨9, _⟩ => ⟨S8192x4x128, .f32⟩
  | .hbm, ⟨10, _⟩ => ⟨S4x8192x8192x4, .f32⟩
  | .hbm, ⟨11, _⟩ => ⟨S4x4x8192x8192, .f32⟩
  | .hbm, ⟨12, _⟩ => ⟨S_, .f32⟩
  | .hbm, ⟨13, _⟩ => ⟨S4x4x8192x8192, .f32⟩
  | .hbm, ⟨14, _⟩ => ⟨S4x4x8192x8192, .f32⟩
  | .hbm, ⟨15, _⟩ => ⟨S_, .f32⟩
  | .hbm, ⟨16, _⟩ => ⟨S4x4x8192, .f32⟩
  | .hbm, ⟨17, _⟩ => ⟨S4x4x8192x1, .f32⟩
  | .hbm, ⟨18, _⟩ => ⟨S4x4x8192x8192, .f32⟩
  | .hbm, ⟨19, _⟩ => ⟨S4x4x8192x8192, .i1⟩
  | .hbm, ⟨20, _⟩ => ⟨S4x4x8192x8192, .f32⟩
  | .hbm, ⟨21, _⟩ => ⟨S_, .f32⟩
  | .hbm, ⟨22, _⟩ => ⟨S4x4x8192, .f32⟩
  | .hbm, ⟨23, _⟩ => ⟨S_, .f32⟩
  | .hbm, ⟨24, _⟩ => ⟨S4x4x8192, .f32⟩
  | .hbm, ⟨25, _⟩ => ⟨S4x4x8192, .f32⟩
  | .hbm, ⟨26, _⟩ => ⟨S_, .f32⟩
  | .hbm, ⟨27, _⟩ => ⟨S4x4x8192, .f32⟩
  | .hbm, ⟨28, _⟩ => ⟨S4x4x8192, .i1⟩
  | .hbm, ⟨29, _⟩ => ⟨S_, .f32⟩
  | .hbm, ⟨30, _⟩ => ⟨S4x4x8192, .f32⟩
  | .hbm, ⟨31, _⟩ => ⟨S4x4x8192, .i1⟩
  | .hbm, ⟨32, _⟩ => ⟨S_, .f32⟩
  | .hbm, ⟨33, _⟩ => ⟨S4x4x8192, .f32⟩
  | .hbm, ⟨34, _⟩ => ⟨S_, .f32⟩
  | .hbm, ⟨35, _⟩ => ⟨S4x4x8192, .f32⟩
  | .hbm, ⟨36, _⟩ => ⟨S_, .f32⟩
  | .hbm, ⟨37, _⟩ => ⟨S4x4x8192, .f32⟩
  | .hbm, ⟨38, _⟩ => ⟨S4x4x8192, .f32⟩
  | .hbm, ⟨39, _⟩ => ⟨S4x4x8192, .f32⟩
  | .hbm, ⟨40, _⟩ => ⟨S4x4x8192x1, .f32⟩
  | .hbm, ⟨41, _⟩ => ⟨S4x4x8192x8192, .f32⟩
  | .hbm, ⟨42, _⟩ => ⟨S4x4x8192x8192, .f32⟩
  | .hbm, ⟨43, _⟩ => ⟨S4x4x8192x8192, .f32⟩
  | .hbm, ⟨44, _⟩ => ⟨S_, .f32⟩
  | .hbm, ⟨45, _⟩ => ⟨S4x4x8192, .f32⟩
  | .hbm, ⟨46, _⟩ => ⟨S4x4x8192x1, .f32⟩
  | .hbm, ⟨47, _⟩ => ⟨S4x4x8192x8192, .f32⟩
  | .hbm, ⟨48, _⟩ => ⟨S4x4x8192x8192, .f32⟩
  | .hbm, ⟨49, _⟩ => ⟨S4x4x8192x1, .f32⟩
  | .hbm, ⟨50, _⟩ => ⟨S_, .f32⟩
  | .hbm, ⟨51, _⟩ => ⟨S4x4x8192x1, .f32⟩
  | .hbm, ⟨52, _⟩ => ⟨S4x4x8192x1, .f32⟩
  | .hbm, ⟨53, _⟩ => ⟨S4x128x4x8192, .f32⟩
  | .hbm, ⟨54, _⟩ => ⟨S8192x4x4x128, .f32⟩
  | .hbm, ⟨55, _⟩ => ⟨S8192x2048, .f32⟩
  | .hbm, ⟨56, _⟩ => ⟨S8192x2048, .f32⟩
  | .hbm, ⟨57, _⟩ => ⟨S8192x4x4x128, .f32⟩
  | .hbm, ⟨58, _⟩ => ⟨S4x128x4x8192, .f32⟩
  | .hbm, ⟨59, _⟩ => ⟨S4x4x8192x8192, .f32⟩
  | .hbm, ⟨60, _⟩ => ⟨S4x128x8192, .f32⟩
  | .hbm, ⟨61, _⟩ => ⟨S8192x4x128, .f32⟩
  | .hbm, ⟨62, _⟩ => ⟨S4x4x8192x8192, .f32⟩
  | .hbm, ⟨63, _⟩ => ⟨S4x4x8192x8192, .f32⟩
  | .hbm, ⟨64, _⟩ => ⟨S4x4x8192x8192, .f32⟩
  | .hbm, ⟨65, _⟩ => ⟨S_, .f32⟩
  | .hbm, ⟨66, _⟩ => ⟨S4x4x8192, .f32⟩
  | .hbm, ⟨67, _⟩ => ⟨S4x4x8192x1, .f32⟩
  | .hbm, ⟨68, _⟩ => ⟨S4x4x8192x1, .f32⟩
  | .hbm, ⟨69, _⟩ => ⟨S4x4x8192x8192, .f32⟩
  | .hbm, ⟨70, _⟩ => ⟨S4x4x8192x8192, .f32⟩
  | .hbm, ⟨71, _⟩ => ⟨S_, .f32⟩
  | .hbm, ⟨72, _⟩ => ⟨S4x4x8192, .f32⟩
  | .hbm, ⟨73, _⟩ => ⟨S4x4x8192x8192, .f32⟩
  | .hbm, ⟨74, _⟩ => ⟨S4x4x8192x8192, .f32⟩
  | .hbm, ⟨75, _⟩ => ⟨S4x4x8192x8192, .f32⟩
  | .hbm, ⟨76, _⟩ => ⟨S_, .f32⟩
  | .hbm, ⟨77, _⟩ => ⟨S4x4x8192x8192, .f32⟩
  | .hbm, ⟨78, _⟩ => ⟨S4x4x8192x8192, .f32⟩
  | .hbm, ⟨79, _⟩ => ⟨S4x8192x8192x4, .f32⟩
  | .hbm, ⟨80, _⟩ => ⟨S4x8192x4x128, .f32⟩
  | .hbm, ⟨81, _⟩ => ⟨S8192x4x4x128, .f32⟩
  | .hbm, ⟨82, _⟩ => ⟨S4x8192x128, .f32⟩
  | .hbm, ⟨83, _⟩ => ⟨S8192x4x128, .f32⟩
  | .hbm, ⟨84, _⟩ => ⟨S8192x512, .f32⟩
  | .hbm, ⟨85, _⟩ => ⟨S8192x512, .f32⟩
  | .hbm, ⟨86, _⟩ => ⟨S8192x2048, .f32⟩
  | .hbm, ⟨87, _⟩ => ⟨S_, .f32⟩
  | .hbm, ⟨88, _⟩ => ⟨S8192x2048, .f32⟩
  | .hbm, ⟨89, _⟩ => ⟨S8192x2048, .f32⟩
  | .hbm, ⟨90, _⟩ => ⟨S8192x2048, .bf16⟩
  | .hbm, ⟨91, _⟩ => ⟨S_, .f32⟩
  | .hbm, ⟨92, _⟩ => ⟨S_, .f32⟩
  | .hbm, ⟨93, _⟩ => ⟨S8192x512, .f32⟩
  | .hbm, ⟨94, _⟩ => ⟨S8192x512, .f32⟩
  | .hbm, ⟨95, _⟩ => ⟨S8192x4608, .bf16⟩
  | .hbm, ⟨96, _⟩ => ⟨S8192x512, .bf16⟩
  | .hbm, ⟨97, _⟩ => ⟨S8192x4096, .bf16⟩
  | .hbm, ⟨98, _⟩ => ⟨S8192x9216, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== KernelW1.lean ====
abbrev S8192x2048 : Shape := ⟨2, ![8192, 2048]⟩
abbrev S8192x8192 : Shape := ⟨2, ![8192, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceW1Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelH1.lean ====
abbrev S8192x8192 : Shape := ⟨2, ![8192, 8192]⟩
abbrev S4x2048x2048 : Shape := ⟨3, ![4, 2048, 2048]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceH1Ideal.lean ====
abbrev S8192x8192 : Shape := ⟨2, ![8192, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S4x2048x2048, .f32⟩
  | .hbm, ⟨3, _⟩ => ⟨S2048x4x2048, .f32⟩
  | .hbm, ⟨4, _⟩ => ⟨S2048x8192, .f32⟩
  | .hbm, ⟨5, _⟩ => ⟨S_, .f32⟩
  | .hbm, ⟨6, _⟩ => ⟨S8192x2048, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelA.lean ====
abbrev S8192x2048 : Shape := ⟨2, ![8192, 2048]⟩
abbrev S8192x8192 : Shape := ⟨2, ![8192, 8192]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAIdeal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== KernelW2.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceW2Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | .hbm, ⟨11, _⟩ => ⟨S2048x8192, .f32⟩
  | .hbm, ⟨12, _⟩ => ⟨S8192x2048, .f32⟩
  | .hbm, ⟨13, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelWin.lean ====
abbrev S8192x2048 : Shape := ⟨2, ![8192, 2048]⟩
abbrev S8192x9216 : Shape := ⟨2, ![8192, 9216]⟩
abbrev S4x2048x2304 : Shape := ⟨3, ![4, 2048, 2304]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩
abbrev S256x768 : Shape := ⟨2, ![256, 768]⟩
abbrev S1x256x768 : Shape := ⟨3, ![1, 256, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S4x2048x2304, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWinIdeal.lean ====
abbrev S8192x2048 : Shape := ⟨2, ![8192, 2048]⟩
abbrev S8192x9216 : Shape := ⟨2, ![8192, 9216]⟩
abbrev S_ : Shape := ⟨0, ![]⟩
abbrev S2048x9216 : Shape := ⟨2, ![2048, 9216]⟩
abbrev S9216x2048 : Shape := ⟨2, ![9216, 2048]⟩
abbrev S2048x4x2304 : Shape := ⟨3, ![2048, 4, 2304]⟩
abbrev S4x2048x2304 : Shape := ⟨3, ![4, 2048, 2304]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S_, .f32⟩
  | .hbm, ⟨3, _⟩ => ⟨S2048x9216, .f32⟩
  | .hbm, ⟨4, _⟩ => ⟨S8192x2048, .f32⟩
  | .hbm, ⟨5, _⟩ => ⟨S8192x9216, .f32⟩
  | .hbm, ⟨6, _⟩ => ⟨S8192x9216, .f32⟩
  | .hbm, ⟨7, _⟩ => ⟨S9216x2048, .f32⟩
  | .hbm, ⟨8, _⟩ => ⟨S2048x9216, .f32⟩
  | .hbm, ⟨9, _⟩ => ⟨S2048x4x2304, .f32⟩
  | .hbm, ⟨10, _⟩ => ⟨S4x2048x2304, .f32⟩
  | .hbm, ⟨11, _⟩ => ⟨S4x2048x2304, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelH0.lean ====
abbrev S8192x9216 : Shape := ⟨2, ![8192, 9216]⟩
abbrev S4x2048x2304 : Shape := ⟨3, ![4, 2048, 2304]⟩
abbrev S8192x2048 : Shape := ⟨2, ![8192, 2048]⟩
abbrev S1024x2304 : Shape := ⟨2, ![1024, 2304]⟩
abbrev S1x1024x2304 : Shape := ⟨3, ![1, 1024, 2304]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x9216, .bf16⟩
  | .hbm, ⟨1, _⟩ => ⟨S4x2048x2304, .bf16⟩
  | .hbm, ⟨2, _⟩ => ⟨S8192x2048, .bf16⟩
  | .local _ .vmem, ⟨0, _⟩ => ⟨S1024x2304, .bf16⟩
  | .local _ .vmem, ⟨1, _⟩ => ⟨S1024x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceH0Ideal.lean ====
abbrev S8192x9216 : Shape := ⟨2, ![8192, 9216]⟩
abbrev S4x2048x2304 : Shape := ⟨3, ![4, 2048, 2304]⟩
abbrev S2048x4x2304 : Shape := ⟨3, ![2048, 4, 2304]⟩
abbrev S2048x9216 : Shape := ⟨2, ![2048, 9216]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S4x2048x2304, .bf16⟩
  | .hbm, ⟨2, _⟩ => ⟨S2048x4x2304, .bf16⟩
  | .hbm, ⟨3, _⟩ => ⟨S2048x9216, .bf16⟩
  | .hbm, ⟨4, _⟩ => ⟨S_, .f32⟩
  | .hbm, ⟨5, _⟩ => ⟨S8192x2048, .f32⟩
  | .hbm, ⟨6, _⟩ => ⟨S2048x9216, .f32⟩
  | .hbm, ⟨7, _⟩ => ⟨S8192x9216, .f32⟩
  | .hbm, ⟨8, _⟩ => ⟨S8192x9216, .f32⟩
  | .hbm, ⟨9, _⟩ => ⟨S8192x2048, .f32⟩
  | .hbm, ⟨10, _⟩ => ⟨S8192x2048, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWpg.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWpgIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelH2.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceH2Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWcp.lean ====
abbrev S8192x1024 : Shape := ⟨2, ![8192, 1024]⟩
abbrev S8192x2048 : Shape := ⟨2, ![8192, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWcpIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelAct.lean ====
abbrev S8192x2048 : Shape := ⟨2, ![8192, 2048]⟩
abbrev S4x1024x512 : Shape := ⟨3, ![4, 1024, 512]⟩
abbrev S8192x1024 : Shape := ⟨2, ![8192, 1024]⟩
abbrev S1024x512 : Shape := ⟨2, ![1024, 512]⟩
abbrev S1x1024x512 : Shape := ⟨3, ![1, 1024, 512]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceActIdeal.lean ====
abbrev S8192x2048 : Shape := ⟨2, ![8192, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S_, .f32⟩
  | .hbm, ⟨5, _⟩ => ⟨S8192x1024, .f32⟩
  | .hbm, ⟨6, _⟩ => ⟨S1024x2048, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelZ.lean ====
abbrev S8192x2048 : Shape := ⟨2, ![8192, 2048]⟩
abbrev S4x2048x2304 : Shape := ⟨3, ![4, 2048, 2304]⟩
abbrev S8192x9216 : Shape := ⟨2, ![8192, 9216]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x2304, .bf16⟩
  | .hbm, ⟨2, _⟩ => ⟨S8192x9216, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceZIdeal.lean ====
abbrev S8192x2048 : Shape := ⟨2, ![8192, 2048]⟩
abbrev S4x2048x2304 : Shape := ⟨3, ![4, 2048, 2304]⟩
abbrev S2048x4x2304 : Shape := ⟨3, ![2048, 4, 2304]⟩
abbrev S2048x9216 : Shape := ⟨2, ![2048, 9216]⟩
abbrev S8192x9216 : Shape := ⟨2, ![8192, 9216]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2304, .bf16⟩
  | .hbm, ⟨2, _⟩ => ⟨S2048x4x2304, .bf16⟩
  | .hbm, ⟨3, _⟩ => ⟨S2048x9216, .bf16⟩
  | .hbm, ⟨4, _⟩ => ⟨S8192x2048, .f32⟩
  | .hbm, ⟨5, _⟩ => ⟨S2048x9216, .f32⟩
  | .hbm, ⟨6, _⟩ => ⟨S8192x9216, .f32⟩
  | .hbm, ⟨7, _⟩ => ⟨S8192x9216, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelFf.lean ====
abbrev S8192x2048 : Shape := ⟨2, ![8192, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfIdeal.lean ====
abbrev S8192x2048 : Shape := ⟨2, ![8192, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelM.lean ====
abbrev S8192x2048 : Shape := ⟨2, ![8192, 2048]⟩
abbrev S2048x2048 : Shape := ⟨2, ![2048, 2048]⟩
abbrev S8192x9216 : Shape := ⟨2, ![8192, 9216]⟩
abbrev S8192x4096 : Shape := ⟨2, ![8192, 4096]⟩
abbrev S256x2048 : Shape := ⟨2, ![256, 2048]⟩
abbrev S256x4096 : Shape := ⟨2, ![256, 4096]⟩

abbrev nBuf : Space → Nat
  | .hbm => 8
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x9216, .bf16⟩
  | .hbm, ⟨3, _⟩ => ⟨S8192x2048, .f32⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x4096, .bf16⟩
  | .local _ .vmem, ⟨16, _⟩ => ⟨S256x4096, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![32, 1, 1], ![false, false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let c5120_i32 : BitVec 32 := 5120#32
  let c0_i32 : BitVec 32 := 0#32
  ![v0.toNat, c5120_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let c7168_i32 : BitVec 32 := 7168#32
  let c0_i32 : BitVec 32 := 0#32
  ![v0.toNat, c7168_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceMIdeal.lean ====
abbrev S8192x2048 : Shape := ⟨2, ![8192, 2048]⟩
abbrev S2048x2048 : Shape := ⟨2, ![2048, 2048]⟩
abbrev S8192x9216 : Shape := ⟨2, ![8192, 9216]⟩
abbrev S_ : Shape := ⟨0, ![]⟩
abbrev S8192x4096 : Shape := ⟨2, ![8192, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x9216, .bf16⟩
  | .hbm, ⟨3, _⟩ => ⟨S8192x2048, .f32⟩
  | .hbm, ⟨4, _⟩ => ⟨S8192x2048, .bf16⟩
  | .hbm, ⟨5, _⟩ => ⟨S8192x2048, .bf16⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S2048x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | .hbm, ⟨48, _⟩ => ⟨S8192x2048, .bf16⟩
  | .hbm, ⟨49, _⟩ => ⟨S8192x4096, .f32⟩
  | .hbm, ⟨50, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== KernelO.lean ====
abbrev S8192x8192 : Shape := ⟨2, ![8192, 8192]⟩
abbrev S8192x2048 : Shape := ⟨2, ![8192, 2048]⟩
abbrev S1x2048 : Shape := ⟨2, ![1, 2048]⟩
abbrev S512x2048 : Shape := ⟨2, ![512, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceOIdeal.lean ====
abbrev S8192x8192 : Shape := ⟨2, ![8192, 8192]⟩
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== KernelX.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let c0 : Index := 0#32
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceXIdeal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelY.lean ====
abbrev S8192x2048 : Shape := ⟨2, ![8192, 2048]⟩
abbrev S2048x2048 : Shape := ⟨2, ![2048, 2048]⟩
abbrev S8192x9216 : Shape := ⟨2, ![8192, 9216]⟩
abbrev S512x2048 : Shape := ⟨2, ![512, 2048]⟩
abbrev S512x1024 : Shape := ⟨2, ![512, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x9216, .bf16⟩
  | .hbm, ⟨4, _⟩ => ⟨S8192x2048, .bf16⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 2, 1], ![false, false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg1 c7_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceYIdeal.lean ====
abbrev S8192x2048 : Shape := ⟨2, ![8192, 2048]⟩
abbrev S2048x2048 : Shape := ⟨2, ![2048, 2048]⟩
abbrev S8192x9216 : Shape := ⟨2, ![8192, 9216]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x9216, .bf16⟩
  | .hbm, ⟨4, _⟩ => ⟨S8192x2048, .bf16⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== KernelG.lean ====
abbrev S8192x2048 : Shape := ⟨2, ![8192, 2048]⟩
abbrev S2048x2048 : Shape := ⟨2, ![2048, 2048]⟩
abbrev S512x2048 : Shape := ⟨2, ![512, 2048]⟩
abbrev S512x1024 : Shape := ⟨2, ![512, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 2, 1], ![false, false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceGIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KernelC.lean ====
abbrev S8192x1024 : Shape := ⟨2, ![8192, 1024]⟩
abbrev S4x1024x512 : Shape := ⟨3, ![4, 1024, 512]⟩
abbrev S8192x2048 : Shape := ⟨2, ![8192, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCIdeal.lean ====
abbrev S8192x1024 : Shape := ⟨2, ![8192, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S8192x1024, .f32⟩
  | .hbm, ⟨5, _⟩ => ⟨S1024x2048, .f32⟩
  | .hbm, ⟨6, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelFwd.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩
abbrev S16x8192x128 : Shape := ⟨3, ![16, 8192, 128]⟩
abbrev S512x512 : Shape := ⟨2, ![512, 512]⟩
abbrev S8192x128 : Shape := ⟨2, ![8192, 128]⟩
abbrev S4x512x128 : Shape := ⟨3, ![4, 512, 128]⟩
abbrev S2048x128 : Shape := ⟨2, ![2048, 128]⟩
abbrev S8192x256 : Shape := ⟨2, ![8192, 256]⟩
abbrev S2048x512 : Shape := ⟨2, ![2048, 512]⟩
abbrev S2048x256 : Shape := ⟨2, ![2048, 256]⟩
abbrev S2x2048x512 : Shape := ⟨3, ![2, 2048, 512]⟩
abbrev S512x128 : Shape := ⟨2, ![512, 128]⟩
abbrev S1x2048x512 : Shape := ⟨3, ![1, 2048, 512]⟩
abbrev S1x2048x128 : Shape := ⟨3, ![1, 2048, 128]⟩
abbrev S2048 : Shape := ⟨1, ![2048]⟩
abbrev S2048x1 : Shape := ⟨2, ![2048, 1]⟩
abbrev S512x256 : Shape := ⟨2, ![512, 256]⟩
abbrev S1x512x128 : Shape := ⟨3, ![1, 512, 128]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .bf16⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .bf16⟩
  | .hbm, ⟨11, _⟩ => ⟨S8192x512, .bf16⟩
  | .hbm, ⟨12, _⟩ => ⟨S8192x2048, .bf16⟩
  | .hbm, ⟨13, _⟩ => ⟨S16x8192x128, .f32⟩
  | .local _ .vmem, ⟨0, _⟩ => ⟨S512x512, .bf16⟩
  | .local _ .vmem, ⟨1, _⟩ => ⟨S512x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x512, .bf16⟩
  | .local _ .vmem, ⟨7, _⟩ => ⟨S512x512, .bf16⟩
  | .local _ .vmem, ⟨8, _⟩ => ⟨S4x512x128, .f32⟩
  | .local _ .vmem, ⟨9, _⟩ => ⟨S4x512x128, .f32⟩
  | .local _ .vmem, ⟨10, _⟩ => ⟨S2048x128, .bf16⟩
  | .local _ .vmem, ⟨11, _⟩ => ⟨S8192x256, .bf16⟩
  | .local _ .vmem, ⟨12, _⟩ => ⟨S2048x512, .bf16⟩
  | .local _ .vmem, ⟨13, _⟩ => ⟨S2048x128, .f32⟩
  | .local _ .vmem, ⟨14, _⟩ => ⟨S2048x256, .f32⟩
  | .local _ .vmem, ⟨15, _⟩ => ⟨S2x2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32_17 : BitVec 32 := 0#32
  c0_i32_17
@[reducible] def k0_t1_loop : Scf.Loop 32 :=
  let c0_i32_23 : BitVec 32 := 0#32
  let c8_i32 : BitVec 32 := 8#32
  let v40 : BitVec 32 := Scalar.addi c0_i32_23 c8_i32
  let c1_i32 : BitVec 32 := 1#32
  ⟨c0_i32_23, v40, c1_i32⟩
def k0_mult2 (k0_t1 : Fin k0_t1_loop.trips) : BitVec 32 :=
  let c2_i32 : BitVec 32 := 2#32
  let c0_i32_23 : BitVec 32 := 0#32
  let c1_i32 : BitVec 32 := 1#32
  let arg13 : BitVec 32 := Scf.iv c0_i32_23 c1_i32 k0_t1
  let v78 : BitVec 32 := Scalar.muli c2_i32 arg13
  let c1_i32_49 : BitVec 32 := 1#32
  let v79 : BitVec 32 := Scalar.addi v78 c1_i32_49
  let c512_i32 : BitVec 32 := 512#32
  let v81 : BitVec 32 := Scalar.muli v79 c512_i32
  v81
def k0_off1 (k0_t1 : Fin k0_t1_loop.trips) : Fin 2 → Nat :=
  let c2_i32 : BitVec 32 := 2#32
  let c0_i32_23 : BitVec 32 := 0#32
  let c1_i32 : BitVec 32 := 1#32
  let arg13 : BitVec 32 := Scf.iv c0_i32_23 c1_i32 k0_t1
  let v78 : BitVec 32 := Scalar.muli c2_i32 arg13
  let c1_i32_49 : BitVec 32 := 1#32
  let v79 : BitVec 32 := Scalar.addi v78 c1_i32_49
  let c512_i32 : BitVec 32 := 512#32
  let v81 : BitVec 32 := Scalar.muli v79 c512_i32
  let v82 : BitVec 32 := v81
  let v83 : Index := Scalar.indexCast v82
  let c0_52 : Index := 0#32
  ![v83.toNat, 0]
def k0_mult3 (k0_t1 : Fin k0_t1_loop.trips) : BitVec 32 :=
  let c2_i32 : BitVec 32 := 2#32
  let c0_i32_23 : BitVec 32 := 0#32
  let c1_i32 : BitVec 32 := 1#32
  let arg13 : BitVec 32 := Scf.iv c0_i32_23 c1_i32 k0_t1
  let v78 : BitVec 32 := Scalar.muli c2_i32 arg13
  let c512_i32_57 : BitVec 32 := 512#32
  let v90 : BitVec 32 := Scalar.muli v78 c512_i32_57
  v90
def k0_off2 (k0_t1 : Fin k0_t1_loop.trips) : Fin 2 → Nat :=
  let c2_i32 : BitVec 32 := 2#32
  let c0_i32_23 : BitVec 32 := 0#32
  let c1_i32 : BitVec 32 := 1#32
  let arg13 : BitVec 32 := Scf.iv c0_i32_23 c1_i32 k0_t1
  let v78 : BitVec 32 := Scalar.muli c2_i32 arg13
  let c512_i32_57 : BitVec 32 := 512#32
  let v90 : BitVec 32 := Scalar.muli v78 c512_i32_57
  let v91 : BitVec 32 := v90
  let v143 : Index := Scalar.indexCast v91
  let c0_95 : Index := 0#32
  ![v143.toNat, 0]
def k0_mult4 (k0_t1 : Fin k0_t1_loop.trips) : BitVec 32 :=
  let c2_i32 : BitVec 32 := 2#32
  let c0_i32_23 : BitVec 32 := 0#32
  let c1_i32 : BitVec 32 := 1#32
  let arg13 : BitVec 32 := Scf.iv c0_i32_23 c1_i32 k0_t1
  let v78 : BitVec 32 := Scalar.muli c2_i32 arg13
  let c2_i32_107 : BitVec 32 := 2#32
  let v163 : BitVec 32 := Scalar.addi v78 c2_i32_107
  let c15_i32 : BitVec 32 := 15#32
  let v164 : BitVec 32 := Scalar.minsi v163 c15_i32
  let c512_i32_110 : BitVec 32 := 512#32
  let v166 : BitVec 32 := Scalar.muli v164 c512_i32_110
  v166
def k0_off3 (k0_t1 : Fin k0_t1_loop.trips) : Fin 2 → Nat :=
  let c2_i32 : BitVec 32 := 2#32
  let c0_i32_23 : BitVec 32 := 0#32
  let c1_i32 : BitVec 32 := 1#32
  let arg13 : BitVec 32 := Scf.iv c0_i32_23 c1_i32 k0_t1
  let v78 : BitVec 32 := Scalar.muli c2_i32 arg13
  let c2_i32_107 : BitVec 32 := 2#32
  let v163 : BitVec 32 := Scalar.addi v78 c2_i32_107
  let c15_i32 : BitVec 32 := 15#32
  let v164 : BitVec 32 := Scalar.minsi v163 c15_i32
  let c512_i32_110 : BitVec 32 := 512#32
  let v166 : BitVec 32 := Scalar.muli v164 c512_i32_110
  let v167 : BitVec 32 := v166
  let v168 : Index := Scalar.indexCast v167
  let c0_111 : Index := 0#32
  ![v168.toNat, 0]
def k0_mult5 (k0_t1 : Fin k0_t1_loop.trips) : BitVec 32 :=
  let c2_i32 : BitVec 32 := 2#32
  let c0_i32_23 : BitVec 32 := 0#32
  let c1_i32 : BitVec 32 := 1#32
  let arg13 : BitVec 32 := Scf.iv c0_i32_23 c1_i32 k0_t1
  let v78 : BitVec 32 := Scalar.muli c2_i32 arg13
  let c1_i32_116 : BitVec 32 := 1#32
  let v175 : BitVec 32 := Scalar.addi v78 c1_i32_116
  let c512_i32_117 : BitVec 32 := 512#32
  let v176 : BitVec 32 := Scalar.muli v175 c512_i32_117
  v176
def k0_off4 (k0_t1 : Fin k0_t1_loop.trips) : Fin 2 → Nat :=
  let c2_i32 : BitVec 32 := 2#32
  let c0_i32_23 : BitVec 32 := 0#32
  let c1_i32 : BitVec 32 := 1#32
  let arg13 : BitVec 32 := Scf.iv c0_i32_23 c1_i32 k0_t1
  let v78 : BitVec 32 := Scalar.muli c2_i32 arg13
  let c1_i32_116 : BitVec 32 := 1#32
  let v175 : BitVec 32 := Scalar.addi v78 c1_i32_116
  let c512_i32_117 : BitVec 32 := 512#32
  let v176 : BitVec 32 := Scalar.muli v175 c512_i32_117
  let v177 : BitVec 32 := v176
  let v229 : Index := Scalar.indexCast v177
  let c0_155 : Index := 0#32
  ![v229.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFwdIdeal.lean ====
abbrev S8192x2048 : Shape := ⟨2, ![8192, 2048]⟩
abbrev S8192x512 : Shape := ⟨2, ![8192, 512]⟩
abbrev S8192x9216 : Shape := ⟨2, ![8192, 9216]⟩
abbrev S8192x4x4x128 : Shape := ⟨4, ![8192, 4, 4, 128]⟩
abbrev S8192x4x128 : Shape := ⟨3, ![8192, 4, 128]⟩
abbrev S4x8192x8192x4 : Shape := ⟨4, ![4, 8192, 8192, 4]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S16x8192x1 : Shape := ⟨3, ![16, 8192, 1]⟩
abbrev S16x8192x128 : Shape := ⟨3, ![16, 8192, 128]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .bf16⟩
  | .hbm, ⟨3, _⟩ => ⟨S8192x4x4x128, .f32⟩
  | .hbm, ⟨4, _⟩ => ⟨S8192x4x128, .f32⟩
  | .hbm, ⟨5, _⟩ => ⟨S8192x512, .bf16⟩
  | .hbm, ⟨6, _⟩ => ⟨S8192x512, .f32⟩
  | .hbm, ⟨7, _⟩ => ⟨S8192x4x128, .f32⟩
  | .hbm, ⟨8, _⟩ => ⟨S4x8192x8192x4, .f32⟩
  | .hbm, ⟨9, _⟩ => ⟨S4x4x8192x8192, .f32⟩
  | .hbm, ⟨10, _⟩ => ⟨S_, .f32⟩
  | .hbm, ⟨11, _⟩ => ⟨S4x4x8192x8192, .f32⟩
  | .hbm, ⟨12, _⟩ => ⟨S4x4x8192x8192, .f32⟩
  | .hbm, ⟨13, _⟩ => ⟨S_, .f32⟩
  | .hbm, ⟨14, _⟩ => ⟨S4x4x8192, .f32⟩
  | .hbm, ⟨15, _⟩ => ⟨S4x4x8192x1, .f32⟩
  | .hbm, ⟨16, _⟩ => ⟨S4x4x8192x8192, .f32⟩
  | .hbm, ⟨17, _⟩ => ⟨S4x4x8192x8192, .f32⟩
  | .hbm, ⟨18, _⟩ => ⟨S4x4x8192x8192, .f32⟩
  | .hbm, ⟨19, _⟩ => ⟨S_, .f32⟩
  | .hbm, ⟨20, _⟩ => ⟨S4x4x8192, .f32⟩
  | .hbm, ⟨21, _⟩ => ⟨S4x4x8192x1, .f32⟩
  | .hbm, ⟨22, _⟩ => ⟨S4x4x8192x8192, .f32⟩
  | .hbm, ⟨23, _⟩ => ⟨S4x4x8192x8192, .f32⟩
  | .hbm, ⟨24, _⟩ => ⟨S4x128x4x8192, .f32⟩
  | .hbm, ⟨25, _⟩ => ⟨S8192x4x4x128, .f32⟩
  | .hbm, ⟨26, _⟩ => ⟨S8192x2048, .f32⟩
  | .hbm, ⟨27, _⟩ => ⟨S8192x2048, .bf16⟩
  | .hbm, ⟨28, _⟩ => ⟨S4x4x8192x1, .f32⟩
  | .hbm, ⟨29, _⟩ => ⟨S4x4x8192x1, .f32⟩
  | .hbm, ⟨30, _⟩ => ⟨S_, .f32⟩
  | .hbm, ⟨31, _⟩ => ⟨S_, .f32⟩
  | .hbm, ⟨32, _⟩ => ⟨S4x4x8192x1, .f32⟩
  | .hbm, ⟨33, _⟩ => ⟨S4x4x8192x1, .f32⟩
  | .hbm, ⟨34, _⟩ => ⟨S16x8192x1, .f32⟩
  | .hbm, ⟨35, _⟩ => ⟨S16x8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Spec.lean ====
/-
  What one grid point of the attention gradient computes, as functions of the blocks it reads, at every float
  instance: the tile of weights and of logit gradients of one trip over the keys, the updates of the three
  accumulators, and their values after all the trips.
-/
module

public import proofs.«01_k».proof.Proof.Gen.KernelIdeal.Skeleton
public import Idealize.ShloMosaic.Lib.Pipeline.FrameBody
public import Idealize.ShloMosaic.Lib.Pipeline.Value
public import Idealize.ShloMosaic.Lib.Writes
public import Idealize.ShloMosaic.Lib.Pipeline.CanonAppend
public import Idealize.ShloMosaic.Lib.ValueIdxCore
public import Idealize.ShloMosaic.Lib.Pointwise.ElementwiseCore

@[expose] public section

set_option maxRecDepth 16384

noncomputable section

namespace Cert.KernelIdeal.Hand

open Cert.KernelIdeal Cert.KernelIdeal.Gen
open Idealize.ShloMosaic Idealize.ShloMosaic.ValueIdx Idealize.SL.Sem

variable {F : FTy → Type} [FloatOps F]

/-- The rows of 8192 that trip `k` works on. -/
abbrev rowRect (k : Fin k0_t1_loop.trips) : Rect S8192x128 := Rect.unit (s := S8192x128) (k0_off1 k) S512x128.size (k0_off1_inb k)

theorem trips_eq : k0_t1_loop.trips = 16 := by decide +kernel

theorem off1_val (k : Fin k0_t1_loop.trips) : k0_off1 k = ![512 * k.val, 0] := by
  revert k; decide +kernel

/-- A tile's column, taken back into the 128 columns a row statistic is repeated over. -/
abbrev lane (j : S2048x512.Idx) : S2048x128.Idx :=
  ix2 (n0 := 2048) (n1 := 128) (j 0) ⟨(j 1).val % 128, Nat.mod_lt _ (by decide)⟩

/-- A row statistic over the tile's columns. -/
def wide {e : EltTy} (X : Vec F S2048x128 e) : Vec F S2048x512 e := fun j => X (lane j)

/-- The weights of one tile: `2 ^ (score - log-sum)`. -/
def wTile (Kk : Vec F S512x128 .bf16) (Q : Vec F S2048x128 .bf16) (L : Vec F S2048x128 .f32) : Vec F S2048x512 .bf16 :=
  truncf .bf16 (exp2 (subf (k0_pay4 Kk Q) (wide L))) bitsLt_bf16_f32

/-- The logit gradients of one tile: `weight * (do · v - delta)`. -/
def gTile (Kk Vk : Vec F S512x128 .bf16) (Q O : Vec F S2048x128 .bf16) (L D : Vec F S2048x128 .f32) : Vec F S2048x512 .bf16 :=
  truncf .bf16 (mulf (exp2 (subf (k0_pay4 Kk Q) (wide L))) (subf (k0_pay5 Vk O) (wide D))) bitsLt_bf16_f32

section Acc
variable (K V : Vec F S8192x128 .bf16) (Q O : Vec F S2048x128 .bf16) (L D : Vec F S2048x128 .f32)

abbrev wAt (k : Fin k0_t1_loop.trips) : Vec F S2048x512 .bf16 := wTile (View.ld K (rowRect k)) Q L
abbrev gAt (k : Fin k0_t1_loop.trips) : Vec F S2048x512 .bf16 :=
  gTile (View.ld K (rowRect k)) (View.ld V (rowRect k)) Q O L D

/-- Trip `k`'s rows of the value gradient, over what the accumulator held. -/
def vRows (A : Vec F S8192x128 .f32) (k : Fin k0_t1_loop.trips) : Vec F S512x128 .f32 :=
  k0_pay40 (k0_pay19 (View.ld A (rowRect k)) (wAt K Q L k) O)

/-- Trip `k`'s rows of the key gradient, over what the accumulator held. -/
def kRows (A : Vec F S8192x128 .f32) (k : Fin k0_t1_loop.trips) : Vec F S512x128 .f32 :=
  k0_pay41 (View.ld A (rowRect k)) (gAt K V Q O L D k) Q

/-- The query gradient after the first `n` trips. -/
def qAcc : ℕ → Vec F S2048x128 .f32
  | 0 => k0_pay37
  | n + 1 => if h : n < k0_t1_loop.trips then
      k0_pay42 (k0_pay3 (View.ld K (rowRect ⟨n, h⟩))) (qAcc n) (gAt K V Q O L D ⟨n, h⟩) else qAcc n

theorem qAcc_succ (k : Fin k0_t1_loop.trips) : qAcc K V Q O L D (k.val + 1)
    = k0_pay42 (k0_pay3 (View.ld K (rowRect k))) (qAcc K V Q O L D k.val) (gAt K V Q O L D k) := by
  rw [qAcc, dif_pos k.isLt]

end Acc

/-! ## Rows written trip by trip -/

/-- The trip that writes row `r`. -/
def tripOf (r : Fin 8192) : Fin k0_t1_loop.trips := ⟨r.val / 512, by rw [trips_eq]; omega⟩

/-- The accumulator after the first `n` trips, each of which wrote its own rows `g k`. -/
def rowsTo (g : Fin k0_t1_loop.trips → Vec F S512x128 .f32) (A : Vec F S8192x128 .f32) (n : ℕ) : Vec F S8192x128 .f32 :=
  fun y => if (y 0).val < 512 * n then g (tripOf (y 0)) (ix2 (n0 := 512) (n1 := 128) ⟨(y 0).val % 512, Nat.mod_lt _ (by decide)⟩ (y 1))
    else A y

theorem rowsTo_zero (g : Fin k0_t1_loop.trips → Vec F S512x128 .f32) (A : Vec F S8192x128 .f32) : rowsTo g A 0 = A := by
  funext y; simp [rowsTo]

theorem rowRect_emb0 (k : Fin k0_t1_loop.trips) (x : S512x128.Idx) : (((rowRect k).emb x) 0).val = 512 * k.val + (x 0).val := by
  show k0_off1 k 0 + 1 * (x 0).val = _
  rw [off1_val]; simp
theorem rowRect_emb1 (k : Fin k0_t1_loop.trips) (x : S512x128.Idx) : (((rowRect k).emb x) 1).val = (x 1).val := by
  show k0_off1 k 1 + 1 * (x 1).val = _
  rw [off1_val]; simp

/-- Trip `k` still finds its rows as they were. -/
theorem ld_rowsTo (g : Fin k0_t1_loop.trips → Vec F S512x128 .f32) (A : Vec F S8192x128 .f32) (k : Fin k0_t1_loop.trips) :
    View.ld (rowsTo g A k.val) (rowRect k) = View.ld A (rowRect k) := by
  funext x
  show rowsTo g A k.val ((rowRect k).emb x) = A ((rowRect k).emb x)
  unfold rowsTo
  rw [if_neg]
  rw [rowRect_emb0]; omega

/-- And leaves them written. -/
theorem read_rows_step {sp : Space} (v : View sig .tc sp S8192x128 .f32) (f : v.ty.Contents (Elt F))
    (g : Fin k0_t1_loop.trips → Vec F S512x128 .f32) (A : Vec F S8192x128 .f32) (k : Fin k0_t1_loop.trips)
    (w : Vec F S512x128 .f32) (hf : v.read (Elt F) f = rowsTo g A k.val) (hw : w = g k) :
    v.read (Elt F) (v.writes (Elt F) f [⟨rowRect k, w⟩]) = rowsTo g A (k.val + 1) := by
  subst hw
  funext y
  have hk : k.val < 16 := lt_of_lt_of_eq k.isLt trips_eq
  have hy0 : (y 0).val < 8192 := (y 0).isLt
  by_cases h : 512 * k.val ≤ (y 0).val ∧ (y 0).val < 512 * k.val + 512
  · have ht : tripOf (y 0) = k := Fin.ext (by show (y 0).val / 512 = k.val; omega)
    rw [View.read_writes_cons_hit v f (rowRect k) (g k) []
      (ix2 (n0 := 512) (n1 := 128) ⟨(y 0).val % 512, Nat.mod_lt _ (by decide)⟩ (y 1)) y ?_]
    · unfold rowsTo
      rw [if_pos (by omega), ht]
    · funext a
      match a with
      | ⟨0, _⟩ => refine Fin.ext ((rowRect_emb0 k _).trans ?_); show 512 * k.val + (y 0).val % 512 = (y 0).val; omega
      | ⟨1, _⟩ => exact Fin.ext (rowRect_emb1 k _)
  · rw [View.read_writes_cons_miss_of_axis v f ⟨rowRect k, g k⟩ [] y (0 : Fin 2) (512 * k.val) 512
      (by show k0_off1 k 0 = _; rw [off1_val]; rfl) rfl rfl (by
        show (y 0).val < 512 * k.val ∨ 512 * k.val + 512 ≤ (y 0).val; omega), View.writes_nil, hf]
    unfold rowsTo
    by_cases h' : (y 0).val < 512 * k.val
    · rw [if_pos h', if_pos (by omega)]
    · rw [if_neg h', if_neg (by omega)]

/-! ## A tile stored in four pieces of 128 columns -/

/-- A tile's column piece at column offset `o`. -/
theorem piece_read (W : Vec F S2048x512 .bf16) (o : ℕ) (inb : ∀ a, (![0, o] : Fin 2 → ℕ) a + S2048x128.size a ≤ S2048x512.size a)
    (x : S2048x128.Idx) : ((Rect.unit (s := S2048x512) ![0, o] S2048x128.size inb).emb x 0).val = (x 0).val
      ∧ ((Rect.unit (s := S2048x512) ![0, o] S2048x128.size inb).emb x 1).val = o + (x 1).val :=
  ⟨by show 0 + 1 * (x 0).val = _; omega, by show o + 1 * (x 1).val = _; omega⟩

/-- Four column pieces that agree with one tile read back as that tile. -/
theorem readCov_tile4 {sg : RefSig} {sp : Space} (v : View sg .tc sp S2048x512 .bf16) (G : Vec F S2048x512 .bf16)
    (w0 w1 w2 w3 : Vec F S2048x128 .bf16) (i0 i1 i2 i3 iw) (R : List (View.Piece (Elt F) S2048x512 .bf16))
    (h0 : ∀ x, w0 x = G ((Rect.unit (s := S2048x512) ![0, 0] S2048x128.size i0).emb x))
    (h1 : ∀ x, w1 x = G ((Rect.unit (s := S2048x512) ![0, 128] S2048x128.size i1).emb x))
    (h2 : ∀ x, w2 x = G ((Rect.unit (s := S2048x512) ![0, 256] S2048x128.size i2).emb x))
    (h3 : ∀ x, w3 x = G ((Rect.unit (s := S2048x512) ![0, 384] S2048x128.size i3).emb x)) :
    v.readCov (Val := Elt F) (⟨Rect.unit (s := S2048x512) ![0, 384] S2048x128.size i3, w3⟩ :: ⟨Rect.unit (s := S2048x512) ![0, 256] S2048x128.size i2, w2⟩
      :: ⟨Rect.unit (s := S2048x512) ![0, 128] S2048x128.size i1, w1⟩ :: ⟨Rect.unit (s := S2048x512) ![0, 0] S2048x128.size i0, w0⟩ :: R)
      (Rect.unit (s := S2048x512) ![0, 0] S2048x512.size iw).toLoadRect = G := by
  rw [View.readCov_eq_canon']
  funext y
  have hy : (Rect.unit (s := S2048x512) ![0, 0] S2048x512.size iw).toLoadRect.idx y = y := by
    funext a
    refine Fin.ext ?_
    match a with
    | ⟨0, _⟩ => exact (Nat.zero_add _).trans (Nat.one_mul _)
    | ⟨1, _⟩ => exact (Nat.zero_add _).trans (Nat.one_mul _)
  rw [hy]
  refine View.canon_append_of_pieces G R [⟨Rect.unit (s := S2048x512) ![0, 384] S2048x128.size i3, w3⟩, ⟨Rect.unit (s := S2048x512) ![0, 256] S2048x128.size i2, w2⟩,
    ⟨Rect.unit (s := S2048x512) ![0, 128] S2048x128.size i1, w1⟩, ⟨Rect.unit (s := S2048x512) ![0, 0] S2048x128.size i0, w0⟩] ?_ y ?_
  · intro p hp
    simp only [List.mem_cons, List.not_mem_nil, or_false] at hp
    rcases hp with rfl | rfl | rfl | rfl
    · exact h3
    · exact h2
    · exact h1
    · exact h0
  · have hy1 : (y 1).val < 512 := (y 1).isLt
    have hm : ∀ (o : ℕ) (i), o ≤ (y 1).val → (y 1).val < o + 128 → y ∈ (Rect.unit (s := S2048x512) ![0, o] S2048x128.size i).set := by
      intro o i ho ho'
      rw [Rect.mem_set_unit]
      intro a
      match a with
      | ⟨0, _⟩ => exact ⟨Nat.zero_le _, (y 0).isLt.trans_le (Nat.le_add_left _ _)⟩
      | ⟨1, _⟩ => exact ⟨ho, ho'⟩
    by_cases c3 : 384 ≤ (y 1).val
    · exact ⟨_, .head _, hm 384 i3 c3 (by omega)⟩
    by_cases c2 : 256 ≤ (y 1).val
    · exact ⟨_, .tail _ (.head _), hm 256 i2 c2 (by omega)⟩
    by_cases c1 : 128 ≤ (y 1).val
    · exact ⟨_, .tail _ (.tail _ (.head _)), hm 128 i1 c1 (by omega)⟩
    · exact ⟨_, .tail _ (.tail _ (.tail _ (.head _))), hm 0 i0 (by omega) (by omega)⟩

/-- A piece's element of a row statistic spread over the tile. -/
theorem wide_piece {e : EltTy} (X : Vec F S2048x128 e) (o : ℕ) (ho : o % 128 = 0)
    (inb : ∀ a, (![0, o] : Fin 2 → ℕ) a + S2048x128.size a ≤ S2048x512.size a) (x : S2048x128.Idx) :
    wide X ((Rect.unit (s := S2048x512) ![0, o] S2048x128.size inb).emb x) = X x := by
  unfold wide lane
  refine congrArg X (funext fun a => Fin.ext ?_)
  match a with
  | ⟨0, _⟩ => show 0 + 1 * (x 0).val = (x 0).val; omega
  | ⟨1, _⟩ =>
    have : (x 1).val < 128 := (x 1).isLt
    show (o + 1 * (x 1).val) % 128 = (x 1).val; omega

/-! ## The four pieces a trip stores are one tile -/

theorem slice_ld (X : Vec F S2048x512 .f32) (o : ℕ) (h : S2048x512.Slices ![0, o] S2048x128) (inb) :
    extractStridedSlice S2048x128 ![0, o] X h = View.ld X (Rect.unit (s := S2048x512) ![0, o] S2048x128.size inb) :=
  (View.ld_unit X ![0, o] S2048x128.size inb).symm

theorem pieceW (S : Vec F S2048x512 .f32) (L : Vec F S2048x128 .f32) (h) (o : ℕ) (ho : o % 128 = 0) (inb) (x : S2048x128.Idx) :
    (truncf .bf16 (exp2 (subf (View.ld S (Rect.unit (s := S2048x512) ![0, o] S2048x128.size inb)) L)) h : Vec F S2048x128 .bf16) x
      = (truncf .bf16 (exp2 (subf S (wide L))) h : Vec F S2048x512 .bf16) ((Rect.unit (s := S2048x512) ![0, o] S2048x128.size inb).emb x) := by
  have e := wide_piece (F := F) L o ho inb x
  simp only [Idealize.ShloMosaic.truncf_apply, Idealize.ShloMosaic.exp2_apply, Idealize.ShloMosaic.subf_apply, e]
  rfl

theorem pieceG (S P : Vec F S2048x512 .f32) (L D : Vec F S2048x128 .f32) (h) (o : ℕ) (ho : o % 128 = 0) (inb) (x : S2048x128.Idx) :
    (truncf .bf16 (mulf (exp2 (subf (View.ld S (Rect.unit (s := S2048x512) ![0, o] S2048x128.size inb)) L))
        (subf (View.ld P (Rect.unit (s := S2048x512) ![0, o] S2048x128.size inb)) D)) h : Vec F S2048x128 .bf16) x
      = (truncf .bf16 (mulf (exp2 (subf S (wide L))) (subf P (wide D))) h : Vec F S2048x512 .bf16)
          ((Rect.unit (s := S2048x512) ![0, o] S2048x128.size inb).emb x) := by
  have e := wide_piece (F := F) L o ho inb x
  have e' := wide_piece (F := F) D o ho inb x
  simp only [Idealize.ShloMosaic.truncf_apply, Idealize.ShloMosaic.exp2_apply, Idealize.ShloMosaic.subf_apply, Idealize.ShloMosaic.mulf_apply, e, e']
  rfl

theorem w0 (Kk : Vec F S512x128 .bf16) (Q : Vec F S2048x128 .bf16) (L : Vec F S2048x128 .f32) (inb) (x : S2048x128.Idx) :
    k0_pay7 Kk Q L x = wTile Kk Q L ((Rect.unit (s := S2048x512) ![0, 0] S2048x128.size inb).emb x) := by
  unfold k0_pay7 k0_pay6 wTile
  simp only [shapeCast_self]
  rw [slice_ld (k0_pay4 Kk Q) 0 _ inb]
  refine pieceW _ _ _ 0 (by decide) inb x

theorem w1 (Kk : Vec F S512x128 .bf16) (Q : Vec F S2048x128 .bf16) (L : Vec F S2048x128 .f32) (inb) (x : S2048x128.Idx) :
    k0_pay10 Kk Q L x = wTile Kk Q L ((Rect.unit (s := S2048x512) ![0, 128] S2048x128.size inb).emb x) := by
  unfold k0_pay10 k0_pay9 wTile
  simp only [shapeCast_self]
  rw [slice_ld (k0_pay4 Kk Q) 128 _ inb]
  refine pieceW _ _ _ 128 (by decide) inb x

theorem w2 (Kk : Vec F S512x128 .bf16) (Q : Vec F S2048x128 .bf16) (L : Vec F S2048x128 .f32) (inb) (x : S2048x128.Idx) :
    k0_pay14 (k0_pay4 Kk Q) L x = wTile Kk Q L ((Rect.unit (s := S2048x512) ![0, 256] S2048x128.size inb).emb x) := by
  unfold k0_pay14 k0_pay13 wTile
  simp only [shapeCast_self]
  rw [slice_ld (k0_pay4 Kk Q) 256 _ inb]
  refine pieceW _ _ _ 256 (by decide) inb x

theorem w3 (Kk : Vec F S512x128 .bf16) (Q : Vec F S2048x128 .bf16) (L : Vec F S2048x128 .f32) (inb) (x : S2048x128.Idx) :
    k0_pay17 (k0_pay4 Kk Q) L x = wTile Kk Q L ((Rect.unit (s := S2048x512) ![0, 384] S2048x128.size inb).emb x) := by
  unfold k0_pay17 k0_pay16 wTile
  simp only [shapeCast_self]
  rw [slice_ld (k0_pay4 Kk Q) 384 _ inb]
  refine pieceW _ _ _ 384 (by decide) inb x

theorem g0 (Kk Vk : Vec F S512x128 .bf16) (Q O : Vec F S2048x128 .bf16) (L D : Vec F S2048x128 .f32) (inb) (x : S2048x128.Idx) :
    k0_pay8 Kk Vk Q O L D x = gTile Kk Vk Q O L D ((Rect.unit (s := S2048x512) ![0, 0] S2048x128.size inb).emb x) := by
  unfold k0_pay8 k0_pay6 gTile
  simp only [shapeCast_self]
  rw [slice_ld (k0_pay4 Kk Q) 0 _ inb, slice_ld (k0_pay5 Vk O) 0 _ inb]
  refine pieceG _ _ _ _ _ 0 (by decide) inb x

theorem g1 (Kk Vk : Vec F S512x128 .bf16) (Q O : Vec F S2048x128 .bf16) (L D : Vec F S2048x128 .f32) (inb) (x : S2048x128.Idx) :
    k0_pay12 (k0_pay11 Kk Vk Q O L D) x = gTile Kk Vk Q O L D ((Rect.unit (s := S2048x512) ![0, 128] S2048x128.size inb).emb x) := by
  unfold k0_pay12 k0_pay11 k0_pay9 gTile
  simp only [shapeCast_self]
  rw [slice_ld (k0_pay4 Kk Q) 128 _ inb, slice_ld (k0_pay5 Vk O) 128 _ inb]
  refine pieceG _ _ _ _ _ 128 (by decide) inb x

theorem g2 (Kk Vk : Vec F S512x128 .bf16) (Q O : Vec F S2048x128 .bf16) (L D : Vec F S2048x128 .f32) (inb) (x : S2048x128.Idx) :
    k0_pay15 (k0_pay4 Kk Q) (k0_pay5 Vk O) L D x = gTile Kk Vk Q O L D ((Rect.unit (s := S2048x512) ![0, 256] S2048x128.size inb).emb x) := by
  unfold k0_pay15 k0_pay13 gTile
  simp only [shapeCast_self]
  rw [slice_ld (k0_pay4 Kk Q) 256 _ inb, slice_ld (k0_pay5 Vk O) 256 _ inb]
  refine pieceG _ _ _ _ _ 256 (by decide) inb x

theorem g3 (Kk Vk : Vec F S512x128 .bf16) (Q O : Vec F S2048x128 .bf16) (L D : Vec F S2048x128 .f32) (inb) (x : S2048x128.Idx) :
    k0_pay18 (k0_pay4 Kk Q) (k0_pay5 Vk O) L D x = gTile Kk Vk Q O L D ((Rect.unit (s := S2048x512) ![0, 384] S2048x128.size inb).emb x) := by
  unfold k0_pay18 k0_pay16 gTile
  simp only [shapeCast_self]
  rw [slice_ld (k0_pay4 Kk Q) 384 _ inb, slice_ld (k0_pay5 Vk O) 384 _ inb]
  refine pieceG _ _ _ _ _ 384 (by decide) inb x

end Cert.KernelIdeal.Hand
-- ==== Proof.Trip.lean ====
/-
  One trip of the loop over the keys, run through once: the accumulators' rows it writes, at the functions of Spec.
-/
module

public import proofs.«01_k».proof.Proof.Spec
public import proofs.«01_k».proof.Proof.Gen.KernelIdeal.Frame
public import Idealize.ShloMosaic.Lib.Exec
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg2 : Memref sig .tc .vmem S512x512 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S4x512x128 .f32) (harg7 : arg7.IsWhole)
  (arg8 : Memref sig .tc .hbm S8192x9216 .bf16) (harg8 : arg8.IsWhole)
  (arg9 : Memref sig .tc .vmem S512x512 .bf16) (harg9 : arg9.IsWhole)
  (arg10 : Memref sig .tc .vmem S8192x128 .f32) (harg10 : arg10.IsWhole)
  (arg11 : Memref sig .tc .vmem S8192x128 .bf16) (harg11 : arg11.IsWhole)
  (arg12 : Memref sig .tc .vmem S2048x128 .bf16) (harg12 : arg12.IsWhole)
  (arg13 : Memref sig .tc .vmem S2048x128 .bf16) (harg13 : arg13.IsWhole)
  (arg14 : Memref sig .tc .vmem S2048x128 .f32) (harg14 : arg14.IsWhole)
  (arg15 : Memref sig .tc .vmem S2048x128 .f32) (harg15 : arg15.IsWhole)
  (arg16 : Memref sig .tc .vmem S2048x512 .bf16) (harg16 : arg16.IsWhole)
  (arg17 : Memref sig .tc .vmem S2048x512 .bf16) (harg17 : arg17.IsWhole)
  (arg18 : Memref sig .tc .vmem S2048x128 .f32) (harg18 : arg18.IsWhole)
  (arg19 : Memref sig .tc .vmem S8192x128 .f32) (harg19 : arg19.IsWhole)
  (K V : Vec F S8192x128 .bf16) (Q O : Vec F S2048x128 .bf16) (L D : Vec F S2048x128 .f32) (A10 A19 : Vec F S8192x128 .f32)

/-- What the loop holds before trip `n`: its operands, and the accumulators after `n` trips. -/
def inv (n : ℕ) : sProp 𝕄 :=
  iprop(owns (c : Thread nD τ) arg3 fullShare K ∗ owns (c : Thread nD τ) arg4 fullShare V ∗ owns (c : Thread nD τ) arg12 fullShare Q ∗ owns (c : Thread nD τ) arg13 fullShare O ∗ owns (c : Thread nD τ) arg14 fullShare D ∗ owns (c : Thread nD τ) arg18 fullShare L
    ∗ owns (c : Thread nD τ) arg10 fullShare (rowsTo (kRows K V Q O L D A10) A10 n) ∗ owns (c : Thread nD τ) arg15 fullShare (qAcc K V Q O L D n)
    ∗ (∃ f, arg16.view.loc (c : Thread nD τ) ↦[arg16.view.set]{fullShare} f) ∗ (∃ f, arg17.view.loc (c : Thread nD τ) ↦[arg17.view.set]{fullShare} f)
    ∗ owns (c : Thread nD τ) arg19 fullShare (rowsTo (vRows K Q O L A19) A19 n))

theorem zero2 : (![0, 0] : Fin 2 → ℕ) = fun _ => 0 := by funext a; match a with | ⟨0, _⟩ => rfl | ⟨1, _⟩ => rfl

theorem trip (arg1 : BitVec 32) (v92 : FVec F S512x128 .f32) (v93 : Vec F S512x128 .bf16) (k : Fin k0_t1_loop.trips) :
    inv c arg3 arg4 arg10 arg12 arg13 arg14 arg15 arg16 arg17 arg18 arg19 K V Q O L D A10 A19 k.val
      ⊢ (wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v92 v93 k PUnit.unit)
        (fun _ => inv c arg3 arg4 arg10 arg12 arg13 arg14 arg15 arg16 arg17 arg18 arg19 K V Q O L D A10 A19 (k.val + 1)) : sProp 𝕄) := by
  have hk : k.val < 16 := lt_of_lt_of_eq k.isLt trips_eq
  unfold inv owns k0_t1_body
  iintro ⟨⟨%f3, %h3, H3⟩, ⟨%f4, %h4, H4⟩, ⟨%f12, %h12, H12⟩, ⟨%f13, %h13, H13⟩, ⟨%f14, %h14, H14⟩, ⟨%f18, %h18, H18⟩, ⟨%f10, %h10, H10⟩, ⟨%f15, %h15, H15⟩, ⟨%f16, H16⟩, ⟨%f17, H17⟩, ⟨%f19, %h19, H19⟩⟩
  sl_exec
  sl_step
  have hK : ∀ r : Rect S8192x128, View.readAt (Elt F) arg3.view r.toLoadRect f3 = View.ld K r := fun r => by subst h3; rfl
  have hV : ∀ r : Rect S8192x128, View.readAt (Elt F) arg4.view r.toLoadRect f4 = View.ld V r := fun r => by subst h4; rfl
  have hQ : View.readAt (Elt F) arg12.view (Rect.unit (s := S2048x128) ![0, 0] S2048x128.size inb_S2048x128_S2048x128_0_0).toLoadRect f12 = Q := by
    rw [← h12]; exact View.ld_unit_zero zero2 _ _
  have hO : View.readAt (Elt F) arg13.view (Rect.unit (s := S2048x128) ![0, 0] S2048x128.size inb_S2048x128_S2048x128_0_0).toLoadRect f13 = O := by
    rw [← h13]; exact View.ld_unit_zero zero2 _ _
  have hD : View.readAt (Elt F) arg14.view (Rect.unit (s := S2048x128) ![0, 0] S2048x128.size inb_S2048x128_S2048x128_0_0).toLoadRect f14 = D := by
    rw [← h14]; exact View.ld_unit_zero zero2 _ _
  have hL : View.readAt (Elt F) arg18.view (Rect.unit (s := S2048x128) ![0, 0] S2048x128.size inb_S2048x128_S2048x128_0_0).toLoadRect f18 = L := by
    rw [← h18]; exact View.ld_unit_zero zero2 _ _
  have hA : View.readAt (Elt F) arg15.view (Rect.unit (s := S2048x128) ![0, 0] S2048x128.size inb_S2048x128_S2048x128_0_0).toLoadRect f15
      = qAcc K V Q O L D k.val := by
    rw [← h15]; exact View.ld_unit_zero zero2 _ _
  have hX : View.readAt (Elt F) arg10.view (rowRect k).toLoadRect f10 = View.ld A10 (rowRect k) := by
    rw [← ld_rowsTo (kRows K V Q O L D A10) A10 k, ← h10]; rfl
  have hY : View.readAt (Elt F) arg19.view (rowRect k).toLoadRect f19 = View.ld A19 (rowRect k) := by
    rw [← ld_rowsTo (vRows K Q O L A19) A19 k, ← h19]; rfl
  isplitl [H3]; · iexists f3; isplitr; · ipureintro; exact h3
                  · iexact H3
  isplitl [H4]; · iexists f4; isplitr; · ipureintro; exact h4
                  · iexact H4
  isplitl [H12]; · iexists f12; isplitr; · ipureintro; exact h12
                   · iexact H12
  isplitl [H13]; · iexists f13; isplitr; · ipureintro; exact h13
                   · iexact H13
  isplitl [H14]; · iexists f14; isplitr; · ipureintro; exact h14
                   · iexact H14
  isplitl [H18]; · iexists f18; isplitr; · ipureintro; exact h18
                   · iexact H18
  isplitl [H10]
  · iexists _; isplitr; swap; · iexact H10
    ipureintro
    refine read_rows_step arg10.view f10 (kRows K V Q O L D A10) A10 k _ h10 ?_
    delta Cert.KernelIdeal.Hand.trip.sl.v209 Cert.KernelIdeal.Hand.trip.sl.H17_4 Cert.KernelIdeal.Hand.trip.sl.r_1 Cert.KernelIdeal.Hand.trip.sl.r_2 Cert.KernelIdeal.Hand.trip.sl.r_3 Cert.KernelIdeal.Hand.trip.sl.r_4 Cert.KernelIdeal.Hand.trip.sl.r_5
    simp only [hK, hV, hQ, hO, hD, hL]
    rw [readCov_tile4 arg17.view (gAt K V Q O L D k) _ _ _ _ _ _ _ _ _ _ (g0 _ _ _ _ _ _ _) (g1 _ _ _ _ _ _ _) (g2 _ _ _ _ _ _ _) (g3 _ _ _ _ _ _ _)]
    unfold kRows
    rw [hX]
  isplitl [H15]
  · iexists _; isplitr; swap; · iexact H15
    ipureintro
    rw [qAcc_succ]
    refine (View.read_writes_eq_canon _ _ _ (fun y => ⟨_, .head _, View.mem_set_unit_zero zero2 inb_S2048x128_S2048x128_0_0 y⟩)).trans ?_
    rw [View.canon_unit_zero zero2]
    delta Cert.KernelIdeal.Hand.trip.sl.v209 Cert.KernelIdeal.Hand.trip.sl.H17_4 Cert.KernelIdeal.Hand.trip.sl.r_1 Cert.KernelIdeal.Hand.trip.sl.r_2 Cert.KernelIdeal.Hand.trip.sl.r_3 Cert.KernelIdeal.Hand.trip.sl.r_4 Cert.KernelIdeal.Hand.trip.sl.r_5
    simp only [hK, hV, hQ, hO, hD, hL]
    rw [readCov_tile4 arg17.view (gAt K V Q O L D k) _ _ _ _ _ _ _ _ _ _ (g0 _ _ _ _ _ _ _) (g1 _ _ _ _ _ _ _) (g2 _ _ _ _ _ _ _) (g3 _ _ _ _ _ _ _)]
    delta Cert.KernelIdeal.Hand.trip.sl.r
    rw [hK, hA]
  isplitl [H16]
  · iexists _; iexact H16
  isplitl [H17]
  · iexists _; iexact H17
  iexists _; isplitr; swap; · iexact H19
  ipureintro
  refine read_rows_step arg19.view f19 (vRows K Q O L A19) A19 k _ h19 ?_
  delta Cert.KernelIdeal.Hand.trip.sl.r_6 Cert.KernelIdeal.Hand.trip.sl.v198 Cert.KernelIdeal.Hand.trip.sl.H16_4 Cert.KernelIdeal.Hand.trip.sl.r_1 Cert.KernelIdeal.Hand.trip.sl.r_3
  simp only [hK, hQ, hO, hL]
  rw [readCov_tile4 arg16.view (wAt K Q L k) _ _ _ _ _ _ _ _ _ _ (w0 _ _ _ _) (w1 _ _ _ _) (w2 _ _ _ _) (w3 _ _ _ _)]
  unfold vRows
  rw [hY]

end Cert.KernelIdeal.Hand
-- ==== Proof.Rows.lean ====
/-
  The buffers a grid point fills before the loop and empties after it: four heads' rows stacked in one buffer, four
  heads' columns side by side in another.
-/
module

public import proofs.«01_k».proof.Proof.Spec

@[expose] public section

set_option maxRecDepth 16384

noncomputable section

namespace Cert.KernelIdeal.Hand

open Cert.KernelIdeal Cert.KernelIdeal.Gen
open Idealize.ShloMosaic Idealize.ShloMosaic.ValueIdx Idealize.SL.Sem

variable {F : FTy → Type} [FloatOps F]

/-- Four blocks of 512 rows, one below the other. -/
def stack {e : EltTy} (g : Fin 4 → Vec F S512x128 e) : Vec F S2048x128 e := fun j =>
  g ⟨(j 0).val / 512, by have : (j 0).val < 2048 := (j 0).isLt; omega⟩
    (ix2 (n0 := 512) (n1 := 128) ⟨(j 0).val % 512, Nat.mod_lt _ (by decide)⟩ (j 1))

/-- Four blocks of 128 columns, side by side. -/
def beside {e : EltTy} (g : Fin 4 → Vec F S512x128 e) : Vec F S512x512 e := fun j =>
  g ⟨(j 1).val / 128, by have : (j 1).val < 512 := (j 1).isLt; omega⟩
    (ix2 (n0 := 512) (n1 := 128) (j 0) ⟨(j 1).val % 128, Nat.mod_lt _ (by decide)⟩)

theorem stack_at {e : EltTy} (g : Fin 4 → Vec F S512x128 e) (j : S2048x128.Idx) (h : Fin 4) (x : S512x128.Idx)
    (e0 : (j 0).val = 512 * h.val + (x 0).val) (e1 : (j 1).val = (x 1).val) : stack g j = g h x := by
  have hx : (x 0).val < 512 := (x 0).isLt
  have hh : (⟨(j 0).val / 512, by have : (j 0).val < 2048 := (j 0).isLt; omega⟩ : Fin 4) = h :=
    Fin.ext (by show (j 0).val / 512 = h.val; rw [e0]; omega)
  have hi : (ix2 (n0 := 512) (n1 := 128) ⟨(j 0).val % 512, Nat.mod_lt _ (by decide)⟩ (j 1) : S512x128.Idx) = x := by
    funext a
    match a with
    | ⟨0, _⟩ => refine Fin.ext ?_; show (j 0).val % 512 = (x 0).val; rw [e0]; omega
    | ⟨1, _⟩ => exact Fin.ext e1
  unfold stack
  rw [hh, hi]

theorem beside_at {e : EltTy} (g : Fin 4 → Vec F S512x128 e) (j : S512x512.Idx) (h : Fin 4) (x : S512x128.Idx)
    (e0 : (j 0).val = (x 0).val) (e1 : (j 1).val = 128 * h.val + (x 1).val) : beside g j = g h x := by
  have hx : (x 1).val < 128 := (x 1).isLt
  have hh : (⟨(j 1).val / 128, by have : (j 1).val < 512 := (j 1).isLt; omega⟩ : Fin 4) = h :=
    Fin.ext (by show (j 1).val / 128 = h.val; rw [e1]; omega)
  have hi : (ix2 (n0 := 512) (n1 := 128) (j 0) ⟨(j 1).val % 128, Nat.mod_lt _ (by decide)⟩ : S512x128.Idx) = x := by
    funext a
    match a with
    | ⟨0, _⟩ => exact Fin.ext e0
    | ⟨1, _⟩ => refine Fin.ext ?_; show (j 1).val % 128 = (x 1).val; rw [e1]; omega
  unfold beside
  rw [hh, hi]

theorem stack_piece {e : EltTy} (g : Fin 4 → Vec F S512x128 e) (h : Fin 4) (o : ℕ) (ho : o = 512 * h.val) (inb) (x : S512x128.Idx) :
    g h x = stack g ((Rect.unit (s := S2048x128) ![o, 0] S512x128.size inb).emb x) := by
  subst ho
  refine (stack_at g _ h x ?_ ?_).symm
  · show 512 * h.val + 1 * (x 0).val = _; omega
  · show 0 + 1 * (x 1).val = _; omega

theorem beside_piece {e : EltTy} (g : Fin 4 → Vec F S512x128 e) (h : Fin 4) (o : ℕ) (ho : o = 128 * h.val) (inb) (x : S512x128.Idx) :
    g h x = beside g ((Rect.unit (s := S512x512) ![0, o] S512x128.size inb).emb x) := by
  subst ho
  refine (beside_at g _ h x ?_ ?_).symm
  · show 0 + 1 * (x 0).val = _; omega
  · show 128 * h.val + 1 * (x 1).val = _; omega

/-- Four stores of 512 rows each leave the stack of their payloads. -/
theorem read_stack4 {sg : RefSig} {sp : Space} {e : EltTy} (v : View sg .tc sp S2048x128 e) (f : v.ty.Contents (Elt F)) (g : Fin 4 → Vec F S512x128 e)
    (w0 w1 w2 w3 : Vec F S512x128 e) (h0 : w0 = g 0) (h1 : w1 = g 1) (h2 : w2 = g 2) (h3 : w3 = g 3) (i0 i1 i2 i3) :
    v.read (Elt F) (v.writes (Elt F) f [⟨Rect.unit (s := S2048x128) ![1536, 0] S512x128.size i3, w3⟩,
      ⟨Rect.unit (s := S2048x128) ![1024, 0] S512x128.size i2, w2⟩, ⟨Rect.unit (s := S2048x128) ![512, 0] S512x128.size i1, w1⟩,
      ⟨Rect.unit (s := S2048x128) ![0, 0] S512x128.size i0, w0⟩]) = stack g := by
  subst h0 h1 h2 h3
  have hc : ∀ y : S2048x128.Idx, ∃ p ∈ ([⟨Rect.unit (s := S2048x128) ![1536, 0] S512x128.size i3, g 3⟩,
      ⟨Rect.unit (s := S2048x128) ![1024, 0] S512x128.size i2, g 2⟩, ⟨Rect.unit (s := S2048x128) ![512, 0] S512x128.size i1, g 1⟩,
      ⟨Rect.unit (s := S2048x128) ![0, 0] S512x128.size i0, g 0⟩] : List (View.Piece (Elt F) S2048x128 e)), y ∈ p.1.set := by
    intro y
    have hy : (y 0).val < 2048 := (y 0).isLt
    have hm : ∀ (o : ℕ) (i), o ≤ (y 0).val → (y 0).val < o + 512 → y ∈ (Rect.unit (s := S2048x128) ![o, 0] S512x128.size i).set := by
      intro o i ho ho'
      rw [Rect.mem_set_unit]
      intro a
      match a with
      | ⟨0, _⟩ => exact ⟨ho, ho'⟩
      | ⟨1, _⟩ => exact ⟨Nat.zero_le _, (y 1).isLt.trans_le (Nat.le_add_left _ _)⟩
    by_cases c3 : 1536 ≤ (y 0).val
    · exact ⟨_, .head _, hm 1536 i3 c3 (by omega)⟩
    by_cases c2 : 1024 ≤ (y 0).val
    · exact ⟨_, .tail _ (.head _), hm 1024 i2 c2 (by omega)⟩
    by_cases c1 : 512 ≤ (y 0).val
    · exact ⟨_, .tail _ (.tail _ (.head _)), hm 512 i1 c1 (by omega)⟩
    · exact ⟨_, .tail _ (.tail _ (.tail _ (.head _))), hm 0 i0 (by omega) (by omega)⟩
  rw [View.read_writes_eq_canon _ _ _ hc]
  funext y
  refine View.canon_apply_of_pieces (stack g) _ ?_ y (hc y)
  intro p hp
  simp only [List.mem_cons, List.not_mem_nil, or_false] at hp
  rcases hp with rfl | rfl | rfl | rfl
  · exact stack_piece g 3 1536 rfl i3
  · exact stack_piece g 2 1024 rfl i2
  · exact stack_piece g 1 512 rfl i1
  · exact stack_piece g 0 0 rfl i0

/-- Four stores of 128 columns each leave their payloads side by side. -/
theorem read_beside4 {sg : RefSig} {sp : Space} {e : EltTy} (v : View sg .tc sp S512x512 e) (f : v.ty.Contents (Elt F)) (g : Fin 4 → Vec F S512x128 e)
    (w0 w1 w2 w3 : Vec F S512x128 e) (h0 : w0 = g 0) (h1 : w1 = g 1) (h2 : w2 = g 2) (h3 : w3 = g 3) (i0 i1 i2 i3) :
    v.read (Elt F) (v.writes (Elt F) f [⟨Rect.unit (s := S512x512) ![0, 384] S512x128.size i3, w3⟩,
      ⟨Rect.unit (s := S512x512) ![0, 256] S512x128.size i2, w2⟩, ⟨Rect.unit (s := S512x512) ![0, 128] S512x128.size i1, w1⟩,
      ⟨Rect.unit (s := S512x512) ![0, 0] S512x128.size i0, w0⟩]) = beside g := by
  subst h0 h1 h2 h3
  have hc : ∀ y : S512x512.Idx, ∃ p ∈ ([⟨Rect.unit (s := S512x512) ![0, 384] S512x128.size i3, g 3⟩,
      ⟨Rect.unit (s := S512x512) ![0, 256] S512x128.size i2, g 2⟩, ⟨Rect.unit (s := S512x512) ![0, 128] S512x128.size i1, g 1⟩,
      ⟨Rect.unit (s := S512x512) ![0, 0] S512x128.size i0, g 0⟩] : List (View.Piece (Elt F) S512x512 e)), y ∈ p.1.set := by
    intro y
    have hy : (y 1).val < 512 := (y 1).isLt
    have hm : ∀ (o : ℕ) (i), o ≤ (y 1).val → (y 1).val < o + 128 → y ∈ (Rect.unit (s := S512x512) ![0, o] S512x128.size i).set := by
      intro o i ho ho'
      rw [Rect.mem_set_unit]
      intro a
      match a with
      | ⟨0, _⟩ => exact ⟨Nat.zero_le _, (y 0).isLt.trans_le (Nat.le_add_left _ _)⟩
      | ⟨1, _⟩ => exact ⟨ho, ho'⟩
    by_cases c3 : 384 ≤ (y 1).val
    · exact ⟨_, .head _, hm 384 i3 c3 (by omega)⟩
    by_cases c2 : 256 ≤ (y 1).val
    · exact ⟨_, .tail _ (.head _), hm 256 i2 c2 (by omega)⟩
    by_cases c1 : 128 ≤ (y 1).val
    · exact ⟨_, .tail _ (.tail _ (.head _)), hm 128 i1 c1 (by omega)⟩
    · exact ⟨_, .tail _ (.tail _ (.tail _ (.head _))), hm 0 i0 (by omega) (by omega)⟩
  rw [View.read_writes_eq_canon _ _ _ hc]
  funext y
  refine View.canon_apply_of_pieces (beside g) _ ?_ y (hc y)
  intro p hp
  simp only [List.mem_cons, List.not_mem_nil, or_false] at hp
  rcases hp with rfl | rfl | rfl | rfl
  · exact beside_piece g 3 384 rfl i3
  · exact beside_piece g 2 256 rfl i2
  · exact beside_piece g 1 128 rfl i1
  · exact beside_piece g 0 0 rfl i0

/-! ## What a point computes from its blocks -/

/-- Head `h`'s 128 columns of a block of 512. -/
def colOf {e : EltTy} (X : Vec F S512x512 e) (h : Fin 4) : Vec F S512x128 e := fun x =>
  X (ix2 (n0 := 512) (n1 := 512) (x 0) ⟨128 * h.val + (x 1).val, by have : (x 1).val < 128 := (x 1).isLt; have := h.isLt; omega⟩)
/-- Head `h`'s 512 rows of a stack of 2048. -/
def rowOf {e : EltTy} (X : Vec F S2048x128 e) (h : Fin 4) : Vec F S512x128 e := fun x =>
  X (ix2 (n0 := 2048) (n1 := 128) ⟨512 * h.val + (x 0).val, by have : (x 0).val < 512 := (x 0).isLt; have := h.isLt; omega⟩ (x 1))
/-- Head `h`'s plane of four. -/
def planeOf {e : EltTy} (X : Vec F S4x512x128 e) (h : Fin 4) : Vec F S1x512x128 e := fun x =>
  X (ix3 (n0 := 4) (n1 := 512) (n2 := 128) h (x 1) (x 2))

theorem colOf_ld {e : EltTy} (X : Vec F S512x512 e) (h : Fin 4) (o : ℕ) (ho : o = 128 * h.val) (inb) :
    View.ld X (Rect.unit (s := S512x512) ![0, o] S512x128.size inb) = colOf X h := by
  subst ho; funext x
  refine congrArg X (funext fun a => Fin.ext ?_)
  match a with
  | ⟨0, _⟩ => show 0 + 1 * (x 0).val = (x 0).val; omega
  | ⟨1, _⟩ => show 128 * h.val + 1 * (x 1).val = 128 * h.val + (x 1).val; omega
theorem rowOf_ld {e : EltTy} (X : Vec F S2048x128 e) (h : Fin 4) (o : ℕ) (ho : o = 512 * h.val) (inb) :
    View.ld X (Rect.unit (s := S2048x128) ![o, 0] S512x128.size inb) = rowOf X h := by
  subst ho; funext x
  refine congrArg X (funext fun a => Fin.ext ?_)
  match a with
  | ⟨0, _⟩ => show 512 * h.val + 1 * (x 0).val = 512 * h.val + (x 0).val; omega
  | ⟨1, _⟩ => show 0 + 1 * (x 1).val = (x 1).val; omega
theorem planeOf_ld {e : EltTy} (X : Vec F S4x512x128 e) (h : Fin 4) (o : ℕ) (ho : o = h.val) (inb) :
    View.ld X (Rect.unit (s := S4x512x128) ![o, 0, 0] S1x512x128.size inb) = planeOf X h := by
  subst ho; funext x
  have hx : (x 0).val < 1 := (x 0).isLt
  refine congrArg X (funext fun a => Fin.ext ?_)
  match a with
  | ⟨0, _⟩ => show h.val + 1 * (x 0).val = h.val; omega
  | ⟨1, _⟩ => show 0 + 1 * (x 1).val = (x 1).val; omega
  | ⟨2, _⟩ => show 0 + 1 * (x 2).val = (x 2).val; omega

/-- The point's query rows, head under head (and its output-gradient rows). -/
def qRows (X : Vec F S512x512 .bf16) : Vec F S2048x128 .bf16 := stack fun h => k0_pay21 (colOf X h)
/-- The point's row log-sums. -/
def lRows (X : Vec F S4x512x128 .f32) : Vec F S2048x128 .f32 := stack fun h => k0_pay20 (planeOf X h)
/-- The point's row statistics `Σ do · o`. -/
def dRows (DO O : Vec F S512x512 .bf16) : Vec F S2048x128 .f32 := stack fun h => k0_pay23 (colOf DO h) (colOf O h)
/-- The query gradient as it is written out. -/
def qOut (A : Vec F S2048x128 .f32) : Vec F S512x512 .bf16 := beside fun h => k0_pay43 (rowOf A h)

/-- The point's key and value accumulators after all its trips, over what they held. -/
def dkPt (X : Vec F S512x512 .bf16) (K V : Vec F S8192x128 .bf16) (O DO : Vec F S512x512 .bf16) (L : Vec F S4x512x128 .f32)
    (A : Vec F S8192x128 .f32) : Vec F S8192x128 .f32 :=
  rowsTo (kRows K V (qRows X) (qRows DO) (lRows L) (dRows DO O) A) A 16
def dvPt (X : Vec F S512x512 .bf16) (K : Vec F S8192x128 .bf16) (DO : Vec F S512x512 .bf16) (L : Vec F S4x512x128 .f32)
    (A : Vec F S8192x128 .f32) : Vec F S8192x128 .f32 :=
  rowsTo (vRows K (qRows X) (qRows DO) (lRows L) A) A 16
def dqPt (X : Vec F S512x512 .bf16) (K V : Vec F S8192x128 .bf16) (O DO : Vec F S512x512 .bf16) (L : Vec F S4x512x128 .f32) :
    Vec F S512x512 .bf16 :=
  qOut (qAcc K V (qRows X) (qRows DO) (lRows L) (dRows DO O) 16)

end Cert.KernelIdeal.Hand
-- ==== Proof.Body.lean ====
/-
  One grid point of the attention gradient, run through once: what it leaves in the two blocks it writes at every point,
  in the block it writes at a group's last point, and in the value accumulator it keeps between points.
-/
module

public import proofs.«01_k».proof.Proof.Trip
public import proofs.«01_k».proof.Proof.Rows
public import Idealize.ShloMosaic.Lib.Exec
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One store of a whole buffer leaves its payload. -/
theorem read_whole {sg : RefSig} {sp : Space} {S : Shape} {e : EltTy} {off : Fin S.rank → ℕ} (hz : off = fun _ => 0) (v : View sg .tc sp S e)
    (f : v.ty.Contents (Elt F)) (w : Vec F S e) (inb : ∀ a, off a + S.size a ≤ S.size a) :
    v.read (Elt F) (v.writes (Elt F) f [⟨Rect.unit (s := S) off S.size inb, w⟩]) = w := by
  rw [View.read_writes_eq_canon _ _ _ (fun y => ⟨_, .head _, View.mem_set_unit_zero hz inb y⟩)]
  exact View.canon_unit_zero hz inb w

/-- The first point of a group of heads. -/
abbrev isFirst (i : grid0.Coords) : Prop :=
  Scalar.cmpi .ne (Scalar.extui (Scalar.cmpi .eq (BitVec.ofNat 32 (i 1).val) 0#32) : BitVec 32) 0#32 = 1#1

variable (𝒱 : Variants) (c : Dev nD) (bd : Option 𝒱.V) (E : Set ℕ) (i : grid0.Coords)
  (arg2 : Memref sig .tc .vmem S512x512 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S4x512x128 .f32) (harg7 : arg7.IsWhole)
  (arg8 : Memref sig .tc .hbm S8192x9216 .bf16) (harg8 : arg8.IsWhole)
  (arg9 : Memref sig .tc .vmem S512x512 .bf16) (harg9 : arg9.IsWhole)
  (arg10 : Memref sig .tc .vmem S8192x128 .f32) (harg10 : arg10.IsWhole)
  (arg11 : Memref sig .tc .vmem S8192x128 .bf16) (harg11 : arg11.IsWhole)
  (arg12 : Memref sig .tc .vmem S2048x128 .bf16) (harg12 : arg12.IsWhole)
  (arg13 : Memref sig .tc .vmem S2048x128 .bf16) (harg13 : arg13.IsWhole)
  (arg14 : Memref sig .tc .vmem S2048x128 .f32) (harg14 : arg14.IsWhole)
  (arg15 : Memref sig .tc .vmem S2048x128 .f32) (harg15 : arg15.IsWhole)
  (arg16 : Memref sig .tc .vmem S2048x512 .bf16) (harg16 : arg16.IsWhole)
  (arg17 : Memref sig .tc .vmem S2048x512 .bf16) (harg17 : arg17.IsWhole)
  (arg18 : Memref sig .tc .vmem S2048x128 .f32) (harg18 : arg18.IsWhole)
  (arg19 : Memref sig .tc .vmem S8192x128 .f32) (harg19 : arg19.IsWhole)
  (X : Vec F S512x512 .bf16) (K V : Vec F S8192x128 .bf16) (O DO : Vec F S512x512 .bf16) (L : Vec F S4x512x128 .f32)
  (B10 B19 : Vec F S8192x128 .f32) (B11 : Vec F S8192x128 .bf16)

/-- What a point holds: its six blocks, its three output blocks and its eight buffers. -/
def holds (B9 : sProp 𝕄) (B10 : Vec F S8192x128 .f32) (B11 : Vec F S8192x128 .bf16) (B19 : Vec F S8192x128 .f32) : sProp 𝕄 :=
  iprop(owns (c : Thread nD τ) arg2 fullShare X ∗ owns (c : Thread nD τ) arg3 fullShare K ∗ owns (c : Thread nD τ) arg4 fullShare V
    ∗ owns (c : Thread nD τ) arg5 fullShare O ∗ owns (c : Thread nD τ) arg6 fullShare DO ∗ owns (c : Thread nD τ) arg7 fullShare L
    ∗ B9 ∗ owns (c : Thread nD τ) arg10 fullShare B10 ∗ owns (c : Thread nD τ) arg11 fullShare B11
    ∗ (∃ f, arg12.view.loc (c : Thread nD τ) ↦[arg12.view.set]{fullShare} f) ∗ (∃ f, arg13.view.loc (c : Thread nD τ) ↦[arg13.view.set]{fullShare} f)
    ∗ (∃ f, arg14.view.loc (c : Thread nD τ) ↦[arg14.view.set]{fullShare} f) ∗ (∃ f, arg15.view.loc (c : Thread nD τ) ↦[arg15.view.set]{fullShare} f)
    ∗ (∃ f, arg16.view.loc (c : Thread nD τ) ↦[arg16.view.set]{fullShare} f) ∗ (∃ f, arg17.view.loc (c : Thread nD τ) ↦[arg17.view.set]{fullShare} f)
    ∗ (∃ f, arg18.view.loc (c : Thread nD τ) ↦[arg18.view.set]{fullShare} f) ∗ owns (c : Thread nD τ) arg19 fullShare B19)

theorem pay25_eq (a : Vec F S512x128 .bf16) : k0_pay25 a = k0_pay21 a := by unfold k0_pay25 k0_pay21; simp only [shapeCast_self]
theorem pay29_eq (a : Vec F S512x128 .bf16) : k0_pay29 a = k0_pay21 a := by unfold k0_pay29 k0_pay21; simp only [shapeCast_self]
theorem pay33_eq (a : Vec F S512x128 .bf16) : k0_pay33 a = k0_pay21 a := by unfold k0_pay33 k0_pay21; simp only [shapeCast_self]
theorem pay22_eq (a : Vec F S512x128 .bf16) : k0_pay22 a = k0_pay21 a := by unfold k0_pay22 k0_pay21; simp only [shapeCast_self]
theorem pay26_eq (a : Vec F S512x128 .bf16) : k0_pay26 a = k0_pay21 a := by unfold k0_pay26 k0_pay21; simp only [shapeCast_self]
theorem pay30_eq (a : Vec F S512x128 .bf16) : k0_pay30 a = k0_pay21 a := by unfold k0_pay30 k0_pay21; simp only [shapeCast_self]
theorem pay34_eq (a : Vec F S512x128 .bf16) : k0_pay34 a = k0_pay21 a := by unfold k0_pay34 k0_pay21; simp only [shapeCast_self]
theorem pay24_eq (a : Vec F S1x512x128 .f32) : k0_pay24 a = k0_pay20 a := rfl
theorem pay28_eq (a : Vec F S1x512x128 .f32) : k0_pay28 a = k0_pay20 a := rfl
theorem pay32_eq (a : Vec F S1x512x128 .f32) : k0_pay32 a = k0_pay20 a := rfl
theorem pay44_eq (a : Vec F S512x128 .f32) : k0_pay44 a = k0_pay43 a := rfl
theorem pay45_eq (a : Vec F S512x128 .f32) : k0_pay45 a = k0_pay43 a := rfl
theorem pay1_eq (a : Vec F S512x128 .f32) : k0_pay1 a = k0_pay43 a := rfl
theorem pay27_eq (a b : Vec F S512x128 .bf16) : k0_pay27 a b = k0_pay23 a b := rfl
theorem pay31_eq (a b : Vec F S512x128 .bf16) : k0_pay31 a b = k0_pay23 a b := rfl
theorem pay36_eq (a b : Vec F S512x128 .bf16) : k0_pay36 (k0_pay35 a) b = k0_pay23 a b := rfl

/-- The accumulators as a point's trips find them: zeros at a group's first point. -/
def from0 (i : grid0.Coords) (Z B : Vec F S8192x128 .f32) : Vec F S8192x128 .f32 := if isFirst i then Z else B

theorem body_pt :
    holds c arg2 arg3 arg4 arg5 arg6 arg7 arg10 arg11 arg12 arg13 arg14 arg15 arg16 arg17 arg18 arg19 X K V O DO L iprop(∃ d, owns (c : Thread nD τ) arg9 fullShare d) B10 B11 B19
      ⊢ (wp frame (wpE (defs₀ (F := F)) 𝒱 (c : Thread nD τ) bd) E (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => holds c arg2 arg3 arg4 arg5 arg6 arg7 arg10 arg11 arg12 arg13 arg14 arg15 arg16 arg17 arg18 arg19 X K V O DO L (owns (c : Thread nD τ) arg9 fullShare (dqPt X K V O DO L)) (dkPt X K V O DO L (from0 i k0_pay38 B10))
          (if k0_cond2 i = 1#1 then k0_pay2 (dvPt X K DO L (from0 i k0_pay39 B19)) else B11) (dvPt X K DO L (from0 i k0_pay39 B19))) : sProp 𝕄) := by
  rw [cc0_flash_bwd_eq_skeleton]
  unfold holds owns
  iintro ⟨⟨%f2, %e2, H2⟩, ⟨%f3, %e3, H3⟩, ⟨%f4, %e4, H4⟩, ⟨%f5, %e5, H5⟩, ⟨%f6, %e6, H6⟩, ⟨%f7, %e7, H7⟩, ⟨%d9, %f9, %e9, H9⟩, ⟨%f10, %e10, H10⟩, ⟨%f11, %e11, H11⟩, ⟨%f12, H12⟩, ⟨%f13, H13⟩, ⟨%f14, H14⟩, ⟨%f15, H15⟩, ⟨%f16, H16⟩, ⟨%f17, H17⟩, ⟨%f18, H18⟩, ⟨%f19, %e19, H19⟩⟩
  sl_exec
  sl_for (fun n _ => inv c arg3 arg4 arg10 arg12 arg13 arg14 arg15 arg16 arg17 arg18 arg19 K V (qRows X) (qRows DO) (lRows L) (dRows DO O) (from0 i k0_pay38 B10) (from0 i k0_pay39 B19) n) $$ [H3 H4 H10 H12 H13 H14 H15 H16 H17 H18 H19]
  case region =>
    intro k acc
    exact trip 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 K V (qRows X) (qRows DO) (lRows L) (dRows DO O) (from0 i k0_pay38 B10) (from0 i k0_pay39 B19) _ _ _ k
  · have hX : ∀ (h : Fin 4) (o : ℕ) (ho : o = 128 * h.val) (inb), View.readAt (Elt F) arg2.view (Rect.unit (s := S512x512) ![0, o] S512x128.size inb).toLoadRect f2 = colOf X h :=
      fun h o ho inb => by subst e2; exact colOf_ld _ h o ho inb
    have hO : ∀ (h : Fin 4) (o : ℕ) (ho : o = 128 * h.val) (inb), View.readAt (Elt F) arg5.view (Rect.unit (s := S512x512) ![0, o] S512x128.size inb).toLoadRect f5 = colOf O h :=
      fun h o ho inb => by subst e5; exact colOf_ld _ h o ho inb
    have hDO : ∀ (h : Fin 4) (o : ℕ) (ho : o = 128 * h.val) (inb), View.readAt (Elt F) arg6.view (Rect.unit (s := S512x512) ![0, o] S512x128.size inb).toLoadRect f6 = colOf DO h :=
      fun h o ho inb => by subst e6; exact colOf_ld _ h o ho inb
    have hL : ∀ (h : Fin 4) (o : ℕ) (ho : o = h.val) (inb), View.readAt (Elt F) arg7.view (Rect.unit (s := S4x512x128) ![o, 0, 0] S1x512x128.size inb).toLoadRect f7 = planeOf L h :=
      fun h o ho inb => by subst e7; exact planeOf_ld _ h o ho inb
    unfold inv owns
    isplitl [H3]
    · iexists f3; isplitr
      · ipureintro; exact e3
      · iexact H3
    isplitl [H4]
    · iexists f4; isplitr
      · ipureintro; exact e4
      · iexact H4
    isplitl [H12]
    · iexists _; isplitr; swap; · iexact H12
      ipureintro
      delta Cert.KernelIdeal.Hand.body_pt.sl.H12_4
      exact read_stack4 arg12.view _ (fun h => k0_pay21 (colOf X h)) _ _ _ _ (congrArg k0_pay21 (hX 0 0 rfl _)) ((congrArg k0_pay25 (hX 1 128 rfl _)).trans (pay25_eq _))
        ((congrArg k0_pay29 (hX 2 256 rfl _)).trans (pay29_eq _)) ((congrArg k0_pay33 (hX 3 384 rfl _)).trans (pay33_eq _)) _ _ _ _
    isplitl [H13]
    · iexists _; isplitr; swap; · iexact H13
      ipureintro
      delta Cert.KernelIdeal.Hand.body_pt.sl.H13_4
      exact read_stack4 arg13.view _ (fun h => k0_pay21 (colOf DO h)) _ _ _ _ ((congrArg k0_pay22 (hDO 0 0 rfl _)).trans (pay22_eq _)) ((congrArg k0_pay26 (hDO 1 128 rfl _)).trans (pay26_eq _))
        ((congrArg k0_pay30 (hDO 2 256 rfl _)).trans (pay30_eq _)) ((congrArg k0_pay34 (hDO 3 384 rfl _)).trans (pay34_eq _)) _ _ _ _
    isplitl [H14]
    · iexists _; isplitr; swap; · iexact H14
      ipureintro
      delta Cert.KernelIdeal.Hand.body_pt.sl.H14_4 Cert.KernelIdeal.Hand.body_pt.sl.r_1 Cert.KernelIdeal.Hand.body_pt.sl.r_2
      exact read_stack4 arg14.view _ (fun h => k0_pay23 (colOf DO h) (colOf O h)) _ _ _ _ (congrArg₂ k0_pay23 (hDO 0 0 rfl _) (hO 0 0 rfl _)) ((congrArg₂ k0_pay27 (hDO 1 128 rfl _) (hO 1 128 rfl _)).trans (pay27_eq _ _))
        ((congrArg₂ k0_pay31 (hDO 2 256 rfl _) (hO 2 256 rfl _)).trans (pay31_eq _ _)) ((congrArg₂ (fun a b => k0_pay36 (k0_pay35 a) b) (hDO 3 384 rfl _) (hO 3 384 rfl _)).trans (pay36_eq _ _)) _ _ _ _
    isplitl [H18]
    · iexists _; isplitr; swap; · iexact H18
      ipureintro
      delta Cert.KernelIdeal.Hand.body_pt.sl.H18_4 Cert.KernelIdeal.Hand.body_pt.sl.r
      exact read_stack4 arg18.view _ (fun h => k0_pay20 (planeOf L h)) _ _ _ _ (congrArg k0_pay20 (hL 0 0 rfl _)) ((congrArg k0_pay24 (hL 1 1 rfl _)).trans (pay24_eq _))
        ((congrArg k0_pay28 (hL 2 2 rfl _)).trans (pay28_eq _)) ((congrArg k0_pay32 (hL 3 3 rfl _)).trans (pay32_eq _)) _ _ _ _
    isplitl [H10]
    · iexists _; isplitr; swap; · iexact H10
      ipureintro
      rw [rowsTo_zero]
      unfold from0
      by_cases h1 : isFirst i
      · rw [if_pos h1]
        refine (congrArg (View.read (Elt F) arg10.view) (dif_pos h1)).trans ?_
        exact read_whole zero2 _ _ _ _
      · rw [if_neg h1]
        exact (congrArg (View.read (Elt F) arg10.view) (dif_neg h1)).trans e10
    isplitl [H15]
    · iexists _; isplitr; swap; · iexact H15
      ipureintro
      delta Cert.KernelIdeal.Hand.body_pt.sl.H15_1
      exact read_whole zero2 _ _ _ _
    isplitl [H16]; · iexists _; iexact H16
    isplitl [H17]; · iexists _; iexact H17
    iexists _; isplitr; swap; · iexact H19
    ipureintro
    rw [rowsTo_zero]
    unfold from0
    by_cases h1 : isFirst i
    · rw [if_pos h1]
      refine (congrArg (View.read (Elt F) arg19.view) (dif_pos h1)).trans ?_
      exact read_whole zero2 _ _ _ _
    · rw [if_neg h1]
      exact (congrArg (View.read (Elt F) arg19.view) (dif_neg h1)).trans e19
  · iintro %acc HI
    delta inv owns
    icases HI with ⟨⟨%f3', %e3', H3⟩, ⟨%f4', %e4', H4⟩, ⟨%f12', %e12', H12⟩, ⟨%f13', %e13', H13⟩, ⟨%f14', %e14', H14⟩, ⟨%f18', %e18', H18⟩, ⟨%f10', %e10', H10⟩, ⟨%f15', %e15', H15⟩, ⟨%f16', H16⟩, ⟨%f17', H17⟩, ⟨%f19', %e19', H19⟩⟩
    have ht : Scf.trips k0_t1_loop.lb k0_t1_loop.ub k0_t1_loop.st = 16 := trips_eq
    rw [ht] at e10' e15' e19'
    have hA : ∀ (h : Fin 4) (o : ℕ) (ho : o = 512 * h.val) (inb), View.readAt (Elt F) arg15.view (Rect.unit (s := S2048x128) ![o, 0] S512x128.size inb).toLoadRect f15'
        = rowOf (qAcc K V (qRows X) (qRows DO) (lRows L) (dRows DO O) 16) h :=
      fun h o ho inb => by rw [← e15']; exact rowOf_ld _ h o ho inb
    have hV : View.readAt (Elt F) arg19.view (Rect.unit (s := S8192x128) ![0, 0] S8192x128.size inb_S8192x128_S8192x128_0_0).toLoadRect f19' = dvPt X K DO L (from0 i k0_pay39 B19) := by
      unfold dvPt; rw [← e19']; exact View.ld_unit_zero zero2 _ _
    sl_exec
    sl_step
    isplitl [H2]
    · iexists f2; isplitr
      · ipureintro; exact e2
      · iexact H2
    isplitl [H3]
    · iexists f3'; isplitr
      · ipureintro; exact e3'
      · iexact H3
    isplitl [H4]
    · iexists f4'; isplitr
      · ipureintro; exact e4'
      · iexact H4
    isplitl [H5]
    · iexists f5; isplitr
      · ipureintro; exact e5
      · iexact H5
    isplitl [H6]
    · iexists f6; isplitr
      · ipureintro; exact e6
      · iexact H6
    isplitl [H7]
    · iexists f7; isplitr
      · ipureintro; exact e7
      · iexact H7
    isplitl [H9]
    · iexists _; isplitr; swap; · iexact H9
      ipureintro
      exact read_beside4 arg9.view _ (fun h => k0_pay43 (rowOf (qAcc K V (qRows X) (qRows DO) (lRows L) (dRows DO O) 16) h)) _ _ _ _
        (congrArg k0_pay43 (hA 0 0 rfl _)) ((congrArg k0_pay44 (hA 1 512 rfl _)).trans (pay44_eq _)) ((congrArg k0_pay45 (hA 2 1024 rfl _)).trans (pay45_eq _)) ((congrArg k0_pay1 (hA 3 1536 rfl _)).trans (pay1_eq _)) _ _ _ _
    isplitl [H10]
    · iexists f10'; isplitr
      · ipureintro; exact e10'
      · iexact H10
    isplitl [H11]
    · iexists _; isplitr; swap; · iexact H11
      ipureintro
      by_cases h2 : k0_cond2 i = 1#1
      · rw [if_pos h2]
        refine (congrArg (View.read (Elt F) arg11.view) (dif_pos h2)).trans ?_
        refine (read_whole zero2 arg11.view f11 _ _).trans ?_
        rfl
      · rw [if_neg h2]
        exact (congrArg (View.read (Elt F) arg11.view) (dif_neg h2)).trans e11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists f19'; isplitr; · ipureintro; exact e19'
    iexact H19

end Cert.KernelIdeal.Hand
-- ==== Proof.Run.lean ====
/-
  The whole call: the proof data of its pipeline, each point by the run of Body, and the frame.
-/
module

public import proofs.«01_k».proof.Proof.Body
public import proofs.«01_k».proof.Proof.Gen.KernelIdeal.Frame
public import Idealize.ShloMosaic.Lib.Exec
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sepm {P P' Q Q' : sProp 𝕄} (h : P ⊢ P') (h' : Q ⊢ Q') : iprop(P ∗ Q) ⊢ iprop(P' ∗ Q') := BI.sep_mono h h'

/-- Point `n` of the grid. -/
def pt (n : ℕ) : Fin cfg0.N := ⟨n % 64, lt_of_lt_of_eq (Nat.mod_lt n (by decide : 64 > 0)) N_0.symm⟩
theorem pt_val (t : Fin cfg0.N) : pt t.val = t := Fin.ext (Nat.mod_eq_of_lt (lt_of_lt_of_eq t.isLt N_0))

abbrev blk0 (c : Dev nD) (t : Fin cfg0.N) : Vec F S512x512 .bf16 := iblk m c 0 t
abbrev blk1 (c : Dev nD) (t : Fin cfg0.N) : Vec F S8192x128 .bf16 := iblk m c 1 t
abbrev blk2 (c : Dev nD) (t : Fin cfg0.N) : Vec F S8192x128 .bf16 := iblk m c 2 t
abbrev blk3 (c : Dev nD) (t : Fin cfg0.N) : Vec F S512x512 .bf16 := iblk m c 3 t
abbrev blk4 (c : Dev nD) (t : Fin cfg0.N) : Vec F S512x512 .bf16 := iblk m c 4 t
abbrev blk5 (c : Dev nD) (t : Fin cfg0.N) : Vec F S4x512x128 .f32 := iblk m c 5 t

/-- The key gradient's block after point `n`. -/
def dkN (c : Dev nD) : ℕ → Vec F S8192x128 .f32
  | 0 => dkPt (blk0 m c (pt 0)) (blk1 m c (pt 0)) (blk2 m c (pt 0)) (blk3 m c (pt 0)) (blk4 m c (pt 0)) (blk5 m c (pt 0)) (from0 (grid0.coords (pt 0)) k0_pay38 k0_pay38)
  | n + 1 => dkPt (blk0 m c (pt (n + 1))) (blk1 m c (pt (n + 1))) (blk2 m c (pt (n + 1))) (blk3 m c (pt (n + 1))) (blk4 m c (pt (n + 1))) (blk5 m c (pt (n + 1)))
      (from0 (grid0.coords (pt (n + 1))) k0_pay38 (dkN c n))

/-- The value gradient's accumulator after point `n`. -/
def dvN (c : Dev nD) : ℕ → Vec F S8192x128 .f32
  | 0 => dvPt (blk0 m c (pt 0)) (blk1 m c (pt 0)) (blk4 m c (pt 0)) (blk5 m c (pt 0)) (from0 (grid0.coords (pt 0)) k0_pay39 k0_pay39)
  | n + 1 => dvPt (blk0 m c (pt (n + 1))) (blk1 m c (pt (n + 1))) (blk4 m c (pt (n + 1))) (blk5 m c (pt (n + 1)))
      (from0 (grid0.coords (pt (n + 1))) k0_pay39 (dvN c n))

/-- The query gradient's block at point `t`. -/
def dqAt (c : Dev nD) (t : Fin cfg0.N) : Vec F S512x512 .bf16 :=
  dqPt (blk0 m c t) (blk1 m c t) (blk2 m c t) (blk3 m c t) (blk4 m c t) (blk5 m c t)

theorem isFirst_iff : ∀ t : Fin grid0.N, isFirst (grid0.coords t) ↔ t.val % 16 = 0 := by decide +kernel
theorem cond2_iff : ∀ t : Fin grid0.N, k0_cond2 (grid0.coords t) = 1#1 ↔ t.val % 16 = 15 := by decide +kernel

/-- The eight buffers between points: the value accumulator at named contents, the others at any. -/
def scr (c : Dev nD) (B : Vec F S8192x128 .f32) : sProp 𝕄 :=
  iprop((∃ f, (Memref.whole cc0_scratch0 : Memref sig .tc .vmem _ _).view.loc (c : Thread nD τ) ↦[(Memref.whole cc0_scratch0 : Memref sig .tc .vmem _ _).view.set]{fullShare} f)
    ∗ (∃ f, (Memref.whole cc0_scratch1 : Memref sig .tc .vmem _ _).view.loc (c : Thread nD τ) ↦[(Memref.whole cc0_scratch1 : Memref sig .tc .vmem _ _).view.set]{fullShare} f)
    ∗ (∃ f, (Memref.whole cc0_scratch2 : Memref sig .tc .vmem _ _).view.loc (c : Thread nD τ) ↦[(Memref.whole cc0_scratch2 : Memref sig .tc .vmem _ _).view.set]{fullShare} f)
    ∗ (∃ f, (Memref.whole cc0_scratch3 : Memref sig .tc .vmem _ _).view.loc (c : Thread nD τ) ↦[(Memref.whole cc0_scratch3 : Memref sig .tc .vmem _ _).view.set]{fullShare} f)
    ∗ (∃ f, (Memref.whole cc0_scratch4 : Memref sig .tc .vmem _ _).view.loc (c : Thread nD τ) ↦[(Memref.whole cc0_scratch4 : Memref sig .tc .vmem _ _).view.set]{fullShare} f)
    ∗ (∃ f, (Memref.whole cc0_scratch5 : Memref sig .tc .vmem _ _).view.loc (c : Thread nD τ) ↦[(Memref.whole cc0_scratch5 : Memref sig .tc .vmem _ _).view.set]{fullShare} f)
    ∗ (∃ f, (Memref.whole cc0_scratch6 : Memref sig .tc .vmem _ _).view.loc (c : Thread nD τ) ↦[(Memref.whole cc0_scratch6 : Memref sig .tc .vmem _ _).view.set]{fullShare} f)
    ∗ owns (c : Thread nD τ) (Memref.whole cc0_scratch7) fullShare B)

def Phi (c : Dev nD) (n : ℕ) : sProp 𝕄 :=
  iprop((∃ B, ⌜n % 16 ≠ 0 → B = dvN m c (n - 1)⌝ ∗ scr c B) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkN m c t.val
    | ⟨8, _⟩ => k0_pay2 (dvN m c t.val)
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t := by dsimp only [dats]
theorem after0_7 (c : Dev nD) (t : Fin cfg0.N) : (dats m 0 c).after 7 t = dkN m c t.val := by dsimp only [dats]
theorem after0_8 (c : Dev nD) (t : Fin cfg0.N) : (dats m 0 c).after 8 t = k0_pay2 (dvN m c t.val) := by dsimp only [dats]
theorem Phi_eq (c : Dev nD) (t : Fin (cfg0.N + 1)) : (dats m 0 c).Φ t = Phi m c t.val := by dsimp only [dats]

/-- Started from what the point before left (or from zeros), the accumulators take the next step. -/
theorem dkN_step (c : Dev nD) (t : Fin cfg0.N) (B : Vec F S8192x128 .f32) (hB : t.val % 16 ≠ 0 → B = dkN m c (t.val - 1)) :
    dkPt (blk0 m c t) (blk1 m c t) (blk2 m c t) (blk3 m c t) (blk4 m c t) (blk5 m c t) (from0 (grid0.coords t) k0_pay38 B) = dkN m c t.val := by
  obtain ⟨n, hn⟩ := t
  have e : pt n = ⟨n, hn⟩ := pt_val ⟨n, hn⟩
  cases n with
  | zero =>
    show _ = dkN m c 0
    unfold dkN
    rw [e]
    unfold from0
    rw [if_pos ((isFirst_iff ⟨0, hn⟩).mpr rfl), if_pos ((isFirst_iff ⟨0, hn⟩).mpr rfl)]
  | succ n =>
    show _ = dkN m c (n + 1)
    unfold dkN
    rw [e]
    unfold from0
    by_cases h : isFirst (grid0.coords ⟨n + 1, hn⟩)
    · rw [if_pos h, if_pos h]
    · rw [if_neg h, if_neg h, hB (fun h' => h ((isFirst_iff ⟨n + 1, hn⟩).mpr h'))]
      rfl

theorem dvN_step (c : Dev nD) (t : Fin cfg0.N) (B : Vec F S8192x128 .f32) (hB : t.val % 16 ≠ 0 → B = dvN m c (t.val - 1)) :
    dvPt (blk0 m c t) (blk1 m c t) (blk4 m c t) (blk5 m c t) (from0 (grid0.coords t) k0_pay39 B) = dvN m c t.val := by
  obtain ⟨n, hn⟩ := t
  have e : pt n = ⟨n, hn⟩ := pt_val ⟨n, hn⟩
  cases n with
  | zero =>
    show _ = dvN m c 0
    unfold dvN
    rw [e]
    unfold from0
    rw [if_pos ((isFirst_iff ⟨0, hn⟩).mpr rfl), if_pos ((isFirst_iff ⟨0, hn⟩).mpr rfl)]
  | succ n =>
    show _ = dvN m c (n + 1)
    unfold dvN
    rw [e]
    unfold from0
    by_cases h : isFirst (grid0.coords ⟨n + 1, hn⟩)
    · rw [if_pos h, if_pos h]
    · rw [if_neg h, if_neg h, hB (fun h' => h ((isFirst_iff ⟨n + 1, hn⟩).mpr h'))]
      rfl

/-- What the key gradient's buffer holds at a point that is not a group's first. -/
theorem before7 (c : Dev nD) (t : Fin cfg0.N) (d) (h : t.val % 16 ≠ 0) : (dats m 0 c).before 7 t d = dkN m c (t.val - 1) := by
  have ht : t.val ≠ 0 := fun h0 => h (by rw [h0])
  refine ((dats m 0 c).before_out_kept 7 rfl t ht ?_ (fun _ => rfl) (fun _ _ => rfl) d).trans ?_
  · rw [Bool.eq_false_iff]
    intro hf
    have := (flush0_7 _).mp hf
    dsimp only at this
    omega
  · rw [after0_7]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- The last output: written at a group's last point, untouched at the others. -/
def post8 (c : Dev nD) (t : Fin cfg0.N) : sProp 𝕄 :=
  if k0_cond2 (grid0.coords t) = 1#1 then owns (c : Thread nD τ) (st0_8 t) fullShare ((dats m 0 c).after 8 t)
  else iprop(∃ d, owns (c : Thread nD τ) (st0_8 t) fullShare ((dats m 0 c).before 8 t d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ post8 m c t)

theorem sound_core (c : Dev nD) (t : Fin cfg0.N) (W : Waits sig Unit) (X : Vec F S512x512 .bf16) (K V : Vec F S8192x128 .bf16) (O DO Y : Vec F S512x512 .bf16)
    (L : Vec F S4x512x128 .f32) (B10 B : Vec F S8192x128 .f32) (B11 : Vec F S8192x128 .bf16) (h8 : dvPt X K DO L (from0 (grid0.coords t) k0_pay39 B) = dvN m c t.val) :
    (iprop(((((((((((((((((((∃ r, prngReg c r) ∗ owes (c : Thread nD τ) 0 W) ∗ owns (c : Thread nD τ) (st0_0 t) fullShare X) ∗ owns (c : Thread nD τ) (st0_1 t) fullShare K) ∗ owns (c : Thread nD τ) (st0_2 t) fullShare V) ∗ owns (c : Thread nD τ) (st0_3 t) fullShare O) ∗ owns (c : Thread nD τ) (st0_4 t) fullShare DO) ∗ owns (c : Thread nD τ) (st0_5 t) fullShare L) ∗ owns (c : Thread nD τ) (st0_6 t) fullShare Y) ∗ owns (c : Thread nD τ) (st0_7 t) fullShare B10) ∗ owns (c : Thread nD τ) (st0_8 t) fullShare B11) ∗ (∃ f, (Memref.whole cc0_scratch0 : Memref sig .tc .vmem _ _).view.loc (c : Thread nD τ) ↦[(Memref.whole cc0_scratch0 : Memref sig .tc .vmem _ _).view.set]{fullShare} f)) ∗ (∃ f, (Memref.whole cc0_scratch1 : Memref sig .tc .vmem _ _).view.loc (c : Thread nD τ) ↦[(Memref.whole cc0_scratch1 : Memref sig .tc .vmem _ _).view.set]{fullShare} f)) ∗ (∃ f, (Memref.whole cc0_scratch2 : Memref sig .tc .vmem _ _).view.loc (c : Thread nD τ) ↦[(Memref.whole cc0_scratch2 : Memref sig .tc .vmem _ _).view.set]{fullShare} f)) ∗ (∃ f, (Memref.whole cc0_scratch3 : Memref sig .tc .vmem _ _).view.loc (c : Thread nD τ) ↦[(Memref.whole cc0_scratch3 : Memref sig .tc .vmem _ _).view.set]{fullShare} f)) ∗ (∃ f, (Memref.whole cc0_scratch4 : Memref sig .tc .vmem _ _).view.loc (c : Thread nD τ) ↦[(Memref.whole cc0_scratch4 : Memref sig .tc .vmem _ _).view.set]{fullShare} f)) ∗ (∃ f, (Memref.whole cc0_scratch5 : Memref sig .tc .vmem _ _).view.loc (c : Thread nD τ) ↦[(Memref.whole cc0_scratch5 : Memref sig .tc .vmem _ _).view.set]{fullShare} f)) ∗ (∃ f, (Memref.whole cc0_scratch6 : Memref sig .tc .vmem _ _).view.loc (c : Thread nD τ) ↦[(Memref.whole cc0_scratch6 : Memref sig .tc .vmem _ _).view.set]{fullShare} f)) ∗ owns (c : Thread nD τ) (Memref.whole cc0_scratch7) fullShare B) : sProp 𝕄)
      ⊢ wp frame (wpE (defs₀ (F := F)) Variants.none c none) Set.univ (bodyAt0 t) (fun _ => iprop(((∃ B', ⌜(t.val + 1) % 16 ≠ 0 → B' = dvN m c (t.val + 1 - 1)⌝ ∗ scr c B') ∗ ∃ r, prngReg c r)
        ∗ (∃ W, ⌜↑W ⊆ (dats m 0 c).bound () t.succ⌝ ∗ owes (c : Thread nD τ) 0 W)
        ∗ owns (c : Thread nD τ) (st0_0 t) fullShare X ∗ owns (c : Thread nD τ) (st0_1 t) fullShare K ∗ owns (c : Thread nD τ) (st0_2 t) fullShare V ∗ owns (c : Thread nD τ) (st0_3 t) fullShare O ∗ owns (c : Thread nD τ) (st0_4 t) fullShare DO ∗ owns (c : Thread nD τ) (st0_5 t) fullShare L ∗ owns (c : Thread nD τ) (st0_6 t) fullShare (dqPt X K V O DO L) ∗ owns (c : Thread nD τ) (st0_7 t) fullShare (dkPt X K V O DO L (from0 (grid0.coords t) k0_pay38 B10))
        ∗ (if k0_cond2 (grid0.coords t) = 1#1 then owns (c : Thread nD τ) (st0_8 t) fullShare (k0_pay2 (dvPt X K DO L (from0 (grid0.coords t) k0_pay39 B)))
          else owns (c : Thread nD τ) (st0_8 t) fullShare B11))) := by
  unfold bodyAt0 scr
  iintro ⟨⟨⟨⟨⟨⟨⟨⟨⟨⟨⟨⟨⟨⟨⟨⟨⟨⟨Hg, HW⟩, H0⟩, H1⟩, H2⟩, H3⟩, H4⟩, H5⟩, H6⟩, H7⟩, H8⟩, S0⟩, S1⟩, S2⟩, S3⟩, S4⟩, S5⟩, S6⟩, S7⟩
  ihave Hwp := (body_pt (F := F) Variants.none c none Set.univ (grid0.coords t) (stage0_0 (cfg0.slots t 0)) (hstage0_0 ((cfg0.slots t 0).cast nbuf0_0)) (stage0_1 (cfg0.slots t 1)) (hstage0_1 ((cfg0.slots t 1).cast nbuf0_1)) (stage0_2 (cfg0.slots t 2)) (hstage0_2 ((cfg0.slots t 2).cast nbuf0_2)) (stage0_3 (cfg0.slots t 3)) (hstage0_3 ((cfg0.slots t 3).cast nbuf0_3)) (stage0_4 (cfg0.slots t 4)) (hstage0_4 ((cfg0.slots t 4).cast nbuf0_4)) (stage0_5 (cfg0.slots t 5)) (hstage0_5 ((cfg0.slots t 5).cast nbuf0_5)) (Memref.whole main_arg4) (Memref.isWhole_whole _) (stage0_6 (cfg0.slots t 6)) (hstage0_6 ((cfg0.slots t 6).cast nbuf0_6)) (stage0_7 (cfg0.slots t 7)) (hstage0_7 ((cfg0.slots t 7).cast nbuf0_7)) (stage0_8 (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) X K V O DO L B10 B B11) $$ [H0 H1 H2 H3 H4 H5 H6 H7 H8 S0 S1 S2 S3 S4 S5 S6 S7]
  · unfold holds
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iapply (wp_wand frame (wpE (defs₀ (F := F)) Variants.none c none) Set.univ) $$ Hwp
  iintro %_ Hh
  unfold holds
  icases Hh with ⟨H0, H1, H2, H3, H4, H5, H6, H7, H8, S0, S1, S2, S3, S4, S5, S6, S7⟩
  isplitl [Hg S0 S1 S2 S3 S4 S5 S6 S7]
  · isplitr [Hg]
    · iexists _
      isplitr
      · ipureintro; exact fun _ => h8
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
    · iexact Hg
  isplitl [HW]
  · iexists W; isplitr
    · ipureintro; exact fun _ _ => Or.inl trivial
    · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases h : k0_cond2 (grid0.coords t) = 1#1
  · rw [if_pos h, if_pos h]
    iexact H8
  · rw [if_neg h, if_neg h]
    iexact H8

theorem sound_at (c : Dev nD) (t : Fin cfg0.N) (W : Waits sig Unit) (Y : Vec F S512x512 .bf16) (B10 B : Vec F S8192x128 .f32) (B11 : Vec F S8192x128 .bf16)
    (hB : t.val % 16 ≠ 0 → B = dvN m c (t.val - 1)) (h10 : t.val % 16 ≠ 0 → B10 = dkN m c (t.val - 1)) :
    (iprop(((((((((((((((((((∃ r, prngReg c r) ∗ owes (c : Thread nD τ) 0 W) ∗ owns (c : Thread nD τ) (st0_0 t) fullShare (blk0 m c t)) ∗ owns (c : Thread nD τ) (st0_1 t) fullShare (blk1 m c t)) ∗ owns (c : Thread nD τ) (st0_2 t) fullShare (blk2 m c t)) ∗ owns (c : Thread nD τ) (st0_3 t) fullShare (blk3 m c t)) ∗ owns (c : Thread nD τ) (st0_4 t) fullShare (blk4 m c t)) ∗ owns (c : Thread nD τ) (st0_5 t) fullShare (blk5 m c t)) ∗ owns (c : Thread nD τ) (st0_6 t) fullShare Y) ∗ owns (c : Thread nD τ) (st0_7 t) fullShare B10) ∗ owns (c : Thread nD τ) (st0_8 t) fullShare B11) ∗ (∃ f, (Memref.whole cc0_scratch0 : Memref sig .tc .vmem _ _).view.loc (c : Thread nD τ) ↦[(Memref.whole cc0_scratch0 : Memref sig .tc .vmem _ _).view.set]{fullShare} f)) ∗ (∃ f, (Memref.whole cc0_scratch1 : Memref sig .tc .vmem _ _).view.loc (c : Thread nD τ) ↦[(Memref.whole cc0_scratch1 : Memref sig .tc .vmem _ _).view.set]{fullShare} f)) ∗ (∃ f, (Memref.whole cc0_scratch2 : Memref sig .tc .vmem _ _).view.loc (c : Thread nD τ) ↦[(Memref.whole cc0_scratch2 : Memref sig .tc .vmem _ _).view.set]{fullShare} f)) ∗ (∃ f, (Memref.whole cc0_scratch3 : Memref sig .tc .vmem _ _).view.loc (c : Thread nD τ) ↦[(Memref.whole cc0_scratch3 : Memref sig .tc .vmem _ _).view.set]{fullShare} f)) ∗ (∃ f, (Memref.whole cc0_scratch4 : Memref sig .tc .vmem _ _).view.loc (c : Thread nD τ) ↦[(Memref.whole cc0_scratch4 : Memref sig .tc .vmem _ _).view.set]{fullShare} f)) ∗ (∃ f, (Memref.whole cc0_scratch5 : Memref sig .tc .vmem _ _).view.loc (c : Thread nD τ) ↦[(Memref.whole cc0_scratch5 : Memref sig .tc .vmem _ _).view.set]{fullShare} f)) ∗ (∃ f, (Memref.whole cc0_scratch6 : Memref sig .tc .vmem _ _).view.loc (c : Thread nD τ) ↦[(Memref.whole cc0_scratch6 : Memref sig .tc .vmem _ _).view.set]{fullShare} f)) ∗ owns (c : Thread nD τ) (Memref.whole cc0_scratch7) fullShare B) : sProp 𝕄)
      ⊢ wp frame (wpE (defs₀ (F := F)) Variants.none c none) Set.univ (bodyAt0 t) (fun _ => iprop(((∃ B', ⌜(t.val + 1) % 16 ≠ 0 → B' = dvN m c (t.val + 1 - 1)⌝ ∗ scr c B') ∗ ∃ r, prngReg c r)
        ∗ (∃ W, ⌜↑W ⊆ (dats m 0 c).bound () t.succ⌝ ∗ owes (c : Thread nD τ) 0 W)
        ∗ owns (c : Thread nD τ) (st0_0 t) fullShare (blk0 m c t) ∗ owns (c : Thread nD τ) (st0_1 t) fullShare (blk1 m c t) ∗ owns (c : Thread nD τ) (st0_2 t) fullShare (blk2 m c t) ∗ owns (c : Thread nD τ) (st0_3 t) fullShare (blk3 m c t) ∗ owns (c : Thread nD τ) (st0_4 t) fullShare (blk4 m c t) ∗ owns (c : Thread nD τ) (st0_5 t) fullShare (blk5 m c t) ∗ owns (c : Thread nD τ) (st0_6 t) fullShare (dqAt m c t) ∗ owns (c : Thread nD τ) (st0_7 t) fullShare (dkN m c t.val)
        ∗ (if k0_cond2 (grid0.coords t) = 1#1 then owns (c : Thread nD τ) (st0_8 t) fullShare (k0_pay2 (dvN m c t.val))
          else owns (c : Thread nD τ) (st0_8 t) fullShare B11))) := by
  have h := sound_core m c t W (blk0 m c t) (blk1 m c t) (blk2 m c t) (blk3 m c t) (blk4 m c t) Y (blk5 m c t) B10 B B11 (dvN_step m c t B hB)
  rw [dvN_step m c t B hB, dkN_step m c t B10 h10] at h
  exact h

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_eq, Phi_eq, show (t.castSucc : Fin (cfg0.N + 1)).val = t.val from rfl, show (t.succ : Fin (cfg0.N + 1)).val = t.val + 1 from rfl]
  unfold Phi Dat.owesAt Pipeline.owesWithin
  rw [show (dats m 0 c).owed t.castSucc = 0 from rfl, show (dats m 0 c).owed t.succ = 0 from rfl]
  simp only [after0_0, after0_1, after0_2, after0_3, after0_4, after0_5, after0_6, after0_7,
    before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c), before0_5_of m (dats m 0 c) (A_eq m c 5) (after0_5 m c)]
  iintro ⟨⟨⟨%B, %hB, HS⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold scr
  icases HS with ⟨S0, S1, S2, S3, S4, S5, S6, S7⟩
  have h9 : (if k0_cond2 (grid0.coords t) = 1#1 then owns (c : Thread nD τ) (st0_8 t) fullShare (k0_pay2 (dvN m c t.val))
      else owns (c : Thread nD τ) (st0_8 t) fullShare ((dats m 0 c).before 8 t d8)) ⊢ (post8 m c t : sProp 𝕄) := by
    unfold post8
    by_cases h : k0_cond2 (grid0.coords t) = 1#1
    · rw [if_pos h, if_pos h, after0_8]
    · rw [if_neg h, if_neg h]
      iintro H8
      iexists d8
      iexact H8
  refine Idealize.SL.BI.BIBase.Entails.trans ?_ (wp_mono frame (wpE (defs₀ (F := F)) Variants.none c none) Set.univ fun _ =>
    sepm .rfl (sepm .rfl (sepm .rfl (sepm .rfl (sepm .rfl (sepm .rfl (sepm .rfl (sepm .rfl (sepm .rfl (sepm .rfl h9))))))))))
  exact sound_at m c t W _ _ B _ hB (before7 m c t d7)

theorem defs₀_row (t : Fin cfg0.N) : defs₀ (F := F) .tc cfg0.body (cfg0.bodyArgs t (cfg0.slots t)) = bodyAt0 t := by
  unfold defs₀; rw [Defs.onTc_tc]

theorem idle8_true (t : Fin cfg0.N) (h : ¬k0_cond2 (grid0.coords t) = 1#1) : cfg0.idle 8 (cfg0.grid.coords t) = true := by
  show (!(k0_cond2 (grid0.coords t) == 1#1)) = true
  rw [beq_eq_false_iff_ne.mpr h]; rfl
theorem idle8_false (t : Fin cfg0.N) (h : k0_cond2 (grid0.coords t) = 1#1) : cfg0.idle 8 (cfg0.grid.coords t) = false := by
  show (!(k0_cond2 (grid0.coords t) == 1#1)) = false
  rw [h]; rfl

theorem post8_leaves (c : Dev nD) (t : Fin cfg0.N) : post8 m c t ⊢
    (match cfg0.idle 8 (cfg0.grid.coords t) with
      | true => match (cfg0.win 8).flush t with
        | false => iprop(∃ d, owns (c : Thread nD τ) (st0_8 t) fullShare ((dats m 0 c).before 8 t d))
        | true => owns (c : Thread nD τ) (st0_8 t) fullShare ((dats m 0 c).after 8 t)
      | false => owns (c : Thread nD τ) (st0_8 t) fullShare ((dats m 0 c).after 8 t) : sProp 𝕄) := by
  unfold post8
  by_cases h : k0_cond2 (grid0.coords t) = 1#1
  · rw [if_pos h, idle8_false t h]

  · rw [if_neg h, idle8_true t h]
    have hf : (cfg0.win 8).flush t = false := by
      rw [Bool.eq_false_iff]
      exact fun hf => h ((cond2_iff t).mpr ((flush0_8 t).mp hf))
    rw [hf]

theorem window_leaves (c : Dev nD) (t : Fin cfg0.N) (w : Fin cfg0.W) (h : cfg0.idle w (cfg0.grid.coords t) = false) :
    owns (c : Thread nD τ) ((cfg0.win w).stage (cfg0.slots t w)) fullShare ((dats m 0 c).after w t) ⊢
    (match cfg0.idle w (cfg0.grid.coords t) with
      | true => match (cfg0.win w).flush t with
        | false => iprop(∃ d, owns (c : Thread nD τ) ((cfg0.win w).stage (cfg0.slots t w)) fullShare ((dats m 0 c).before w t d))
        | true => owns (c : Thread nD τ) ((cfg0.win w).stage (cfg0.slots t w)) fullShare ((dats m 0 c).after w t)
      | false => owns (c : Thread nD τ) ((cfg0.win w).stage (cfg0.slots t w)) fullShare ((dats m 0 c).after w t) : sProp 𝕄) := by
  rw [h]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sepm .rfl (sepm .rfl (sepm (window_leaves m c t 0 rfl) (sepm (window_leaves m c t 1 rfl) (sepm (window_leaves m c t 2 rfl) (sepm (window_leaves m c t 3 rfl) (sepm (window_leaves m c t 4 rfl) (sepm (window_leaves m c t 5 rfl) (sepm (window_leaves m c t 6 rfl) (sepm (window_leaves m c t 7 rfl) (post8_leaves m c t))))))))))

theorem whole_to (c : Dev nD) (b : Ref sig .tc) : iprop(∃ f : Buf (Elt F) ((c : Thread nD τ).loc b), ((c : Thread nD τ).loc b) ↦{fullShare} f)
    ⊢ (iprop(∃ f, (Memref.whole b).view.loc (c : Thread nD τ) ↦[(Memref.whole b).view.set]{fullShare} f) : sProp 𝕄) := by
  rw [(Memref.isWhole_whole b).set_eq_univ]
theorem whole_from (c : Dev nD) (b : Ref sig .tc) : (iprop(∃ f, (Memref.whole b).view.loc (c : Thread nD τ) ↦[(Memref.whole b).view.set]{fullShare} f) : sProp 𝕄)
    ⊢ iprop(∃ f : Buf (Elt F) ((c : Thread nD τ).loc b), ((c : Thread nD τ).loc b) ↦{fullShare} f) := by
  rw [(Memref.isWhole_whole b).set_eq_univ]
theorem own_to (c : Dev nD) (b : Ref sig .tc) : iprop(∃ f : Buf (Elt F) ((c : Thread nD τ).loc b), ((c : Thread nD τ).loc b) ↦{fullShare} f)
    ⊢ (iprop(∃ f, owns (c : Thread nD τ) (Memref.whole b) fullShare f) : sProp 𝕄) := by
  simp only [owns_whole]
  exact .rfl
theorem own_from (c : Dev nD) (b : Ref sig .tc) : (iprop(∃ f, owns (c : Thread nD τ) (Memref.whole b) fullShare f) : sProp 𝕄)
    ⊢ iprop(∃ f : Buf (Elt F) ((c : Thread nD τ).loc b), ((c : Thread nD τ).loc b) ↦{fullShare} f) := by
  simp only [owns_whole]
  exact .rfl

/-- The eight buffers at any contents, as the body's memrefs hold them. -/
def scrAny (c : Dev nD) : sProp 𝕄 :=
  iprop((∃ f, (Memref.whole cc0_scratch0 : Memref sig .tc .vmem _ _).view.loc (c : Thread nD τ) ↦[(Memref.whole cc0_scratch0 : Memref sig .tc .vmem _ _).view.set]{fullShare} f)
    ∗ (∃ f, (Memref.whole cc0_scratch1 : Memref sig .tc .vmem _ _).view.loc (c : Thread nD τ) ↦[(Memref.whole cc0_scratch1 : Memref sig .tc .vmem _ _).view.set]{fullShare} f)
    ∗ (∃ f, (Memref.whole cc0_scratch2 : Memref sig .tc .vmem _ _).view.loc (c : Thread nD τ) ↦[(Memref.whole cc0_scratch2 : Memref sig .tc .vmem _ _).view.set]{fullShare} f)
    ∗ (∃ f, (Memref.whole cc0_scratch3 : Memref sig .tc .vmem _ _).view.loc (c : Thread nD τ) ↦[(Memref.whole cc0_scratch3 : Memref sig .tc .vmem _ _).view.set]{fullShare} f)
    ∗ (∃ f, (Memref.whole cc0_scratch4 : Memref sig .tc .vmem _ _).view.loc (c : Thread nD τ) ↦[(Memref.whole cc0_scratch4 : Memref sig .tc .vmem _ _).view.set]{fullShare} f)
    ∗ (∃ f, (Memref.whole cc0_scratch5 : Memref sig .tc .vmem _ _).view.loc (c : Thread nD τ) ↦[(Memref.whole cc0_scratch5 : Memref sig .tc .vmem _ _).view.set]{fullShare} f)
    ∗ (∃ f, (Memref.whole cc0_scratch6 : Memref sig .tc .vmem _ _).view.loc (c : Thread nD τ) ↦[(Memref.whole cc0_scratch6 : Memref sig .tc .vmem _ _).view.set]{fullShare} f)
    ∗ ∃ f, owns (c : Thread nD τ) (Memref.whole cc0_scratch7 : Memref sig .tc .vmem S8192x128 .f32) fullShare f)

theorem scr_to (c : Dev nD) : Pipeline.scopedRest (Ix := Unit) (Val := Elt F) (Name := ℕ) (U := UR sig nD τ) (Lvl := ℕ) spec0 c ⊢ (scrAny c : sProp 𝕄) := by
  rw [scopedRest0_eq]
  exact sepm (whole_to c cc0_scratch0) (sepm (whole_to c cc0_scratch1) (sepm (whole_to c cc0_scratch2) (sepm (whole_to c cc0_scratch3) (sepm (whole_to c cc0_scratch4) (sepm (whole_to c cc0_scratch5) (sepm (whole_to c cc0_scratch6) (own_to c cc0_scratch7)))))))
theorem scr_from (c : Dev nD) : (scrAny c : sProp 𝕄) ⊢ Pipeline.scopedRest (Ix := Unit) (Val := Elt F) (Name := ℕ) (U := UR sig nD τ) (Lvl := ℕ) spec0 c := by
  rw [scopedRest0_eq]
  exact sepm (whole_from c cc0_scratch0) (sepm (whole_from c cc0_scratch1) (sepm (whole_from c cc0_scratch2) (sepm (whole_from c cc0_scratch3) (sepm (whole_from c cc0_scratch4) (sepm (whole_from c cc0_scratch5) (sepm (whole_from c cc0_scratch6) (own_from c cc0_scratch7)))))))

theorem to_phi (c : Dev nD) : Pipeline.ΦA spec0 c ⊢ (dats (F := F) m 0 c).Φ 0 := by
  rw [Phi_eq]
  unfold Pipeline.ΦA
  refine (sepm (scr_to c) .rfl).trans ?_
  unfold scrAny Phi scr
  iintro ⟨⟨S0, S1, S2, S3, S4, S5, S6, ⟨%f, S7⟩⟩, Hg⟩
  isplitr [Hg]; swap; · iexact Hg
  iexists f
  isplitr
  · ipureintro; exact fun h => absurd rfl h
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

theorem of_phi (c : Dev nD) : (dats (F := F) m 0 c).Φ (Fin.last cfg0.N) ⊢ Pipeline.ΦA spec0 c := by
  rw [Phi_eq]
  unfold Pipeline.ΦA
  refine Idealize.SL.BI.BIBase.Entails.trans ?_ (sepm (scr_from c) .rfl)
  unfold scrAny Phi scr
  iintro ⟨⟨%B, -, S0, S1, S2, S3, S4, S5, S6, S7⟩, Hg⟩
  isplitr [Hg]; swap; · iexact Hg
  isplitl [S0]; · iexact S0
  isplitl [S1]; · iexact S1
  isplitl [S2]; · iexact S2
  isplitl [S3]; · iexact S3
  isplitl [S4]; · iexact S4
  isplitl [S5]; · iexact S5
  isplitl [S6]; · iexact S6
  iexists B
  iexact S7

set_option backward.isDefEq.respectTransparency.types false in
/-- Every execution ends with the launch's arrays at the pipeline's final contents and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := to_phi m) (hout := of_phi m) (hQ' := fun _ h => h)

/-- The arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).1 4).trans (((dats m 0 c).arrAt_in 4 rfl _).trans ((A_eq m c 4).trans (V_main_arg3 m c))),
      ((h.1 c).2 main_arg4 (Pipeline.mem_restRefs_of main_arg4 (by decide) (by decide))).trans (V_main_arg4 m c)⟩, h.2⟩) (run_main m ρ)

end Cert.KernelIdeal.Hand
-- ==== Proof.Frames.lean ====
/-
  The frames of the two programs with the kernel, and of the reference.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

namespace Cert.Frames

open Idealize.ShloMosaic Idealize.ShloMosaic.TcCoe Idealize.SL.Sem

theorem frame_ideal : Cert.quiescent_KernelIdeal (hKernelIdeal := Cert.KernelIdeal.Gen.facts) := fun m ρ _ =>
  Cert.KernelIdeal.Hand.frame_main (F := Ideal) m ρ

/-! The two printed programs have the same text: what runs in one runs in the other. -/

theorem same_defs : Cert.Kernel.defs (F := Bits) = Cert.KernelIdeal.defs (F := Bits) := by chain_rfl

theorem same_main : Cert.Kernel.main (F := Bits) = Cert.KernelIdeal.main (F := Bits) := by chain_rfl

theorem frame_reference : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩) (Cert.ReferenceIdeal.Value.run m ρ)

theorem frame_kernel : Cert.quiescent_Kernel (hKernel := Cert.Kernel.Gen.facts) := by
  unfold Cert.quiescent_Kernel
  rw [same_defs, same_main]
  intro m ρ _
  exact Cert.KernelIdeal.Hand.frame_main (F := Bits) m ρ

end Cert.Frames

end
-- ==== Proof.Model.lean ====
/-
  The attention's gradient over the real numbers: scores, weights, and the three gradients, as functions of the
  queries, keys, values and the cotangent, whose rows and columns are natural numbers.
-/
module

public import Idealize.ShloMosaic.Lib.ValueIdx
public import Idealize.ShloMosaic.Lib.Pipeline.Value
public import Idealize.ShloMosaic.PureOps.Ideal.Laws

@[expose] public section

noncomputable section

namespace Cert.Model

open Idealize.ShloMosaic Idealize.ShloMosaic.ValueIdx

/-! ## Constants -/

/-- The logits' scale. -/
def σ : ℝ := 11863283 / 134217728

theorem σ_ne : σ ≠ 0 := by unfold σ; norm_num

theorem bits_scale : Ideal.ofBits .f32 0x3DB504F3#32 = ((σ : ℝ) : EReal) := by
  unfold σ
  simp [Ideal.ofBits, Ideal.ieee, -EReal.coe_mul]
  norm_num
theorem bits_one : Ideal.ofBits .f32 0x3F800000#32 = ((1 : ℝ) : EReal) := by
  simp [Ideal.ofBits, Ideal.ieee, -EReal.coe_mul]
  norm_num
theorem bits_two : Ideal.ofBits .f32 0x40000000#32 = ((2 : ℝ) : EReal) := by
  simp [Ideal.ofBits, Ideal.ieee, -EReal.coe_mul]
  norm_num
theorem bits_zero : Ideal.ofBits .f32 0x00000000#32 = ((0 : ℝ) : EReal) := by
  rw [Ideal.ofBits_zero_f32, EReal.coe_zero]
theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]
theorem bits_top16 : Ideal.ofBits .bf16 0x7F80#16 = (⊤ : EReal) := by
  simp [Ideal.ofBits, Ideal.ieee]

theorem log2_pos : 0 < Real.log 2 := Real.log_pos (by norm_num)
theorem log2_ne : Real.log 2 ≠ 0 := log2_pos.ne'

/-! ## Extended reals that are numbers -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_mul_coe {ι : Type} [Fintype ι] (f g : ι → ℝ) :
    ∑ i, ((f i : ℝ) : EReal) * ((g i : ℝ) : EReal) = ((∑ i, f i * g i : ℝ) : EReal) := by
  rw [← sum_coe]
  exact Finset.sum_congr rfl fun i _ => (EReal.coe_mul _ _).symm

theorem div_coe_coe (x : ℝ) {y : ℝ} (h : y ≠ 0) : Ideal.div (x : EReal) (y : EReal) = ((x / y : ℝ) : EReal) := by
  rw [Ideal.div_coe h, ← EReal.coe_mul, mul_one_div]

theorem log_coe_pos {x : ℝ} (h : 0 < x) : Ideal.log (x : EReal) = ((Real.log x : ℝ) : EReal) := by
  rw [Ideal.log_coe, if_neg (not_le.2 h)]

/-- The fold of the maximum over numbers, from below all of them, is a number. -/
theorem fold_max_coe {ι : Type} [Fintype ι] [Nonempty ι] (f : ι → EReal) (hf : ∀ i, ∃ r : ℝ, f i = (r : EReal)) :
    ∃ r : ℝ, (Finset.univ : Finset ι).fold max ⊥ f = (r : EReal) := by
  have h1 : (Finset.univ : Finset ι).fold max ⊥ f ≠ ⊤ := by
    refine ne_of_lt ?_
    rw [Finset.fold_max_lt]
    exact ⟨bot_lt_top, fun i _ => by obtain ⟨r, hr⟩ := hf i; rw [hr]; exact EReal.coe_lt_top r⟩
  have h2 : (Finset.univ : Finset ι).fold max ⊥ f ≠ ⊥ := by
    refine ne_of_gt ?_
    rw [Finset.lt_fold_max]
    obtain ⟨i⟩ := ‹Nonempty ι›
    exact Or.inr ⟨i, Finset.mem_univ _, by obtain ⟨r, hr⟩ := hf i; rw [hr]; exact EReal.bot_lt_coe r⟩
  exact ⟨_, (EReal.coe_toReal h1 h2).symm⟩

/-! ## The gradient -/

section Grad
variable (q k v o : ℕ → ℕ → ℝ)

/-- Key · query, of group `g`, its head `h`, query row `s` and key row `t`. -/
def dot (g h s t : ℕ) : ℝ := ∑ d : Fin 128, k t (128 * g + d.val) * q s (512 * g + 128 * h + d.val)

/-- The exponential of a scaled score. -/
def ex (g h s t : ℕ) : ℝ := Real.exp (dot q k g h s t * σ)

/-- The sum of a row's exponentials. -/
def den (g h s : ℕ) : ℝ := ∑ t : Fin 8192, ex q k g h s t.val

/-- The softmax weight. -/
def wgt (g h s t : ℕ) : ℝ := ex q k g h s t / den q k g h s

/-- The weight's cotangent. -/
def dw (g h s t : ℕ) : ℝ := ∑ d : Fin 128, o s (512 * g + 128 * h + d.val) * v t (128 * g + d.val)

/-- The row's mean of the weights' cotangents. -/
def mean (g h s : ℕ) : ℝ := ∑ t : Fin 8192, wgt q k g h s t.val * dw v o g h s t.val

/-- The score's cotangent. -/
def ds (g h s t : ℕ) : ℝ := wgt q k g h s t * (dw v o g h s t - mean q k v o g h s)

def dq (g h s d : ℕ) : ℝ := ∑ t : Fin 8192, ds q k v o g h s t.val * k t.val (128 * g + d)

def dk (g t d : ℕ) : ℝ := ∑ h : Fin 4, ∑ s : Fin 8192,
  ds q k v o g h.val s.val t * (q s.val (512 * g + 128 * h.val + d) * σ / Real.log 2)

def dv (g t d : ℕ) : ℝ := ∑ h : Fin 4, ∑ s : Fin 8192, wgt q k g h.val s.val t * o s.val (512 * g + 128 * h.val + d)

theorem ex_pos (g h s t : ℕ) : 0 < ex q k g h s t := Real.exp_pos _
theorem den_pos (g h s : ℕ) : 0 < den q k g h s :=
  Finset.sum_pos (fun t _ => ex_pos q k g h s t.val) ⟨0, Finset.mem_univ _⟩
theorem den_ne (g h s : ℕ) : den q k g h s ≠ 0 := (den_pos q k g h s).ne'

/-- The exponentials may be taken from any number on: the weights stay. -/
theorem shifted_sum (g h s : ℕ) (m : ℝ) :
    ∑ t : Fin 8192, Real.exp (dot q k g h s t.val * σ - m) = den q k g h s * Real.exp (-m) := by
  unfold den ex
  rw [Finset.sum_mul]
  refine Finset.sum_congr rfl fun t _ => ?_
  rw [← Real.exp_add, sub_eq_add_neg]

theorem shifted (g h s t : ℕ) (m : ℝ) : Real.exp (dot q k g h s t * σ - m) = ex q k g h s t * Real.exp (-m) := by
  unfold ex
  rw [← Real.exp_add, sub_eq_add_neg]

theorem shifted_wgt (g h s t : ℕ) (m : ℝ) :
    Real.exp (dot q k g h s t * σ - m) / (den q k g h s * Real.exp (-m)) = wgt q k g h s t := by
  rw [shifted, wgt]
  exact mul_div_mul_right _ _ (Real.exp_pos _).ne'

/-- The forward's output. -/
def out (g h s d : ℕ) : ℝ := ∑ t : Fin 8192, v t.val (128 * g + d) * wgt q k g h s t.val

/-- A row's logarithm of the sum of exponentials, to the base two. -/
def lse (g h s : ℕ) : ℝ := Real.log (den q k g h s) / Real.log 2

/-- Two to the power of a score less its row's logarithm is the weight. -/
theorem pow_score (g h s t : ℕ) : Real.rpow 2 (dot q k g h s t * σ / Real.log 2 - lse q k g h s) = wgt q k g h s t := by
  have h2 := log2_ne
  rw [Real.rpow_eq_pow, Real.rpow_def_of_pos (by norm_num), wgt, ex, lse]
  rw [show Real.log 2 * (dot q k g h s t * σ / Real.log 2 - Real.log (den q k g h s) / Real.log 2)
    = dot q k g h s t * σ - Real.log (den q k g h s) by field_simp]
  rw [Real.exp_sub, Real.exp_log (den_pos q k g h s)]

/-- The cotangent times the output is the mean of the weights' cotangents. -/
theorem mean_eq (g h s : ℕ) :
    ∑ d : Fin 128, o s (512 * g + 128 * h + d.val) * out q k v g h s d.val = mean q k v o g h s := by
  unfold out mean dw
  simp only [Finset.mul_sum]
  rw [Finset.sum_comm]
  refine Finset.sum_congr rfl fun t _ => Finset.sum_congr rfl fun d _ => ?_
  ring

/-- A row's logarithm does not depend on the number the exponentials are taken from. -/
theorem log_shift (g h s : ℕ) (m : ℝ) : m + Real.log (den q k g h s * Real.exp (-m)) = Real.log (den q k g h s) := by
  rw [Real.log_mul (den_ne q k g h s) (Real.exp_pos _).ne', Real.log_exp]
  ring

/-- The softmax's derivative as the quotient rule writes it. -/
theorem quotient_rule {n : ℕ} (e w : Fin n → ℝ) (L : ℝ) (hL : L ≠ 0) (et wt : ℝ) :
    (wt / L + -(∑ u, w u * (1 / (L * L)) * e u)) * et = et / L * (wt - ∑ u, e u / L * w u) := by
  have h : ∑ u, w u * (1 / (L * L)) * e u = (∑ u, e u / L * w u) / L := by
    rw [Finset.sum_div]
    refine Finset.sum_congr rfl fun u _ => ?_
    field_simp
  rw [h]
  field_simp
  ring

end Grad

end Cert.Model
end
-- ==== Proof.RefValue.lean ====
/-
  What the reference computes over the extended reals, when its arguments are numbers: the gradients of
  `Proof/Model.lean`.
-/
module

public import proofs.«01_k».proof.Proof.Gen.ReferenceIdeal.Read
public import proofs.«01_k».proof.Proof.Model
public import Idealize.ShloMosaic.Lib.TwoAxisContraction
public import Idealize.ShloMosaic.PureOps.Reduce

@[expose] public section

set_option maxRecDepth 16384

noncomputable section

namespace Cert.RefValue

open Cert.ReferenceIdeal Cert.ReferenceIdeal.Gen Cert.ReferenceIdeal.Read Cert.Model
open Idealize.ShloMosaic Idealize.ShloMosaic.ValueIdx

variable (x0 : S8192x2048.Idx → EReal) (x1 : S8192x512.Idx → EReal) (x2 : S8192x9216.Idx → EReal) (x3 : S8192x2048.Idx → EReal)
  (x4 : S8192x9216.Idx → EReal) (q k v o : ℕ → ℕ → ℝ)

/-- The arguments, as numbers at their rows and columns. -/
structure Reads : Prop where
  hq : ∀ i : S8192x2048.Idx, x0 i = ((q (i 0).val (i 1).val : ℝ) : EReal)
  hk : ∀ i : S8192x512.Idx, x1 i = ((k (i 0).val (i 1).val : ℝ) : EReal)
  hv : ∀ i : S8192x512.Idx, x2 (idx_main_v0 i) = ((v (i 0).val (i 1).val : ℝ) : EReal)
  ho : ∀ i : S8192x2048.Idx, x3 i = ((o (i 0).val (i 1).val : ℝ) : EReal)

variable {x0 x1 x2 x3 q k v o}

theorem coe_congr {f : ℕ → ℕ → ℝ} {a b c d : ℕ} (h : a = b) (h' : c = d) : ((f a c : ℝ) : EReal) = ((f b d : ℝ) : EReal) := by
  rw [h, h']

theorem rd2 (R : Reads x0 x1 x2 x3 q k v o) (i : S8192x4x4x128.Idx) : val_main_v2 (F := Ideal) x0 i
    = ((q (i 0).val (512 * (i 1).val + 128 * (i 2).val + (i 3).val) : ℝ) : EReal) := by
  rw [val_main_v2_apply, R.hq]
  have h0 : (i 0).val < 8192 := (i 0).isLt
  have h1 : (i 1).val < 4 := (i 1).isLt
  have h2 : (i 2).val < 4 := (i 2).isLt
  have h3 : (i 3).val < 128 := (i 3).isLt
  refine coe_congr ?_ ?_
  · show ((((i 0).val * 4 + (i 1).val) * 4 + (i 2).val) * 128 + (i 3).val) / 2048 = _; omega
  · show ((((i 0).val * 4 + (i 1).val) * 4 + (i 2).val) * 128 + (i 3).val) % 2048 = _; omega

theorem rd3 (R : Reads x0 x1 x2 x3 q k v o) (i : S8192x4x128.Idx) : val_main_v3 (F := Ideal) x1 i
    = ((k (i 0).val (128 * (i 1).val + (i 2).val) : ℝ) : EReal) := by
  rw [val_main_v3_apply, R.hk]
  have h0 : (i 0).val < 8192 := (i 0).isLt
  have h1 : (i 1).val < 4 := (i 1).isLt
  have h2 : (i 2).val < 128 := (i 2).isLt
  refine coe_congr ?_ ?_
  · show (((i 0).val * 4 + (i 1).val) * 128 + (i 2).val) / 512 = _; omega
  · show (((i 0).val * 4 + (i 1).val) * 128 + (i 2).val) % 512 = _; omega

/-- The values' columns by group, whatever they hold. -/
theorem rd4_of {w : ℕ → ℕ → EReal} (hw : ∀ i : S8192x512.Idx, x2 (idx_main_v0 i) = w (i 0).val (i 1).val) (i : S8192x4x128.Idx) :
    val_main_v4 (F := Ideal) x2 i = w (i 0).val (128 * (i 1).val + (i 2).val) := by
  rw [val_main_v4_apply, val_main_v1_apply]
  show val_main_v0 (F := Ideal) x2 (idx_main_v4 i) = _
  rw [val_main_v0_apply, hw]
  have h0 : (i 0).val < 8192 := (i 0).isLt
  have h1 : (i 1).val < 4 := (i 1).isLt
  have h2 : (i 2).val < 128 := (i 2).isLt
  refine congrArg₂ w ?_ ?_
  · show (((i 0).val * 4 + (i 1).val) * 128 + (i 2).val) / 512 = _; omega
  · show (((i 0).val * 4 + (i 1).val) * 128 + (i 2).val) % 512 = _; omega

theorem rd4 (R : Reads x0 x1 x2 x3 q k v o) (i : S8192x4x128.Idx) : val_main_v4 (F := Ideal) x2 i
    = ((v (i 0).val (128 * (i 1).val + (i 2).val) : ℝ) : EReal) :=
  rd4_of (w := fun a b => ((v a b : ℝ) : EReal)) R.hv i

theorem rd42 (R : Reads x0 x1 x2 x3 q k v o) (i : S4x128x4x8192.Idx) : val_main_v42 (F := Ideal) x3 i
    = ((o (i 3).val (512 * (i 0).val + 128 * (i 2).val + (i 1).val) : ℝ) : EReal) := by
  rw [val_main_v42_apply, val_main_v41_apply, val_main_v40_apply]
  refine (R.ho _).trans ?_
  have h0 : (i 0).val < 4 := (i 0).isLt
  have h1 : (i 1).val < 128 := (i 1).isLt
  have h2 : (i 2).val < 4 := (i 2).isLt
  have h3 : (i 3).val < 8192 := (i 3).isLt
  refine coe_congr ?_ ?_
  · show ((((i 3).val * 4 + (i 0).val) * 4 + (i 2).val) * 128 + (i 1).val) / 2048 = _; omega
  · show ((((i 3).val * 4 + (i 0).val) * 4 + (i 2).val) * 128 + (i 1).val) % 2048 = _; omega

/-- A sum of products of numbers is a number. -/
theorem dot_coe {n : ℕ} {F G : Fin n → EReal} (f g : Fin n → ℝ) (hF : ∀ i, F i = ((f i : ℝ) : EReal))
    (hG : ∀ i, G i = ((g i : ℝ) : EReal)) : ∑ i, F i * G i = ((∑ i, f i * g i : ℝ) : EReal) := by
  rw [← sum_mul_coe]
  exact Finset.sum_congr rfl fun i _ => by rw [hF, hG]

theorem rd5 (R : Reads x0 x1 x2 x3 q k v o) (i : S4x8192x8192x4.Idx) : val_main_v5 (F := Ideal) x0 x1 i
    = ((dot q k (i 0).val (i 3).val (i 2).val (i 1).val : ℝ) : EReal) := by
  rw [val_main_v5_apply]
  exact dot_coe _ _ (fun d => rd3 R _) (fun d => rd2 R _)

theorem rd8 (R : Reads x0 x1 x2 x3 q k v o) (i : S4x4x8192x8192.Idx) : val_main_v8 (F := Ideal) x0 x1 i
    = ((dot q k (i 0).val (i 1).val (i 2).val (i 3).val * σ : ℝ) : EReal) := by
  rw [val_main_v8_apply, val_main_v6_apply, rd5 R, val_main_v7_apply, val_main_cst_apply]
  show _ * Ideal.ofBits .f32 0x3DB504F3#32 = _
  rw [bits_scale, ← EReal.coe_mul]

theorem reduces3 : S4x4x8192x8192.Reduces [3] S4x4x8192 := by decide

theorem rd9 (R : Reads x0 x1 x2 x3 q k v o) (j : S4x4x8192.Idx) : ∃ r : ℝ, val_main_v9 (F := Ideal) x0 x1 j = (r : EReal) := by
  unfold val_main_v9
  rw [Host.reduce_eq_fold_single (FloatOps.maximumf (F := Ideal) (φ := .f32)) _ _ _ reduces3]
  rw [val_main_cst_0_apply]
  show ∃ r : ℝ, Finset.univ.fold max (Ideal.ofBits .f32 0xFF800000#32) _ = _
  rw [bits_bot]
  haveI : Nonempty (Fin (S4x4x8192x8192.size 3)) := ⟨⟨0, by decide⟩⟩
  exact fold_max_coe _ fun t => ⟨_, rd8 R _⟩

theorem rd16 (R : Reads x0 x1 x2 x3 q k v o) (j : S4x4x8192.Idx) :
    val_main_v16 (F := Ideal) x0 x1 j = (((val_main_v16 (F := Ideal) x0 x1 j).toReal : ℝ) : EReal) := by
  obtain ⟨r, hr⟩ := rd9 R j
  have h : val_main_v16 (F := Ideal) x0 x1 j = (r : EReal) := by
    rw [val_main_v16_apply, hr, val_main_v15_apply, val_main_cst_2_apply]
    show max (Ideal.ofBits .f32 0xFF800000#32) _ = _
    rw [bits_bot]
    exact max_eq_right bot_le
  rw [h, EReal.toReal_coe]

/-- A query's row of weights, as an index. -/
def row (i : S4x4x8192x8192.Idx) : S4x4x8192.Idx := ix3 (i 0) (i 1) (i 2)

/-- The number a row's exponentials are taken from. -/
def top (x0 : S8192x2048.Idx → EReal) (x1 : S8192x512.Idx → EReal) (j : S4x4x8192.Idx) : ℝ :=
  (val_main_v16 (F := Ideal) x0 x1 j).toReal

/-- A row's sum. -/
def len (q k : ℕ → ℕ → ℝ) (x0 : S8192x2048.Idx → EReal) (x1 : S8192x512.Idx → EReal) (j : S4x4x8192.Idx) : ℝ :=
  den q k (j 0).val (j 1).val (j 2).val * Real.exp (-top x0 x1 j)

theorem len_ne (j : S4x4x8192.Idx) : len q k x0 x1 j ≠ 0 :=
  mul_ne_zero (den_ne q k _ _ _) (Real.exp_pos _).ne'

theorem rd29 (R : Reads x0 x1 x2 x3 q k v o) (i : S4x4x8192x8192.Idx) : val_main_v29 (F := Ideal) x0 x1 i
    = ((Real.exp (dot q k (i 0).val (i 1).val (i 2).val (i 3).val * σ - top x0 x1 (row i)) : ℝ) : EReal) := by
  have h : idx_main_v26 (idx_main_v27 i) = row i := by
    funext a; match a with
      | ⟨0, _⟩ => rfl
      | ⟨1, _⟩ => rfl
      | ⟨2, _⟩ => rfl
  rw [val_main_v29_apply, val_main_v28_apply, rd8 R, val_main_v27_apply, val_main_v26_apply, h, rd16 R]
  rw [Ideal.hostUnary_exp_def]
  show Ideal.exp (_ - _) = _
  rw [← EReal.coe_sub, Ideal.exp_coe]
  rfl

theorem rd30 (R : Reads x0 x1 x2 x3 q k v o) (j : S4x4x8192.Idx) : val_main_v30 (F := Ideal) x0 x1 j
    = ((len q k x0 x1 j : ℝ) : EReal) := by
  rw [val_main_v30_apply, val_main_cst_8_apply]
  show Ideal.ofBits .f32 0x00000000#32 + _ = _
  rw [bits_zero, EReal.coe_zero, zero_add, len, ← shifted_sum, ← sum_coe]
  refine Finset.sum_congr rfl fun t _ => ?_
  rw [rd29 R]
  have h : row (idx_main_v30 j t) = j := by
    funext a; match a with
      | ⟨0, _⟩ => rfl
      | ⟨1, _⟩ => rfl
      | ⟨2, _⟩ => rfl
  rw [h]

theorem rd31 (R : Reads x0 x1 x2 x3 q k v o) (i : S4x4x8192x1.Idx) : val_main_v31 (F := Ideal) x0 x1 i
    = ((len q k x0 x1 (ix3 (i 0) (i 1) (i 2)) : ℝ) : EReal) := by
  rw [val_main_v31_apply, rd30 R]
  have h : idx_main_v31 i = ix3 (i 0) (i 1) (i 2) := by
    funext a; match a with
      | ⟨0, _⟩ => rfl
      | ⟨1, _⟩ => rfl
      | ⟨2, _⟩ => rfl
  rw [h]
  rfl

theorem rd33 (R : Reads x0 x1 x2 x3 q k v o) (i : S4x4x8192x8192.Idx) : val_main_v33 (F := Ideal) x0 x1 i
    = ((wgt q k (i 0).val (i 1).val (i 2).val (i 3).val : ℝ) : EReal) := by
  rw [val_main_v33_apply, val_main_v32_apply, rd29 R, rd31 R]
  show Ideal.div _ _ = _
  rw [div_coe_coe _ (len_ne _), len]
  exact congrArg (fun r : ℝ => (r : EReal)) (shifted_wgt q k _ _ _ _ _)

theorem rd43 (R : Reads x0 x1 x2 x3 q k v o) (i : S4x4x8192x8192.Idx) : val_main_v43 (F := Ideal) x2 x3 i
    = ((dw v o (i 0).val (i 1).val (i 2).val (i 3).val : ℝ) : EReal) := by
  rw [val_main_v43_apply]
  exact dot_coe _ _ (fun d => rd42 R _) (fun d => rd4 R _)

theorem rd46 (R : Reads x0 x1 x2 x3 q k v o) (i : S4x4x8192x8192.Idx) : val_main_v46 (F := Ideal) x0 x1 i
    = ((1 / (len q k x0 x1 (row i) * len q k x0 x1 (row i)) : ℝ) : EReal) := by
  rw [val_main_v46_apply, val_main_v36_apply, val_main_v35_apply, val_main_cst_9_apply, val_main_v34_apply, rd31 R]
  show Ideal.div (Ideal.ofBits .f32 0x3F800000#32) (_ * _) = _
  rw [bits_one, ← EReal.coe_mul, div_coe_coe _ (mul_ne_zero (len_ne _) (len_ne _))]
  rfl

theorem rd48 (R : Reads x0 x1 x2 x3 q k v o) (i : S4x4x8192x8192.Idx) : val_main_v48 (F := Ideal) x0 x1 x2 x3 i
    = ((dw v o (i 0).val (i 1).val (i 2).val (i 3).val * (1 / (len q k x0 x1 (row i) * len q k x0 x1 (row i)))
        * Real.exp (dot q k (i 0).val (i 1).val (i 2).val (i 3).val * σ - top x0 x1 (row i)) : ℝ) : EReal) := by
  rw [val_main_v48_apply, val_main_v47_apply, rd43 R, rd46 R, rd29 R]
  show _ * _ * _ = _
  rw [← EReal.coe_mul, ← EReal.coe_mul]

theorem rd49 (R : Reads x0 x1 x2 x3 q k v o) (j : S4x4x8192.Idx) : val_main_v49 (F := Ideal) x0 x1 x2 x3 j
    = ((∑ t : Fin 8192, dw v o (j 0).val (j 1).val (j 2).val t.val * (1 / (len q k x0 x1 j * len q k x0 x1 j))
        * Real.exp (dot q k (j 0).val (j 1).val (j 2).val t.val * σ - top x0 x1 j) : ℝ) : EReal) := by
  rw [val_main_v49_apply, val_main_cst_10_apply]
  show Ideal.ofBits .f32 0x00000000#32 + _ = _
  rw [bits_zero, EReal.coe_zero, zero_add, ← sum_coe]
  refine Finset.sum_congr rfl fun t _ => ?_
  rw [rd48 R]
  have h : row (idx_main_v49 j t) = j := by
    funext a; match a with
      | ⟨0, _⟩ => rfl
      | ⟨1, _⟩ => rfl
      | ⟨2, _⟩ => rfl
  rw [h]

theorem rd55 (R : Reads x0 x1 x2 x3 q k v o) (i : S4x4x8192x8192.Idx) : val_main_v55 (F := Ideal) x0 x1 x2 x3 i
    = ((-(∑ t : Fin 8192, dw v o (i 0).val (i 1).val (i 2).val t.val * (1 / (len q k x0 x1 (row i) * len q k x0 x1 (row i)))
        * Real.exp (dot q k (i 0).val (i 1).val (i 2).val t.val * σ - top x0 x1 (row i))) : ℝ) : EReal) := by
  rw [val_main_v55_apply, val_main_v54_apply, val_main_cst_11_apply]
  show Ideal.ofBits .f32 0x00000000#32 + _ = _
  rw [bits_zero, EReal.coe_zero, zero_add, Fin.sum_univ_one, val_main_v51_apply, val_main_v50_apply]
  have h : idx_main_v50 (idx_main_v54 (idx_main_v55 i) 0) = row i := by
    have h0 : (i 0).val < 4 := (i 0).isLt
    have h1 : (i 1).val < 4 := (i 1).isLt
    have h2 : (i 2).val < 8192 := (i 2).isLt
    funext a; refine Fin.ext ?_; match a with
      | ⟨0, _⟩ => show ((((i 0).val * 4 + (i 1).val) * 8192 + (i 2).val) * 1 + 0) / 32768 = (i 0).val; omega
      | ⟨1, _⟩ => show ((((i 0).val * 4 + (i 1).val) * 8192 + (i 2).val) * 1 + 0) / 8192 % 4 = (i 1).val; omega
      | ⟨2, _⟩ => show ((((i 0).val * 4 + (i 1).val) * 8192 + (i 2).val) * 1 + 0) % 8192 = (i 2).val; omega
  rw [h, rd49 R]
  show -_ = _
  rw [← EReal.coe_neg]
  rfl

theorem rd57 (R : Reads x0 x1 x2 x3 q k v o) (i : S4x4x8192x8192.Idx) : val_main_v57 (F := Ideal) x0 x1 x2 x3 i
    = ((ds q k v o (i 0).val (i 1).val (i 2).val (i 3).val : ℝ) : EReal) := by
  rw [val_main_v57_apply, val_main_v56_apply, val_main_v53_apply, val_main_v52_apply, rd55 R, rd43 R, rd31 R, rd29 R]
  show (Ideal.div _ _ + _) * _ = _
  rw [div_coe_coe _ (len_ne _), ← EReal.coe_add, ← EReal.coe_mul]
  refine congrArg (fun r : ℝ => (r : EReal)) ?_
  refine (quotient_rule (fun t : Fin 8192 => Real.exp (dot q k (i 0).val (i 1).val (i 2).val t.val * σ - top x0 x1 (row i)))
    (fun t => dw v o (i 0).val (i 1).val (i 2).val t.val) (len q k x0 x1 (row i)) (len_ne _) _ _).trans ?_
  rw [ds, mean]
  have h : ∀ t, Real.exp (dot q k (i 0).val (i 1).val (i 2).val t * σ - top x0 x1 (row i)) / len q k x0 x1 (row i)
      = wgt q k (i 0).val (i 1).val (i 2).val t := fun t => shifted_wgt q k _ _ _ _ _
  simp only [h]

theorem rd60 (R : Reads x0 x1 x2 x3 q k v o) (i : S4x8192x8192x4.Idx) : val_main_v60 (F := Ideal) x0 x1 x2 x3 i
    = ((ds q k v o (i 0).val (i 3).val (i 2).val (i 1).val * σ : ℝ) : EReal) := by
  rw [val_main_v60_apply, val_main_v59_apply, rd57 R, val_main_v58_apply, val_main_cst_12_apply]
  show _ * Ideal.ofBits .f32 0x3DB504F3#32 = _
  rw [bits_scale, ← EReal.coe_mul]

theorem rd62 (R : Reads x0 x1 x2 x3 q k v o) (i : S8192x4x4x128.Idx) : val_main_v62 (F := Ideal) x0 x1 x2 x3 i
    = ((dq q k v o (i 1).val (i 2).val (i 0).val (i 3).val * σ : ℝ) : EReal) := by
  rw [val_main_v62_apply, val_main_v61_apply]
  refine (dot_coe _ _ (fun t => rd60 R _) (fun t => rd3 R _)).trans ?_
  refine congrArg (fun r : ℝ => (r : EReal)) ?_
  rw [dq, Finset.sum_mul]
  refine Finset.sum_congr rfl fun t _ => ?_
  show _ * σ * _ = _
  ring

theorem rd70 (R : Reads x0 x1 x2 x3 q k v o) (i : S8192x2048.Idx) : val_main_v70 (F := Ideal) x0 x1 x2 x3 i
    = ((dq q k v o ((i 1).val / 512) ((i 1).val / 128 % 4) (i 0).val ((i 1).val % 128) : ℝ) : EReal) := by
  rw [val_main_v70_apply, val_main_v69_apply, val_main_v67_apply, rd62 R, val_main_v68_apply, val_main_cst_13_apply]
  show Ideal.div _ (Ideal.ofBits .f32 0x3DB504F3#32) = _
  rw [bits_scale, div_coe_coe _ σ_ne, mul_div_assoc, div_self σ_ne, mul_one]
  have h0 : (i 0).val < 8192 := (i 0).isLt
  have h1 : (i 1).val < 2048 := (i 1).isLt
  have e0 : ((i 0).val * 2048 + (i 1).val) / 2048 = (i 0).val := by omega
  have e1 : ((i 0).val * 2048 + (i 1).val) / 512 % 4 = (i 1).val / 512 := by omega
  have e2 : ((i 0).val * 2048 + (i 1).val) / 128 % 4 = (i 1).val / 128 % 4 := by omega
  have e3 : ((i 0).val * 2048 + (i 1).val) % 128 = (i 1).val % 128 := by omega
  show ((dq q k v o (((i 0).val * 2048 + (i 1).val) / 512 % 4) (((i 0).val * 2048 + (i 1).val) / 128 % 4)
    (((i 0).val * 2048 + (i 1).val) / 2048) (((i 0).val * 2048 + (i 1).val) % 128) : ℝ) : EReal) = _
  rw [e0, e1, e2, e3]

/-! ## The two products contracted over heads and queries -/

theorem sum2_coe {m n : ℕ} {F G : Fin m → Fin n → EReal} (f g : Fin m → Fin n → ℝ) (hF : ∀ i j, F i j = ((f i j : ℝ) : EReal))
    (hG : ∀ i j, G i j = ((g i j : ℝ) : EReal)) :
    ∑ i, ∑ j, F i j * G i j = ((∑ i, ∑ j, f i j * g i j : ℝ) : EReal) := by
  rw [← sum_coe]
  exact Finset.sum_congr rfl fun i _ => dot_coe _ _ (hF i) (hG i)

theorem read63 (L : S4x8192x8192x4.Idx → EReal) (Q : S8192x4x4x128.Idx → EReal) (i : S4x8192x128.Idx) :
    Host.dotGeneral (F := Ideal) (φ₁ := .f32) (φ₂ := .f32) dot_S4x8192x8192x4_S8192x4x4x128_S4x8192x128_23_02_1_3_0_1 none L Q i
      = ∑ s : Fin 8192, ∑ h : Fin 4, L (ix4 (i 0) (i 1) s h) * Q (ix4 s (i 0) h (i 2)) := by
  simp only [Host.dotGeneral]
  rw [Ideal.dotGeneral_apply, ← Equiv.sum_comp (contrEquiv2 dot_S4x8192x8192x4_S8192x4x4x128_S4x8192x128_23_02_1_3_0_1 8192 4 rfl rfl rfl).symm,
    Fintype.sum_prod_type]
  refine Finset.sum_congr rfl fun s _ => Finset.sum_congr rfl fun h _ => ?_
  have h0 := contrEquiv2_symm_val0 dot_S4x8192x8192x4_S8192x4x4x128_S4x8192x128_23_02_1_3_0_1 8192 4 rfl rfl rfl (s, h)
  have h1 := contrEquiv2_symm_val1 dot_S4x8192x8192x4_S8192x4x4x128_S4x8192x128_23_02_1_3_0_1 8192 4 rfl rfl rfl (s, h)
  refine congrArg₂ (HMul.hMul (α := EReal)) (congrArg L ?_) (congrArg Q ?_) <;> (funext a; apply Fin.ext)
  · match a with
    | ⟨0, _⟩ => rfl
    | ⟨1, _⟩ => rfl
    | ⟨2, _⟩ => exact h0
    | ⟨3, _⟩ => exact h1
  · match a with
    | ⟨0, _⟩ => exact h0
    | ⟨1, _⟩ => rfl
    | ⟨2, _⟩ => exact h1
    | ⟨3, _⟩ => rfl

theorem read44 (L : S4x128x4x8192.Idx → EReal) (P : S4x4x8192x8192.Idx → EReal) (i : S4x128x8192.Idx) :
    Host.dotGeneral (F := Ideal) (φ₁ := .f32) (φ₂ := .f32) dot_S4x128x4x8192_S4x4x8192x8192_S4x128x8192_23_12_1_3_0_0 none L P i
      = ∑ h : Fin 4, ∑ s : Fin 8192, L (ix4 (i 0) (i 1) h s) * P (ix4 (i 0) h s (i 2)) := by
  simp only [Host.dotGeneral]
  rw [Ideal.dotGeneral_apply, ← Equiv.sum_comp (contrEquiv2 dot_S4x128x4x8192_S4x4x8192x8192_S4x128x8192_23_12_1_3_0_0 4 8192 rfl rfl rfl).symm,
    Fintype.sum_prod_type]
  refine Finset.sum_congr rfl fun h _ => Finset.sum_congr rfl fun s _ => ?_
  have h0 := contrEquiv2_symm_val0 dot_S4x128x4x8192_S4x4x8192x8192_S4x128x8192_23_12_1_3_0_0 4 8192 rfl rfl rfl (h, s)
  have h1 := contrEquiv2_symm_val1 dot_S4x128x4x8192_S4x4x8192x8192_S4x128x8192_23_12_1_3_0_0 4 8192 rfl rfl rfl (h, s)
  refine congrArg₂ (HMul.hMul (α := EReal)) (congrArg L ?_) (congrArg P ?_) <;> (funext a; apply Fin.ext)
  · match a with
    | ⟨0, _⟩ => rfl
    | ⟨1, _⟩ => rfl
    | ⟨2, _⟩ => exact h0
    | ⟨3, _⟩ => exact h1
  · match a with
    | ⟨0, _⟩ => rfl
    | ⟨1, _⟩ => exact h0
    | ⟨2, _⟩ => exact h1
    | ⟨3, _⟩ => rfl

theorem rd63 (R : Reads x0 x1 x2 x3 q k v o) (i : S4x8192x128.Idx) : val_main_v63 (F := Ideal) x0 x1 x2 x3 i
    = ((dk q k v o (i 0).val (i 1).val (i 2).val * Real.log 2 : ℝ) : EReal) := by
  unfold val_main_v63
  rw [read63]
  refine (sum2_coe _ _ (fun s h => rd60 R _) (fun s h => rd2 R _)).trans ?_
  refine congrArg (fun r : ℝ => (r : EReal)) ?_
  rw [dk, Finset.sum_mul, Finset.sum_comm]
  refine Finset.sum_congr rfl fun h _ => ?_
  rw [Finset.sum_mul]
  refine Finset.sum_congr rfl fun s _ => ?_
  show ds q k v o (i 0).val h.val s.val (i 1).val * σ * q s.val (512 * (i 0).val + 128 * h.val + (i 2).val) = _
  have := log2_ne
  field_simp

theorem rd44 (R : Reads x0 x1 x2 x3 q k v o) (i : S4x128x8192.Idx) : val_main_v44 (F := Ideal) x0 x1 x3 i
    = ((dv q k o (i 0).val (i 2).val (i 1).val : ℝ) : EReal) := by
  unfold val_main_v44
  rw [read44]
  refine (sum2_coe _ _ (fun h s => rd42 R _) (fun h s => rd33 R _)).trans ?_
  refine congrArg (fun r : ℝ => (r : EReal)) ?_
  rw [dv]
  refine Finset.sum_congr rfl fun h _ => Finset.sum_congr rfl fun s _ => ?_
  show o s.val (512 * (i 0).val + 128 * h.val + (i 1).val) * wgt q k (i 0).val h.val s.val (i 2).val = _
  ring

theorem rd73 (R : Reads x0 x1 x2 x3 q k v o) (i : S8192x512.Idx) : val_main_v73 (F := Ideal) x0 x1 x2 x3 i
    = ((dk q k v o ((i 1).val / 128) (i 0).val ((i 1).val % 128) : ℝ) : EReal) := by
  rw [val_main_v73_apply, val_main_v66_apply, val_main_v64_apply, rd63 R, val_main_v72_apply, val_main_v71_apply, val_main_cst_14_apply, Ideal.hostUnary_log_def]
  show Ideal.div _ (Ideal.log (Ideal.ofBits .f32 0x40000000#32)) = _
  rw [bits_two, log_coe_pos (by norm_num), div_coe_coe _ log2_ne, mul_div_assoc, div_self log2_ne, mul_one]
  have h0 : (i 0).val < 8192 := (i 0).isLt
  have h1 : (i 1).val < 512 := (i 1).isLt
  have e0 : ((i 0).val * 512 + (i 1).val) / 512 = (i 0).val := by omega
  have e1 : ((i 0).val * 512 + (i 1).val) / 128 % 4 = (i 1).val / 128 := by omega
  have e2 : ((i 0).val * 512 + (i 1).val) % 128 = (i 1).val % 128 := by omega
  show ((dk q k v o (((i 0).val * 512 + (i 1).val) / 128 % 4) (((i 0).val * 512 + (i 1).val) / 512)
    (((i 0).val * 512 + (i 1).val) % 128) : ℝ) : EReal) = _
  rw [e0, e1, e2]

theorem rd75 (R : Reads x0 x1 x2 x3 q k v o) (i : S8192x512.Idx) : val_main_v75 (F := Ideal) x0 x1 x3 i
    = ((dv q k o ((i 1).val / 128) (i 0).val ((i 1).val % 128) : ℝ) : EReal) := by
  rw [val_main_v75_apply, val_main_v65_apply, val_main_v45_apply, rd44 R]
  have h0 : (i 0).val < 8192 := (i 0).isLt
  have h1 : (i 1).val < 512 := (i 1).isLt
  have e0 : ((i 0).val * 512 + (i 1).val) / 512 = (i 0).val := by omega
  have e1 : ((i 0).val * 512 + (i 1).val) / 128 % 4 = (i 1).val / 128 := by omega
  have e2 : ((i 0).val * 512 + (i 1).val) % 128 = (i 1).val % 128 := by omega
  show ((dv q k o (((i 0).val * 512 + (i 1).val) / 128 % 4) (((i 0).val * 512 + (i 1).val) / 512)
    (((i 0).val * 512 + (i 1).val) % 128) : ℝ) : EReal) = _
  rw [e0, e1, e2]

/-- The third result: the values' gradient over columns 4608 … 5119, the argument elsewhere. -/
theorem rd77 (R : Reads x0 x1 x2 x3 q k v o) (i : S8192x9216.Idx) : val_main_v77 (F := Ideal) x0 x1 x3 x4 i
    = if 4608 ≤ (i 1).val ∧ (i 1).val < 5120 then
        ((dv q k o (((i 1).val - 4608) / 128) (i 0).val (((i 1).val - 4608) % 128) : ℝ) : EReal)
      else x4 i := by
  have h0 : (i 0).val < 8192 := (i 0).isLt
  have h1 : (i 1).val < 9216 := (i 1).isLt
  unfold val_main_v77
  by_cases ha : (i 1).val < 4608
  · rw [if_neg (by omega)]
    refine (concatenate_apply_piece (t := S8192x9216) 1 _ _ i 0 (by show 0 < 3; decide) S8192x4608 (val_main_v74 (F := Ideal) x4) rfl rfl 0 rfl
      (ix2 (i 0) ⟨(i 1).val, ha⟩) (fun b hb => ?_) ?_).trans ?_
    · match b with
      | ⟨0, _⟩ => rfl
      | ⟨1, _⟩ => exact absurd rfl hb
    · exact Nat.zero_add _
    · rw [val_main_v74_apply]
      refine congrArg x4 ?_
      funext a; match a with
        | ⟨0, _⟩ => rfl
        | ⟨1, _⟩ => rfl
  · by_cases hb : (i 1).val < 5120
    · rw [if_pos (by omega)]
      refine (concatenate_apply_piece (t := S8192x9216) 1 _ _ i 1 (by show 1 < 3; decide) S8192x512 (val_main_v75 (F := Ideal) x0 x1 x3) rfl rfl 4608 rfl
        (ix2 (i 0) ⟨(i 1).val - 4608, by omega⟩) (fun b hb => ?_) ?_).trans ?_
      · match b with
        | ⟨0, _⟩ => rfl
        | ⟨1, _⟩ => exact absurd rfl hb
      · show 4608 + ((i 1).val - 4608) = (i 1).val; omega
      · exact rd75 R _
    · rw [if_neg (by omega)]
      refine (concatenate_apply_piece (t := S8192x9216) 1 _ _ i 2 (by show 2 < 3; decide) S8192x4096 (val_main_v76 (F := Ideal) x4) rfl rfl 5120 rfl
        (ix2 (i 0) ⟨(i 1).val - 5120, by omega⟩) (fun b hb => ?_) ?_).trans ?_
      · match b with
        | ⟨0, _⟩ => rfl
        | ⟨1, _⟩ => exact absurd rfl hb
      · show 5120 + ((i 1).val - 5120) = (i 1).val; omega
      · rw [val_main_v76_apply]
        refine congrArg x4 ?_
        funext a; refine Fin.ext ?_; match a with
          | ⟨0, _⟩ => rfl
          | ⟨1, _⟩ => show 5120 + ((i 1).val - 5120) = (i 1).val; omega

end Cert.RefValue
end
-- ==== Proof.HostValue.lean ====
/-
  What @main computes before the kernel runs, over the extended reals: the scaled queries, the forward's output and
  the rows' logarithms, from arguments that are numbers.
-/
module

public import proofs.«01_k».proof.Proof.RefValue
public import proofs.«01_k».proof.Proof.Gen.KernelIdeal.Frame
public import Idealize.ShloMosaic.Lib.StableHlo.RunRead
public import Idealize.ShloMosaic.Lib.Tactic

@[expose] public section

set_option maxRecDepth 16384

noncomputable section

namespace Cert.HostValue

open Cert.ReferenceIdeal Cert.ReferenceIdeal.Gen Cert.ReferenceIdeal.Read Cert.Model Cert.RefValue
open Idealize.ShloMosaic Idealize.ShloMosaic.ValueIdx Idealize.ShloMosaic.TcCoe

section Terms
variable {F : FTy → Type} [FloatOps F]
variable (x0 : Vec F S8192x2048 .f32) (x1 : Vec F S8192x512 .f32) (x2 : Vec F S8192x9216 .bf16)

def hMax : Vec F S4x4x8192x1 .f32 :=
  broadcastInDim S4x4x8192x1 ![0, 1, 2] bcast_S4x4x8192_S4x4x8192x1_0_1_2 (val_main_v9 (F := F) x0 x1)
def hExp : Vec F S4x4x8192x8192 .f32 :=
  Host.exp (subf (val_main_v8 (F := F) x0 x1) (broadcastInDim S4x4x8192x8192 ![0, 1, 2, 3] bcast_S4x4x8192x1_S4x4x8192x8192_0_1_2_3 (hMax x0 x1)))
def hSum : Vec F S4x4x8192x1 .f32 :=
  broadcastInDim S4x4x8192x1 ![0, 1, 2] bcast_S4x4x8192_S4x4x8192x1_0_1_2
    (Host.reduceAdd (hExp x0 x1) (constant S_ .f32 0x00000000#32) reducesTo_S4x4x8192x8192_S4x4x8192_d3 h_S_)
def hWgt : Vec F S4x4x8192x8192 .f32 :=
  Host.divf (hExp x0 x1) (broadcastInDim S4x4x8192x8192 ![0, 1, 2, 3] bcast_S4x4x8192x1_S4x4x8192x8192_0_1_2_3 (hSum x0 x1))
def hDot : Vec F S4x128x4x8192 .f32 :=
  Host.dotGeneral dot_S8192x4x128_S4x4x8192x8192_S4x128x4x8192_0_3_2_12_1_0 none (val_main_v4 (F := F) x2) (hWgt x0 x1)
def hOut : Vec F S8192x2048 .bf16 :=
  truncf .bf16 (shapeCast S8192x2048 (transpose S8192x4x4x128 [3, 0, 2, 1] (hDot x0 x1 x2) transposes_S4x128x4x8192_S8192x4x4x128_3_0_2_1)
    shapeCasts_S8192x4x4x128_S8192x2048) bitsLt_bf16_f32
def hLog : Vec F S4x4x8192x1 .f32 :=
  Host.divf (addf (hMax x0 x1) (Host.log (hSum x0 x1))) (broadcastInDim S4x4x8192x1 ![] bcast_S_S4x4x8192x1 (Host.log (constant S_ .f32 0x40000000#32)))
def hLse : Vec F Cert.KernelIdeal.S16x8192x128 .f32 :=
  broadcastInDim Cert.KernelIdeal.S16x8192x128 ![0, 1, 2] Cert.KernelIdeal.Facts₀.bcast_S16x8192x1_S16x8192x128_0_1_2
    (shapeCast Cert.KernelIdeal.S16x8192x1 (hLog x0 x1) Cert.KernelIdeal.Facts₀.shapeCasts_S4x4x8192x1_S16x8192x1)
def hQt : Vec F S8192x2048 .bf16 :=
  truncf .bf16 (Host.divf (mulf x0 (broadcastInDim S8192x2048 ![] bcast_S_S8192x2048 (constant S_ .f32 0x3DB504F3#32)))
    (broadcastInDim S8192x2048 ![] bcast_S_S8192x2048 (Host.log (constant S_ .f32 0x40000000#32)))) bitsLt_bf16_f32

end Terms

section Reads
variable {F : FTy → Type} [FloatOps F]
variable (m : (ℓ : Loc Cert.KernelIdeal.nD Cert.KernelIdeal.τ Cert.KernelIdeal.sig) → Buf (Elt F) ℓ) (c : Dev Cert.KernelIdeal.nD)
open Cert.KernelIdeal (main_arg0 main_arg1 main_arg2 main_arg3 main_arg4 main_v5 main_v6 main_v28 main_v35 main_v36_2)

theorem read_v5 : Cert.KernelIdeal.Gen.V m c main_v5 = hQt (m (c.tc.loc main_arg0)) := by
  unfold Cert.KernelIdeal.Gen.V Cert.KernelIdeal.Gen.hostOps0
  after_reads_simp
  rfl
theorem read_v6 : Cert.KernelIdeal.Gen.V m c main_v6 = truncf .bf16 (m (c.tc.loc main_arg1)) Cert.KernelIdeal.Facts₀.bitsLt_bf16_f32 := by
  unfold Cert.KernelIdeal.Gen.V Cert.KernelIdeal.Gen.hostOps0
  after_reads_simp
theorem read_v28 : Cert.KernelIdeal.Gen.V m c main_v28 = hOut (m (c.tc.loc main_arg0)) (m (c.tc.loc main_arg1)) (m (c.tc.loc main_arg2)) := by
  unfold Cert.KernelIdeal.Gen.V Cert.KernelIdeal.Gen.hostOps0
  after_reads_simp
  chain_rfl
theorem read_v35 : Cert.KernelIdeal.Gen.V m c main_v35 = hLse (m (c.tc.loc main_arg0)) (m (c.tc.loc main_arg1)) := by
  unfold Cert.KernelIdeal.Gen.V Cert.KernelIdeal.Gen.hostOps0
  after_reads_simp
  chain_rfl
theorem read_v36_2 : Cert.KernelIdeal.Gen.V m c main_v36_2 = m (c.tc.loc main_arg4) := by
  unfold Cert.KernelIdeal.Gen.V Cert.KernelIdeal.Gen.hostOps0
  after_reads_simp
  rfl
end Reads

/-! ## At numbers -/

section Values
variable {x0 : S8192x2048.Idx → EReal} {x1 : S8192x512.Idx → EReal} {x2 : S8192x9216.Idx → EReal} {x3 : S8192x2048.Idx → EReal}
  {q k v o : ℕ → ℕ → ℝ}

/-- A row's maximum. -/
def hTop (x0 : S8192x2048.Idx → EReal) (x1 : S8192x512.Idx → EReal) (j : S4x4x8192.Idx) : ℝ :=
  (val_main_v9 (F := Ideal) x0 x1 j).toReal

theorem hTop_eq (R : Reads x0 x1 x2 x3 q k v o) (j : S4x4x8192.Idx) : val_main_v9 (F := Ideal) x0 x1 j = ((hTop x0 x1 j : ℝ) : EReal) := by
  obtain ⟨r, hr⟩ := rd9 R j
  rw [hTop, hr, EReal.toReal_coe]

/-- A row's sum. -/
def hLen (q k : ℕ → ℕ → ℝ) (x0 : S8192x2048.Idx → EReal) (x1 : S8192x512.Idx → EReal) (j : S4x4x8192.Idx) : ℝ :=
  den q k (j 0).val (j 1).val (j 2).val * Real.exp (-hTop x0 x1 j)

theorem hLen_pos (j : S4x4x8192.Idx) : 0 < hLen q k x0 x1 j := mul_pos (den_pos q k _ _ _) (Real.exp_pos _)
theorem hLen_ne (j : S4x4x8192.Idx) : hLen q k x0 x1 j ≠ 0 := (hLen_pos j).ne'

/-- A row's index, without its last axis of extent one. -/
def row1 (i : S4x4x8192x1.Idx) : S4x4x8192.Idx := ix3 (i 0) (i 1) (i 2)
def row4 (i : S4x4x8192x8192.Idx) : S4x4x8192x1.Idx := ix4 (i 0) (i 1) (i 2) ⟨0, Nat.one_pos⟩

theorem bcast1 (y : S4x4x8192.Idx → EReal) (i : S4x4x8192x1.Idx) :
    broadcastInDim S4x4x8192x1 ![0, 1, 2] bcast_S4x4x8192_S4x4x8192x1_0_1_2 y i = y (row1 i) :=
  broadcastInDim_apply _ bcast_S4x4x8192_S4x4x8192x1_0_1_2 y i (row1 i) (fun a => match a with
    | ⟨0, _⟩ => by show (i 0).val = if (4 : Nat) = 1 then 0 else (i 0).val; rw [if_neg (by decide)]
    | ⟨1, _⟩ => by show (i 1).val = if (4 : Nat) = 1 then 0 else (i 1).val; rw [if_neg (by decide)]
    | ⟨2, _⟩ => by show (i 2).val = if (8192 : Nat) = 1 then 0 else (i 2).val; rw [if_neg (by decide)])
theorem bcast4 (y : S4x4x8192x1.Idx → EReal) (i : S4x4x8192x8192.Idx) :
    broadcastInDim S4x4x8192x8192 ![0, 1, 2, 3] bcast_S4x4x8192x1_S4x4x8192x8192_0_1_2_3 y i = y (row4 i) :=
  broadcastInDim_apply _ bcast_S4x4x8192x1_S4x4x8192x8192_0_1_2_3 y i (row4 i) (fun a => match a with
    | ⟨0, _⟩ => by show (i 0).val = if (4 : Nat) = 1 then 0 else (i 0).val; rw [if_neg (by decide)]
    | ⟨1, _⟩ => by show (i 1).val = if (4 : Nat) = 1 then 0 else (i 1).val; rw [if_neg (by decide)]
    | ⟨2, _⟩ => by show (i 2).val = if (8192 : Nat) = 1 then 0 else (i 2).val; rw [if_neg (by decide)]
    | ⟨3, _⟩ => by show 0 = if (1 : Nat) = 1 then 0 else (i 3).val; rw [if_pos rfl])
theorem bcast0 {t : Shape} (h : S_.BroadcastsInDim t ![]) (y : S_.Idx → EReal) (i : t.Idx) :
    broadcastInDim t ![] h y i = y ix0 :=
  broadcastInDim_apply _ h y i ix0 (fun a => a.elim0)

theorem row_row (i : S4x4x8192x8192.Idx) : row1 (row4 i) = row i := rfl

theorem hExp_eq (R : Reads x0 x1 x2 x3 q k v o) (i : S4x4x8192x8192.Idx) : hExp (F := Ideal) x0 x1 i
    = ((Real.exp (dot q k (i 0).val (i 1).val (i 2).val (i 3).val * σ - hTop x0 x1 (row i)) : ℝ) : EReal) := by
  show Ideal.exp (val_main_v8 (F := Ideal) x0 x1 i - broadcastInDim S4x4x8192x8192 ![0, 1, 2, 3] _ (hMax (F := Ideal) x0 x1) i) = _
  rw [bcast4, hMax, bcast1, row_row, rd8 R, hTop_eq R, ← EReal.coe_sub, Ideal.exp_coe]

theorem hSum_eq (R : Reads x0 x1 x2 x3 q k v o) (i : S4x4x8192x1.Idx) : hSum (F := Ideal) x0 x1 i
    = ((hLen q k x0 x1 (row1 i) : ℝ) : EReal) := by
  rw [hSum, bcast1]
  generalize row1 i = j
  show Ideal.hostReduceAdd reducesTo_S4x4x8192x8192_S4x4x8192_d3 (hExp (F := Ideal) x0 x1) (Ideal.ofBits .f32 0x00000000#32) j = _
  rw [Ideal.hostReduceAdd_single _ reduces3, bits_zero, EReal.coe_zero, zero_add, hLen, ← shifted_sum, ← sum_coe]
  refine Finset.sum_congr rfl fun t _ => ?_
  rw [hExp_eq R]
  have h : row (reduces3.lift j t) = j := by
    funext a; match a with
      | ⟨0, _⟩ => rfl
      | ⟨1, _⟩ => rfl
      | ⟨2, _⟩ => rfl
  rw [h]
  rfl

theorem hWgt_eq (R : Reads x0 x1 x2 x3 q k v o) (i : S4x4x8192x8192.Idx) : hWgt (F := Ideal) x0 x1 i
    = ((wgt q k (i 0).val (i 1).val (i 2).val (i 3).val : ℝ) : EReal) := by
  show Ideal.div (hExp (F := Ideal) x0 x1 i) (broadcastInDim S4x4x8192x8192 ![0, 1, 2, 3] _ (hSum (F := Ideal) x0 x1) i) = _
  rw [bcast4, hSum_eq R, hExp_eq R, div_coe_coe _ (hLen_ne _), row_row, hLen]
  exact congrArg (fun r : ℝ => (r : EReal)) (shifted_wgt q k _ _ _ _ _)

theorem read37 (A : S8192x4x128.Idx → EReal) (P : S4x4x8192x8192.Idx → EReal) (i : S4x128x4x8192.Idx) :
    Host.dotGeneral (F := Ideal) (φ₁ := .f32) (φ₂ := .f32) dot_S8192x4x128_S4x4x8192x8192_S4x128x4x8192_0_3_2_12_1_0 none A P i
      = ∑ t : Fin 8192, A (ix3 t (i 0) (i 1)) * P (ix4 (i 0) (i 2) (i 3) t) := by
  simp only [Host.dotGeneral]
  rw [Ideal.dotGeneral_apply, ← Equiv.sum_comp (contrEquiv1 dot_S8192x4x128_S4x4x8192x8192_S4x128x4x8192_0_3_2_12_1_0 8192 rfl rfl).symm]
  refine Finset.sum_congr rfl fun t _ => ?_
  have h0 := contrEquiv1_symm_val dot_S8192x4x128_S4x4x8192x8192_S4x128x4x8192_0_3_2_12_1_0 8192 rfl rfl t
  refine congrArg₂ (HMul.hMul (α := EReal)) (congrArg A ?_) (congrArg P ?_) <;> (funext a; apply Fin.ext)
  · match a with
    | ⟨0, _⟩ => exact h0
    | ⟨1, _⟩ => rfl
    | ⟨2, _⟩ => rfl
  · match a with
    | ⟨0, _⟩ => rfl
    | ⟨1, _⟩ => rfl
    | ⟨2, _⟩ => rfl
    | ⟨3, _⟩ => exact h0

theorem hDot_eq (R : Reads x0 x1 x2 x3 q k v o) (i : S4x128x4x8192.Idx) : hDot (F := Ideal) x0 x1 x2 i
    = ((out q k v (i 0).val (i 2).val (i 3).val (i 1).val : ℝ) : EReal) := by
  unfold hDot
  rw [read37]
  exact dot_coe _ _ (fun t => rd4 R _) (fun t => hWgt_eq R _)

/-- The weighted sums of values that may be infinite. -/
theorem hDot_of (R : Reads x0 x1 x2 x3 q k v o) {y : S8192x9216.Idx → EReal} {w : ℕ → ℕ → EReal}
    (hw : ∀ i : S8192x512.Idx, y (Cert.ReferenceIdeal.Read.idx_main_v0 i) = w (i 0).val (i 1).val) (i : S4x128x4x8192.Idx) : hDot (F := Ideal) x0 x1 y i
    = ∑ t : Fin 8192, w t.val (128 * (i 0).val + (i 1).val) * ((wgt q k (i 0).val (i 2).val (i 3).val t.val : ℝ) : EReal) := by
  unfold hDot
  rw [read37]
  exact Finset.sum_congr rfl fun t _ => congrArg₂ (HMul.hMul (α := EReal)) (rd4_of hw _) (hWgt_eq R _)

/-- An output's row and column, by group, head and column of the head. -/
def split (i : S8192x2048.Idx) : S4x128x4x8192.Idx :=
  have h0 : (i 0).val < 8192 := (i 0).isLt
  have h1 : (i 1).val < 2048 := (i 1).isLt
  ix4 ⟨(i 1).val / 512, by omega⟩ ⟨(i 1).val % 128, by omega⟩ ⟨(i 1).val / 128 % 4, by omega⟩ (i 0)

theorem hOut_at (x2 : S8192x9216.Idx → EReal) (i : S8192x2048.Idx) : hOut (F := Ideal) x0 x1 x2 i = hDot (F := Ideal) x0 x1 x2 (split i) := by
  have h0 : (i 0).val < 8192 := (i 0).isLt
  have h1 : (i 1).val < 2048 := (i 1).isLt
  show shapeCast S8192x2048 (transpose S8192x4x4x128 [3, 0, 2, 1] (hDot (F := Ideal) x0 x1 x2) _) _ i = _
  rw [shapeCast_apply _ shapeCasts_S8192x4x4x128_S8192x2048 i
    (ix4 (i 0) ⟨(i 1).val / 512, by omega⟩ ⟨(i 1).val / 128 % 4, by omega⟩ ⟨(i 1).val % 128, by omega⟩)
    (by rewrite [Shape.rowMajor_val_two, Shape.rowMajor_val_four]
        show (((i 0).val * 4 + (i 1).val / 512) * 4 + (i 1).val / 128 % 4) * 128 + (i 1).val % 128 = (i 0).val * 2048 + (i 1).val
        omega)]
  rw [transpose_apply [3, 0, 2, 1] _ transposes_S4x128x4x8192_S8192x4x4x128_3_0_2_1 _
    (ix4 ⟨(i 1).val / 512, by omega⟩ ⟨(i 1).val % 128, by omega⟩ ⟨(i 1).val / 128 % 4, by omega⟩ (i 0)) (fun b => match b with
    | ⟨0, _⟩ => rfl
    | ⟨1, _⟩ => rfl
    | ⟨2, _⟩ => rfl
    | ⟨3, _⟩ => rfl)]
  rfl

/-- The forward's output, at a row and a column. -/
theorem hOut_eq (R : Reads x0 x1 x2 x3 q k v o) (i : S8192x2048.Idx) : hOut (F := Ideal) x0 x1 x2 i
    = ((out q k v ((i 1).val / 512) ((i 1).val / 128 % 4) (i 0).val ((i 1).val % 128) : ℝ) : EReal) :=
  (hOut_at x2 i).trans (hDot_eq R _)

theorem divf_at {s : Shape} (a b : FVec Ideal s .f32) (i : s.Idx) : Host.divf a b i = Ideal.div (a i) (b i) := rfl
theorem addf_at {s : Shape} (a b : FVec Ideal s .f32) (i : s.Idx) : addf a b i = a i + b i := rfl
theorem log_at {s : Shape} (a : FVec Ideal s .f32) (i : s.Idx) : Host.log a i = Ideal.log (a i) := rfl
theorem const_at {s : Shape} (w : BitVec 32) (i : s.Idx) : constant (F := Ideal) s .f32 w i = Ideal.ofBits .f32 w := rfl

theorem hLog_apply (i : S4x4x8192x1.Idx) : hLog (F := Ideal) x0 x1 i
    = Ideal.div (hMax (F := Ideal) x0 x1 i + Ideal.log (hSum (F := Ideal) x0 x1 i)) (Ideal.log (Ideal.ofBits .f32 0x40000000#32)) := by
  unfold hLog
  rw [divf_at, addf_at, log_at, bcast0, log_at, const_at]

theorem hLog_eq (R : Reads x0 x1 x2 x3 q k v o) (i : S4x4x8192x1.Idx) : hLog (F := Ideal) x0 x1 i
    = ((lse q k (i 0).val (i 1).val (i 2).val : ℝ) : EReal) := by
  have e : Real.log (hLen q k x0 x1 (row1 i)) = Real.log (den q k (i 0).val (i 1).val (i 2).val * Real.exp (-hTop x0 x1 (row1 i))) := rfl
  rw [hLog_apply, bits_two, log_coe_pos (by norm_num), hMax, bcast1, hTop_eq R, hSum_eq R, log_coe_pos (hLen_pos _), ← EReal.coe_add,
    div_coe_coe _ log2_ne, e, log_shift, lse]

/-- The rows' logarithms, at a head, a row and any lane. -/
theorem hLse_eq (R : Reads x0 x1 x2 x3 q k v o) (i : Cert.KernelIdeal.S16x8192x128.Idx) : hLse (F := Ideal) x0 x1 i
    = ((lse q k ((i 0).val / 4) ((i 0).val % 4) (i 1).val : ℝ) : EReal) := by
  have h0 : (i 0).val < 16 := (i 0).isLt
  have h1 : (i 1).val < 8192 := (i 1).isLt
  unfold hLse
  refine (broadcastInDim_apply ![0, 1, 2] Cert.KernelIdeal.Facts₀.bcast_S16x8192x1_S16x8192x128_0_1_2 _ i (ix3 (i 0) (i 1) ⟨0, Nat.one_pos⟩)
    (fun a => match a with
    | ⟨0, _⟩ => by show (i 0).val = if (16 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])).trans ?_
  refine (shapeCast_apply _ Cert.KernelIdeal.Facts₀.shapeCasts_S4x4x8192x1_S16x8192x1 _
    (ix4 ⟨(i 0).val / 4, by omega⟩ ⟨(i 0).val % 4, by omega⟩ (i 1) ⟨0, Nat.one_pos⟩)
    (by refine (Shape.rowMajor_val_four (d := ![4, 4, 8192, 1]) _).trans (Eq.trans ?_ (Shape.rowMajor_val_three (d := ![16, 8192, 1]) _).symm)
        show (((i 0).val / 4 * 4 + (i 0).val % 4) * 8192 + (i 1).val) * 1 + 0 = ((i 0).val * 8192 + (i 1).val) * 1 + 0
        omega)).trans ?_
  exact hLog_eq R _

/-- The scaled queries. -/
theorem hQt_eq (R : Reads x0 x1 x2 x3 q k v o) (i : S8192x2048.Idx) : hQt (F := Ideal) x0 i
    = ((q (i 0).val (i 1).val * σ / Real.log 2 : ℝ) : EReal) := by
  show Ideal.div (x0 i * broadcastInDim S8192x2048 ![] _ (constant (F := Ideal) S_ .f32 0x3DB504F3#32) i)
    (broadcastInDim S8192x2048 ![] _ (Host.log (constant (F := Ideal) S_ .f32 0x40000000#32)) i) = _
  rw [bcast0, bcast0]
  show Ideal.div (_ * Ideal.ofBits .f32 0x3DB504F3#32) (Ideal.log (Ideal.ofBits .f32 0x40000000#32)) = _
  rw [bits_two, bits_scale, log_coe_pos (by norm_num), R.hq, ← EReal.coe_mul, div_coe_coe _ log2_ne]

end Values

end Cert.HostValue
end
-- ==== Proof.BlockValue.lean ====
/-
  The blocks the kernel's grid points read, over the extended reals, from arguments that are numbers: point `t` is
  group `t / 16` and query tile `t % 16`.
-/
module

public import proofs.«01_k».proof.Proof.HostValue
public import proofs.«01_k».proof.Proof.Run
public import Idealize.ShloMosaic.Lib.Pipeline.ValueKit

@[expose] public section

set_option maxRecDepth 16384

noncomputable section

namespace Cert.BlockValue

open Cert.KernelIdeal Cert.KernelIdeal.Gen Cert.KernelIdeal.Hand Cert.Model Cert.RefValue Cert.HostValue
open Idealize.ShloMosaic Idealize.ShloMosaic.ValueIdx Idealize.ShloMosaic.TcCoe

theorem index0 : ∀ t : Fin cfg0.N, (cfg0.win 0).index t = ![t.val % 16, t.val / 16] := by decide +kernel
theorem index1 : ∀ t : Fin cfg0.N, (cfg0.win 1).index t = ![0, t.val / 16] := by decide +kernel
theorem index2 : ∀ t : Fin cfg0.N, (cfg0.win 2).index t = ![0, 36 + t.val / 16] := by decide +kernel
theorem index3 : ∀ t : Fin cfg0.N, (cfg0.win 3).index t = ![t.val % 16, t.val / 16] := by decide +kernel
theorem index4 : ∀ t : Fin cfg0.N, (cfg0.win 4).index t = ![t.val % 16, t.val / 16] := by decide +kernel
theorem index5 : ∀ t : Fin cfg0.N, (cfg0.win 5).index t = ![t.val / 16, t.val % 16, 0] := by decide +kernel
theorem index6 : ∀ t : Fin cfg0.N, (cfg0.win 6).index t = ![t.val % 16, t.val / 16] := by decide +kernel
theorem index7 : ∀ t : Fin cfg0.N, (cfg0.win 7).index t = ![0, t.val / 16] := by decide +kernel
theorem index8 : ∀ t : Fin cfg0.N, (cfg0.win 8).index t = ![0, 36 + t.val / 16] := by decide +kernel

section Blocks
variable (m : (ℓ : Loc nD τ sig) → Buf (Elt Ideal) ℓ) (c : Dev nD) {q k v o : ℕ → ℕ → ℝ}
  (R : Reads (m ((c.tc : Thread nD τ).loc main_arg0)) (m ((c.tc : Thread nD τ).loc main_arg1)) (m ((c.tc : Thread nD τ).loc main_arg2))
    (m ((c.tc : Thread nD τ).loc main_arg3)) q k v o)
include R

theorem blk0_at (t : Fin cfg0.N) (i : S512x512.Idx) : blk0 m c t i
    = ((q (512 * (t.val % 16) + (i 0).val) (512 * (t.val / 16) + (i 1).val) * σ / Real.log 2 : ℝ) : EReal) := by
  unfold blk0 iblk
  show V m c main_v5 (((cfg0.win 0).blk t).view.emb i) = _
  rw [read_v5]
  refine (hQt_eq R _).trans ?_
  have e0 : ((((cfg0.win 0).blk t).view.emb i) 0).val = 512 * (t.val % 16) + (i 0).val := by
    blk_simp [index0 t]; omega
  have e1 : ((((cfg0.win 0).blk t).view.emb i) 1).val = 512 * (t.val / 16) + (i 1).val := by
    blk_simp [index0 t]; omega
  exact congrArg₂ (fun a b : ℕ => ((q a b * σ / Real.log 2 : ℝ) : EReal)) e0 e1

theorem blk1_at (t : Fin cfg0.N) (i : S8192x128.Idx) : blk1 m c t i
    = ((k (i 0).val (128 * (t.val / 16) + (i 1).val) : ℝ) : EReal) := by
  unfold blk1 iblk
  show V m c main_v6 (((cfg0.win 1).blk t).view.emb i) = _
  rw [read_v6]
  refine (R.hk _).trans ?_
  have e0 : ((((cfg0.win 1).blk t).view.emb i) 0).val = (i 0).val := by
    blk_simp [index1 t]
  have e1 : ((((cfg0.win 1).blk t).view.emb i) 1).val = 128 * (t.val / 16) + (i 1).val := by
    blk_simp [index1 t]; omega
  exact congrArg₂ (fun a b : ℕ => ((k a b : ℝ) : EReal)) e0 e1

theorem blk2_at (t : Fin cfg0.N) (i : S8192x128.Idx) : blk2 m c t i
    = ((v (i 0).val (128 * (t.val / 16) + (i 1).val) : ℝ) : EReal) := by
  have ht : t.val < 64 := lt_of_lt_of_eq t.isLt N_0
  have hi : (i 1).val < 128 := (i 1).isLt
  unfold blk2 iblk
  show V m c main_arg2 (((cfg0.win 2).blk t).view.emb i) = _
  rw [V_main_arg2]
  have e0 : ((((cfg0.win 2).blk t).view.emb i) 0).val = (i 0).val := by
    blk_simp [index2 t]
  have e1 : ((((cfg0.win 2).blk t).view.emb i) 1).val = 4608 + (128 * (t.val / 16) + (i 1).val) := by
    blk_simp [index2 t]; omega
  refine Eq.trans (congrArg (m ((c.tc : Thread nD τ).loc main_arg2)) ?_)
    (R.hv (ValueIdx.ix2 (n0 := 8192) (n1 := 512) (i 0) ⟨128 * (t.val / 16) + (i 1).val, by omega⟩))
  funext a
  apply Fin.ext
  match a with
  | ⟨0, _⟩ => exact e0
  | ⟨1, _⟩ => exact e1

theorem blk3_at (t : Fin cfg0.N) (i : S512x512.Idx) : blk3 m c t i
    = ((out q k v (t.val / 16) ((i 1).val / 128) (512 * (t.val % 16) + (i 0).val) ((i 1).val % 128) : ℝ) : EReal) := by
  have hi : (i 1).val < 512 := (i 1).isLt
  unfold blk3 iblk
  show V m c main_v28 (((cfg0.win 3).blk t).view.emb i) = _
  rw [read_v28]
  refine (hOut_eq R _).trans ?_
  have e0 : ((((cfg0.win 3).blk t).view.emb i) 0).val = 512 * (t.val % 16) + (i 0).val := by
    blk_simp [index3 t]; omega
  have e1 : ((((cfg0.win 3).blk t).view.emb i) 1).val = 512 * (t.val / 16) + (i 1).val := by
    blk_simp [index3 t]; omega
  refine (congrArg₂ (fun a b : ℕ => ((out q k v (b / 512) (b / 128 % 4) a (b % 128) : ℝ) : EReal)) e0 e1).trans ?_
  rw [show (512 * (t.val / 16) + (i 1).val) / 512 = t.val / 16 by omega,
    show (512 * (t.val / 16) + (i 1).val) / 128 % 4 = (i 1).val / 128 by omega,
    show (512 * (t.val / 16) + (i 1).val) % 128 = (i 1).val % 128 by omega]

theorem blk4_at (t : Fin cfg0.N) (i : S512x512.Idx) : blk4 m c t i
    = ((o (512 * (t.val % 16) + (i 0).val) (512 * (t.val / 16) + (i 1).val) : ℝ) : EReal) := by
  unfold blk4 iblk
  show V m c main_arg3 (((cfg0.win 4).blk t).view.emb i) = _
  rw [V_main_arg3]
  refine (R.ho _).trans ?_
  have e0 : ((((cfg0.win 4).blk t).view.emb i) 0).val = 512 * (t.val % 16) + (i 0).val := by
    blk_simp [index4 t]; omega
  have e1 : ((((cfg0.win 4).blk t).view.emb i) 1).val = 512 * (t.val / 16) + (i 1).val := by
    blk_simp [index4 t]; omega
  exact congrArg₂ (fun a b : ℕ => ((o a b : ℝ) : EReal)) e0 e1

theorem blk5_at (t : Fin cfg0.N) (i : S4x512x128.Idx) : blk5 m c t i
    = ((lse q k (t.val / 16) (i 0).val (512 * (t.val % 16) + (i 1).val) : ℝ) : EReal) := by
  have hi : (i 0).val < 4 := (i 0).isLt
  unfold blk5 iblk
  show V m c main_v35 (((cfg0.win 5).blk t).view.emb i) = _
  rw [read_v35]
  refine (hLse_eq R _).trans ?_
  have e0 : ((((cfg0.win 5).blk t).view.emb i) 0).val = 4 * (t.val / 16) + (i 0).val := by
    blk_simp [index5 t]; omega
  have e1 : ((((cfg0.win 5).blk t).view.emb i) 1).val = 512 * (t.val % 16) + (i 1).val := by
    blk_simp [index5 t]; omega
  refine (congrArg₂ (fun a b : ℕ => ((lse q k (a / 4) (a % 4) b : ℝ) : EReal)) e0 e1).trans ?_
  rw [show (4 * (t.val / 16) + (i 0).val) / 4 = t.val / 16 by omega,
    show (4 * (t.val / 16) + (i 0).val) % 4 = (i 0).val by omega]

end Blocks

end Cert.BlockValue
-- ==== Proof.PointValue.lean ====
/-
  What one grid point computes over the extended reals, from blocks that are numbers: its weights and logit
  gradients, its query gradient, and what it adds to the key and value accumulators.
-/
module

public import proofs.«01_k».proof.Proof.Model
public import proofs.«01_k».proof.Proof.Rows
public import Idealize.ShloMosaic.Lib.ValueIdx
public import Idealize.ShloMosaic.PureOps.Ideal.Laws

@[expose] public section

set_option maxRecDepth 16384

noncomputable section

namespace Cert.PointValue

open Cert.KernelIdeal Cert.KernelIdeal.Gen Cert.KernelIdeal.Hand Cert.Model
open Idealize.ShloMosaic Idealize.ShloMosaic.ValueIdx

/-! ## The payloads at an index -/

theorem pay4_at (Kk : Vec Ideal S512x128 .bf16) (Q : Vec Ideal S2048x128 .bf16) (j : S2048x512.Idx) :
    k0_pay4 Kk Q j = ∑ d : Fin 128, Q (ix2 (n0 := 2048) (n1 := 128) (j 0) d) * Kk (ix2 (n0 := 512) (n1 := 128) (j 1) d) := by
  unfold k0_pay4 k0_pay3
  simp only [shapeCast_self]
  refine (Ideal.matmul_constant_zero_apply (φ₁ := .bf16) (φ₂ := .bf16) dot_S2048x128_S512x128_S2048x512_1_1_0_0_n_n none Q Kk j).trans ?_
  rw [← Equiv.sum_comp (contrEquiv1 dot_S2048x128_S512x128_S2048x512_1_1_0_0_n_n 128 rfl rfl).symm]
  refine Finset.sum_congr rfl fun t _ => ?_
  have h0 := contrEquiv1_symm_val dot_S2048x128_S512x128_S2048x512_1_1_0_0_n_n 128 rfl rfl t
  refine congrArg₂ (HMul.hMul (α := EReal)) (congrArg Q ?_) (congrArg Kk ?_) <;> (funext a; apply Fin.ext)
  · match a with
    | ⟨0, _⟩ => rfl
    | ⟨1, _⟩ => exact h0
  · match a with
    | ⟨0, _⟩ => rfl
    | ⟨1, _⟩ => exact h0

theorem pay5_at (Vk : Vec Ideal S512x128 .bf16) (O : Vec Ideal S2048x128 .bf16) (j : S2048x512.Idx) :
    k0_pay5 Vk O j = ∑ d : Fin 128, O (ix2 (n0 := 2048) (n1 := 128) (j 0) d) * Vk (ix2 (n0 := 512) (n1 := 128) (j 1) d) := by
  refine Eq.trans ?_ (pay4_at Vk O j)
  unfold k0_pay5 k0_pay4 k0_pay3
  simp only [shapeCast_self]

theorem pay19_at (A : Vec Ideal S512x128 .f32) (W : Vec Ideal S2048x512 .bf16) (O : Vec Ideal S2048x128 .bf16) (i : S512x128.Idx) :
    k0_pay19 A W O i = A i + ∑ j : Fin 2048, W (ix2 (n0 := 2048) (n1 := 512) j (i 0)) * O (ix2 (n0 := 2048) (n1 := 128) j (i 1)) := by
  unfold k0_pay19
  refine congrArg (fun x : EReal => A i + x) ?_
  refine (Ideal.matmul_constant_zero_apply (φ₁ := .bf16) (φ₂ := .bf16) dot_S2048x512_S2048x128_S512x128_0_0_1_1_n_n none W O i).trans ?_
  rw [← Equiv.sum_comp (contrEquiv1 dot_S2048x512_S2048x128_S512x128_0_0_1_1_n_n 2048 rfl rfl).symm]
  refine Finset.sum_congr rfl fun t _ => ?_
  have h0 := contrEquiv1_symm_val dot_S2048x512_S2048x128_S512x128_0_0_1_1_n_n 2048 rfl rfl t
  refine congrArg₂ (HMul.hMul (α := EReal)) (congrArg W ?_) (congrArg O ?_) <;> (funext a; apply Fin.ext)
  · match a with
    | ⟨0, _⟩ => exact h0
    | ⟨1, _⟩ => rfl
  · match a with
    | ⟨0, _⟩ => exact h0
    | ⟨1, _⟩ => rfl

theorem pay41_at (A : Vec Ideal S512x128 .f32) (W : Vec Ideal S2048x512 .bf16) (O : Vec Ideal S2048x128 .bf16) (i : S512x128.Idx) :
    k0_pay41 A W O i = A i + ∑ j : Fin 2048, W (ix2 (n0 := 2048) (n1 := 512) j (i 0)) * O (ix2 (n0 := 2048) (n1 := 128) j (i 1)) := by
  refine Eq.trans ?_ (pay19_at A W O i)
  unfold k0_pay41 k0_pay19
  simp only [shapeCast_self]

theorem pay42_at (Kk : Vec Ideal S512x128 .bf16) (A : Vec Ideal S2048x128 .f32) (W : Vec Ideal S2048x512 .bf16) (i : S2048x128.Idx) :
    k0_pay42 Kk A W i = A i + ∑ t : Fin 512, W (ix2 (n0 := 2048) (n1 := 512) (i 0) t) * Kk (ix2 (n0 := 512) (n1 := 128) t (i 1)) := by
  unfold k0_pay42
  simp only [shapeCast_self]
  refine congrArg (fun x : EReal => A i + x) ?_
  refine (Ideal.matmul_constant_zero_apply (φ₁ := .bf16) (φ₂ := .bf16) dot_S2048x512_S512x128_S2048x128_1_0_0_1_n_n none W Kk i).trans ?_
  rw [← Equiv.sum_comp (contrEquiv1 dot_S2048x512_S512x128_S2048x128_1_0_0_1_n_n 512 rfl rfl).symm]
  refine Finset.sum_congr rfl fun t _ => ?_
  have h0 := contrEquiv1_symm_val dot_S2048x512_S512x128_S2048x128_1_0_0_1_n_n 512 rfl rfl t
  refine congrArg₂ (HMul.hMul (α := EReal)) (congrArg W ?_) (congrArg Kk ?_) <;> (funext a; apply Fin.ext)
  · match a with
    | ⟨0, _⟩ => rfl
    | ⟨1, _⟩ => exact h0
  · match a with
    | ⟨0, _⟩ => exact h0
    | ⟨1, _⟩ => rfl

theorem pay23_at (D O : Vec Ideal S512x128 .bf16) (i : S512x128.Idx) :
    k0_pay23 D O i = ∑ d : Fin 128, D (ix2 (n0 := 512) (n1 := 128) (i 0) d) * O (ix2 (n0 := 512) (n1 := 128) (i 0) d) := by
  unfold k0_pay23
  simp only [shapeCast_self]
  refine (broadcastTo_apply _ broadcasts_S512x1_S512x128 i (ix2 (n0 := 512) (n1 := 1) (i 0) 0) ?_).trans ?_
  · intro a
    match a with
    | ⟨0, _⟩ => rfl
    | ⟨1, _⟩ => rfl
  refine (shapeCast_apply _ shapeCasts_S512_S512x1 (ix2 (n0 := 512) (n1 := 1) (i 0) 0) (ix1 (n := 512) (i 0)) ?_).trans ?_
  · rw [Shape.rowMajor_val_two (d := ![512, 1])]
    refine (Shape.rowMajor_val_one (d := ![512]) _).trans ?_
    show (i 0).val = (i 0).val * 1 + 0
    omega
  refine (Ideal.multiReduction_add_single _ _ reduces_S512x128_S512 _ _ _).trans ?_
  refine Finset.sum_congr rfl fun t _ => ?_
  refine congrArg₂ (HMul.hMul (α := EReal)) (congrArg D ?_) (congrArg O ?_) <;>
    (funext a; apply Fin.ext; match a with | ⟨0, _⟩ => rfl | ⟨1, _⟩ => rfl)

theorem pay37_at (i : S2048x128.Idx) : k0_pay37 (F := Ideal) i = ((0 : ℝ) : EReal) := by
  unfold k0_pay37
  simp only [shapeCast_self]
  exact bits_zero
theorem pay38_at (i : S8192x128.Idx) : k0_pay38 (F := Ideal) i = ((0 : ℝ) : EReal) := bits_zero
theorem pay39_at (i : S8192x128.Idx) : k0_pay39 (F := Ideal) i = ((0 : ℝ) : EReal) := by
  unfold k0_pay39
  simp only [shapeCast_self]
  exact bits_zero

/-! ## The point's numbers -/

section Numbers
variable (X K V O D : ℕ → ℕ → ℝ) (L : ℕ → ℕ → ℝ)

/-- A stacked row's score with a key. -/
def sc (j t : ℕ) : ℝ := ∑ d : Fin 128, X (j % 512) (128 * (j / 512) + d.val) * K t d.val
/-- Its weight. -/
def wt (j t : ℕ) : ℝ := Real.rpow 2 (sc X K j t - L (j / 512) (j % 512))
/-- Its row statistic. -/
def dl (j : ℕ) : ℝ := ∑ d : Fin 128, D (j % 512) (128 * (j / 512) + d.val) * O (j % 512) (128 * (j / 512) + d.val)
/-- Its logit gradient. -/
def gd (j t : ℕ) : ℝ :=
  wt X K L j t * ((∑ d : Fin 128, D (j % 512) (128 * (j / 512) + d.val) * V t d.val) - dl O D j)

end Numbers

section Point
variable {bX : Vec Ideal S512x512 .bf16} {bK bV : Vec Ideal S8192x128 .bf16} {bO bD : Vec Ideal S512x512 .bf16}
  {bL : Vec Ideal S4x512x128 .f32} {X K V O D L : ℕ → ℕ → ℝ}
  (hX : ∀ i, bX i = ((X (i 0).val (i 1).val : ℝ) : EReal)) (hK : ∀ i, bK i = ((K (i 0).val (i 1).val : ℝ) : EReal))
  (hV : ∀ i, bV i = ((V (i 0).val (i 1).val : ℝ) : EReal)) (hO : ∀ i, bO i = ((O (i 0).val (i 1).val : ℝ) : EReal))
  (hD : ∀ i, bD i = ((D (i 0).val (i 1).val : ℝ) : EReal)) (hL : ∀ i, bL i = ((L (i 0).val (i 1).val : ℝ) : EReal))

include hX in
theorem qRows_at (j : S2048x128.Idx) :
    qRows bX j = ((X ((j 0).val % 512) (128 * ((j 0).val / 512) + (j 1).val) : ℝ) : EReal) := by
  unfold qRows stack k0_pay21 colOf
  simp only [shapeCast_self]
  exact hX _

include hL in
theorem lRows_at (j : S2048x128.Idx) : lRows bL j = ((L ((j 0).val / 512) ((j 0).val % 512) : ℝ) : EReal) := by
  unfold lRows stack k0_pay20
  simp only [shapeCast_self]
  refine (shapeCast_dropUnit_apply ![512, 128] _ shapeCasts_S1x512x128_S512x128 _).trans ?_
  unfold planeOf
  exact hL _

include hO hD in
theorem dRows_at (j : S2048x128.Idx) : dRows bD bO j = ((dl O D (j 0).val : ℝ) : EReal) := by
  unfold dRows stack dl
  refine (pay23_at _ _ _).trans ?_
  rw [← sum_mul_coe]
  refine Finset.sum_congr rfl fun d _ => ?_
  unfold colOf
  exact congrArg₂ (HMul.hMul (α := EReal)) (hD _) (hO _)

include hK in
theorem rows_at (k : Fin k0_t1_loop.trips) (t : Fin 512) (d : Fin 128) :
    View.ld bK (rowRect k) (ix2 (n0 := 512) (n1 := 128) t d) = ((K (512 * k.val + t.val) d.val : ℝ) : EReal) := by
  refine (hK ((rowRect k).emb (ix2 (n0 := 512) (n1 := 128) t d))).trans ?_
  rw [rowRect_emb0, rowRect_emb1]

include hX hK hL in
theorem wAt_at (k : Fin k0_t1_loop.trips) (j : S2048x512.Idx) :
    wAt bK (qRows bX) (lRows bL) k j = ((wt X K L (j 0).val (512 * k.val + (j 1).val) : ℝ) : EReal) := by
  have e1 : k0_pay4 (View.ld bK (rowRect k)) (qRows bX) j = ((sc X K (j 0).val (512 * k.val + (j 1).val) : ℝ) : EReal) := by
    refine (pay4_at _ _ j).trans ?_
    unfold sc
    rw [← sum_mul_coe]
    refine Finset.sum_congr rfl fun d _ => ?_
    exact congrArg₂ (HMul.hMul (α := EReal)) (qRows_at hX _) (rows_at hK k (j 1) d)
  have e2 : wide (lRows bL) j = ((L ((j 0).val / 512) ((j 0).val % 512) : ℝ) : EReal) := lRows_at hL _
  show Ideal.exp2 (k0_pay4 (View.ld bK (rowRect k)) (qRows bX) j - wide (lRows bL) j) = _
  rw [e1, e2, ← EReal.coe_sub, Ideal.exp2_coe]
  rfl

include hX hK hV hO hD hL in
theorem gAt_at (k : Fin k0_t1_loop.trips) (j : S2048x512.Idx) :
    gAt bK bV (qRows bX) (qRows bD) (lRows bL) (dRows bD bO) k j
      = ((gd X K V O D L (j 0).val (512 * k.val + (j 1).val) : ℝ) : EReal) := by
  have e1 := wAt_at hX hK hL k j
  have e2 : k0_pay5 (View.ld bV (rowRect k)) (qRows bD) j
      = ((∑ d : Fin 128, D ((j 0).val % 512) (128 * ((j 0).val / 512) + d.val) * V (512 * k.val + (j 1).val) d.val : ℝ) : EReal) := by
    refine (pay5_at _ _ j).trans ?_
    rw [← sum_mul_coe]
    refine Finset.sum_congr rfl fun d _ => ?_
    exact congrArg₂ (HMul.hMul (α := EReal)) (qRows_at hD _) (rows_at hV k (j 1) d)
  have e3 : wide (dRows bD bO) j = ((dl O D (j 0).val : ℝ) : EReal) := dRows_at hO hD _
  show wAt bK (qRows bX) (lRows bL) k j * (k0_pay5 (View.ld bV (rowRect k)) (qRows bD) j - wide (dRows bD bO) j) = _
  rw [e1, e2, e3, ← EReal.coe_sub, ← EReal.coe_mul]
  rfl

/-- What the point adds to the value accumulator. -/
theorem dvPt_at {bA : Vec Ideal S8192x128 .f32} {A : ℕ → ℕ → ℝ} (hX : ∀ i, bX i = ((X (i 0).val (i 1).val : ℝ) : EReal))
    (hK : ∀ i, bK i = ((K (i 0).val (i 1).val : ℝ) : EReal)) (hD : ∀ i, bD i = ((D (i 0).val (i 1).val : ℝ) : EReal))
    (hL : ∀ i, bL i = ((L (i 0).val (i 1).val : ℝ) : EReal))
    (hA : ∀ i, bA i = ((A (i 0).val (i 1).val : ℝ) : EReal)) (y : S8192x128.Idx) :
    dvPt bX bK bD bL bA y = ((A (y 0).val (y 1).val
      + ∑ j : Fin 2048, wt X K L j.val (y 0).val * D (j.val % 512) (128 * (j.val / 512) + (y 1).val) : ℝ) : EReal) := by
  have hy : (y 0).val < 8192 := (y 0).isLt
  unfold dvPt rowsTo
  rw [if_pos (by omega)]
  unfold vRows k0_pay40
  simp only [shapeCast_self]
  have ht : 512 * (tripOf (y 0)).val + (y 0).val % 512 = (y 0).val := by show 512 * ((y 0).val / 512) + (y 0).val % 512 = (y 0).val; omega
  refine (pay19_at _ _ _ _).trans ?_
  rw [EReal.coe_add, ← sum_mul_coe]
  refine congrArg₂ (HAdd.hAdd (α := EReal)) ((rows_at hA (tripOf (y 0)) _ _).trans ?_) (Finset.sum_congr rfl fun j _ => ?_)
  · show ((A (512 * (tripOf (y 0)).val + (y 0).val % 512) (y 1).val : ℝ) : EReal) = _
    rw [ht]
  · refine congrArg₂ (HMul.hMul (α := EReal)) ((wAt_at hX hK hL _ _).trans ?_) (qRows_at hD _)
    show ((wt X K L j.val (512 * (tripOf (y 0)).val + (y 0).val % 512) : ℝ) : EReal) = _
    rw [ht]

include hX hK hV hO hD hL in
/-- What the point adds to the key accumulator. -/
theorem dkPt_at {bA : Vec Ideal S8192x128 .f32} {A : ℕ → ℕ → ℝ}
    (hA : ∀ i, bA i = ((A (i 0).val (i 1).val : ℝ) : EReal)) (y : S8192x128.Idx) :
    dkPt bX bK bV bO bD bL bA y = ((A (y 0).val (y 1).val
      + ∑ j : Fin 2048, gd X K V O D L j.val (y 0).val * X (j.val % 512) (128 * (j.val / 512) + (y 1).val) : ℝ) : EReal) := by
  have hy : (y 0).val < 8192 := (y 0).isLt
  unfold dkPt rowsTo
  rw [if_pos (by omega)]
  unfold kRows
  have ht : 512 * (tripOf (y 0)).val + (y 0).val % 512 = (y 0).val := by show 512 * ((y 0).val / 512) + (y 0).val % 512 = (y 0).val; omega
  refine (pay41_at _ _ _ _).trans ?_
  rw [EReal.coe_add, ← sum_mul_coe]
  refine congrArg₂ (HAdd.hAdd (α := EReal)) ((rows_at hA (tripOf (y 0)) _ _).trans ?_) (Finset.sum_congr rfl fun j _ => ?_)
  · show ((A (512 * (tripOf (y 0)).val + (y 0).val % 512) (y 1).val : ℝ) : EReal) = _
    rw [ht]
  · refine congrArg₂ (HMul.hMul (α := EReal)) ((gAt_at hX hK hV hO hD hL _ _).trans ?_) (qRows_at hX _)
    show ((gd X K V O D L j.val (512 * (tripOf (y 0)).val + (y 0).val % 512) : ℝ) : EReal) = _
    rw [ht]

include hX hK hV hO hD hL in
theorem qAcc_at (n : ℕ) (hn : n ≤ 16) (j : S2048x128.Idx) :
    qAcc bK bV (qRows bX) (qRows bD) (lRows bL) (dRows bD bO) n j
      = ((∑ t ∈ Finset.range (512 * n), gd X K V O D L (j 0).val t * K t (j 1).val : ℝ) : EReal) := by
  induction n with
  | zero => exact (pay37_at j).trans (by rw [Nat.mul_zero, Finset.sum_range_zero])
  | succ n ih =>
    have hn' : n < k0_t1_loop.trips := by rw [trips_eq]; omega
    have e := congrFun (qAcc_succ bK bV (qRows bX) (qRows bD) (lRows bL) (dRows bD bO) ⟨n, hn'⟩) j
    refine e.trans ((pay42_at _ _ _ _).trans ?_)
    rw [Nat.mul_succ, Finset.sum_range_add, EReal.coe_add]
    refine congrArg₂ (HAdd.hAdd (α := EReal)) (ih (by omega)) ?_
    rw [Finset.sum_range, ← sum_mul_coe]
    refine Finset.sum_congr rfl fun t _ => ?_
    unfold k0_pay3
    simp only [shapeCast_self]
    exact congrArg₂ (HMul.hMul (α := EReal)) (gAt_at hX hK hV hO hD hL ⟨n, hn'⟩ _) (rows_at hK ⟨n, hn'⟩ t _)

include hX hK hV hO hD hL in
/-- The point's query gradient. -/
theorem dqPt_at (y : S512x512.Idx) : dqPt bX bK bV bO bD bL y
    = ((∑ t : Fin 8192, gd X K V O D L (512 * ((y 1).val / 128) + (y 0).val) t.val * K t.val ((y 1).val % 128) : ℝ) : EReal) := by
  unfold dqPt qOut beside k0_pay43 rowOf
  refine (qAcc_at hX hK hV hO hD hL 16 le_rfl _).trans ?_
  rw [show 512 * 16 = 8192 from rfl, Finset.sum_range]

end Point

end Cert.PointValue
-- ==== Proof.GridValue.lean ====
/-
  The kernel's accumulators over the grid, over the extended reals: what each point leaves, as the gradient's own sums.
-/
module

public import proofs.«01_k».proof.Proof.BlockValue
public import proofs.«01_k».proof.Proof.PointValue

@[expose] public section

set_option maxRecDepth 16384

noncomputable section

namespace Cert.GridValue

open Cert.KernelIdeal Cert.KernelIdeal.Gen Cert.KernelIdeal.Hand Cert.Model Cert.RefValue Cert.BlockValue Cert.PointValue
open Idealize.ShloMosaic Idealize.ShloMosaic.TcCoe

/-! ## Sums by tiles -/

theorem sum_tiles (f : ℕ → ℝ) (a n : ℕ) :
    ∑ x ∈ Finset.range (a * n), f x = ∑ i ∈ Finset.range n, ∑ r ∈ Finset.range a, f (a * i + r) := by
  induction n with
  | zero => rw [Nat.mul_zero, Finset.sum_range_zero, Finset.sum_range_zero]
  | succ n ih => rw [Nat.mul_succ, Finset.sum_range_add, Finset.sum_range_succ, ih]

/-- Sixteen tiles of 512 query rows of four heads, stacked, are the four heads' 8192 rows. -/
theorem sum_stacked (f : ℕ → ℕ → ℝ) :
    ∑ i ∈ Finset.range 16, ∑ j : Fin 2048, f (j.val / 512) (512 * i + j.val % 512)
      = ∑ h : Fin 4, ∑ s : Fin 8192, f h.val s.val := by
  have e1 : ∀ i, ∑ j : Fin 2048, f (j.val / 512) (512 * i + j.val % 512)
      = ∑ h ∈ Finset.range 4, ∑ r ∈ Finset.range 512, f h (512 * i + r) := by
    intro i
    rw [← Finset.sum_range (fun j => f (j / 512) (512 * i + j % 512)), show 2048 = 512 * 4 from rfl, sum_tiles]
    refine Finset.sum_congr rfl fun h _ => Finset.sum_congr rfl fun r hr => ?_
    have hr' := Finset.mem_range.mp hr
    rw [show (512 * h + r) / 512 = h by omega, show (512 * h + r) % 512 = r by omega]
  simp only [e1]
  rw [Finset.sum_comm, ← Finset.sum_range (fun h => ∑ s : Fin 8192, f h s.val)]
  refine Finset.sum_congr rfl fun h _ => ?_
  rw [← Finset.sum_range (fun s => f h s), show 8192 = 512 * 16 from rfl, sum_tiles]

/-! ## A point's numbers are the gradient's -/

section Point
variable (q k v o : ℕ → ℕ → ℝ) (g i : ℕ)

def pX (r x : ℕ) : ℝ := q (512 * i + r) (512 * g + x) * σ / Real.log 2
def pK (t d : ℕ) : ℝ := k t (128 * g + d)
def pV (t d : ℕ) : ℝ := v t (128 * g + d)
def pO (r x : ℕ) : ℝ := out q k v g (x / 128) (512 * i + r) (x % 128)
def pD (r x : ℕ) : ℝ := o (512 * i + r) (512 * g + x)
def pL (h r : ℕ) : ℝ := lse q k g h (512 * i + r)

theorem sc_eq (j t : ℕ) : sc (pX q g i) (pK k g) j t = dot q k g (j / 512) (512 * i + j % 512) t * σ / Real.log 2 := by
  unfold sc dot pX pK
  rw [Finset.sum_mul, Finset.sum_div]
  refine Finset.sum_congr rfl fun d _ => ?_
  rw [Nat.add_assoc (512 * g)]
  ring

theorem wt_eq (j t : ℕ) : wt (pX q g i) (pK k g) (pL q k g i) j t = wgt q k g (j / 512) (512 * i + j % 512) t := by
  unfold wt pL
  rw [sc_eq]
  exact pow_score q k g (j / 512) (512 * i + j % 512) t

theorem dl_eq (j : ℕ) : dl (pO q k v g i) (pD o g i) j = mean q k v o g (j / 512) (512 * i + j % 512) := by
  rw [← mean_eq]
  unfold dl pO pD
  refine Finset.sum_congr rfl fun d _ => ?_
  have hd := d.isLt
  rw [Nat.add_assoc (512 * g), show (128 * (j / 512) + d.val) / 128 = j / 512 by omega,
    show (128 * (j / 512) + d.val) % 128 = d.val by omega]

theorem gd_eq (j t : ℕ) : gd (pX q g i) (pK k g) (pV v g) (pO q k v g i) (pD o g i) (pL q k g i) j t
    = ds q k v o g (j / 512) (512 * i + j % 512) t := by
  unfold gd ds dw
  rw [wt_eq, dl_eq]
  refine congrArg (fun x : ℝ => wgt q k g (j / 512) (512 * i + j % 512) t * (x - mean q k v o g (j / 512) (512 * i + j % 512))) ?_
  unfold pD pV
  refine Finset.sum_congr rfl fun d _ => ?_
  rw [Nat.add_assoc (512 * g)]

/-- What tile `i` adds to the key gradient, and to the value gradient. -/
def addK (y0 y1 : ℕ) : ℝ := ∑ j : Fin 2048, ds q k v o g (j.val / 512) (512 * i + j.val % 512) y0
  * (q (512 * i + j.val % 512) (512 * g + 128 * (j.val / 512) + y1) * σ / Real.log 2)
def addV (y0 y1 : ℕ) : ℝ := ∑ j : Fin 2048, wgt q k g (j.val / 512) (512 * i + j.val % 512) y0
  * o (512 * i + j.val % 512) (512 * g + 128 * (j.val / 512) + y1)

theorem addK_all (y0 y1 : ℕ) : ∑ i ∈ Finset.range 16, addK q k v o g i y0 y1 = dk q k v o g y0 y1 :=
  sum_stacked fun h s => ds q k v o g h s y0 * (q s (512 * g + 128 * h + y1) * σ / Real.log 2)
theorem addV_all (y0 y1 : ℕ) : ∑ i ∈ Finset.range 16, addV q k o g i y0 y1 = dv q k o g y0 y1 :=
  sum_stacked fun h s => wgt q k g h s y0 * o s (512 * g + 128 * h + y1)

end Point

/-! ## The grid -/

section Grid
variable (m : (ℓ : Loc nD τ sig) → Buf (Elt Ideal) ℓ) (c : Dev nD) {q k v o : ℕ → ℕ → ℝ}
  (R : Reads (m ((c.tc : Thread nD τ).loc main_arg0)) (m ((c.tc : Thread nD τ).loc main_arg1)) (m ((c.tc : Thread nD τ).loc main_arg2))
    (m ((c.tc : Thread nD τ).loc main_arg3)) q k v o)
include R

theorem dqAt_at (t : Fin cfg0.N) (y : S512x512.Idx) : dqAt m c t y
    = ((dq q k v o (t.val / 16) ((y 1).val / 128) (512 * (t.val % 16) + (y 0).val) ((y 1).val % 128) : ℝ) : EReal) := by
  have hy : (y 0).val < 512 := (y 0).isLt
  refine (dqPt_at (X := pX q (t.val / 16) (t.val % 16)) (K := pK k (t.val / 16)) (V := pV v (t.val / 16))
    (O := pO q k v (t.val / 16) (t.val % 16)) (D := pD o (t.val / 16) (t.val % 16)) (L := pL q k (t.val / 16) (t.val % 16))
    (blk0_at m c R t) (blk1_at m c R t) (blk2_at m c R t) (blk3_at m c R t) (blk4_at m c R t) (blk5_at m c R t) y).trans ?_
  refine congrArg Real.toEReal ?_
  unfold dq
  refine Finset.sum_congr rfl fun s _ => ?_
  rw [gd_eq, show (512 * ((y 1).val / 128) + (y 0).val) / 512 = (y 1).val / 128 by omega,
    show (512 * ((y 1).val / 128) + (y 0).val) % 512 = (y 0).val by omega]
  rfl

/-- One point's step of the key accumulator. -/
theorem dkPt_step (t : Fin cfg0.N) {bA : Vec Ideal S8192x128 .f32} {A : ℕ → ℕ → ℝ}
    (hA : ∀ i, bA i = ((A (i 0).val (i 1).val : ℝ) : EReal)) (y : S8192x128.Idx) :
    dkPt (blk0 m c t) (blk1 m c t) (blk2 m c t) (blk3 m c t) (blk4 m c t) (blk5 m c t) bA y
      = ((A (y 0).val (y 1).val + addK q k v o (t.val / 16) (t.val % 16) (y 0).val (y 1).val : ℝ) : EReal) := by
  refine (dkPt_at (X := pX q (t.val / 16) (t.val % 16)) (K := pK k (t.val / 16)) (V := pV v (t.val / 16))
    (O := pO q k v (t.val / 16) (t.val % 16)) (D := pD o (t.val / 16) (t.val % 16)) (L := pL q k (t.val / 16) (t.val % 16))
    (blk0_at m c R t) (blk1_at m c R t) (blk2_at m c R t) (blk3_at m c R t) (blk4_at m c R t) (blk5_at m c R t) hA y).trans ?_
  refine congrArg (fun x : ℝ => ((A (y 0).val (y 1).val + x : ℝ) : EReal)) ?_
  unfold addK
  refine Finset.sum_congr rfl fun j _ => ?_
  rw [gd_eq, Nat.add_assoc (512 * (t.val / 16))]
  rfl

/-- One point's step of the value accumulator. -/
theorem dvPt_step (t : Fin cfg0.N) {bA : Vec Ideal S8192x128 .f32} {A : ℕ → ℕ → ℝ}
    (hA : ∀ i, bA i = ((A (i 0).val (i 1).val : ℝ) : EReal)) (y : S8192x128.Idx) :
    dvPt (blk0 m c t) (blk1 m c t) (blk4 m c t) (blk5 m c t) bA y
      = ((A (y 0).val (y 1).val + addV q k o (t.val / 16) (t.val % 16) (y 0).val (y 1).val : ℝ) : EReal) := by
  refine (dvPt_at (X := pX q (t.val / 16) (t.val % 16)) (K := pK k (t.val / 16))
    (D := pD o (t.val / 16) (t.val % 16)) (L := pL q k (t.val / 16) (t.val % 16))
    (blk0_at m c R t) (blk1_at m c R t) (blk4_at m c R t) (blk5_at m c R t) hA y).trans ?_
  refine congrArg (fun x : ℝ => ((A (y 0).val (y 1).val + x : ℝ) : EReal)) ?_
  unfold addV
  refine Finset.sum_congr rfl fun j _ => ?_
  rw [wt_eq, Nat.add_assoc (512 * (t.val / 16))]
  rfl

theorem dkN_at (n : ℕ) : ∀ (hn : n < cfg0.N) (y : S8192x128.Idx), dkN m c n y
    = ((∑ i ∈ Finset.range (n % 16 + 1), addK q k v o (n / 16) i (y 0).val (y 1).val : ℝ) : EReal) := by
  induction n with
  | zero =>
    intro hn y
    refine (congrFun (dkN_step m c ⟨0, hn⟩ (k0_pay38 (F := Ideal)) (fun h => absurd rfl h)) y).symm.trans ?_
    refine (dkPt_step m c R ⟨0, hn⟩ (A := fun _ _ => 0) (fun i => ?_) y).trans ?_
    · unfold from0
      rw [if_pos ((isFirst_iff ⟨0, hn⟩).mpr rfl)]
      exact pay38_at i
    · rw [Finset.sum_range_succ]
      rfl
  | succ n ih =>
    intro hn y
    have ih' := ih (Nat.lt_of_succ_lt hn)
    refine (congrFun (dkN_step m c ⟨n + 1, hn⟩ (dkN m c n) (fun _ => rfl)) y).symm.trans ?_
    by_cases h : (n + 1) % 16 = 0
    · refine (dkPt_step m c R ⟨n + 1, hn⟩ (A := fun _ _ => 0) (fun i => ?_) y).trans ?_
      · unfold from0
        rw [if_pos ((isFirst_iff ⟨n + 1, hn⟩).mpr h)]
        exact pay38_at i
      · rw [h, Finset.sum_range_succ, Finset.sum_range_zero]
    · refine (dkPt_step m c R ⟨n + 1, hn⟩
        (A := fun y0 y1 => ∑ i ∈ Finset.range (n % 16 + 1), addK q k v o (n / 16) i y0 y1) (fun i => ?_) y).trans ?_
      · unfold from0
        rw [if_neg (fun h' => h ((isFirst_iff ⟨n + 1, hn⟩).mp h'))]
        exact ih' i
      · show ((_ + addK q k v o ((n + 1) / 16) ((n + 1) % 16) (y 0).val (y 1).val : ℝ) : EReal) = _
        rw [show (n + 1) / 16 = n / 16 by omega, show (n + 1) % 16 = n % 16 + 1 by omega,
          Finset.sum_range_succ (fun i => addK q k v o (n / 16) i (y 0).val (y 1).val) (n % 16 + 1)]

theorem dvN_at (n : ℕ) : ∀ (hn : n < cfg0.N) (y : S8192x128.Idx), dvN m c n y
    = ((∑ i ∈ Finset.range (n % 16 + 1), addV q k o (n / 16) i (y 0).val (y 1).val : ℝ) : EReal) := by
  induction n with
  | zero =>
    intro hn y
    refine (congrFun (dvN_step m c ⟨0, hn⟩ (k0_pay39 (F := Ideal)) (fun h => absurd rfl h)) y).symm.trans ?_
    refine (dvPt_step m c R ⟨0, hn⟩ (A := fun _ _ => 0) (fun i => ?_) y).trans ?_
    · unfold from0
      rw [if_pos ((isFirst_iff ⟨0, hn⟩).mpr rfl)]
      exact pay39_at i
    · rw [Finset.sum_range_succ]
      rfl
  | succ n ih =>
    intro hn y
    have ih' := ih (Nat.lt_of_succ_lt hn)
    refine (congrFun (dvN_step m c ⟨n + 1, hn⟩ (dvN m c n) (fun _ => rfl)) y).symm.trans ?_
    by_cases h : (n + 1) % 16 = 0
    · refine (dvPt_step m c R ⟨n + 1, hn⟩ (A := fun _ _ => 0) (fun i => ?_) y).trans ?_
      · unfold from0
        rw [if_pos ((isFirst_iff ⟨n + 1, hn⟩).mpr h)]
        exact pay39_at i
      · rw [h, Finset.sum_range_succ, Finset.sum_range_zero]
    · refine (dvPt_step m c R ⟨n + 1, hn⟩
        (A := fun y0 y1 => ∑ i ∈ Finset.range (n % 16 + 1), addV q k o (n / 16) i y0 y1) (fun i => ?_) y).trans ?_
      · unfold from0
        rw [if_neg (fun h' => h ((isFirst_iff ⟨n + 1, hn⟩).mp h'))]
        exact ih' i
      · show ((_ + addV q k o ((n + 1) / 16) ((n + 1) % 16) (y 0).val (y 1).val : ℝ) : EReal) = _
        rw [show (n + 1) / 16 = n / 16 by omega, show (n + 1) % 16 = n % 16 + 1 by omega,
          Finset.sum_range_succ (fun i => addV q k o (n / 16) i (y 0).val (y 1).val) (n % 16 + 1)]

/-- A group's last point leaves the whole key gradient. -/
theorem dkN_last (t : Fin cfg0.N) (h : t.val % 16 = 15) (y : S8192x128.Idx) :
    dkN m c t.val y = ((dk q k v o (t.val / 16) (y 0).val (y 1).val : ℝ) : EReal) := by
  rw [dkN_at m c R t.val t.isLt, h, addK_all]
/-- And the whole value gradient. -/
theorem dvN_last (t : Fin cfg0.N) (h : t.val % 16 = 15) (y : S8192x128.Idx) :
    dvN m c t.val y = ((dv q k o (t.val / 16) (y 0).val (y 1).val : ℝ) : EReal) := by
  rw [dvN_at m c R t.val t.isLt, h, addV_all]

end Grid

end Cert.GridValue
-- ==== Proof.ArrValue.lean ====
/-
  The kernel's three results over the extended reals, from arguments that are numbers, as the reference's own values.
-/
module

public import proofs.«01_k».proof.Proof.GridValue

@[expose] public section

set_option maxRecDepth 16384

noncomputable section

namespace Cert.ArrValue

open Cert.KernelIdeal Cert.KernelIdeal.Gen Cert.KernelIdeal.Hand Cert.Model Cert.RefValue Cert.BlockValue Cert.GridValue Cert.HostValue
open Cert.ReferenceIdeal.Read (val_main_v70 val_main_v73 val_main_v77)
open Idealize.ShloMosaic Idealize.ShloMosaic.TcCoe

theorem pay2_at (A : Vec Ideal S8192x128 .f32) (y : S8192x128.Idx) : k0_pay2 A y = A y := rfl

variable (m : (ℓ : Loc nD τ sig) → Buf (Elt Ideal) ℓ) (c : Dev nD) {q k v o : ℕ → ℕ → ℝ}
  (R : Reads (m ((c.tc : Thread nD τ).loc main_arg0)) (m ((c.tc : Thread nD τ).loc main_arg1)) (m ((c.tc : Thread nD τ).loc main_arg2))
    (m ((c.tc : Thread nD τ).loc main_arg3)) q k v o)
include R

/-- The query gradient. -/
theorem arr6 : (dats m 0 c).arrAt 6 cfg0.N = val_main_v70 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  refine (dqAt_at m c R t y).trans (Eq.symm ((rd70 R _).trans ?_))
  have hy0 : (y 0).val < 512 := (y 0).isLt
  have hy1 : (y 1).val < 512 := (y 1).isLt
  have e0 : ((((cfg0.win 6).blk t).view.emb y) 0).val = 512 * (t.val % 16) + (y 0).val := by
    blk_simp [index6 t]; omega
  have e1 : ((((cfg0.win 6).blk t).view.emb y) 1).val = 512 * (t.val / 16) + (y 1).val := by
    blk_simp [index6 t]; omega
  refine (congrArg₂ (fun a b : ℕ => ((dq q k v o (b / 512) (b / 128 % 4) a (b % 128) : ℝ) : EReal)) e0 e1).trans ?_
  rw [show (512 * (t.val / 16) + (y 1).val) / 512 = t.val / 16 by omega,
    show (512 * (t.val / 16) + (y 1).val) / 128 % 4 = (y 1).val / 128 by omega,
    show (512 * (t.val / 16) + (y 1).val) % 128 = (y 1).val % 128 by omega]

/-- The key gradient. -/
theorem arr7 : (dats m 0 c).arrAt 7 cfg0.N = val_main_v73 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7]
  refine (dkN_last m c R t ((flush0_7 t).mp hf) y).trans (Eq.symm ((rd73 R _).trans ?_))
  have hy1 : (y 1).val < 128 := (y 1).isLt
  have e0 : ((((cfg0.win 7).blk t).view.emb y) 0).val = (y 0).val := by
    blk_simp [index7 t]
  have e1 : ((((cfg0.win 7).blk t).view.emb y) 1).val = 128 * (t.val / 16) + (y 1).val := by
    blk_simp [index7 t]; omega
  refine (congrArg₂ (fun a b : ℕ => ((dk q k v o (b / 128) a (b % 128) : ℝ) : EReal)) e0 e1).trans ?_
  rw [show (128 * (t.val / 16) + (y 1).val) / 128 = t.val / 16 by omega,
    show (128 * (t.val / 16) + (y 1).val) % 128 = (y 1).val by omega]

/-- The value gradient, in its columns of the array it is put into. -/
theorem arr8 : (dats m 0 c).arrAt 8 cfg0.N = val_main_v77 (F := Ideal) (m ((c.tc : Thread nD τ).loc main_arg0))
    (m ((c.tc : Thread nD τ).loc main_arg1)) (m ((c.tc : Thread nD τ).loc main_arg3)) (m ((c.tc : Thread nD τ).loc main_arg4)) := by
  refine ((dats m 0 c).arrAt_eq_of_coversWhere 8
    (fun i : S8192x9216.Idx => ((dv q k o (((i 1).val - 4608) / 128) (i 0).val (((i 1).val - 4608) % 128) : ℝ) : EReal))
    (P := fun i : S8192x9216.Idx => 4608 ≤ (i 1).val ∧ (i 1).val < 5120)
    (fun β => 36 ≤ β (1 : Fin 2) ∧ β (1 : Fin 2) < 40) (by decide +kernel) (fun t hf y => ?_) (fun j => ?_)).trans ?_
  · blk_simp
    rw [after0_8]
    refine (pay2_at (dvN m c t.val) y).trans ?_
    refine (dvN_last m c R t ((flush0_8 t).mp hf) y).trans ?_
    have hy1 : (y 1).val < 128 := (y 1).isLt
    have i0 : win0_8.index t 0 = 0 := congrFun (index8 t) 0
    have i1 : win0_8.index t 1 = 36 + t.val / 16 := congrFun (index8 t) 1
    rw [i0, i1, show ((36 + t.val / 16) * 128 + (y 1).val - 4608) / 128 = t.val / 16 by omega,
      show ((36 + t.val / 16) * 128 + (y 1).val - 4608) % 128 = (y 1).val by omega, Nat.zero_mul, Nat.zero_add]
  · show (4608 ≤ (j (1 : Fin 2)).val ∧ (j (1 : Fin 2)).val < 5120) ↔ (36 ≤ (j (1 : Fin 2)).val / 128 ∧ (j (1 : Fin 2)).val / 128 < 40)
    omega
  · funext i
    refine Eq.trans ?_ (rd77 _ R i).symm
    rw [A_eq]
    have e : V m c (Pipeline.arrRef spec0 8) = m ((c.tc : Thread nD τ).loc main_arg4) := read_v36_2 m c
    rw [e]

end Cert.ArrValue
-- ==== Proof.Finite.lean ====
/-
  The precondition, read: the queries, the keys, the values' columns and the cotangent hold numbers.
-/
module

public import proofs.«01_k».proof.Defs
public import proofs.«01_k».proof.Proof.RefValue
public import Idealize.ShloMosaic.Lib.ReduceAll
public import Idealize.ShloMosaic.Lib.Affine

@[expose] public section

set_option maxRecDepth 16384

noncomputable section

namespace Cert.Finite

open Cert.Model Cert.RefValue
open Idealize.ShloMosaic Idealize.ShloMosaic.TcCoe

instance preFacts : Cert.Pre_finite.Facts where
  slices_S8192x9216_S8192x512_0_4608 := by decide
  bcast_S_S8192x2048 := by decide
  reducesTo_S8192x2048_S_d0_1 := by decide
  h_S_ := by decide
  bcast_S_S8192x512 := by decide
  reducesTo_S8192x512_S_d0_1 := by decide

instance scalarIdx : Subsingleton Cert.Pre_finite.S_.Idx := ⟨fun a b => funext fun x => x.elim0⟩

/-- An extended real whose absolute value is below `⊤` is a number. -/
theorem number_of_abs {x : EReal} (h : max x (-x) < ⊤) : ((x.toReal : ℝ) : EReal) = x := by
  refine EReal.coe_toReal (fun e => ?_) (fun e => ?_)
  · rw [e] at h; exact absurd h (by simp)
  · rw [e] at h; exact absurd h (by simp)

theorem number_of_cmp {x b : EReal} (hb : b = ⊤) (h : Ideal.cmp .olt (max x (-x)) b = 1#1) : ((x.toReal : ℝ) : EReal) = x := by
  refine number_of_abs ?_
  unfold Ideal.cmp at h
  by_contra hn
  rw [hb] at h
  simp only [hn, decide_false] at h
  exact absurd h (by decide)

section Arrays
variable {s : Shape} (hb : Cert.Pre_finite.S_.BroadcastsInDim s (![] : Fin 0 → Fin s.rank)) {axes : List (Fin s.rank)}
  (hr : s.ReducesTo axes Cert.Pre_finite.S_) (hu : 0 < Cert.Pre_finite.S_.numel) (j : Cert.Pre_finite.S_.Idx)

theorem numbers32 (x : FVec Ideal s .f32)
    (h : Host.reduce IntOp.andi (cmpf .olt (Host.absf x) (broadcastInDim s ![] hb (constant Cert.Pre_finite.S_ .f32 0x7F800000#32)))
      (constantI Cert.Pre_finite.S_ 1 1#1) hr hu j = 1#1) (i : s.Idx) : (((x i : EReal).toReal : ℝ) : EReal) = x i :=
  number_of_cmp bits_top (Host.reduce_andi_all _ _ hr hu j h i)

theorem numbers16 (x : FVec Ideal s .bf16)
    (h : Host.reduce IntOp.andi (cmpf .olt (Host.absf x) (broadcastInDim s ![] hb (constant Cert.Pre_finite.S_ .bf16 0x7F80#16)))
      (constantI Cert.Pre_finite.S_ 1 1#1) hr hu j = 1#1) (i : s.Idx) : (((x i : EReal).toReal : ℝ) : EReal) = x i :=
  number_of_cmp bits_top16 (Host.reduce_andi_all _ _ hr hu j h i)

end Arrays

/-- A rank-two array of 8192 rows as a function of natural numbers. -/
def rows {n : ℕ} (x : (⟨2, ![8192, n]⟩ : Shape).Idx → EReal) (a b : ℕ) : ℝ :=
  if h : a < 8192 ∧ b < n then (x (ValueIdx.ix2 (n0 := 8192) (n1 := n) ⟨a, h.1⟩ ⟨b, h.2⟩)).toReal else 0

theorem rows_at {n : ℕ} (x : (⟨2, ![8192, n]⟩ : Shape).Idx → EReal) (i : (⟨2, ![8192, n]⟩ : Shape).Idx) :
    rows x (i 0).val (i 1).val = (x i).toReal := by
  have h0 : (i 0).val < 8192 := (i 0).isLt
  have h1 : (i 1).val < n := (i 1).isLt
  unfold rows
  rw [dif_pos ⟨h0, h1⟩]
  refine congrArg (fun z => (x z).toReal) (funext fun a => Fin.ext ?_)
  match a with
  | ⟨0, _⟩ => rfl
  | ⟨1, _⟩ => rfl

theorem reads_of (x0 : FVec Ideal Cert.Pre_finite.S8192x2048 .f32) (x1 : FVec Ideal Cert.Pre_finite.S8192x512 .f32)
    (x2 : FVec Ideal Cert.Pre_finite.S8192x9216 .bf16) (x3 : FVec Ideal Cert.Pre_finite.S8192x2048 .bf16)
    (x4 : FVec Ideal Cert.Pre_finite.S8192x9216 .bf16) (h : Cert.Pre_finite.fn (F := Ideal) x0 x1 x2 x3 x4 = fun _ => 1#1) :
    Reads x0 x1 x2 x3 (rows x0) (rows x1)
      (rows (extractStridedSlice Cert.Pre_finite.S8192x512 ![0, 4608] x2 Cert.Pre_finite.Facts.slices_S8192x9216_S8192x512_0_4608)) (rows x3) := by
  have h' := congrFun h (fun a => a.elim0)
  unfold Cert.Pre_finite.fn Cert.Pre_finite.fn_part1 at h'
  obtain ⟨h123, h4⟩ := IntOp.andi_eq_one.mp h'
  obtain ⟨h12, h3⟩ := IntOp.andi_eq_one.mp h123
  obtain ⟨h1, h2⟩ := IntOp.andi_eq_one.mp h12
  refine ⟨fun i => ?_, fun i => ?_, fun i => ?_, fun i => ?_⟩
  · rw [rows_at]; exact (numbers32 _ _ _ _ x0 h1 i).symm
  · rw [rows_at]; exact (numbers32 _ _ _ _ x1 h2 i).symm
  · rw [rows_at]
    refine Eq.trans ?_ (numbers16 _ _ _ _ _ h3 i).symm
    exact (extractStridedSlice_apply ![0, 4608] x2 Cert.Pre_finite.Facts.slices_S8192x9216_S8192x512_0_4608 i
      (Cert.ReferenceIdeal.Read.idx_main_v0 i) (fun a => match a with
        | ⟨0, _⟩ => (Nat.zero_add _).symm
        | ⟨1, _⟩ => rfl)).symm
  · rw [rows_at]; exact (numbers16 _ _ _ _ x3 h4 i).symm

end Cert.Finite
-- ==== Proof.Algebra.lean ====
/-
  The value claim: over the extended reals, from numbers, the kernel and the reference end with the same three gradients.
-/
module

public import proofs.«01_k».proof.Proof.ArrValue
public import proofs.«01_k».proof.Proof.Finite
public import proofs.«01_k».proof.Proof.Frames

@[expose] public section

set_option maxRecDepth 16384

noncomputable section

namespace Cert.Algebra

open Idealize.ShloMosaic Idealize.ShloMosaic.TcCoe Idealize.SL.Sem
open Cert.ReferenceIdeal.Read (val_main_v70 val_main_v73 val_main_v77 val_main_v70_eq val_main_v73_eq val_main_v77_eq)

section Kernel
open Cert.KernelIdeal Cert.KernelIdeal.Gen Cert.KernelIdeal.Hand
variable (m : (ℓ : Loc nD τ sig) → Buf (Elt Ideal) ℓ) (ρ : Dev nD → PrngReg)

/-- The kernel's run, its results named. -/
theorem kernel_run (h : Cert.Pre_KernelIdeal_finite m) :
    θ_run defs (onTc (τ := τ) (main (F := Ideal))) ⟨m, fun _ => 0, ρ⟩ (fun r => ∀ c : Dev nD,
      r.2.mem ((c.tc : Thread nD τ).loc main_v36_0) = val_main_v70 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v36_1) = val_main_v73 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v36_2) = val_main_v77 (F := Ideal) (m ((c.tc : Thread nD τ).loc main_arg0))
        (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => by
    have R := Cert.Finite.reads_of _ _ _ _ _ (h c)
    exact ⟨((hr.1 c).1 6).trans (Cert.ArrValue.arr6 m c R), ((hr.1 c).1 7).trans (Cert.ArrValue.arr7 m c R),
      ((hr.1 c).1 8).trans (Cert.ArrValue.arr8 m c R),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).1 2).trans (((dats m 0 c).arrAt_in 2 rfl _).trans ((A_eq m c 2).trans (V_main_arg2 m c))),
      ((hr.1 c).1 4).trans (((dats m 0 c).arrAt_in 4 rfl _).trans ((A_eq m c 4).trans (V_main_arg3 m c))),
      ((hr.1 c).2 main_arg4 (Pipeline.mem_restRefs_of main_arg4 (by decide) (by decide))).trans (V_main_arg4 m c)⟩) (run_main m ρ)

end Kernel

theorem algebraic : Cert.algebraic_KernelIdeal_ReferenceIdeal_pre_finite (hKernelIdeal := Cert.KernelIdeal.Gen.facts)
    (hReferenceIdeal := Cert.ReferenceIdeal.Gen.facts) (hPre_finite := Cert.Finite.preFacts) := by
  intro m g m' g' h hin
  refine ⟨_, _, _, kernel_run m g h, ?_⟩
  refine (θ_run Cert.ReferenceIdeal.defs _ _).mono (fun r hr c => ?_) (Cert.ReferenceIdeal.Value.run m' g')
  obtain ⟨i0, i1, i2, i3, i4⟩ := hin c
  obtain ⟨h0, h1, h2, hrest⟩ := hr c
  refine ⟨h0.trans ?_, h1.trans ?_, h2.trans ?_, hrest⟩
  · rw [val_main_v70_eq, i0, i1, i2, i3]
  · rw [val_main_v73_eq, i0, i1, i2, i3]
  · refine (val_main_v77_eq _ _ _ _).trans ?_
    rw [i0, i1, i3, i4]

theorem frame_ideal_finite : Cert.quiescent_KernelIdeal_pre_finite (hKernelIdeal := Cert.KernelIdeal.Gen.facts)
    (hPre_finite := Cert.Finite.preFacts) := fun m g _ => Cert.Frames.frame_ideal m g trivial
theorem frame_reference_finite : Cert.quiescent_ReferenceIdeal_pre_finite (hReferenceIdeal := Cert.ReferenceIdeal.Gen.facts)
    (hPre_finite := Cert.Finite.preFacts) := fun m g _ => Cert.Frames.frame_reference m g trivial

end Cert.Algebra

end
-- ==== Proof.Product.lean ====
/-
  What the kernel's tiled matrix products have in common: buffers stored and loaded whole, a product of two blocks at an
  index, and a sum gathered one tile of its terms at a time.
-/
module

public import proofs.«01_k».proof.Proof.Gen.KernelW1Ideal
public import proofs.«01_k».proof.Proof.Gen.KernelH1Ideal
public import proofs.«01_k».proof.Proof.Gen.KernelAIdeal
public import Idealize.ShloMosaic.Lib.Writes
public import Idealize.ShloMosaic.Lib.WholeRead
public import Idealize.ShloMosaic.Lib.Pipeline.Value
public import Idealize.ShloMosaic.Lib.Pipeline.ValueKit
public import Idealize.ShloMosaic.Lib.ValueIdx
public import Idealize.ShloMosaic.PureOps.Ideal.Laws

@[expose] public section

set_option maxRecDepth 16384

noncomputable section

namespace Cert.Product

open Idealize.ShloMosaic Idealize.ShloMosaic.ValueIdx Idealize.ShloMosaic.TcCoe

/-! ## Buffers stored and loaded whole -/

section Whole
variable {sig : RefSig} {Val : EltTy → Type} [∀ e, Nonempty (Val e)] {κ : Kind} {sp : Space} {S : Shape} {e : EltTy}
  {off : Fin S.rank → ℕ} (hz : off = fun _ => 0)
include hz

/-- Reading a buffer that one store has filled gives what was stored. -/
theorem read_stored (v : View sig κ sp S e) (f : v.ty.Contents Val) (w : S.Idx → Val e) (inb : ∀ a, off a + S.size a ≤ S.size a) :
    v.read Val (v.writes Val f [⟨Rect.unit (s := S) off S.size inb, w⟩]) = w := by
  rw [View.read_writes_eq_canon _ _ _ (fun y => ⟨_, .head _, View.mem_set_unit_zero hz inb y⟩)]
  exact View.canon_unit_zero hz inb w

/-- Loading all of a buffer that holds `X` gives `X`. -/
theorem load_whole {m : Memref sig κ sp S e} (h : m.IsWhole) (X : S.Idx → Val e) (inb : ∀ a, off a + S.size a ≤ S.size a) :
    m.view.readAt Val (Rect.unit (s := S) off S.size inb).toLoadRect (h.unread X) = X :=
  (congrArg (fun Y => View.ld Y (Rect.unit (s := S) off S.size inb)) (h.read_unread X)).trans (View.ld_unit_zero hz inb X)

/-- Loading some of a buffer that one store has filled gives those elements of what was stored. -/
theorem load_stored (v : View sig κ sp S e) (w : S.Idx → Val e) (inb : ∀ a, off a + S.size a ≤ S.size a) (B : LoadRect S)
    (x : B.shape.Idx) : v.readCov [⟨Rect.unit (s := S) off S.size inb, w⟩] B x = w (B.idx x) :=
  (congrFun (View.readCov_eq_canon' v _ B) x).trans (congrFun (View.canon_unit_zero hz inb w) (B.idx x))

end Whole

theorem zero2 : (![0, 0] : Fin 2 → ℕ) = fun _ => 0 := by decide
theorem zero3 : (![0, 0, 0] : Fin 3 → ℕ) = fun _ => 0 := by decide

/-! ## An array as a function of plain numbers -/

/-- The element in row `i` and column `j`. -/
def el2 {M N : ℕ} (X : (⟨2, ![M, N]⟩ : Shape).Idx → EReal) (i j : ℕ) : EReal :=
  if h : i < M ∧ j < N then X (ValueIdx.ix2 (n0 := M) (n1 := N) ⟨i, h.1⟩ ⟨j, h.2⟩) else 0

theorem el2_eq {M N : ℕ} (X : (⟨2, ![M, N]⟩ : Shape).Idx → EReal) (x : (⟨2, ![M, N]⟩ : Shape).Idx) :
    X x = el2 X (x 0).val (x 1).val := by
  unfold el2
  rw [dif_pos ⟨(x 0).isLt, (x 1).isLt⟩]
  refine congrArg X (funext fun a => ?_)
  match a with
  | ⟨0, _⟩ => rfl
  | ⟨1, _⟩ => rfl

/-- The element in row `i` and column `j` of slab `p`. -/
def el3 {P M N : ℕ} (X : (⟨3, ![P, M, N]⟩ : Shape).Idx → EReal) (p i j : ℕ) : EReal :=
  if h : p < P ∧ i < M ∧ j < N then X (ValueIdx.ix3 (n0 := P) (n1 := M) (n2 := N) ⟨p, h.1⟩ ⟨i, h.2.1⟩ ⟨j, h.2.2⟩) else 0

theorem el3_eq {P M N : ℕ} (X : (⟨3, ![P, M, N]⟩ : Shape).Idx → EReal) (x : (⟨3, ![P, M, N]⟩ : Shape).Idx) :
    X x = el3 X (x 0).val (x 1).val (x 2).val := by
  unfold el3
  rw [dif_pos ⟨(x 0).isLt, (x 1).isLt, (x 2).isLt⟩]
  refine congrArg X (funext fun a => ?_)
  match a with
  | ⟨0, _⟩ => rfl
  | ⟨1, _⟩ => rfl
  | ⟨2, _⟩ => rfl

theorem el3_congr {P M N : ℕ} (X : (⟨3, ![P, M, N]⟩ : Shape).Idx → EReal) {p p' i i' j j' : ℕ} (hp : p = p') (hi : i = i') (hj : j = j') :
    el3 X p i j = el3 X p' i' j' := by
  rw [hp, hi, hj]

theorem zero_bf16 : Ideal.ofBits .bf16 0x0000#16 = 0 := by simp [Ideal.ofBits, Ideal.ieee]

/-! ## A slab's shape -/

/-- A block given a leading axis of size one. -/
theorem slab_at {α : Type} {M N : ℕ} (v : (⟨2, ![M, N]⟩ : Shape).Idx → α)
    (h : (⟨2, ![M, N]⟩ : Shape).ShapeCasts ⟨3, ![1, M, N]⟩) (x : (⟨3, ![1, M, N]⟩ : Shape).Idx) :
    shapeCast ⟨3, ![1, M, N]⟩ v h x = v (ValueIdx.ix2 (n0 := M) (n1 := N) (x 1) (x 2)) := by
  refine shapeCast_apply v h x (ValueIdx.ix2 (n0 := M) (n1 := N) (x 1) (x 2)) ?_
  rw [Shape.rowMajor_val_two (d := ![M, N]), Shape.rowMajor_val_three (d := ![1, M, N])]
  have h0 : (x 0).val < 1 := (x 0).isLt
  show (x 1).val * N + (x 2).val = ((x 0).val * M + (x 1).val) * N + (x 2).val
  rw [show (x 0).val = 0 by omega, Nat.zero_mul, Nat.zero_add]

/-- A block whose leading axis of size one is taken away. -/
theorem unslab_at {α : Type} {M N : ℕ} (v : (⟨3, ![1, M, N]⟩ : Shape).Idx → α)
    (h : (⟨3, ![1, M, N]⟩ : Shape).ShapeCasts ⟨2, ![M, N]⟩) (x : (⟨2, ![M, N]⟩ : Shape).Idx) :
    shapeCast ⟨2, ![M, N]⟩ v h x = v (ValueIdx.ix3 (n0 := 1) (n1 := M) (n2 := N) 0 (x 0) (x 1)) := by
  refine shapeCast_apply v h x (ValueIdx.ix3 (n0 := 1) (n1 := M) (n2 := N) 0 (x 0) (x 1)) ?_
  rw [Shape.rowMajor_val_two (d := ![M, N]), Shape.rowMajor_val_three (d := ![1, M, N])]
  show (0 * M + (x 0).val) * N + (x 1).val = (x 0).val * N + (x 1).val
  rw [Nat.zero_mul, Nat.zero_add]

/-! ## A sum gathered tile by tile -/

/-- The first `n + 1` tiles of `K` terms are the first `n` and one more. -/
theorem sum_tile (g : ℕ → EReal) (K n : ℕ) :
    ∑ s ∈ Finset.range (K * (n + 1)), g s = ∑ s ∈ Finset.range (K * n), g s + ∑ k : Fin K, g (K * n + k.val) := by
  rw [Nat.mul_succ, Finset.sum_range_add, Finset.sum_range (fun k => g (K * n + k))]

/-- An accumulator that takes a tile's terms at each of a sweep's `P` points, the first point over what was there and
    the others on top of it, holds after a point the terms of the sweep's tiles so far. -/
theorem accumulated {N K P : ℕ} (acc : (n : ℕ) → n < N → EReal) (g : ℕ → ℕ → EReal)
    (first : ∀ n hn, n % P = 0 → acc n hn = ∑ k : Fin K, g (n / P) k.val)
    (next : ∀ n hn, n % P ≠ 0 → acc n hn
      = acc (n - 1) (Nat.lt_of_le_of_lt (Nat.sub_le _ _) hn) + ∑ k : Fin K, g (n / P) (K * (n % P) + k.val)) :
    ∀ n hn, acc n hn = ∑ s ∈ Finset.range (K * (n % P + 1)), g (n / P) s := by
  intro n
  induction n with
  | zero =>
    intro hn
    rw [first 0 hn (Nat.zero_mod P), Nat.zero_mod, Nat.zero_add, Nat.mul_one, Finset.sum_range]
  | succ n ih =>
    intro hn
    by_cases h : (n + 1) % P = 0
    · rw [first _ hn h, h, Nat.zero_add, Nat.mul_one, Finset.sum_range]
    · have hd : n / P = (n + 1) / P := by
        rw [Nat.succ_div, if_neg (fun hd => h (Nat.mod_eq_zero_of_dvd hd)), Nat.add_zero]
      have hm : n % P + 1 = (n + 1) % P := by
        have e1 := Nat.div_add_mod n P
        have e2 := Nat.div_add_mod (n + 1) P
        rw [hd] at e1
        omega
      rw [next _ hn h, sum_tile]
      refine congrArg (· + _) ((ih (Nat.lt_of_succ_lt hn)).trans ?_)
      rw [hd, hm]

/-! ## A product of two blocks at an index -/

/-- A product, each operand read where its index says. -/
theorem mm_at {s1 s2 s3 : Shape} (d : DotDims s1 s2 s3) (n : ℕ) (h : d.contr.rank = 1) (hn : d.contr.size ⟨0, by rw [h]; decide⟩ = n)
    (A : FVec Ideal s1 .bf16) (B : FVec Ideal s2 .bf16) (j : s3.Idx) (l : Fin n → s1.Idx) (r : Fin n → s2.Idx)
    (hl : ∀ t, d.lhsIdx j ((contrEquiv1 d n h hn).symm t) = l t) (hr : ∀ t, d.rhsIdx j ((contrEquiv1 d n h hn).symm t) = r t) :
    matmul (F := Ideal) d none A B (constant s3 .f32 0x00000000#32) j = ∑ t : Fin n, HMul.hMul (α := EReal) (β := EReal) (γ := EReal) (A (l t)) (B (r t)) := by
  refine (Ideal.matmul_constant_zero_apply (φ₁ := .bf16) (φ₂ := .bf16) d none A B j).trans ?_
  rw [← Equiv.sum_comp (contrEquiv1 d n h hn).symm]
  exact Finset.sum_congr rfl fun t _ => by rw [hl, hr]

section Ta
open Cert.KernelW1Ideal

/-- Both operands contracted along their rows. -/
theorem ta_at (A B : FVec Ideal S2048x1024 .bf16) (j : S1024x1024.Idx) :
    matmul (F := Ideal) dot_S2048x1024_S2048x1024_S1024x1024_0_0_1_1_n_n none A B (constant S1024x1024 .f32 0x00000000#32) j
      = ∑ s : Fin 2048, A (ValueIdx.ix2 (n0 := 2048) (n1 := 1024) s (j 0)) * B (ValueIdx.ix2 (n0 := 2048) (n1 := 1024) s (j 1)) := by
  refine (Ideal.matmul_constant_zero_apply (φ₁ := .bf16) (φ₂ := .bf16) dot_S2048x1024_S2048x1024_S1024x1024_0_0_1_1_n_n none A B j).trans ?_
  rw [← Equiv.sum_comp (contrEquiv1 dot_S2048x1024_S2048x1024_S1024x1024_0_0_1_1_n_n 2048 rfl rfl).symm]
  refine Finset.sum_congr rfl fun t _ => ?_
  have h0 := contrEquiv1_symm_val dot_S2048x1024_S2048x1024_S1024x1024_0_0_1_1_n_n 2048 rfl rfl t
  refine congrArg₂ (HMul.hMul (α := EReal)) (congrArg A ?_) (congrArg B ?_) <;> (funext a; apply Fin.ext)
  · match a with
    | ⟨0, _⟩ => exact h0
    | ⟨1, _⟩ => rfl
  · match a with
    | ⟨0, _⟩ => exact h0
    | ⟨1, _⟩ => rfl

end Ta

section Tb
open Cert.KernelH1Ideal

/-- Both operands contracted along their columns. -/
theorem tb_at (A B : FVec Ideal S1024x2048 .bf16) (j : S1024x1024.Idx) :
    matmul (F := Ideal) dot_S1024x2048_S1024x2048_S1024x1024_1_1_0_0_n_n none A B (constant S1024x1024 .f32 0x00000000#32) j
      = ∑ s : Fin 2048, A (ValueIdx.ix2 (n0 := 1024) (n1 := 2048) (j 0) s) * B (ValueIdx.ix2 (n0 := 1024) (n1 := 2048) (j 1) s) := by
  refine (Ideal.matmul_constant_zero_apply (φ₁ := .bf16) (φ₂ := .bf16) dot_S1024x2048_S1024x2048_S1024x1024_1_1_0_0_n_n none A B j).trans ?_
  rw [← Equiv.sum_comp (contrEquiv1 dot_S1024x2048_S1024x2048_S1024x1024_1_1_0_0_n_n 2048 rfl rfl).symm]
  refine Finset.sum_congr rfl fun t _ => ?_
  have h0 := contrEquiv1_symm_val dot_S1024x2048_S1024x2048_S1024x1024_1_1_0_0_n_n 2048 rfl rfl t
  refine congrArg₂ (HMul.hMul (α := EReal)) (congrArg A ?_) (congrArg B ?_) <;> (funext a; apply Fin.ext)
  · match a with
    | ⟨0, _⟩ => rfl
    | ⟨1, _⟩ => exact h0
  · match a with
    | ⟨0, _⟩ => rfl
    | ⟨1, _⟩ => exact h0

end Tb

section TbPiece
open Cert.KernelAIdeal

/-- Some of the rows of such a product. -/
theorem tb_piece_at (A : FVec Ideal S256x2048 .bf16) (B : FVec Ideal S1024x2048 .bf16) (j : S256x1024.Idx) :
    matmul (F := Ideal) dot_S256x2048_S1024x2048_S256x1024_1_1_0_0_n_n none A B (constant S256x1024 .f32 0x00000000#32) j
      = ∑ s : Fin 2048, A (ValueIdx.ix2 (n0 := 256) (n1 := 2048) (j 0) s) * B (ValueIdx.ix2 (n0 := 1024) (n1 := 2048) (j 1) s) := by
  refine (Ideal.matmul_constant_zero_apply (φ₁ := .bf16) (φ₂ := .bf16) dot_S256x2048_S1024x2048_S256x1024_1_1_0_0_n_n none A B j).trans ?_
  rw [← Equiv.sum_comp (contrEquiv1 dot_S256x2048_S1024x2048_S256x1024_1_1_0_0_n_n 2048 rfl rfl).symm]
  refine Finset.sum_congr rfl fun t _ => ?_
  have h0 := contrEquiv1_symm_val dot_S256x2048_S1024x2048_S256x1024_1_1_0_0_n_n 2048 rfl rfl t
  refine congrArg₂ (HMul.hMul (α := EReal)) (congrArg A ?_) (congrArg B ?_) <;> (funext a; apply Fin.ext)
  · match a with
    | ⟨0, _⟩ => rfl
    | ⟨1, _⟩ => exact h0
  · match a with
    | ⟨0, _⟩ => rfl
    | ⟨1, _⟩ => exact h0

end TbPiece

end Cert.Product

end
-- ==== Proof.DW1.lean ====
/-
  The gradient of the first weight: the kernel's product, gathered over four tiles of rows, and the reference's.
-/
module

public import proofs.«01_k».proof.Proof.Product
public import proofs.«01_k».proof.Proof.Gen.KernelW1Ideal.Value
public import proofs.«01_k».proof.Proof.Gen.ReferenceW1Ideal.Read
public import proofs.«01_k».proof.Defs

@[expose] public section

set_option maxRecDepth 16384

noncomputable section

namespace Cert.DW1

open Cert.KernelW1Ideal Cert.KernelW1Ideal.Gen Cert.Product
open Idealize.ShloMosaic Idealize.ShloMosaic.TcCoe Idealize.SL.Sem

/-! ## A point's stores -/

section Stores
variable {F : FTy → Type} [FloatOps F]
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1x1024x1024 .bf16)
  (harg5 : arg5.IsWhole) (arg6 : Memref sig .tc .vmem S1024x1024 .f32) (harg6 : arg6.IsWhole)
  (x0 : Vec F S2048x1024 .bf16) (x1 : Vec F S2048x1024 .bf16) (xs0 : Vec F S1024x1024 .f32)

theorem sum_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  dsimp only
  rw [read_stored zero2, load_whole zero2, load_whole zero2]

theorem sum_next (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  dsimp only
  rw [read_stored zero2, load_whole zero2, load_whole zero2, load_whole zero2]

theorem stored_C : kernelRun0_C.sl.HS0_1 c arg3 harg3 arg4 harg4 arg6 harg6 x0 x1 xs0
    = [⟨Rect.unit (s := S1024x1024) ![0, 0] S1024x1024.size inb_S1024x1024_S1024x1024_0_0, k0_pay3 x0 x1 xs0⟩] := by
  unfold kernelRun0_C.sl.HS0_1
  rw [load_whole zero2, load_whole zero2, load_whole zero2]

theorem sum_last (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0 kernelRun0_C
  dsimp only
  rw [stored_C, read_stored zero2]

/-- The gathered sum, rounded, as a slab. -/
def rounded (v : Vec F S1024x1024 .f32) : Vec F S1x1024x1024 .bf16 := fun y =>
  FloatOps.truncf .bf16 bitsLt_bf16_f32 (v (ValueIdx.ix2 (n0 := 1024) (n1 := 1024) (y 1) (y 2)))

/-- A quarter of the slab's rows, rounded from the same rows of the sum. -/
theorem quarter_at (v : Vec F S1024x1024 .f32) (o : ℕ) (ho : o ≤ 768) (inb : ∀ a, ![o, 0] a + S256x1024.size a ≤ S1024x1024.size a)
    (inb' : ∀ a, ![0, o, 0] a + S1x256x1024.size a ≤ S1x1024x1024.size a) (x : S1x256x1024.Idx) :
    shapeCast S1x256x1024 (truncf .bf16 (fun z : S256x1024.Idx => v ((Rect.unit (s := S1024x1024) ![o, 0] S256x1024.size inb).toLoadRect.idx z))
      bitsLt_bf16_f32) shapeCasts_S256x1024_S1x256x1024 x
      = rounded v ((Rect.unit (s := S1x1024x1024) ![0, o, 0] S1x256x1024.size inb').emb x) := by
  refine (slab_at _ _ x).trans ?_
  refine congrArg (fun z => FloatOps.truncf .bf16 bitsLt_bf16_f32 (v z)) (funext fun a => ?_)
  match a with
  | ⟨0, _⟩ => rfl
  | ⟨1, _⟩ => rfl

theorem out_last (hc0 : ¬cond0_0 i) (hc1 : cond0_1 i) (hc2 : cond0_2 i) :
    out0_C_2 c i arg3 harg3 arg4 harg4 arg5 harg5 arg6 harg6 hc0 hc1 hc2 x0 x1 xs0 = rounded (k0_pay3 x0 x1 xs0) := by
  have hcov := cover0_C_2 c i arg3 harg3 arg4 harg4 arg5 harg5 arg6 harg6 hc0 hc1 hc2 x0 x1 xs0
  refine (View.read_writes_eq_canon _ _ _ hcov).trans (funext fun y => ?_)
  refine View.canon_apply_of_pieces (rounded (k0_pay3 x0 x1 xs0)) _ ?_ y (hcov y)
  have key : ∀ B : LoadRect S1024x1024,
      arg6.view.readCov (kernelRun0_C.sl.HS0_1 c arg3 harg3 arg4 harg4 arg6 harg6 x0 x1 xs0) B = fun x => k0_pay3 x0 x1 xs0 (B.idx x) :=
    fun B => funext fun x => by rw [stored_C]; exact load_stored zero2 _ _ _ B x
  unfold kernelRun0_C
  dsimp only
  intro p hp x
  simp only [List.mem_cons, List.not_mem_nil, or_false] at hp
  rcases hp with rfl | rfl | rfl | rfl
  · exact (congrArg (fun w => k0_pay7 w x) (key _)).trans (quarter_at _ 768 (by decide) _ inb_S1x1024x1024_S1x256x1024_0_768_0 x)
  · exact (congrArg (fun w => k0_pay6 w x) (key _)).trans (quarter_at _ 512 (by decide) _ inb_S1x1024x1024_S1x256x1024_0_512_0 x)
  · exact (congrArg (fun w => k0_pay5 w x) (key _)).trans (quarter_at _ 256 (by decide) _ inb_S1x1024x1024_S1x256x1024_0_256_0 x)
  · exact (congrArg (fun w => k0_pay4 w x) (key _)).trans (quarter_at _ 0 (by decide) _ inb_S1x1024x1024_S1x256x1024_0_0_0 x)

variable (m : (ℓ : Loc nD τ sig) → Buf (Elt F) ℓ)

theorem scratch_first (t : Fin cfg0.N) (h : t.val % 4 = 0) :
    (outsAt0 m c t.val t.isLt).2 = k0_pay2 (iblk m c 0 t) (iblk m c 1 t) := by
  rw [outsAt0_A m c t h (by omega) (by omega)]
  dsimp only
  rw [sum_first]

theorem scratch_next (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    rw [sum_last]
  · rw [outsAt0_B m c t h (by omega) h3]
    dsimp only
    rw [sum_next]

theorem block_last (t : Fin cfg0.N) (h3 : t.val % 4 = 3) : (outsAt0 m c t.val t.isLt).1 = rounded (outsAt0 m c t.val t.isLt).2 := by
  rw [scratch_next c m t (by omega), outsAt0_C m c t (by omega) (by omega) h3]
  dsimp only
  rw [out_last]

end Stores

/-! ## Over the extended reals -/

section Value
variable (m : (ℓ : Loc nD τ sig) → Buf (Elt Ideal) ℓ) (c : Dev nD)

theorem index0 : ∀ t : Fin cfg0.N, (cfg0.win 0).index t = ![t.val % 4, t.val / 4 / 8] := by decide +kernel
theorem index1 : ∀ t : Fin cfg0.N, (cfg0.win 1).index t = ![t.val % 4, t.val / 4 % 8] := by decide +kernel
theorem index2 : ∀ t : Fin cfg0.N, (cfg0.win 2).index t = ![t.val / 4 % 8 / 2, t.val / 4 / 8, t.val / 4 % 2] := by decide +kernel

theorem blk0_at (t : Fin cfg0.N) (x : S2048x1024.Idx) : iblk m c 0 t x
    = el2 (m ((c.tc : Thread nD τ).loc main_arg0)) (2048 * (t.val % 4) + (x 0).val) (1024 * (t.val / 4 / 8) + (x 1).val) := by
  unfold iblk
  show V m c main_arg0 (((cfg0.win 0).blk t).view.emb x) = _
  rw [V_main_arg0]
  refine (el2_eq (M := 8192) (N := 2048) _ _).trans ?_
  have e0 : ((((cfg0.win 0).blk t).view.emb x) 0).val = 2048 * (t.val % 4) + (x 0).val := by
    blk_simp [index0 t]; omega
  have e1 : ((((cfg0.win 0).blk t).view.emb x) 1).val = 1024 * (t.val / 4 / 8) + (x 1).val := by
    blk_simp [index0 t]; omega
  exact congrArg₂ (el2 _) e0 e1

theorem blk1_at (t : Fin cfg0.N) (x : S2048x1024.Idx) : iblk m c 1 t x
    = el2 (m ((c.tc : Thread nD τ).loc main_arg1)) (2048 * (t.val % 4) + (x 0).val) (1024 * (t.val / 4 % 8) + (x 1).val) := by
  unfold iblk
  show V m c main_arg1 (((cfg0.win 1).blk t).view.emb x) = _
  rw [V_main_arg1]
  refine (el2_eq (M := 8192) (N := 8192) _ _).trans ?_
  have e0 : ((((cfg0.win 1).blk t).view.emb x) 0).val = 2048 * (t.val % 4) + (x 0).val := by
    blk_simp [index1 t]; omega
  have e1 : ((((cfg0.win 1).blk t).view.emb x) 1).val = 1024 * (t.val / 4 % 8) + (x 1).val := by
    blk_simp [index1 t]; omega
  exact congrArg₂ (el2 _) e0 e1

/-- One row's term of an element of sweep `q`'s block. -/
def term (X : S8192x2048.Idx → EReal) (D : S8192x8192.Idx → EReal) (y : S1024x1024.Idx) (q s : ℕ) : EReal :=
  el2 (M := 8192) (N := 2048) X s (1024 * (q / 8) + (y 0).val) * el2 (M := 8192) (N := 8192) D s (1024 * (q % 8) + (y 1).val)

theorem product_at (t : Fin cfg0.N) (y : S1024x1024.Idx) : k0_pay1 (F := Ideal) (iblk m c 0 t) (iblk m c 1 t) y
    = ∑ k : Fin 2048, term (m ((c.tc : Thread nD τ).loc main_arg0)) (m ((c.tc : Thread nD τ).loc main_arg1)) y (t.val / 4) (2048 * (t.val % 4) + k.val) := by
  refine (ta_at (iblk m c 0 t) (iblk m c 1 t) y).trans ?_
  exact Finset.sum_congr rfl fun k _ => congrArg₂ (HMul.hMul (α := EReal)) (blk0_at m c t _) (blk1_at m c t _)

/-- What the scratch holds after a point. -/
theorem scratch_at (y : S1024x1024.Idx) : ∀ n hn, (outsAt0 m c n hn).2 y = ∑ s ∈ Finset.range (2048 * (n % 4 + 1)),
    term (m ((c.tc : Thread nD τ).loc main_arg0)) (m ((c.tc : Thread nD τ).loc main_arg1)) y (n / 4) s := by
  refine accumulated (P := 4) (fun n hn => (outsAt0 m c n hn).2 y) (term _ _ y) (fun n hn h => ?_) (fun n hn h => ?_)
  · refine (congrFun (scratch_first c m ⟨n, hn⟩ h) y).trans ?_
    unfold k0_pay2
    rw [shapeCast_self]
    refine (product_at m c ⟨n, hn⟩ y).trans ?_
    dsimp only
    rw [h, Nat.mul_zero]
    exact Finset.sum_congr rfl fun k _ => by rw [Nat.zero_add]
  · refine (congrFun (scratch_next c m ⟨n, hn⟩ h) y).trans ?_
    unfold k0_pay3
    rw [shapeCast_self]
    exact congrArg (fun z : EReal => (outsAt0 m c (n - 1) (Nat.lt_of_le_of_lt (Nat.sub_le _ _) hn)).2 y + z) (product_at m c ⟨n, hn⟩ y)

/-- The sum the call computes. -/
def total (X : S8192x2048.Idx → EReal) (D : S8192x8192.Idx → EReal) (i : S4x2048x2048.Idx) : EReal :=
  ∑ s ∈ Finset.range 8192, el2 (M := 8192) (N := 2048) X s (i 1).val * el2 (M := 8192) (N := 8192) D s (2048 * (i 0).val + (i 2).val)

theorem flush2 : ∀ t : Fin cfg0.N, (cfg0.win 2).flush t = true → t.val % 4 = 3 := by decide +kernel

theorem array_at : (dats m 0 c).arrAt 2 cfg0.N
    = total (m ((c.tc : Thread nD τ).loc main_arg0)) (m ((c.tc : Thread nD τ).loc main_arg1)) := by
  refine (dats m 0 c).arrAt_eq_of_covers 2 _ (by decide +kernel) fun t hf y => ?_
  have h3 := flush2 t hf
  blk_simp
  rw [after0_2, block_last c m t h3]
  refine (scratch_at m c _ t.val t.isLt).trans ?_
  have hy0 : (y 0).val < 1 := (y 0).isLt
  have hy1 : (y 1).val < 1024 := (y 1).isLt
  have hy2 : (y 2).val < 1024 := (y 2).isLt
  have ht : t.val < 64 := lt_of_lt_of_eq t.isLt N_0
  have e0 : ((((cfg0.win 2).blk t).view.emb y) 0).val = t.val / 4 % 8 / 2 := by
    blk_simp [index2 t]
  have e1 : ((((cfg0.win 2).blk t).view.emb y) 1).val = 1024 * (t.val / 4 / 8) + (y 1).val := by
    blk_simp [index2 t]; omega
  have e2 : ((((cfg0.win 2).blk t).view.emb y) 2).val = 1024 * (t.val / 4 % 2) + (y 2).val := by
    blk_simp [index2 t]; omega
  refine Eq.trans ?_ (congrArg₂ (fun a b : ℕ => ∑ s ∈ Finset.range 8192, el2 (m ((c.tc : Thread nD τ).loc main_arg0)) s a
    * el2 (m ((c.tc : Thread nD τ).loc main_arg1)) s b) e1 (congrArg₂ (fun a b : ℕ => 2048 * a + b) e0 e2)).symm
  unfold term
  rw [h3]
  refine Finset.sum_congr rfl fun s _ => ?_
  refine congrArg (fun a : ℕ => el2 (m ((c.tc : Thread nD τ).loc main_arg0)) s (1024 * (t.val / 4 / 8) + (y 1).val)
    * el2 (m ((c.tc : Thread nD τ).loc main_arg1)) s a) ?_
  show 1024 * (t.val / 4 % 8) + (y 2).val = _
  omega

end Value

/-! ## The reference -/

section Reference
open Cert.ReferenceW1Ideal.Read

theorem reference_at (X : S8192x2048.Idx → EReal) (D : S8192x8192.Idx → EReal) : val_main_v8 (F := Ideal) X D = total X D := by
  funext i
  rw [val_main_v8_apply]
  refine (val_main_v7_apply _ _ i).trans ((val_main_v6_apply _ _ _).trans ((val_main_v5_apply _ _ _).trans ((val_main_v4_apply _ _ _).trans ?_)))
  unfold total
  rw [Finset.sum_range]
  have h0 : (i 0).val < 4 := (i 0).isLt
  have h1 : (i 1).val < 2048 := (i 1).isLt
  have h2 : (i 2).val < 2048 := (i 2).isLt
  refine Finset.sum_congr rfl fun k _ => ?_
  rw [mul_comm]
  refine congrArg₂ (HMul.hMul (α := EReal)) ((el2_eq (M := 8192) (N := 2048) X _).trans (congrArg (el2 X _) ?_))
    ((el2_eq (M := 8192) (N := 8192) D _).trans (congrArg (el2 D _) ?_))
  · show (((i 1).val * 4 + (i 0).val) * 2048 + (i 2).val) / 8192 = _
    omega
  · show (((i 1).val * 4 + (i 0).val) * 2048 + (i 2).val) % 8192 = _
    omega

end Reference

/-- The kernel's call and the reference end with the same gradient. -/
theorem algebraic : Cert.algebraic_KernelW1Ideal_ReferenceW1Ideal (hKernelW1Ideal := Cert.KernelW1Ideal.Gen.facts)
    (hReferenceW1Ideal := Cert.ReferenceW1Ideal.Gen.facts) := by
  intro m g m' g' _ hin
  refine ⟨_, Cert.KernelW1Ideal.Value.run_blocks m g, (θ_run Cert.ReferenceW1Ideal.defs _ _).mono (fun r hr c => ?_)
    (Cert.ReferenceW1Ideal.Value.run m' g')⟩
  obtain ⟨i0, i1⟩ := hin c
  obtain ⟨h0, hrest⟩ := hr c
  refine ⟨h0.trans ?_, hrest⟩
  rw [Cert.ReferenceW1Ideal.Read.val_main_v8_eq, i0, i1]
  exact (reference_at _ _).trans (array_at m c).symm

theorem frame_reference : Cert.quiescent_ReferenceW1Ideal (hReferenceW1Ideal := Cert.ReferenceW1Ideal.Gen.facts) := fun m ρ _ =>
  (θ_run Cert.ReferenceW1Ideal.defs _ _).mono (fun r h => ⟨fun c => (h c).2, sem_eq_zero_of_no_sems (by decide) r.2⟩)
    (Cert.ReferenceW1Ideal.Value.run m ρ)

end Cert.DW1

end
-- ==== Proof.DH1.lean ====
/-
  The gradient of the first product's input: the kernel's product, gathered over the four slabs the weight is laid in, and
  the reference's.
-/
module

public import proofs.«01_k».proof.Proof.Product
public import proofs.«01_k».proof.Proof.Gen.KernelH1Ideal.Value
public import proofs.«01_k».proof.Proof.Gen.ReferenceH1Ideal.Read
public import proofs.«01_k».proof.Defs

@[expose] public section

set_option maxRecDepth 16384

noncomputable section

namespace Cert.DH1

open Cert.KernelH1Ideal Cert.KernelH1Ideal.Gen Cert.Product
open Idealize.ShloMosaic Idealize.ShloMosaic.TcCoe Idealize.SL.Sem

/-! ## A point's stores -/

section Stores
variable {F : FTy → Type} [FloatOps F]
variable (c : Dev nD) (i : grid0.Coords) (arg3 : Memref sig .tc .vmem S1024x2048 .bf16) (harg3 : arg3.IsWhole)
  (arg4 : Memref sig .tc .vmem S1x1024x2048 .bf16) (harg4 : arg4.IsWhole) (arg5 : Memref sig .tc .vmem S1024x1024 .bf16)
  (harg5 : arg5.IsWhole) (arg6 : Memref sig .tc .vmem S1024x1024 .f32) (harg6 : arg6.IsWhole)
  (x0 : Vec F S1024x2048 .bf16) (x1 : Vec F S1x1024x2048 .bf16) (xs0 : Vec F S1024x1024 .f32)

theorem sum_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  dsimp only
  rw [read_stored zero2, load_whole zero2, load_whole zero3]

theorem sum_next (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  dsimp only
  rw [read_stored zero2, load_whole zero2, load_whole zero3, load_whole zero2]

theorem stored_C : kernelRun0_C.sl.HS0_1 c arg3 harg3 arg4 harg4 arg6 harg6 x0 x1 xs0
    = [⟨Rect.unit (s := S1024x1024) ![0, 0] S1024x1024.size inb_S1024x1024_S1024x1024_0_0, k0_pay3 x0 x1 xs0⟩] := by
  unfold kernelRun0_C.sl.HS0_1
  rw [load_whole zero2, load_whole zero3, load_whole zero2]

theorem sum_last (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0 kernelRun0_C
  dsimp only
  rw [stored_C, read_stored zero2]

/-- The gathered sum, rounded. -/
def rounded (v : Vec F S1024x1024 .f32) : Vec F S1024x1024 .bf16 := fun y => FloatOps.truncf .bf16 bitsLt_bf16_f32 (v y)

theorem out_last (hc0 : ¬cond0_0 i) (hc1 : cond0_1 i) (hc2 : cond0_2 i) :
    out0_C_2 c i arg3 harg3 arg4 harg4 arg5 harg5 arg6 harg6 hc0 hc1 hc2 x0 x1 xs0 = rounded (k0_pay3 x0 x1 xs0) := by
  have hcov := cover0_C_2 c i arg3 harg3 arg4 harg4 arg5 harg5 arg6 harg6 hc0 hc1 hc2 x0 x1 xs0
  refine (View.read_writes_eq_canon _ _ _ hcov).trans (funext fun y => ?_)
  refine View.canon_apply_of_pieces (rounded (k0_pay3 x0 x1 xs0)) _ ?_ y (hcov y)
  have key : ∀ B : LoadRect S1024x1024,
      arg6.view.readCov (kernelRun0_C.sl.HS0_1 c arg3 harg3 arg4 harg4 arg6 harg6 x0 x1 xs0) B = fun x => k0_pay3 x0 x1 xs0 (B.idx x) :=
    fun B => funext fun x => by rw [stored_C]; exact load_stored zero2 _ _ _ B x
  unfold kernelRun0_C
  dsimp only
  intro p hp x
  simp only [List.mem_cons, List.not_mem_nil, or_false] at hp
  rcases hp with rfl | rfl | rfl | rfl
  · exact (congrArg (fun w => k0_pay7 w x) (key _)).trans rfl
  · exact (congrArg (fun w => k0_pay6 w x) (key _)).trans rfl
  · exact (congrArg (fun w => k0_pay5 w x) (key _)).trans rfl
  · exact (congrArg (fun w => k0_pay4 w x) (key _)).trans rfl

variable (m : (ℓ : Loc nD τ sig) → Buf (Elt F) ℓ)

theorem scratch_first (t : Fin cfg0.N) (h : t.val % 4 = 0) :
    (outsAt0 m c t.val t.isLt).2 = k0_pay2 (iblk m c 0 t) (iblk m c 1 t) := by
  rw [outsAt0_A m c t h (by omega) (by omega)]
  dsimp only
  rw [sum_first]

theorem scratch_next (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    rw [sum_last]
  · rw [outsAt0_B m c t h (by omega) h3]
    dsimp only
    rw [sum_next]

theorem block_last (t : Fin cfg0.N) (h3 : t.val % 4 = 3) : (outsAt0 m c t.val t.isLt).1 = rounded (outsAt0 m c t.val t.isLt).2 := by
  rw [scratch_next c m t (by omega), outsAt0_C m c t (by omega) (by omega) h3]
  dsimp only
  rw [out_last]

end Stores

/-! ## Over the extended reals -/

section Value
variable (m : (ℓ : Loc nD τ sig) → Buf (Elt Ideal) ℓ) (c : Dev nD)

theorem index0 : ∀ t : Fin cfg0.N, (cfg0.win 0).index t = ![t.val / 4 / 2, t.val % 4] := by decide +kernel
theorem index1 : ∀ t : Fin cfg0.N, (cfg0.win 1).index t = ![t.val % 4, t.val / 4 % 2, 0] := by decide +kernel
theorem index2 : ∀ t : Fin cfg0.N, (cfg0.win 2).index t = ![t.val / 4 / 2, t.val / 4 % 2] := by decide +kernel

theorem blk0_at (t : Fin cfg0.N) (x : S1024x2048.Idx) : iblk m c 0 t x
    = el2 (m ((c.tc : Thread nD τ).loc main_arg0)) (1024 * (t.val / 4 / 2) + (x 0).val) (2048 * (t.val % 4) + (x 1).val) := by
  unfold iblk
  show V m c main_arg0 (((cfg0.win 0).blk t).view.emb x) = _
  rw [V_main_arg0]
  refine (el2_eq (M := 8192) (N := 8192) _ _).trans ?_
  have e0 : ((((cfg0.win 0).blk t).view.emb x) 0).val = 1024 * (t.val / 4 / 2) + (x 0).val := by
    blk_simp [index0 t]; omega
  have e1 : ((((cfg0.win 0).blk t).view.emb x) 1).val = 2048 * (t.val % 4) + (x 1).val := by
    blk_simp [index0 t]; omega
  exact congrArg₂ (el2 _) e0 e1

theorem blk1_at (t : Fin cfg0.N) (x : S1x1024x2048.Idx) : iblk m c 1 t x
    = el3 (m ((c.tc : Thread nD τ).loc main_arg1)) (t.val % 4) (1024 * (t.val / 4 % 2) + (x 1).val) (x 2).val := by
  unfold iblk
  show V m c main_arg1 (((cfg0.win 1).blk t).view.emb x) = _
  rw [V_main_arg1]
  refine (el3_eq (P := 4) (M := 2048) (N := 2048) _ _).trans ?_
  have hx0 : (x 0).val < 1 := (x 0).isLt
  have e0 : ((((cfg0.win 1).blk t).view.emb x) 0).val = t.val % 4 := by
    blk_simp [index1 t]
  have e1 : ((((cfg0.win 1).blk t).view.emb x) 1).val = 1024 * (t.val / 4 % 2) + (x 1).val := by
    blk_simp [index1 t]; omega
  have e2 : ((((cfg0.win 1).blk t).view.emb x) 2).val = (x 2).val := by
    blk_simp [index1 t]
  exact el3_congr _ e0 e1 e2

/-- One column's term of an element of sweep `q`'s block. -/
def term (D : S8192x8192.Idx → EReal) (W : S4x2048x2048.Idx → EReal) (y : S1024x1024.Idx) (q s : ℕ) : EReal :=
  el2 (M := 8192) (N := 8192) D (1024 * (q / 2) + (y 0).val) s
    * el3 (P := 4) (M := 2048) (N := 2048) W (s / 2048) (1024 * (q % 2) + (y 1).val) (s % 2048)

theorem product_at (t : Fin cfg0.N) (y : S1024x1024.Idx) : k0_pay1 (F := Ideal) (iblk m c 0 t) (iblk m c 1 t) y
    = ∑ k : Fin 2048, term (m ((c.tc : Thread nD τ).loc main_arg0)) (m ((c.tc : Thread nD τ).loc main_arg1)) y (t.val / 4) (2048 * (t.val % 4) + k.val) := by
  unfold k0_pay1
  refine (tb_at (iblk m c 0 t) _ y).trans ?_
  refine Finset.sum_congr rfl fun k _ => congrArg₂ (HMul.hMul (α := EReal)) (blk0_at m c t _)
    ((unslab_at _ _ _).trans ((blk1_at m c t _).trans ?_))
  have hk := k.isLt
  rw [show (2048 * (t.val % 4) + k.val) / 2048 = t.val % 4 by omega, show (2048 * (t.val % 4) + k.val) % 2048 = k.val by omega]

/-- What the scratch holds after a point. -/
theorem scratch_at (y : S1024x1024.Idx) : ∀ n hn, (outsAt0 m c n hn).2 y = ∑ s ∈ Finset.range (2048 * (n % 4 + 1)),
    term (m ((c.tc : Thread nD τ).loc main_arg0)) (m ((c.tc : Thread nD τ).loc main_arg1)) y (n / 4) s := by
  refine accumulated (P := 4) (fun n hn => (outsAt0 m c n hn).2 y) (term _ _ y) (fun n hn h => ?_) (fun n hn h => ?_)
  · refine (congrFun (scratch_first c m ⟨n, hn⟩ h) y).trans ?_
    unfold k0_pay2
    rw [shapeCast_self]
    refine (product_at m c ⟨n, hn⟩ y).trans ?_
    dsimp only
    rw [h, Nat.mul_zero]
    exact Finset.sum_congr rfl fun k _ => by rw [Nat.zero_add]
  · refine (congrFun (scratch_next c m ⟨n, hn⟩ h) y).trans ?_
    unfold k0_pay3
    rw [shapeCast_self]
    exact congrArg (fun z : EReal => (outsAt0 m c (n - 1) (Nat.lt_of_le_of_lt (Nat.sub_le _ _) hn)).2 y + z) (product_at m c ⟨n, hn⟩ y)

/-- The sum the call computes. -/
def total (D : S8192x8192.Idx → EReal) (W : S4x2048x2048.Idx → EReal) (i : S8192x2048.Idx) : EReal :=
  ∑ s ∈ Finset.range 8192, el2 (M := 8192) (N := 8192) D (i 0).val s
    * el3 (P := 4) (M := 2048) (N := 2048) W (s / 2048) (i 1).val (s % 2048)

theorem array_at : (dats m 0 c).arrAt 2 cfg0.N
    = total (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2, block_last c m t h3]
  refine (scratch_at m c _ t.val t.isLt).trans ?_
  have e0 : ((((cfg0.win 2).blk t).view.emb y) 0).val = 1024 * (t.val / 4 / 2) + (y 0).val := by
    blk_simp [index2 t]; omega
  have e1 : ((((cfg0.win 2).blk t).view.emb y) 1).val = 1024 * (t.val / 4 % 2) + (y 1).val := by
    blk_simp [index2 t]; omega
  rw [h3]
  exact (congrArg₂ (fun a b : ℕ => ∑ s ∈ Finset.range 8192, el2 (m ((c.tc : Thread nD τ).loc main_arg0)) a s
    * el3 (m ((c.tc : Thread nD τ).loc main_arg1)) (s / 2048) b (s % 2048)) e0 e1).symm

end Value

/-! ## The reference -/

section Reference
open Cert.ReferenceH1Ideal.Read

theorem reference_at (D : S8192x8192.Idx → EReal) (W : S4x2048x2048.Idx → EReal) : val_main_v7 (F := Ideal) D W = total D W := by
  funext i
  rw [val_main_v7_apply]
  refine (val_main_v6_apply _ _ i).trans ?_
  unfold total
  rw [Finset.sum_range]
  have h1 : (i 1).val < 2048 := (i 1).isLt
  refine Finset.sum_congr rfl fun k _ => ?_
  have hk := k.isLt
  refine congrArg₂ (HMul.hMul (α := EReal)) (el2_eq (M := 8192) (N := 8192) D _) ?_
  refine (val_main_v2_apply _ _).trans ((val_main_v1_apply _ _).trans ((el3_eq (P := 4) (M := 2048) (N := 2048) W _).trans ?_))
  have e0 : (((i 1).val * 8192 + k.val) / 2048) % 4 = k.val / 2048 := by omega
  have e1 : ((i 1).val * 8192 + k.val) / 8192 = (i 1).val := by omega
  have e2 : ((i 1).val * 8192 + k.val) % 2048 = k.val % 2048 := by omega
  exact el3_congr W e0 e1 e2

end Reference

/-- The kernel's call and the reference end with the same gradient. -/
theorem algebraic : Cert.algebraic_KernelH1Ideal_ReferenceH1Ideal (hKernelH1Ideal := Cert.KernelH1Ideal.Gen.facts)
    (hReferenceH1Ideal := Cert.ReferenceH1Ideal.Gen.facts) := by
  intro m g m' g' _ hin
  refine ⟨_, Cert.KernelH1Ideal.Value.run_blocks m g, (θ_run Cert.ReferenceH1Ideal.defs _ _).mono (fun r hr c => ?_)
    (Cert.ReferenceH1Ideal.Value.run m' g')⟩
  obtain ⟨i0, i1⟩ := hin c
  obtain ⟨h0, hrest⟩ := hr c
  refine ⟨h0.trans ?_, hrest⟩
  rw [Cert.ReferenceH1Ideal.Read.val_main_v7_eq, i0, i1]
  exact (reference_at _ _).trans (array_at m c).symm

theorem frame_reference : Cert.quiescent_ReferenceH1Ideal (hReferenceH1Ideal := Cert.ReferenceH1Ideal.Gen.facts) := fun m ρ _ =>
  (θ_run Cert.ReferenceH1Ideal.defs _ _).mono (fun r h => ⟨fun c => (h c).2, sem_eq_zero_of_no_sems (by decide) r.2⟩)
    (Cert.ReferenceH1Ideal.Value.run m ρ)

end Cert.DH1

end
-- ==== Proof.DA.lean ====
/-
  The gradient of the first product's result: the kernel's product, scaled by the activation's slope in four pieces of
  rows, and the reference's.
-/
module

public import proofs.«01_k».proof.Proof.Product
public import proofs.«01_k».proof.Proof.Gen.KernelAIdeal.Value
public import proofs.«01_k».proof.Proof.Gen.ReferenceAIdeal.Read
public import proofs.«01_k».proof.Defs

@[expose] public section

set_option maxRecDepth 16384

noncomputable section

namespace Cert.DA

open Cert.KernelAIdeal Cert.KernelAIdeal.Gen Cert.Product
open Idealize.ShloMosaic Idealize.ShloMosaic.TcCoe Idealize.SL.Sem

/-! ## A block -/

/-- The constant two. -/
def two : EReal := Ideal.ofBits .f32 0x40000000#32

/-- The activation's slope. -/
def slope (x : EReal) : EReal := two * max x 0

/-- A block of the result from the blocks of the operands. -/
def block (x0 x1 : Vec Ideal S1024x2048 .bf16) (x2 : Vec Ideal S1024x1024 .bf16) : Vec Ideal S1024x1024 .bf16 := fun y =>
  HMul.hMul (α := EReal) (β := EReal) (γ := EReal)
    (∑ s : Fin 2048, HMul.hMul (α := EReal) (β := EReal) (γ := EReal) (x0 (ValueIdx.ix2 (n0 := 1024) (n1 := 2048) (y 0) s))
      (x1 (ValueIdx.ix2 (n0 := 1024) (n1 := 2048) (y 1) s))) (slope (x2 y))

theorem rows_at (B : Vec Ideal S1024x2048 .bf16) (D : Vec Ideal S256x2048 .bf16) (A : Vec Ideal S256x1024 .bf16) (x : S256x1024.Idx) :
    k0_pay3 (F := Ideal) B D A x = HMul.hMul (α := EReal) (β := EReal) (γ := EReal)
      (∑ s : Fin 2048, HMul.hMul (α := EReal) (β := EReal) (γ := EReal) (D (ValueIdx.ix2 (n0 := 256) (n1 := 2048) (x 0) s))
        (B (ValueIdx.ix2 (n0 := 1024) (n1 := 2048) (x 1) s))) (slope (A x)) := by
  refine congrArg₂ (HMul.hMul (α := EReal)) (tb_piece_at D B x) ?_
  show two * max (α := EReal) (A x) (Ideal.ofBits .f32 0x00000000#32) = _
  rw [Ideal.ofBits_zero_f32]
  rfl

theorem piece_at (x0 x1 : Vec Ideal S1024x2048 .bf16) (x2 : Vec Ideal S1024x1024 .bf16) (o : ℕ)
    (inb : ∀ a, ![o, 0] a + S256x2048.size a ≤ S1024x2048.size a) (inb' : ∀ a, ![o, 0] a + S256x1024.size a ≤ S1024x1024.size a)
    (x : S256x1024.Idx) :
    k0_pay3 (F := Ideal) (View.ld x1 r0_0) (View.ld x0 (Rect.unit (s := S1024x2048) ![o, 0] S256x2048.size inb))
      (View.ld x2 (Rect.unit (s := S1024x1024) ![o, 0] S256x1024.size inb')) x
      = block x0 x1 x2 ((Rect.unit (s := S1024x1024) ![o, 0] S256x1024.size inb').emb x) := by
  refine (rows_at _ _ _ x).trans ?_
  refine congrArg₂ (HMul.hMul (α := EReal)) (Finset.sum_congr rfl fun s _ => congrArg₂ (HMul.hMul (α := EReal)) ?_ ?_) rfl
  · refine congrArg x0 (funext fun a => Fin.ext ?_)
    match a with
    | ⟨0, _⟩ => rfl
    | ⟨1, _⟩ => show 0 + 1 * s.val = s.val; omega
  · refine (congrFun (View.ld_unit_zero zero2 _ x1) _).trans (congrArg x1 (funext fun a => Fin.ext ?_))
    match a with
    | ⟨0, _⟩ => show (x 1).val = 0 + 1 * (x 1).val; omega
    | ⟨1, _⟩ => rfl

theorem out_eq (x0 x1 : Vec Ideal S1024x2048 .bf16) (x2 : Vec Ideal S1024x1024 .bf16) : out0_3 (F := Ideal) x0 x1 x2 = block x0 x1 x2 := by
  funext y
  refine View.canon_apply_of_pieces (block x0 x1 x2) _ ?_ y (cover0_3 _ _ _ _ y)
  intro p hp x
  simp only [List.mem_cons, List.not_mem_nil, or_false] at hp
  rcases hp with rfl | rfl | rfl | rfl
  · exact piece_at x0 x1 x2 768 inb_S1024x2048_S256x2048_768_0 inb_S1024x1024_S256x1024_768_0 x
  · exact piece_at x0 x1 x2 512 inb_S1024x2048_S256x2048_512_0 inb_S1024x1024_S256x1024_512_0 x
  · exact piece_at x0 x1 x2 256 inb_S1024x2048_S256x2048_256_0 inb_S1024x1024_S256x1024_256_0 x
  · exact piece_at x0 x1 x2 0 inb_S1024x2048_S256x2048_0_0 inb_S1024x1024_S256x1024_0_0 x

/-! ## The array -/

section Value
variable (m : (ℓ : Loc nD τ sig) → Buf (Elt Ideal) ℓ) (c : Dev nD)

theorem index0 : ∀ t : Fin cfg0.N, (cfg0.win 0).index t = ![t.val / 8, 0] := by decide +kernel
theorem index1 : ∀ t : Fin cfg0.N, (cfg0.win 1).index t = ![t.val % 8, 0] := by decide +kernel
theorem index2 : ∀ t : Fin cfg0.N, (cfg0.win 2).index t = ![t.val / 8, t.val % 8] := by decide +kernel
theorem index3 : ∀ t : Fin cfg0.N, (cfg0.win 3).index t = ![t.val / 8, t.val % 8] := by decide +kernel

theorem blk0_at (t : Fin cfg0.N) (x : S1024x2048.Idx) : iblk m c 0 t x
    = el2 (m ((c.tc : Thread nD τ).loc main_arg0)) (1024 * (t.val / 8) + (x 0).val) (x 1).val := by
  unfold iblk
  show V m c main_arg0 (((cfg0.win 0).blk t).view.emb x) = _
  rw [V_main_arg0]
  refine (el2_eq (M := 8192) (N := 2048) _ _).trans ?_
  have e0 : ((((cfg0.win 0).blk t).view.emb x) 0).val = 1024 * (t.val / 8) + (x 0).val := by
    blk_simp [index0 t]; omega
  have e1 : ((((cfg0.win 0).blk t).view.emb x) 1).val = (x 1).val := by
    blk_simp [index0 t]
  exact congrArg₂ (el2 _) e0 e1

theorem blk1_at (t : Fin cfg0.N) (x : S1024x2048.Idx) : iblk m c 1 t x
    = el2 (m ((c.tc : Thread nD τ).loc main_arg1)) (1024 * (t.val % 8) + (x 0).val) (x 1).val := by
  unfold iblk
  show V m c main_arg1 (((cfg0.win 1).blk t).view.emb x) = _
  rw [V_main_arg1]
  refine (el2_eq (M := 8192) (N := 2048) _ _).trans ?_
  have e0 : ((((cfg0.win 1).blk t).view.emb x) 0).val = 1024 * (t.val % 8) + (x 0).val := by
    blk_simp [index1 t]; omega
  have e1 : ((((cfg0.win 1).blk t).view.emb x) 1).val = (x 1).val := by
    blk_simp [index1 t]
  exact congrArg₂ (el2 _) e0 e1

theorem blk2_at (t : Fin cfg0.N) (x : S1024x1024.Idx) : iblk m c 2 t x
    = el2 (m ((c.tc : Thread nD τ).loc main_arg2)) (1024 * (t.val / 8) + (x 0).val) (1024 * (t.val % 8) + (x 1).val) := by
  unfold iblk
  show V m c main_arg2 (((cfg0.win 2).blk t).view.emb x) = _
  rw [V_main_arg2]
  refine (el2_eq (M := 8192) (N := 8192) _ _).trans ?_
  have e0 : ((((cfg0.win 2).blk t).view.emb x) 0).val = 1024 * (t.val / 8) + (x 0).val := by
    blk_simp [index2 t]; omega
  have e1 : ((((cfg0.win 2).blk t).view.emb x) 1).val = 1024 * (t.val % 8) + (x 1).val := by
    blk_simp [index2 t]; omega
  exact congrArg₂ (el2 _) e0 e1

/-- The gradient's element in row `i` and column `j`. -/
def at2 (D W : S8192x2048.Idx → EReal) (A : S8192x8192.Idx → EReal) (i j : ℕ) : EReal :=
  (∑ s : Fin 2048, el2 (M := 8192) (N := 2048) D i s.val * el2 (M := 8192) (N := 2048) W j s.val) * slope (el2 (M := 8192) (N := 8192) A i j)

/-- The gradient the call computes. -/
def total (D W : S8192x2048.Idx → EReal) (A : S8192x8192.Idx → EReal) (i : S8192x8192.Idx) : EReal := at2 D W A (i 0).val (i 1).val

theorem array_at : (dats m 0 c).arrAt 3 cfg0.N = total (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  blk_simp
  rw [after0_3, out_eq]
  have e0 : ((((cfg0.win 3).blk t).view.emb y) 0).val = 1024 * (t.val / 8) + (y 0).val := by
    blk_simp [index3 t]; omega
  have e1 : ((((cfg0.win 3).blk t).view.emb y) 1).val = 1024 * (t.val % 8) + (y 1).val := by
    blk_simp [index3 t]; omega
  refine Eq.trans ?_ (congrArg₂ (at2 (m ((c.tc : Thread nD τ).loc main_arg0)) (m ((c.tc : Thread nD τ).loc main_arg1))
    (m ((c.tc : Thread nD τ).loc main_arg2))) e0 e1).symm
  exact congrArg₂ (HMul.hMul (α := EReal)) (Finset.sum_congr rfl fun s _ => congrArg₂ (HMul.hMul (α := EReal)) (blk0_at m c t _) (blk1_at m c t _))
    (congrArg slope (blk2_at m c t y))

end Value

/-! ## The reference -/

section Reference
open Cert.ReferenceAIdeal.Read

/-- Where the first product's result is not positive its slope is zero, so choosing zero there changes nothing. -/
theorem chosen (a p : EReal) : Scalar.select (FloatOps.cmpf (F := Ideal) (φ := .f32) .ogt a (0 : EReal)) (p * slope a) (0 : EReal) = p * slope a := by
  by_cases h : 0 < a
  · simp [Scalar.select, FloatOps.cmpf, Ideal.cmp, h]
  · have hs : slope a = 0 := by rw [slope, max_eq_right (not_lt.mp h), mul_zero]
    simp [hs, Scalar.select]

theorem reference_at (D W : S8192x2048.Idx → EReal) (A : S8192x8192.Idx → EReal) : val_main_v15 (F := Ideal) D W A = total D W A := by
  funext i
  rw [val_main_v15_apply, val_main_v14_apply, val_main_v3_apply, val_main_v12_apply, val_main_v7_apply, val_main_v6_apply,
    val_main_cst_1_apply, val_main_v1_apply, val_main_v0_apply, val_main_call0_v0_apply, val_main_call0_cst_apply, val_main_v2_apply,
    val_main_cst_apply, val_main_v13_apply, val_main_cst_2_apply, val_main_v11_apply]
  show Scalar.select (FloatOps.cmpf (F := Ideal) (φ := .f32) .ogt (A i) (Ideal.ofBits .f32 0x00000000#32))
    ((∑ k : Fin 2048, D (lidx_main_v11 i k) * W (ridx_main_v11 i k)) * (two * max (A i) (Ideal.ofBits .f32 0x00000000#32)))
    (Ideal.ofBits .f32 0x00000000#32) = _
  rw [Ideal.ofBits_zero_f32]
  refine (chosen (A i) _).trans ?_
  exact congrArg₂ (HMul.hMul (α := EReal)) (Finset.sum_congr rfl fun s _ => congrArg₂ (HMul.hMul (α := EReal))
    (el2_eq (M := 8192) (N := 2048) D _) (el2_eq (M := 8192) (N := 2048) W _)) (congrArg slope (el2_eq (M := 8192) (N := 8192) A i))

end Reference

/-- The kernel's call and the reference end with the same gradient. -/
theorem algebraic : Cert.algebraic_KernelAIdeal_ReferenceAIdeal (hKernelAIdeal := Cert.KernelAIdeal.Gen.facts)
    (hReferenceAIdeal := Cert.ReferenceAIdeal.Gen.facts) := by
  intro m g m' g' _ hin
  refine ⟨_, Cert.KernelAIdeal.Value.run_blocks m g, (θ_run Cert.ReferenceAIdeal.defs _ _).mono (fun r hr c => ?_)
    (Cert.ReferenceAIdeal.Value.run m' g')⟩
  obtain ⟨i0, i1, i2⟩ := hin c
  obtain ⟨h0, hrest⟩ := hr c
  refine ⟨h0.trans ?_, hrest⟩
  rw [Cert.ReferenceAIdeal.Read.val_main_v15_eq, i0, i1, i2]
  exact (reference_at _ _ _).trans (array_at m c).symm

theorem frame_reference : Cert.quiescent_ReferenceAIdeal (hReferenceAIdeal := Cert.ReferenceAIdeal.Gen.facts) := fun m ρ _ =>
  (θ_run Cert.ReferenceAIdeal.defs _ _).mono (fun r h => ⟨fun c => (h c).2, sem_eq_zero_of_no_sems (by decide) r.2⟩)
    (Cert.ReferenceAIdeal.Value.run m ρ)

end Cert.DA

end
-- ==== Proof.DW2.lean ====
/-
  The gradient of the second weight: the kernel's product, gathered over four tiles of rows, and the reference's.
-/
module

public import proofs.«01_k».proof.Proof.Product
public import proofs.«01_k».proof.Proof.Gen.KernelW2Ideal.Value
public import proofs.«01_k».proof.Proof.Gen.ReferenceW2Ideal.Read
public import proofs.«01_k».proof.Defs

@[expose] public section

set_option maxRecDepth 16384

noncomputable section

namespace Cert.DW2

open Cert.KernelW2Ideal Cert.KernelW2Ideal.Gen Cert.Product
open Idealize.ShloMosaic Idealize.ShloMosaic.TcCoe Idealize.SL.Sem

/-! ## A point's stores -/

section Stores
variable {F : FTy → Type} [FloatOps F]
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16)
  (harg5 : arg5.IsWhole) (arg6 : Memref sig .tc .vmem S1024x1024 .f32) (harg6 : arg6.IsWhole)
  (x0 : Vec F S2048x1024 .bf16) (x1 : Vec F S2048x1024 .bf16) (xs0 : Vec F S1024x1024 .f32)

theorem sum_first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  dsimp only
  rw [read_stored zero2, load_whole zero2, load_whole zero2]

theorem sum_next (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  dsimp only
  rw [read_stored zero2, load_whole zero2, load_whole zero2, load_whole zero2]

theorem stored_C : kernelRun0_C.sl.HS0_1 c arg3 harg3 arg4 harg4 arg6 harg6 x0 x1 xs0
    = [⟨Rect.unit (s := S1024x1024) ![0, 0] S1024x1024.size inb_S1024x1024_S1024x1024_0_0, k0_pay3 x0 x1 xs0⟩] := by
  unfold kernelRun0_C.sl.HS0_1
  rw [load_whole zero2, load_whole zero2, load_whole zero2]

theorem sum_last (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0 kernelRun0_C
  dsimp only
  rw [stored_C, read_stored zero2]

/-- The gathered sum, rounded. -/
def rounded (v : Vec F S1024x1024 .f32) : Vec F S1024x1024 .bf16 := fun y => FloatOps.truncf .bf16 bitsLt_bf16_f32 (v y)

theorem out_last (hc0 : ¬cond0_0 i) (hc1 : cond0_1 i) (hc2 : cond0_2 i) :
    out0_C_2 c i arg3 harg3 arg4 harg4 arg5 harg5 arg6 harg6 hc0 hc1 hc2 x0 x1 xs0 = rounded (k0_pay3 x0 x1 xs0) := by
  have hcov := cover0_C_2 c i arg3 harg3 arg4 harg4 arg5 harg5 arg6 harg6 hc0 hc1 hc2 x0 x1 xs0
  refine (View.read_writes_eq_canon _ _ _ hcov).trans (funext fun y => ?_)
  refine View.canon_apply_of_pieces (rounded (k0_pay3 x0 x1 xs0)) _ ?_ y (hcov y)
  have key : ∀ B : LoadRect S1024x1024,
      arg6.view.readCov (kernelRun0_C.sl.HS0_1 c arg3 harg3 arg4 harg4 arg6 harg6 x0 x1 xs0) B = fun x => k0_pay3 x0 x1 xs0 (B.idx x) :=
    fun B => funext fun x => by rw [stored_C]; exact load_stored zero2 _ _ _ B x
  unfold kernelRun0_C
  dsimp only
  intro p hp x
  simp only [List.mem_cons, List.not_mem_nil, or_false] at hp
  rcases hp with rfl | rfl | rfl | rfl
  · exact (congrArg (fun w => k0_pay7 w x) (key _)).trans rfl
  · exact (congrArg (fun w => k0_pay6 w x) (key _)).trans rfl
  · exact (congrArg (fun w => k0_pay5 w x) (key _)).trans rfl
  · exact (congrArg (fun w => k0_pay4 w x) (key _)).trans rfl

variable (m : (ℓ : Loc nD τ sig) → Buf (Elt F) ℓ)

theorem scratch_first (t : Fin cfg0.N) (h : t.val % 4 = 0) :
    (outsAt0 m c t.val t.isLt).2 = k0_pay2 (iblk m c 0 t) (iblk m c 1 t) := by
  rw [outsAt0_A m c t h (by omega) (by omega)]
  dsimp only
  rw [sum_first]

theorem scratch_next (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    rw [sum_last]
  · rw [outsAt0_B m c t h (by omega) h3]
    dsimp only
    rw [sum_next]

theorem block_last (t : Fin cfg0.N) (h3 : t.val % 4 = 3) : (outsAt0 m c t.val t.isLt).1 = rounded (outsAt0 m c t.val t.isLt).2 := by
  rw [scratch_next c m t (by omega), outsAt0_C m c t (by omega) (by omega) h3]
  dsimp only
  rw [out_last]

end Stores

/-! ## Over the extended reals -/

section Value
variable (m : (ℓ : Loc nD τ sig) → Buf (Elt Ideal) ℓ) (c : Dev nD)

theorem index0 : ∀ t : Fin cfg0.N, (cfg0.win 0).index t = ![t.val % 4, t.val / 4 / 2] := by decide +kernel
theorem index1 : ∀ t : Fin cfg0.N, (cfg0.win 1).index t = ![t.val % 4, t.val / 4 % 2] := by decide +kernel
theorem index2 : ∀ t : Fin cfg0.N, (cfg0.win 2).index t = ![t.val / 4 / 2, t.val / 4 % 2] := by decide +kernel

theorem blk0_at (t : Fin cfg0.N) (x : S2048x1024.Idx) : iblk m c 0 t x
    = el2 (m ((c.tc : Thread nD τ).loc main_arg0)) (2048 * (t.val % 4) + (x 0).val) (1024 * (t.val / 4 / 2) + (x 1).val) := by
  unfold iblk
  show V m c main_arg0 (((cfg0.win 0).blk t).view.emb x) = _
  rw [V_main_arg0]
  refine (el2_eq (M := 8192) (N := 8192) _ _).trans ?_
  have e0 : ((((cfg0.win 0).blk t).view.emb x) 0).val = 2048 * (t.val % 4) + (x 0).val := by
    blk_simp [index0 t]; omega
  have e1 : ((((cfg0.win 0).blk t).view.emb x) 1).val = 1024 * (t.val / 4 / 2) + (x 1).val := by
    blk_simp [index0 t]; omega
  exact congrArg₂ (el2 _) e0 e1

theorem blk1_at (t : Fin cfg0.N) (x : S2048x1024.Idx) : iblk m c 1 t x
    = el2 (m ((c.tc : Thread nD τ).loc main_arg1)) (2048 * (t.val % 4) + (x 0).val) (1024 * (t.val / 4 % 2) + (x 1).val) := by
  unfold iblk
  show V m c main_arg1 (((cfg0.win 1).blk t).view.emb x) = _
  rw [V_main_arg1]
  refine (el2_eq (M := 8192) (N := 2048) _ _).trans ?_
  have e0 : ((((cfg0.win 1).blk t).view.emb x) 0).val = 2048 * (t.val % 4) + (x 0).val := by
    blk_simp [index1 t]; omega
  have e1 : ((((cfg0.win 1).blk t).view.emb x) 1).val = 1024 * (t.val / 4 % 2) + (x 1).val := by
    blk_simp [index1 t]; omega
  exact congrArg₂ (el2 _) e0 e1

/-- The activation: the positive part, squared. -/
def act (x : EReal) : EReal := max x 0 * max x 0

/-- One row's term of an element of sweep `q`'s block. -/
def term (A : S8192x8192.Idx → EReal) (D : S8192x2048.Idx → EReal) (y : S1024x1024.Idx) (q s : ℕ) : EReal :=
  act (el2 (M := 8192) (N := 8192) A s (1024 * (q / 2) + (y 0).val)) * el2 (M := 8192) (N := 2048) D s (1024 * (q % 2) + (y 1).val)

theorem product_at (t : Fin cfg0.N) (y : S1024x1024.Idx) : k0_pay1 (F := Ideal) (iblk m c 0 t) (iblk m c 1 t) y
    = ∑ k : Fin 2048, term (m ((c.tc : Thread nD τ).loc main_arg0)) (m ((c.tc : Thread nD τ).loc main_arg1)) y (t.val / 4) (2048 * (t.val % 4) + k.val) := by
  unfold k0_pay1
  refine (ta_at _ (iblk m c 1 t) y).trans ?_
  refine Finset.sum_congr rfl fun k _ => congrArg₂ (HMul.hMul (α := EReal)) ?_ (blk1_at m c t _)
  refine Eq.trans ?_ (congrArg act (blk0_at m c t (ValueIdx.ix2 (n0 := 2048) (n1 := 1024) k (y 0))))
  show max (α := EReal) (iblk m c 0 t _) (Ideal.ofBits .bf16 0x0000#16) * max (α := EReal) (iblk m c 0 t _) (Ideal.ofBits .bf16 0x0000#16) = _
  rw [zero_bf16]
  rfl

/-- What the scratch holds after a point. -/
theorem scratch_at (y : S1024x1024.Idx) : ∀ n hn, (outsAt0 m c n hn).2 y = ∑ s ∈ Finset.range (2048 * (n % 4 + 1)),
    term (m ((c.tc : Thread nD τ).loc main_arg0)) (m ((c.tc : Thread nD τ).loc main_arg1)) y (n / 4) s := by
  refine accumulated (P := 4) (fun n hn => (outsAt0 m c n hn).2 y) (term _ _ y) (fun n hn h => ?_) (fun n hn h => ?_)
  · refine (congrFun (scratch_first c m ⟨n, hn⟩ h) y).trans ?_
    unfold k0_pay2
    rw [shapeCast_self]
    refine (product_at m c ⟨n, hn⟩ y).trans ?_
    dsimp only
    rw [h, Nat.mul_zero]
    exact Finset.sum_congr rfl fun k _ => by rw [Nat.zero_add]
  · refine (congrFun (scratch_next c m ⟨n, hn⟩ h) y).trans ?_
    unfold k0_pay3
    rw [shapeCast_self]
    exact congrArg (fun z : EReal => (outsAt0 m c (n - 1) (Nat.lt_of_le_of_lt (Nat.sub_le _ _) hn)).2 y + z) (product_at m c ⟨n, hn⟩ y)

/-- The sum the call computes. -/
def total (A : S8192x8192.Idx → EReal) (D : S8192x2048.Idx → EReal) (i : S8192x2048.Idx) : EReal :=
  ∑ s ∈ Finset.range 8192, act (el2 (M := 8192) (N := 8192) A s (i 0).val) * el2 (M := 8192) (N := 2048) D s (i 1).val

theorem array_at : (dats m 0 c).arrAt 2 cfg0.N
    = total (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2, block_last c m t h3]
  refine (scratch_at m c _ t.val t.isLt).trans ?_
  have e0 : ((((cfg0.win 2).blk t).view.emb y) 0).val = 1024 * (t.val / 4 / 2) + (y 0).val := by
    blk_simp [index2 t]; omega
  have e1 : ((((cfg0.win 2).blk t).view.emb y) 1).val = 1024 * (t.val / 4 % 2) + (y 1).val := by
    blk_simp [index2 t]; omega
  rw [h3]
  exact (congrArg₂ (fun a b : ℕ => ∑ s ∈ Finset.range 8192, act (el2 (m ((c.tc : Thread nD τ).loc main_arg0)) s a)
    * el2 (m ((c.tc : Thread nD τ).loc main_arg1)) s b) e0 e1).symm

end Value

/-! ## The reference -/

section Reference
open Cert.ReferenceW2Ideal.Read

theorem reference_at (A : S8192x8192.Idx → EReal) (D : S8192x2048.Idx → EReal) : val_main_v8 (F := Ideal) A D = total A D := by
  funext i
  rw [val_main_v8_apply]
  refine (val_main_v7_apply _ _ i).trans ((val_main_v6_apply _ _ _).trans ?_)
  unfold total
  rw [Finset.sum_range]
  refine Finset.sum_congr rfl fun k _ => ?_
  rw [mul_comm]
  refine congrArg₂ (HMul.hMul (α := EReal)) ?_ (el2_eq (M := 8192) (N := 2048) D _)
  rw [val_main_v3_apply, val_main_v2_apply, val_main_call0_v0_apply, val_main_call0_cst_apply]
  show max (α := EReal) (A _) (Ideal.ofBits .f32 0x00000000#32) * max (α := EReal) (A _) (Ideal.ofBits .f32 0x00000000#32) = _
  rw [Ideal.ofBits_zero_f32]
  exact congrArg act (el2_eq (M := 8192) (N := 8192) A _)

end Reference

/-- The kernel's call and the reference end with the same gradient. -/
theorem algebraic : Cert.algebraic_KernelW2Ideal_ReferenceW2Ideal (hKernelW2Ideal := Cert.KernelW2Ideal.Gen.facts)
    (hReferenceW2Ideal := Cert.ReferenceW2Ideal.Gen.facts) := by
  intro m g m' g' _ hin
  refine ⟨_, Cert.KernelW2Ideal.Value.run_blocks m g, (θ_run Cert.ReferenceW2Ideal.defs _ _).mono (fun r hr c => ?_)
    (Cert.ReferenceW2Ideal.Value.run m' g')⟩
  obtain ⟨i0, i1⟩ := hin c
  obtain ⟨h0, hrest⟩ := hr c
  refine ⟨h0.trans ?_, hrest⟩
  rw [Cert.ReferenceW2Ideal.Read.val_main_v8_eq, i0, i1]
  exact (reference_at _ _).trans (array_at m c).symm

theorem frame_reference : Cert.quiescent_ReferenceW2Ideal (hReferenceW2Ideal := Cert.ReferenceW2Ideal.Gen.facts) := fun m ρ _ =>
  (θ_run Cert.ReferenceW2Ideal.defs _ _).mono (fun r h => ⟨fun c => (h c).2, sem_eq_zero_of_no_sems (by decide) r.2⟩)
    (Cert.ReferenceW2Ideal.Value.run m ρ)

end Cert.DW2

end
-- ==== Proof.Tiles.lean ====
/-
  Blocked matrix products of any sizes: the three ways two blocks are multiplied, the sum a sweep of four points gathers, and
  the gathered sum stored a quarter of its rows at a time.
-/
module

public import proofs.«01_k».proof.Proof.Product

@[expose] public section

set_option maxRecDepth 16384

noncomputable section

namespace Cert.Tiles

open Idealize.ShloMosaic Idealize.ShloMosaic.ValueIdx Idealize.ShloMosaic.TcCoe Cert.Product

/-- A matrix's shape. -/
abbrev Mat (M N : ℕ) : Shape := ⟨2, ![M, N]⟩
/-- The shape of a matrix laid in slabs. -/
abbrev Slabs (P M N : ℕ) : Shape := ⟨3, ![P, M, N]⟩

theorem at2 {M N : ℕ} (X : (Mat M N).Idx → EReal) (x : (Mat M N).Idx) {i j : ℕ} (hi : (x 0).val = i) (hj : (x 1).val = j) :
    X x = el2 X i j := by
  rw [el2_eq X x, hi, hj]

theorem at3 {P M N : ℕ} (X : (Slabs P M N).Idx → EReal) (x : (Slabs P M N).Idx) {p i j : ℕ} (hp : (x 0).val = p)
    (hi : (x 1).val = i) (hj : (x 2).val = j) : X x = el3 X p i j := by
  rw [el3_eq X x, hp, hi, hj]

/-! ## Two blocks multiplied -/

section Blocks
variable {M N K : ℕ}

/-- Rows against rows. -/
theorem rows_rows (d : DotDims (Mat K M) (Mat K N) (Mat M N)) (h : d.contr.rank = 1) (hn : d.contr.size ⟨0, by rw [h]; decide⟩ = K)
    (l0 : ∀ j k, (d.lhsIdx j k 0).val = (k ⟨0, by rw [h]; decide⟩).val) (l1 : ∀ j k, (d.lhsIdx j k 1).val = (j 0).val)
    (r0 : ∀ j k, (d.rhsIdx j k 0).val = (k ⟨0, by rw [h]; decide⟩).val) (r1 : ∀ j k, (d.rhsIdx j k 1).val = (j 1).val)
    (A : FVec Ideal (Mat K M) .bf16) (B : FVec Ideal (Mat K N) .bf16) (j : (Mat M N).Idx) :
    matmul (F := Ideal) d none A B (constant (Mat M N) .f32 0x00000000#32) j
      = ∑ s : Fin K, HMul.hMul (α := EReal) (β := EReal) (γ := EReal) (A (ValueIdx.ix2 (n0 := K) (n1 := M) s (j 0))) (B (ValueIdx.ix2 (n0 := K) (n1 := N) s (j 1))) :=
  mm_at d K h hn A B j _ _
    (fun t => funext fun a => Fin.ext (match a with
      | ⟨0, _⟩ => (l0 _ _).trans (contrEquiv1_symm_val d K h hn t)
      | ⟨1, _⟩ => l1 _ _))
    (fun t => funext fun a => Fin.ext (match a with
      | ⟨0, _⟩ => (r0 _ _).trans (contrEquiv1_symm_val d K h hn t)
      | ⟨1, _⟩ => r1 _ _))

/-- Columns against columns. -/
theorem cols_cols (d : DotDims (Mat M K) (Mat N K) (Mat M N)) (h : d.contr.rank = 1) (hn : d.contr.size ⟨0, by rw [h]; decide⟩ = K)
    (l0 : ∀ j k, (d.lhsIdx j k 0).val = (j 0).val) (l1 : ∀ j k, (d.lhsIdx j k 1).val = (k ⟨0, by rw [h]; decide⟩).val)
    (r0 : ∀ j k, (d.rhsIdx j k 0).val = (j 1).val) (r1 : ∀ j k, (d.rhsIdx j k 1).val = (k ⟨0, by rw [h]; decide⟩).val)
    (A : FVec Ideal (Mat M K) .bf16) (B : FVec Ideal (Mat N K) .bf16) (j : (Mat M N).Idx) :
    matmul (F := Ideal) d none A B (constant (Mat M N) .f32 0x00000000#32) j
      = ∑ s : Fin K, HMul.hMul (α := EReal) (β := EReal) (γ := EReal) (A (ValueIdx.ix2 (n0 := M) (n1 := K) (j 0) s)) (B (ValueIdx.ix2 (n0 := N) (n1 := K) (j 1) s)) :=
  mm_at d K h hn A B j _ _
    (fun t => funext fun a => Fin.ext (match a with
      | ⟨0, _⟩ => l0 _ _
      | ⟨1, _⟩ => (l1 _ _).trans (contrEquiv1_symm_val d K h hn t)))
    (fun t => funext fun a => Fin.ext (match a with
      | ⟨0, _⟩ => r0 _ _
      | ⟨1, _⟩ => (r1 _ _).trans (contrEquiv1_symm_val d K h hn t)))

/-- Columns against rows. -/
theorem cols_rows (d : DotDims (Mat M K) (Mat K N) (Mat M N)) (h : d.contr.rank = 1) (hn : d.contr.size ⟨0, by rw [h]; decide⟩ = K)
    (l0 : ∀ j k, (d.lhsIdx j k 0).val = (j 0).val) (l1 : ∀ j k, (d.lhsIdx j k 1).val = (k ⟨0, by rw [h]; decide⟩).val)
    (r0 : ∀ j k, (d.rhsIdx j k 0).val = (k ⟨0, by rw [h]; decide⟩).val) (r1 : ∀ j k, (d.rhsIdx j k 1).val = (j 1).val)
    (A : FVec Ideal (Mat M K) .bf16) (B : FVec Ideal (Mat K N) .bf16) (j : (Mat M N).Idx) :
    matmul (F := Ideal) d none A B (constant (Mat M N) .f32 0x00000000#32) j
      = ∑ s : Fin K, HMul.hMul (α := EReal) (β := EReal) (γ := EReal) (A (ValueIdx.ix2 (n0 := M) (n1 := K) (j 0) s)) (B (ValueIdx.ix2 (n0 := K) (n1 := N) s (j 1))) :=
  mm_at d K h hn A B j _ _
    (fun t => funext fun a => Fin.ext (match a with
      | ⟨0, _⟩ => l0 _ _
      | ⟨1, _⟩ => (l1 _ _).trans (contrEquiv1_symm_val d K h hn t)))
    (fun t => funext fun a => Fin.ext (match a with
      | ⟨0, _⟩ => (r0 _ _).trans (contrEquiv1_symm_val d K h hn t)
      | ⟨1, _⟩ => r1 _ _))

end Blocks

/-! ## A sweep of four points -/

/-- What a sweep's scratch holds after its last point, where each point's product is a tile of the terms `g`. -/
theorem gathered {S : Shape} {N K : ℕ} (scr : ∀ n, n < N → S.Idx → EReal) (prod : Fin N → S.Idx → EReal) (g : S.Idx → ℕ → ℕ → EReal)
    (tile : ∀ t y, prod t y = ∑ k : Fin K, g y (t.val / 4) (K * (t.val % 4) + k.val))
    (first : ∀ t : Fin N, t.val % 4 = 0 → scr t.val t.isLt = prod t)
    (next : ∀ t : Fin N, t.val % 4 ≠ 0 → scr t.val t.isLt
      = fun y => scr (t.val - 1) (Nat.lt_of_le_of_lt (Nat.sub_le _ _) t.isLt) y + prod t y)
    (t : Fin N) (h3 : t.val % 4 = 3) (y : S.Idx) : scr t.val t.isLt y = ∑ s ∈ Finset.range (K * 4), g y (t.val / 4) s := by
  refine (accumulated (P := 4) (fun n hn => scr n hn y) (g y) (fun n hn h => ?_) (fun n hn h => ?_) t.val t.isLt).trans (by rw [h3])
  · refine (congrFun (first ⟨n, hn⟩ h) y).trans ((tile _ _).trans ?_)
    dsimp only
    rw [h, Nat.mul_zero]
    exact Finset.sum_congr rfl fun k _ => by rw [Nat.zero_add]
  · exact (congrFun (next ⟨n, hn⟩ h) y).trans (congrArg (fun z : EReal => _ + z) (tile _ _))

/-! ## A sum rounded and stored a quarter of its rows at a time -/

/-- Four stores that together fill a buffer, each from its own elements of `G`, leave `G` there. -/
theorem four_stored {sig : RefSig} {Val : EltTy → Type} [∀ e, Nonempty (Val e)] {κ : Kind} {sp : Space} {S : Shape} {e : EltTy}
    (out : View sig κ sp S e) (f : out.ty.Contents Val) (G : S.Idx → Val e) (p3 p2 p1 p0 : View.Piece Val S e)
    (cov : ∀ y, y ∈ p3.1.set ∨ y ∈ p2.1.set ∨ y ∈ p1.1.set ∨ y ∈ p0.1.set) (h3 : ∀ x, p3.2 x = G (p3.1.emb x))
    (h2 : ∀ x, p2.2 x = G (p2.1.emb x)) (h1 : ∀ x, p1.2 x = G (p1.1.emb x)) (h0 : ∀ x, p0.2 x = G (p0.1.emb x)) :
    out.read Val (out.writes Val f [p3, p2, p1, p0]) = G := by
  have hcov : ∀ y, ∃ p ∈ [p3, p2, p1, p0], y ∈ p.1.set := fun y => by
    rcases cov y with h | h | h | h
    · exact ⟨p3, by simp, h⟩
    · exact ⟨p2, by simp, h⟩
    · exact ⟨p1, by simp, h⟩
    · exact ⟨p0, by simp, h⟩
  refine (View.read_writes_eq_canon _ _ _ hcov).trans (funext fun y => View.canon_apply_of_pieces G _ ?_ y (hcov y))
  intro p hp
  simp only [List.mem_cons, List.not_mem_nil, or_false] at hp
  rcases hp with rfl | rfl | rfl | rfl
  · exact h3
  · exact h2
  · exact h1
  · exact h0

section Quarters
variable {F : FTy → Type} [FloatOps F] {N : ℕ}

/-- The sum rounded. -/
def flat (v : Vec F (Mat 1024 N) .f32) : Vec F (Mat 1024 N) .bf16 := fun y => FloatOps.truncf .bf16 (by decide) (v y)

/-- The sum rounded, as a slab. -/
def slab (v : Vec F (Mat 1024 N) .f32) : Vec F (Slabs 1 1024 N) .bf16 := fun y =>
  FloatOps.truncf .bf16 (by decide) (v (ValueIdx.ix2 (n0 := 1024) (n1 := N) (y 1) (y 2)))

/-- A row lies in one of the four quarters. -/
theorem quarter_of {r : ℕ} (h : r < 1024) : (768 ≤ r ∧ r < 768 + 256) ∨ (512 ≤ r ∧ r < 512 + 256) ∨ (256 ≤ r ∧ r < 256 + 256)
    ∨ (0 ≤ r ∧ r < 0 + 256) := by omega

section Read
variable {sig : RefSig} {κ κ' : Kind} {sp sp' : Space} (a : View sig κ' sp' (Mat 1024 N) .f32) (v : Vec F (Mat 1024 N) .f32)
  (i : ∀ b, ![0, 0] b + (Mat 1024 N).size b ≤ (Mat 1024 N).size b)
  (i0 : ∀ b, ![0, 0] b + (Mat 256 N).size b ≤ (Mat 1024 N).size b) (i1 : ∀ b, ![256, 0] b + (Mat 256 N).size b ≤ (Mat 1024 N).size b)
  (i2 : ∀ b, ![512, 0] b + (Mat 256 N).size b ≤ (Mat 1024 N).size b) (i3 : ∀ b, ![768, 0] b + (Mat 256 N).size b ≤ (Mat 1024 N).size b)
  (hb : FTy.bf16.bits < FTy.f32.bits)

/-- The rows from `o` on of what the scratch holds, rounded. -/
abbrev flatPiece (o : ℕ) (io : ∀ b, ![o, 0] b + (Mat 256 N).size b ≤ (Mat 1024 N).size b) : Vec F (Mat 256 N) .bf16 :=
  truncf .bf16 (a.readCov [⟨Rect.unit (s := Mat 1024 N) ![0, 0] (Mat 1024 N).size i, v⟩]
    (Rect.unit (s := Mat 1024 N) ![o, 0] (Mat 256 N).size io).toLoadRect) hb

theorem flatPiece_at (o : ℕ) (io : ∀ b, ![o, 0] b + (Mat 256 N).size b ≤ (Mat 1024 N).size b) (x : (Mat 256 N).Idx) :
    flatPiece a v i hb o io x = flat v ((Rect.unit (s := Mat 1024 N) ![o, 0] (Mat 256 N).size io).emb x) := by
  have e := load_stored zero2 a v i (Rect.unit (s := Mat 1024 N) ![o, 0] (Mat 256 N).size io).toLoadRect x
  unfold flatPiece
  generalize a.readCov [⟨Rect.unit (s := Mat 1024 N) ![0, 0] (Mat 1024 N).size i, v⟩]
    (Rect.unit (s := Mat 1024 N) ![o, 0] (Mat 256 N).size io).toLoadRect = w at e ⊢
  show FloatOps.truncf .bf16 hb (w x) = _
  rw [e]
  rfl

theorem flat_mem (o : ℕ) (io : ∀ b, ![o, 0] b + (Mat 256 N).size b ≤ (Mat 1024 N).size b) (y : (Mat 1024 N).Idx)
    (h : o ≤ (y 0).val ∧ (y 0).val < o + 256) : y ∈ (Rect.unit (s := Mat 1024 N) ![o, 0] (Mat 256 N).size io).set := by
  refine Rect.mem_set_unit.mpr fun b => ?_
  match b with
  | ⟨0, _⟩ => exact h
  | ⟨1, _⟩ => exact ⟨Nat.zero_le _, by have h1 : (y 1).val < N := (y 1).isLt; show (y 1).val < 0 + N; omega⟩

/-- The four quarters stored one after the other make the rounded sum. -/
theorem flat_read (out : View sig κ sp (Mat 1024 N) .bf16) (f : out.ty.Contents (Elt F)) :
    out.read (Elt F) (out.writes (Elt F) f [⟨Rect.unit (s := Mat 1024 N) ![768, 0] (Mat 256 N).size i3, flatPiece a v i hb 768 i3⟩,
      ⟨Rect.unit (s := Mat 1024 N) ![512, 0] (Mat 256 N).size i2, flatPiece a v i hb 512 i2⟩,
      ⟨Rect.unit (s := Mat 1024 N) ![256, 0] (Mat 256 N).size i1, flatPiece a v i hb 256 i1⟩,
      ⟨Rect.unit (s := Mat 1024 N) ![0, 0] (Mat 256 N).size i0, flatPiece a v i hb 0 i0⟩]) = flat v :=
  four_stored out f (flat v) _ _ _ _
    (fun y => (quarter_of (show (y 0).val < 1024 from (y 0).isLt)).imp (flat_mem 768 i3 y)
      (Or.imp (flat_mem 512 i2 y) (Or.imp (flat_mem 256 i1 y) (flat_mem 0 i0 y))))
    (flatPiece_at a v i hb 768 i3) (flatPiece_at a v i hb 512 i2) (flatPiece_at a v i hb 256 i1) (flatPiece_at a v i hb 0 i0)

variable (j0 : ∀ b, ![0, 0, 0] b + (Slabs 1 256 N).size b ≤ (Slabs 1 1024 N).size b)
  (j1 : ∀ b, ![0, 256, 0] b + (Slabs 1 256 N).size b ≤ (Slabs 1 1024 N).size b)
  (j2 : ∀ b, ![0, 512, 0] b + (Slabs 1 256 N).size b ≤ (Slabs 1 1024 N).size b)
  (j3 : ∀ b, ![0, 768, 0] b + (Slabs 1 256 N).size b ≤ (Slabs 1 1024 N).size b) (hc : (Mat 256 N).ShapeCasts (Slabs 1 256 N))

theorem slabPiece_at (o : ℕ) (io : ∀ b, ![o, 0] b + (Mat 256 N).size b ≤ (Mat 1024 N).size b)
    (jo : ∀ b, ![0, o, 0] b + (Slabs 1 256 N).size b ≤ (Slabs 1 1024 N).size b) (x : (Slabs 1 256 N).Idx) :
    shapeCast (Slabs 1 256 N) (flatPiece a v i hb o io) hc x
      = slab v ((Rect.unit (s := Slabs 1 1024 N) ![0, o, 0] (Slabs 1 256 N).size jo).emb x) :=
  (slab_at _ hc x).trans ((flatPiece_at a v i hb o io _).trans (congrArg (fun z => FloatOps.truncf .bf16 hb (v z)) (funext fun b =>
    match b with
    | ⟨0, _⟩ => rfl
    | ⟨1, _⟩ => rfl)))

theorem slab_mem (o : ℕ) (jo : ∀ b, ![0, o, 0] b + (Slabs 1 256 N).size b ≤ (Slabs 1 1024 N).size b) (y : (Slabs 1 1024 N).Idx)
    (h : o ≤ (y 1).val ∧ (y 1).val < o + 256) : y ∈ (Rect.unit (s := Slabs 1 1024 N) ![0, o, 0] (Slabs 1 256 N).size jo).set := by
  refine Rect.mem_set_unit.mpr fun b => ?_
  match b with
  | ⟨0, _⟩ => exact ⟨Nat.zero_le _, by have h1 : (y 0).val < 1 := (y 0).isLt; show (y 0).val < 0 + 1; omega⟩
  | ⟨1, _⟩ => exact h
  | ⟨2, _⟩ => exact ⟨Nat.zero_le _, by have h1 : (y 2).val < N := (y 2).isLt; show (y 2).val < 0 + N; omega⟩

/-- The same into a slab. -/
theorem slab_read (out : View sig κ sp (Slabs 1 1024 N) .bf16) (f : out.ty.Contents (Elt F)) :
    out.read (Elt F) (out.writes (Elt F) f
     [⟨Rect.unit (s := Slabs 1 1024 N) ![0, 768, 0] (Slabs 1 256 N).size j3, shapeCast (Slabs 1 256 N) (flatPiece a v i hb 768 i3) hc⟩,
      ⟨Rect.unit (s := Slabs 1 1024 N) ![0, 512, 0] (Slabs 1 256 N).size j2, shapeCast (Slabs 1 256 N) (flatPiece a v i hb 512 i2) hc⟩,
      ⟨Rect.unit (s := Slabs 1 1024 N) ![0, 256, 0] (Slabs 1 256 N).size j1, shapeCast (Slabs 1 256 N) (flatPiece a v i hb 256 i1) hc⟩,
      ⟨Rect.unit (s := Slabs 1 1024 N) ![0, 0, 0] (Slabs 1 256 N).size j0, shapeCast (Slabs 1 256 N) (flatPiece a v i hb 0 i0) hc⟩])
      = slab v :=
  four_stored out f (slab v) _ _ _ _
    (fun y => (quarter_of (show (y 1).val < 1024 from (y 1).isLt)).imp (slab_mem 768 j3 y)
      (Or.imp (slab_mem 512 j2 y) (Or.imp (slab_mem 256 j1 y) (slab_mem 0 j0 y))))
    (slabPiece_at a v i hb hc 768 i3 j3) (slabPiece_at a v i hb hc 512 i2 j2) (slabPiece_at a v i hb hc 256 i1 j1)
    (slabPiece_at a v i hb hc 0 i0 j0)

end Read

end Quarters

/-! ## A matrix and its slabs -/

/-- A matrix put together from four slabs of its columns. -/
theorem joined_at {H W C : ℕ} (hC : C = 4 * W) (B : (Slabs 4 H W).Idx → EReal) (ht : (Slabs 4 H W).Transposes [1, 0, 2] (Slabs H 4 W))
    (hc : (Slabs H 4 W).ShapeCasts (Mat H C)) (x : (Mat H C).Idx) :
    shapeCast (Mat H C) (transpose (Slabs H 4 W) [1, 0, 2] B ht) hc x = el3 B ((x 1).val / W) (x 0).val ((x 1).val % W) := by
  subst hC
  have h1 : (x 1).val < 4 * W := (x 1).isLt
  have hW : 0 < W := by omega
  have hq : (x 1).val / W < 4 := Nat.div_lt_of_lt_mul (lt_of_lt_of_eq h1 (Nat.mul_comm 4 W))
  refine (shapeCast_apply _ hc x (ValueIdx.ix3 (n0 := H) (n1 := 4) (n2 := W) (x 0) ⟨(x 1).val / W, hq⟩ ⟨(x 1).val % W, Nat.mod_lt _ hW⟩) ?_).trans ?_
  · rw [Shape.rowMajor_val_two (d := ![H, 4 * W]), Shape.rowMajor_val_three (d := ![H, 4, W])]
    show ((x 0).val * 4 + (x 1).val / W) * W + (x 1).val % W = (x 0).val * (4 * W) + (x 1).val
    have e := Nat.div_add_mod (x 1).val W
    rw [Nat.add_mul, Nat.add_assoc, Nat.mul_assoc, Nat.mul_comm ((x 1).val / W) W, e]
  · refine (transpose_apply [1, 0, 2] B ht _ (ValueIdx.ix3 (n0 := 4) (n1 := H) (n2 := W) ⟨(x 1).val / W, hq⟩ (x 0) ⟨(x 1).val % W, Nat.mod_lt _ hW⟩)
      (fun b => match b with
        | ⟨0, _⟩ => rfl
        | ⟨1, _⟩ => rfl
        | ⟨2, _⟩ => rfl)).trans ?_
    exact at3 B _ rfl rfl rfl

/-- A matrix's transpose parted into four slabs of its columns. -/
theorem parted_at {M W C : ℕ} (hC : C = 4 * W) (v : (Mat C M).Idx → EReal) (g : ℕ → ℕ → EReal)
    (hv : ∀ z, v z = g (z 0).val (z 1).val) (h0 : (Mat C M).Transposes [1, 0] (Mat M C))
    (hc : (Mat M C).ShapeCasts (Slabs M 4 W)) (ht : (Slabs M 4 W).Transposes [1, 0, 2] (Slabs 4 M W)) (x : (Slabs 4 M W).Idx) :
    transpose (Slabs 4 M W) [1, 0, 2] (shapeCast (Slabs M 4 W) (transpose (Mat M C) [1, 0] v h0) hc) ht x
      = g (W * (x 0).val + (x 2).val) (x 1).val := by
  subst hC
  have hx0 : (x 0).val < 4 := (x 0).isLt
  have hx2 : (x 2).val < W := (x 2).isLt
  have hlt : W * (x 0).val + (x 2).val < 4 * W := by
    have := Nat.mul_le_mul_left W (show (x 0).val ≤ 3 by omega)
    omega
  refine (transpose_apply [1, 0, 2] _ ht x (ValueIdx.ix3 (n0 := M) (n1 := 4) (n2 := W) (x 1) (x 0) (x 2)) (fun b => match b with
    | ⟨0, _⟩ => rfl
    | ⟨1, _⟩ => rfl
    | ⟨2, _⟩ => rfl)).trans ?_
  refine (shapeCast_apply _ hc _ (ValueIdx.ix2 (n0 := M) (n1 := 4 * W) (x 1) ⟨W * (x 0).val + (x 2).val, hlt⟩) ?_).trans ?_
  · rw [Shape.rowMajor_val_two (d := ![M, 4 * W]), Shape.rowMajor_val_three (d := ![M, 4, W])]
    show (x 1).val * (4 * W) + (W * (x 0).val + (x 2).val) = ((x 1).val * 4 + (x 0).val) * W + (x 2).val
    rw [Nat.add_mul, Nat.mul_assoc, Nat.mul_comm W (x 0).val, Nat.add_assoc]
  · refine (transpose_apply [1, 0] v h0 _ (ValueIdx.ix2 (n0 := 4 * W) (n1 := M) ⟨W * (x 0).val + (x 2).val, hlt⟩ (x 1)) (fun b => match b with
      | ⟨0, _⟩ => rfl
      | ⟨1, _⟩ => rfl)).trans ?_
    exact hv _

/-! ## The sums the calls compute -/

/-- Rows of `X` against rows of `D`, the result's columns laid in four slabs. -/
def rowsIntoSlabs {M W C : ℕ} (X : (Mat 8192 M).Idx → EReal) (D : (Mat 8192 C).Idx → EReal) (i : (Slabs 4 M W).Idx) : EReal :=
  ∑ s ∈ Finset.range 8192, el2 X s (i 1).val * el2 D s (W * (i 0).val + (i 2).val)

/-- Columns of `D` against the columns of a weight laid in four slabs of `W` of them. -/
def colsOfSlabs {H W C : ℕ} (D : (Mat 8192 C).Idx → EReal) (B : (Slabs 4 H W).Idx → EReal) (i : (Mat 8192 H).Idx) : EReal :=
  ∑ s ∈ Finset.range (W * 4), el2 D (i 0).val s * el3 B (s / W) (i 1).val (s % W)

/-- Columns of `X` against rows of a weight whose columns are laid in four slabs of `W` of them. -/
def rowsOfSlabs {H W C : ℕ} (X : (Mat 8192 H).Idx → EReal) (B : (Slabs 4 H W).Idx → EReal) (i : (Mat 8192 C).Idx) : EReal :=
  ∑ s : Fin H, el2 X (i 0).val s.val * el3 B ((i 1).val / W) s.val ((i 1).val % W)

/-- Rows of `X` against rows of `D`. -/
def rowsProduct {M N : ℕ} (X : (Mat 8192 M).Idx → EReal) (D : (Mat 8192 N).Idx → EReal) (i : (Mat M N).Idx) : EReal :=
  ∑ s ∈ Finset.range 8192, el2 X s (i 0).val * el2 D s (i 1).val

theorem rowsProduct_tile {M N a b : ℕ} (X : (Mat 8192 M).Idx → EReal) (D : (Mat 8192 N).Idx → EReal) (i : (Mat M N).Idx)
    (e0 : (i 0).val = a) (e1 : (i 1).val = b) : ∑ s ∈ Finset.range 8192, el2 X s a * el2 D s b = rowsProduct X D i := by
  unfold rowsProduct
  rw [e0, e1]

/-- Columns of `D` against columns of `B`. -/
def colsProduct {H K : ℕ} (D : (Mat 8192 K).Idx → EReal) (B : (Mat H K).Idx → EReal) (i : (Mat 8192 H).Idx) : EReal :=
  ∑ s : Fin K, el2 D (i 0).val s.val * el2 B (i 1).val s.val

theorem colsProduct_tile {H K a b : ℕ} (D : (Mat 8192 K).Idx → EReal) (B : (Mat H K).Idx → EReal) (i : (Mat 8192 H).Idx)
    (e0 : (i 0).val = a) (e1 : (i 1).val = b) : ∑ s : Fin K, el2 D a s.val * el2 B b s.val = colsProduct D B i := by
  unfold colsProduct
  rw [e0, e1]

/-! ## A tile's place in them: `n` blocks of `b` columns make a slab -/

theorem slab_of {b n q y : ℕ} (hy : y < b) : (b * q + y) / (b * n) = q / n ∧ (b * q + y) % (b * n) = b * (q % n) + y := by
  have hb : 0 < b := by omega
  have hd : (b * q + y) / b = q := by rw [Nat.mul_add_div hb, Nat.div_eq_of_lt hy, Nat.add_zero]
  refine ⟨by rw [← Nat.div_div_eq_div_mul, hd], ?_⟩
  rw [Nat.mod_mul, hd, Nat.mul_add_mod, Nat.mod_eq_of_lt hy, Nat.add_comm]

theorem rowsIntoSlabs_tile {M C b n q y r : ℕ} (X : (Mat 8192 M).Idx → EReal) (D : (Mat 8192 C).Idx → EReal) (i : (Slabs 4 M (b * n)).Idx)
    (e0 : (i 0).val = q / n) (e1 : (i 1).val = r) (e2 : (i 2).val = b * (q % n) + y) :
    ∑ s ∈ Finset.range 8192, el2 X s r * el2 D s (b * q + y) = rowsIntoSlabs (W := b * n) X D i := by
  unfold rowsIntoSlabs
  rw [e0, e1, e2, Nat.mul_assoc, ← Nat.add_assoc, ← Nat.mul_add, Nat.div_add_mod]

/-- Tile `p`'s columns are slab `p`'s. -/
theorem term_of_slab {H W : ℕ} (B : (Slabs 4 H W).Idx → EReal) (p r : ℕ) (k : Fin W) :
    el3 B p r k.val = el3 B ((W * p + k.val) / W) r ((W * p + k.val) % W) := by
  have hW : 0 < W := Nat.lt_of_le_of_lt (Nat.zero_le _) k.isLt
  rw [Nat.mul_add_div hW, Nat.div_eq_of_lt k.isLt, Nat.add_zero, Nat.mul_add_mod, Nat.mod_eq_of_lt k.isLt]

theorem colsOfSlabs_tile {H W C a b : ℕ} (D : (Mat 8192 C).Idx → EReal) (B : (Slabs 4 H W).Idx → EReal) (i : (Mat 8192 H).Idx)
    (e0 : (i 0).val = a) (e1 : (i 1).val = b) :
    ∑ s ∈ Finset.range (W * 4), el2 D a s * el3 B (s / W) b (s % W) = colsOfSlabs D B i := by
  unfold colsOfSlabs
  rw [e0, e1]

theorem rowsOfSlabs_tile {H C b n q y r : ℕ} (X : (Mat 8192 H).Idx → EReal) (B : (Slabs 4 H (b * n)).Idx → EReal) (i : (Mat 8192 C).Idx)
    (hy : y < b) (e0 : (i 0).val = r) (e1 : (i 1).val = b * q + y) :
    ∑ s : Fin H, el2 X r s.val * el3 B (q / n) s.val (b * (q % n) + y) = rowsOfSlabs (W := b * n) X B i := by
  unfold rowsOfSlabs
  rw [e0, e1, (slab_of hy).1, (slab_of hy).2]

end Cert.Tiles

end
-- ==== Proof.DWin.lean ====
/-
  The gradient of the combined projection's weight, gathered over four tiles of rows and stored in slabs of columns.
-/
module

public import proofs.«01_k».proof.Proof.Tiles
public import proofs.«01_k».proof.Proof.Gen.KernelWinIdeal.Value
public import proofs.«01_k».proof.Proof.Gen.ReferenceWinIdeal.Read
public import proofs.«01_k».proof.Defs

@[expose] public section

set_option maxRecDepth 16384

noncomputable section

namespace Cert.DWin

open Cert.KernelWinIdeal Cert.KernelWinIdeal.Gen Cert.Product Cert.Tiles
open Idealize.ShloMosaic Idealize.ShloMosaic.TcCoe Idealize.SL.Sem

/-! ## What the points store -/

section Stores
variable {F : FTy → Type} [FloatOps F] (m : (ℓ : Loc nD τ sig) → Buf (Elt F) ℓ) (c : Dev nD)

theorem scratch_first (t : Fin cfg0.N) (h : t.val % 4 = 0) :
    (outsAt0 m c t.val t.isLt).2 = k0_pay2 (iblk m c 0 t) (iblk m c 1 t) := by
  rw [outsAt0_A m c t h (by omega) (by omega)]
  dsimp only
  unfold sout0_A_0 kernelRun0_A
  dsimp only
  rw [read_stored zero2, load_whole zero2, load_whole zero2]

theorem scratch_next (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    unfold sout0_C_0 kernelRun0_C
    dsimp only
    unfold kernelRun0_C.sl.HS0_1
    rw [read_stored zero2, load_whole zero2, load_whole zero2, load_whole zero2]
  · rw [outsAt0_B m c t h (by omega) h3]
    dsimp only
    unfold sout0_B_0 kernelRun0_B
    dsimp only
    rw [read_stored zero2, load_whole zero2, load_whole zero2]
    exact congrArg (k0_pay3 _ _) (load_whole zero2 (Memref.isWhole_whole _) _ _)

theorem block_last (t : Fin cfg0.N) (h3 : t.val % 4 = 3) :
    (outsAt0 m c t.val t.isLt).1 = slab (N := 768) (outsAt0 m c t.val t.isLt).2 := by
  rw [scratch_next m c t (by omega), outsAt0_C m c t (by omega) (by omega) h3]
  dsimp only
  unfold out0_C_2 kernelRun0_C
  dsimp only
  unfold kernelRun0_C.sl.v12 kernelRun0_C.sl.v17 kernelRun0_C.sl.v22 kernelRun0_C.sl.v27 kernelRun0_C.sl.HS0_1
  rw [load_whole zero2, load_whole zero2, load_whole zero2]
  exact slab_read (N := 768) _ _ _ _ _ _ _ _ _ _ _ _ _ _ _

end Stores

/-! ## Over the extended reals -/

section Value
variable (m : (ℓ : Loc nD τ sig) → Buf (Elt Ideal) ℓ) (c : Dev nD)

theorem index0 : ∀ t : Fin cfg0.N, (cfg0.win 0).index t = ![t.val % 4, t.val / 4 / 12] := by decide +kernel
theorem index1 : ∀ t : Fin cfg0.N, (cfg0.win 1).index t = ![t.val % 4, t.val / 4 % 12] := by decide +kernel
theorem index2 : ∀ t : Fin cfg0.N, (cfg0.win 2).index t = ![t.val / 4 % 12 / 3, t.val / 4 / 12, t.val / 4 % 12 % 3] := by decide +kernel

theorem product_at (t : Fin cfg0.N) (y : S1024x768.Idx) : k0_pay1 (F := Ideal) (iblk m c 0 t) (iblk m c 1 t) y = ∑ k : Fin 2048,
    el2 (M := 8192) (N := 2048) (m ((c.tc : Thread nD τ).loc main_arg0)) (2048 * (t.val % 4) + k.val) (1024 * (t.val / 4 / 12) + (y 0).val)
      * el2 (M := 8192) (N := 9216) (m ((c.tc : Thread nD τ).loc main_arg1)) (2048 * (t.val % 4) + k.val) (768 * (t.val / 4 % 12) + (y 1).val) := by
  refine (rows_rows dot_S2048x1024_S2048x768_S1024x768_0_0_1_1_n_n rfl rfl (fun _ _ => rfl) (fun _ _ => rfl) (fun _ _ => rfl)
    (fun _ _ => rfl) (iblk m c 0 t) (iblk m c 1 t) y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 2048) _ _ (by blk_simp [index0 t]; simp; omega) (by blk_simp [index0 t]; simp; omega)
  · unfold iblk
    show V m c main_arg1 (((cfg0.win 1).blk t).view.emb _) = _
    rw [V_main_arg1]
    exact at2 (M := 8192) (N := 9216) _ _ (by blk_simp [index1 t]; simp; omega) (by blk_simp [index1 t]; simp; omega)

theorem array_at : (dats m 0 c).arrAt 2 cfg0.N
    = rowsIntoSlabs (M := 2048) (W := 2304) (C := 9216) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2, block_last m c t h3]
  refine (gathered (S := S1024x768) (K := 2048) (fun n hn => (outsAt0 m c n hn).2) (fun t => k0_pay1 (F := Ideal) (iblk m c 0 t) (iblk m c 1 t))
    (fun y q s => el2 (M := 8192) (N := 2048) (m ((c.tc : Thread nD τ).loc main_arg0)) s (1024 * (q / 12) + (y 0).val)
      * el2 (M := 8192) (N := 9216) (m ((c.tc : Thread nD τ).loc main_arg1)) s (768 * (q % 12) + (y 1).val)) (product_at m c)
    (fun t h => (scratch_first m c t h).trans (shapeCast_self _ _)) (fun t h => (scratch_next m c t h).trans (shapeCast_self _ _)) t h3 _).trans ?_
  exact rowsIntoSlabs_tile (M := 2048) (b := 768) (n := 3) (q := t.val / 4 % 12) (y := (y 2).val)
    (r := 1024 * (t.val / 4 / 12) + (y 1).val) _ _ _ (by blk_simp [index2 t]) (by blk_simp [index2 t]; omega)
    (by blk_simp [index2 t]; omega)

end Value

section Reference
open Cert.ReferenceWinIdeal.Read

theorem reference_at (X : S8192x2048.Idx → EReal) (D : S8192x9216.Idx → EReal) :
    val_main_v8 (F := Ideal) X D = rowsIntoSlabs (M := 2048) (W := 2304) (C := 9216) X D := by
  funext i
  refine parted_at (M := 2048) (W := 2304) (C := 9216) rfl (val_main_v4 (F := Ideal) X D)
    (fun a b => ∑ s ∈ Finset.range 8192, el2 (M := 8192) (N := 2048) X s b * el2 (M := 8192) (N := 9216) D s a) (fun z => ?_) _ _ _ i
  refine (val_main_v4_apply X D z).trans ?_
  rw [Finset.sum_range]
  exact Finset.sum_congr rfl fun k _ => (mul_comm _ _).trans (congrArg₂ (HMul.hMul (α := EReal))
    (at2 (M := 8192) (N := 2048) X _ rfl rfl) (at2 (M := 8192) (N := 9216) D _ rfl rfl))

end Reference

/-- The kernel's call and the reference end with the same gradient. -/
theorem algebraic : Cert.algebraic_KernelWinIdeal_ReferenceWinIdeal (hKernelWinIdeal := Cert.KernelWinIdeal.Gen.facts)
    (hReferenceWinIdeal := Cert.ReferenceWinIdeal.Gen.facts) := by
  intro m g m' g' _ hin
  refine ⟨_, Cert.KernelWinIdeal.Value.run_blocks m g, (θ_run Cert.ReferenceWinIdeal.defs _ _).mono (fun r hr c => ?_)
    (Cert.ReferenceWinIdeal.Value.run m' g')⟩
  obtain ⟨i0, i1⟩ := hin c
  obtain ⟨h0, hrest⟩ := hr c
  refine ⟨h0.trans ?_, hrest⟩
  rw [Cert.ReferenceWinIdeal.Read.val_main_v8_eq, i0, i1]
  exact (reference_at _ _).trans (array_at m c).symm

theorem frame_reference : Cert.quiescent_ReferenceWinIdeal (hReferenceWinIdeal := Cert.ReferenceWinIdeal.Gen.facts) := fun m ρ _ =>
  (θ_run Cert.ReferenceWinIdeal.defs _ _).mono (fun r h => ⟨fun c => (h c).2, sem_eq_zero_of_no_sems (by decide) r.2⟩)
    (Cert.ReferenceWinIdeal.Value.run m ρ)

end Cert.DWin

end
-- ==== Proof.DH0.lean ====
/-
  The gradient of the combined projection's input, gathered over the four slabs the weight is laid in.
-/
module

public import proofs.«01_k».proof.Proof.Tiles
public import proofs.«01_k».proof.Proof.Gen.KernelH0Ideal.Value
public import proofs.«01_k».proof.Proof.Gen.ReferenceH0Ideal.Read
public import proofs.«01_k».proof.Defs

@[expose] public section

set_option maxRecDepth 16384

noncomputable section

namespace Cert.DH0

open Cert.KernelH0Ideal Cert.KernelH0Ideal.Gen Cert.Product Cert.Tiles
open Idealize.ShloMosaic Idealize.ShloMosaic.TcCoe Idealize.SL.Sem

/-! ## What the points store -/

section Stores
variable {F : FTy → Type} [FloatOps F] (m : (ℓ : Loc nD τ sig) → Buf (Elt F) ℓ) (c : Dev nD)

theorem scratch_first (t : Fin cfg0.N) (h : t.val % 4 = 0) :
    (outsAt0 m c t.val t.isLt).2 = k0_pay2 (iblk m c 0 t) (iblk m c 1 t) := by
  rw [outsAt0_A m c t h (by omega) (by omega)]
  dsimp only
  unfold sout0_A_0 kernelRun0_A
  dsimp only
  rw [read_stored zero2, load_whole zero2, load_whole zero3]

theorem scratch_next (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    unfold sout0_C_0 kernelRun0_C
    dsimp only
    unfold kernelRun0_C.sl.HS0_1
    rw [read_stored zero2, load_whole zero2, load_whole zero3, load_whole zero2]
  · rw [outsAt0_B m c t h (by omega) h3]
    dsimp only
    unfold sout0_B_0 kernelRun0_B
    dsimp only
    rw [read_stored zero2, load_whole zero2, load_whole zero3]
    exact congrArg (k0_pay3 _ _) (load_whole zero2 (Memref.isWhole_whole _) _ _)

theorem block_last (t : Fin cfg0.N) (h3 : t.val % 4 = 3) :
    (outsAt0 m c t.val t.isLt).1 = flat (N := 1024) (outsAt0 m c t.val t.isLt).2 := by
  rw [scratch_next m c t (by omega), outsAt0_C m c t (by omega) (by omega) h3]
  dsimp only
  unfold out0_C_2 kernelRun0_C
  dsimp only
  unfold kernelRun0_C.sl.v13 kernelRun0_C.sl.v16 kernelRun0_C.sl.v19 kernelRun0_C.sl.v22 kernelRun0_C.sl.HS0_1
  rw [load_whole zero2, load_whole zero3, load_whole zero2]
  exact flat_read (N := 1024) _ _ _ _ _ _ _ _ _ _

end Stores

/-! ## Over the extended reals -/

section Value
variable (m : (ℓ : Loc nD τ sig) → Buf (Elt Ideal) ℓ) (c : Dev nD)

theorem index0 : ∀ t : Fin cfg0.N, (cfg0.win 0).index t = ![t.val / 4 / 2, t.val % 4] := by decide +kernel
theorem index1 : ∀ t : Fin cfg0.N, (cfg0.win 1).index t = ![t.val % 4, t.val / 4 % 2, 0] := by decide +kernel
theorem index2 : ∀ t : Fin cfg0.N, (cfg0.win 2).index t = ![t.val / 4 / 2, t.val / 4 % 2] := by decide +kernel

theorem product_at (t : Fin cfg0.N) (y : S1024x1024.Idx) : k0_pay1 (F := Ideal) (iblk m c 0 t) (iblk m c 1 t) y = ∑ k : Fin 2304,
    (fun s : ℕ => el2 (M := 8192) (N := 9216) (m ((c.tc : Thread nD τ).loc main_arg0)) (1024 * (t.val / 4 / 2) + (y 0).val) s
      * el3 (P := 4) (M := 2048) (N := 2304) (m ((c.tc : Thread nD τ).loc main_arg1)) (s / 2304) (1024 * (t.val / 4 % 2) + (y 1).val) (s % 2304))
      (2304 * (t.val % 4) + k.val) := by
  refine (cols_cols dot_S1024x2304_S1024x2304_S1024x1024_1_1_0_0_n_n rfl rfl (fun _ _ => rfl) (fun _ _ => rfl) (fun _ _ => rfl)
    (fun _ _ => rfl) (iblk m c 0 t) _ y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 9216) _ _ (by blk_simp [index0 t]; simp; omega) (by blk_simp [index0 t]; simp; omega)
  · refine (unslab_at _ _ _).trans (Eq.trans ?_ (term_of_slab (H := 2048) (W := 2304) _ _ _ k))
    unfold iblk
    show V m c main_arg1 (((cfg0.win 1).blk t).view.emb _) = _
    rw [V_main_arg1]
    exact at3 (P := 4) (M := 2048) (N := 2304) _ _ (by blk_simp [index1 t]) (by blk_simp [index1 t]; simp; omega) (by blk_simp [index1 t])

theorem array_at : (dats m 0 c).arrAt 2 cfg0.N
    = colsOfSlabs (H := 2048) (W := 2304) (C := 9216) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2, block_last m c t h3]
  refine (gathered (S := S1024x1024) (K := 2304) (fun n hn => (outsAt0 m c n hn).2) (fun t => k0_pay1 (F := Ideal) (iblk m c 0 t) (iblk m c 1 t))
    (fun y q s => el2 (M := 8192) (N := 9216) (m ((c.tc : Thread nD τ).loc main_arg0)) (1024 * (q / 2) + (y 0).val) s
      * el3 (P := 4) (M := 2048) (N := 2304) (m ((c.tc : Thread nD τ).loc main_arg1)) (s / 2304) (1024 * (q % 2) + (y 1).val) (s % 2304))
    (product_at m c) (fun t h => (scratch_first m c t h).trans (shapeCast_self _ _))
    (fun t h => (scratch_next m c t h).trans (shapeCast_self _ _)) t h3 y).trans ?_
  exact colsOfSlabs_tile (H := 2048) (W := 2304) (C := 9216) _ _ _ (by blk_simp [index2 t]; omega) (by blk_simp [index2 t]; omega)

end Value

section Reference
open Cert.ReferenceH0Ideal.Read

theorem reference_at (D : S8192x9216.Idx → EReal) (B : S4x2048x2304.Idx → EReal) :
    val_main_v7 (F := Ideal) D B = colsOfSlabs (H := 2048) (W := 2304) (C := 9216) D B := by
  funext i
  rw [val_main_v7_apply]
  refine (val_main_v6_apply _ _ i).trans ?_
  unfold colsOfSlabs
  rw [Finset.sum_range]
  exact Finset.sum_congr rfl fun k _ => congrArg₂ (HMul.hMul (α := EReal)) (at2 (M := 8192) (N := 9216) D _ rfl rfl)
    (joined_at (H := 2048) (W := 2304) (C := 9216) rfl B _ _ _)

end Reference

/-- The kernel's call and the reference end with the same gradient. -/
theorem algebraic : Cert.algebraic_KernelH0Ideal_ReferenceH0Ideal (hKernelH0Ideal := Cert.KernelH0Ideal.Gen.facts)
    (hReferenceH0Ideal := Cert.ReferenceH0Ideal.Gen.facts) := by
  intro m g m' g' _ hin
  refine ⟨_, Cert.KernelH0Ideal.Value.run_blocks m g, (θ_run Cert.ReferenceH0Ideal.defs _ _).mono (fun r hr c => ?_)
    (Cert.ReferenceH0Ideal.Value.run m' g')⟩
  obtain ⟨i0, i1⟩ := hin c
  obtain ⟨h0, hrest⟩ := hr c
  refine ⟨h0.trans ?_, hrest⟩
  rw [Cert.ReferenceH0Ideal.Read.val_main_v7_eq, i0, i1]
  exact (reference_at _ _).trans (array_at m c).symm

theorem frame_reference : Cert.quiescent_ReferenceH0Ideal (hReferenceH0Ideal := Cert.ReferenceH0Ideal.Gen.facts) := fun m ρ _ =>
  (θ_run Cert.ReferenceH0Ideal.defs _ _).mono (fun r h => ⟨fun c => (h c).2, sem_eq_zero_of_no_sems (by decide) r.2⟩)
    (Cert.ReferenceH0Ideal.Value.run m ρ)

end Cert.DH0

end
-- ==== Proof.DWpg.lean ====
/-
  The gradient of a square weight, gathered over four tiles of rows.
-/
module

public import proofs.«01_k».proof.Proof.Tiles
public import proofs.«01_k».proof.Proof.Gen.KernelWpgIdeal.Value
public import proofs.«01_k».proof.Proof.Gen.ReferenceWpgIdeal.Read
public import proofs.«01_k».proof.Defs

@[expose] public section

set_option maxRecDepth 16384

noncomputable section

namespace Cert.DWpg

open Cert.KernelWpgIdeal Cert.KernelWpgIdeal.Gen Cert.Product Cert.Tiles
open Idealize.ShloMosaic Idealize.ShloMosaic.TcCoe Idealize.SL.Sem

/-! ## What the points store -/

section Stores
variable {F : FTy → Type} [FloatOps F] (m : (ℓ : Loc nD τ sig) → Buf (Elt F) ℓ) (c : Dev nD)

theorem scratch_first (t : Fin cfg0.N) (h : t.val % 4 = 0) :
    (outsAt0 m c t.val t.isLt).2 = k0_pay2 (iblk m c 0 t) (iblk m c 1 t) := by
  rw [outsAt0_A m c t h (by omega) (by omega)]
  dsimp only
  unfold sout0_A_0 kernelRun0_A
  dsimp only
  rw [read_stored zero2, load_whole zero2, load_whole zero2]

theorem scratch_next (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    unfold sout0_C_0 kernelRun0_C
    dsimp only
    unfold kernelRun0_C.sl.HS0_1
    rw [read_stored zero2, load_whole zero2, load_whole zero2, load_whole zero2]
  · rw [outsAt0_B m c t h (by omega) h3]
    dsimp only
    unfold sout0_B_0 kernelRun0_B
    dsimp only
    rw [read_stored zero2, load_whole zero2, load_whole zero2]
    exact congrArg (k0_pay3 _ _) (load_whole zero2 (Memref.isWhole_whole _) _ _)

theorem block_last (t : Fin cfg0.N) (h3 : t.val % 4 = 3) :
    (outsAt0 m c t.val t.isLt).1 = flat (N := 1024) (outsAt0 m c t.val t.isLt).2 := by
  rw [scratch_next m c t (by omega), outsAt0_C m c t (by omega) (by omega) h3]
  dsimp only
  unfold out0_C_2 kernelRun0_C
  dsimp only
  unfold kernelRun0_C.sl.v12 kernelRun0_C.sl.v15 kernelRun0_C.sl.v18 kernelRun0_C.sl.v21 kernelRun0_C.sl.HS0_1
  rw [load_whole zero2, load_whole zero2, load_whole zero2]
  exact flat_read (N := 1024) _ _ _ _ _ _ _ _ _ _

end Stores

/-! ## Over the extended reals -/

section Value
variable (m : (ℓ : Loc nD τ sig) → Buf (Elt Ideal) ℓ) (c : Dev nD)

theorem index0 : ∀ t : Fin cfg0.N, (cfg0.win 0).index t = ![t.val % 4, t.val / 4 / 2] := by decide +kernel
theorem index1 : ∀ t : Fin cfg0.N, (cfg0.win 1).index t = ![t.val % 4, t.val / 4 % 2] := by decide +kernel
theorem index2 : ∀ t : Fin cfg0.N, (cfg0.win 2).index t = ![t.val / 4 / 2, t.val / 4 % 2] := by decide +kernel

theorem product_at (t : Fin cfg0.N) (y : S1024x1024.Idx) : k0_pay1 (F := Ideal) (iblk m c 0 t) (iblk m c 1 t) y = ∑ k : Fin 2048,
    el2 (M := 8192) (N := 2048) (m ((c.tc : Thread nD τ).loc main_arg0)) (2048 * (t.val % 4) + k.val) (1024 * (t.val / 4 / 2) + (y 0).val)
      * el2 (M := 8192) (N := 2048) (m ((c.tc : Thread nD τ).loc main_arg1)) (2048 * (t.val % 4) + k.val) (1024 * (t.val / 4 % 2) + (y 1).val) := by
  refine (rows_rows dot_S2048x1024_S2048x1024_S1024x1024_0_0_1_1_n_n rfl rfl (fun _ _ => rfl) (fun _ _ => rfl) (fun _ _ => rfl)
    (fun _ _ => rfl) (iblk m c 0 t) (iblk m c 1 t) y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 2048) _ _ (by blk_simp [index0 t]; simp; omega) (by blk_simp [index0 t]; simp; omega)
  · unfold iblk
    show V m c main_arg1 (((cfg0.win 1).blk t).view.emb _) = _
    rw [V_main_arg1]
    exact at2 (M := 8192) (N := 2048) _ _ (by blk_simp [index1 t]; simp; omega) (by blk_simp [index1 t]; simp; omega)

theorem array_at : (dats m 0 c).arrAt 2 cfg0.N
    = rowsProduct (M := 2048) (N := 2048) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2, block_last m c t h3]
  refine (gathered (S := S1024x1024) (K := 2048) (fun n hn => (outsAt0 m c n hn).2) (fun t => k0_pay1 (F := Ideal) (iblk m c 0 t) (iblk m c 1 t))
    (fun y q s => el2 (M := 8192) (N := 2048) (m ((c.tc : Thread nD τ).loc main_arg0)) s (1024 * (q / 2) + (y 0).val)
      * el2 (M := 8192) (N := 2048) (m ((c.tc : Thread nD τ).loc main_arg1)) s (1024 * (q % 2) + (y 1).val)) (product_at m c)
    (fun t h => (scratch_first m c t h).trans (shapeCast_self _ _)) (fun t h => (scratch_next m c t h).trans (shapeCast_self _ _)) t h3 y).trans ?_
  exact rowsProduct_tile (M := 2048) (N := 2048) _ _ _ (by blk_simp [index2 t]; omega) (by blk_simp [index2 t]; omega)

end Value

section Reference
open Cert.ReferenceWpgIdeal.Read

theorem reference_at (X D : S8192x2048.Idx → EReal) : val_main_v6 (F := Ideal) X D = rowsProduct (M := 2048) (N := 2048) X D := by
  funext i
  rw [val_main_v6_apply]
  refine (val_main_v5_apply _ _ i).trans ((val_main_v4_apply _ _ _).trans ?_)
  unfold rowsProduct
  rw [Finset.sum_range]
  exact Finset.sum_congr rfl fun k _ => (mul_comm _ _).trans (congrArg₂ (HMul.hMul (α := EReal))
    (at2 (M := 8192) (N := 2048) X _ rfl rfl) (at2 (M := 8192) (N := 2048) D _ rfl rfl))

end Reference

/-- The kernel's call and the reference end with the same gradient. -/
theorem algebraic : Cert.algebraic_KernelWpgIdeal_ReferenceWpgIdeal (hKernelWpgIdeal := Cert.KernelWpgIdeal.Gen.facts)
    (hReferenceWpgIdeal := Cert.ReferenceWpgIdeal.Gen.facts) := by
  intro m g m' g' _ hin
  refine ⟨_, Cert.KernelWpgIdeal.Value.run_blocks m g, (θ_run Cert.ReferenceWpgIdeal.defs _ _).mono (fun r hr c => ?_)
    (Cert.ReferenceWpgIdeal.Value.run m' g')⟩
  obtain ⟨i0, i1⟩ := hin c
  obtain ⟨h0, hrest⟩ := hr c
  refine ⟨h0.trans ?_, hrest⟩
  rw [Cert.ReferenceWpgIdeal.Read.val_main_v6_eq, i0, i1]
  exact (reference_at _ _).trans (array_at m c).symm

theorem frame_reference : Cert.quiescent_ReferenceWpgIdeal (hReferenceWpgIdeal := Cert.ReferenceWpgIdeal.Gen.facts) := fun m ρ _ =>
  (θ_run Cert.ReferenceWpgIdeal.defs _ _).mono (fun r h => ⟨fun c => (h c).2, sem_eq_zero_of_no_sems (by decide) r.2⟩)
    (Cert.ReferenceWpgIdeal.Value.run m ρ)

end Cert.DWpg

end
-- ==== Proof.DH2.lean ====
/-
  The gradient of a square product's input: columns against the square weight's columns, in one trip.
-/
module

public import proofs.«01_k».proof.Proof.Tiles
public import proofs.«01_k».proof.Proof.Gen.KernelH2Ideal.Value
public import proofs.«01_k».proof.Proof.Gen.ReferenceH2Ideal.Read
public import proofs.«01_k».proof.Defs

@[expose] public section

set_option maxRecDepth 16384

noncomputable section

namespace Cert.DH2

open Cert.KernelH2Ideal Cert.KernelH2Ideal.Gen Cert.Product Cert.Tiles
open Idealize.ShloMosaic Idealize.ShloMosaic.TcCoe Idealize.SL.Sem

section Value
variable (m : (ℓ : Loc nD τ sig) → Buf (Elt Ideal) ℓ) (c : Dev nD)

theorem index0 : ∀ t : Fin cfg0.N, (cfg0.win 0).index t = ![t.val / 2, 0] := by decide +kernel
theorem index1 : ∀ t : Fin cfg0.N, (cfg0.win 1).index t = ![t.val % 2, 0] := by decide +kernel
theorem index2 : ∀ t : Fin cfg0.N, (cfg0.win 2).index t = ![t.val / 2, t.val % 2] := by decide +kernel

theorem out_at (t : Fin cfg0.N) (y : S1024x1024.Idx) : out0_2 (F := Ideal) (iblk m c 0 t) (iblk m c 1 t) y = ∑ k : Fin 2048,
    el2 (M := 8192) (N := 2048) (m ((c.tc : Thread nD τ).loc main_arg0)) (1024 * (t.val / 2) + (y 0).val) k.val
      * el2 (M := 2048) (N := 2048) (m ((c.tc : Thread nD τ).loc main_arg1)) (1024 * (t.val % 2) + (y 1).val) k.val := by
  unfold out0_2 r0_1 r0_0
  rw [View.canon_unit_zero zero2, View.ld_unit_zero zero2, View.ld_unit_zero zero2]
  refine (cols_cols dot_S1024x2048_S1024x2048_S1024x1024_1_1_0_0_n_n rfl rfl (fun _ _ => rfl) (fun _ _ => rfl) (fun _ _ => rfl)
    (fun _ _ => rfl) (iblk m c 0 t) (iblk m c 1 t) y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 2048) _ _ (by blk_simp [index0 t]; simp; omega) (by blk_simp [index0 t])
  · unfold iblk
    show V m c main_arg1 (((cfg0.win 1).blk t).view.emb _) = _
    rw [V_main_arg1]
    exact at2 (M := 2048) (N := 2048) _ _ (by blk_simp [index1 t]; simp; omega) (by blk_simp [index1 t])

theorem array_at : (dats m 0 c).arrAt 2 cfg0.N
    = colsProduct (H := 2048) (K := 2048) (m ((c.tc : Thread nD τ).loc main_arg0)) (m ((c.tc : Thread nD τ).loc main_arg1)) := by
  refine (dats m 0 c).arrAt_eq_of_covers 2 _ (by decide +kernel) fun t hf y => ?_
  blk_simp
  rw [after0_2]
  exact (out_at m c t y).trans
    (colsProduct_tile (H := 2048) (K := 2048) _ _ _ (by blk_simp [index2 t]; omega) (by blk_simp [index2 t]; omega))

end Value

section Reference
open Cert.ReferenceH2Ideal.Read

theorem reference_at (D : S8192x2048.Idx → EReal) (B : S2048x2048.Idx → EReal) :
    val_main_v5 (F := Ideal) D B = colsProduct (H := 2048) (K := 2048) D B := by
  funext i
  rw [val_main_v5_apply]
  refine (val_main_v4_apply _ _ i).trans ?_
  exact Finset.sum_congr rfl fun k _ => congrArg₂ (HMul.hMul (α := EReal)) (at2 (M := 8192) (N := 2048) D _ rfl rfl)
    (at2 (M := 2048) (N := 2048) B _ rfl rfl)

end Reference

/-- The kernel's call and the reference end with the same gradient. -/
theorem algebraic : Cert.algebraic_KernelH2Ideal_ReferenceH2Ideal (hKernelH2Ideal := Cert.KernelH2Ideal.Gen.facts)
    (hReferenceH2Ideal := Cert.ReferenceH2Ideal.Gen.facts) := by
  intro m g m' g' _ hin
  refine ⟨_, Cert.KernelH2Ideal.Value.run_blocks m g, (θ_run Cert.ReferenceH2Ideal.defs _ _).mono (fun r hr c => ?_)
    (Cert.ReferenceH2Ideal.Value.run m' g')⟩
  obtain ⟨i0, i1⟩ := hin c
  obtain ⟨h0, hrest⟩ := hr c
  refine ⟨h0.trans ?_, hrest⟩
  rw [Cert.ReferenceH2Ideal.Read.val_main_v5_eq, i0, i1]
  exact (reference_at _ _).trans (array_at m c).symm

theorem frame_reference : Cert.quiescent_ReferenceH2Ideal (hReferenceH2Ideal := Cert.ReferenceH2Ideal.Gen.facts) := fun m ρ _ =>
  (θ_run Cert.ReferenceH2Ideal.defs _ _).mono (fun r h => ⟨fun c => (h c).2, sem_eq_zero_of_no_sems (by decide) r.2⟩)
    (Cert.ReferenceH2Ideal.Value.run m ρ)

end Cert.DH2

end
-- ==== Proof.DWcp.lean ====
/-
  The gradient of the convolution branch's projection, gathered over four tiles of rows and stored in slabs of columns.
-/
module

public import proofs.«01_k».proof.Proof.Tiles
public import proofs.«01_k».proof.Proof.Gen.KernelWcpIdeal.Value
public import proofs.«01_k».proof.Proof.Gen.ReferenceWcpIdeal.Read
public import proofs.«01_k».proof.Defs

@[expose] public section

set_option maxRecDepth 16384

noncomputable section

namespace Cert.DWcp

open Cert.KernelWcpIdeal Cert.KernelWcpIdeal.Gen Cert.Product Cert.Tiles
open Idealize.ShloMosaic Idealize.ShloMosaic.TcCoe Idealize.SL.Sem

/-! ## What the points store -/

section Stores
variable {F : FTy → Type} [FloatOps F] (m : (ℓ : Loc nD τ sig) → Buf (Elt F) ℓ) (c : Dev nD)

theorem scratch_first (t : Fin cfg0.N) (h : t.val % 4 = 0) :
    (outsAt0 m c t.val t.isLt).2 = k0_pay2 (iblk m c 0 t) (iblk m c 1 t) := by
  rw [outsAt0_A m c t h (by omega) (by omega)]
  dsimp only
  unfold sout0_A_0 kernelRun0_A
  dsimp only
  rw [read_stored zero2, load_whole zero2, load_whole zero2]

theorem scratch_next (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    unfold sout0_C_0 kernelRun0_C
    dsimp only
    unfold kernelRun0_C.sl.HS0_1
    rw [read_stored zero2, load_whole zero2, load_whole zero2, load_whole zero2]
  · rw [outsAt0_B m c t h (by omega) h3]
    dsimp only
    unfold sout0_B_0 kernelRun0_B
    dsimp only
    rw [read_stored zero2, load_whole zero2, load_whole zero2]
    exact congrArg (k0_pay3 _ _) (load_whole zero2 (Memref.isWhole_whole _) _ _)

theorem block_last (t : Fin cfg0.N) (h3 : t.val % 4 = 3) :
    (outsAt0 m c t.val t.isLt).1 = slab (N := 512) (outsAt0 m c t.val t.isLt).2 := by
  rw [scratch_next m c t (by omega), outsAt0_C m c t (by omega) (by omega) h3]
  dsimp only
  unfold out0_C_2 kernelRun0_C
  dsimp only
  unfold kernelRun0_C.sl.v12 kernelRun0_C.sl.v17 kernelRun0_C.sl.v22 kernelRun0_C.sl.v27 kernelRun0_C.sl.HS0_1
  rw [load_whole zero2, load_whole zero2, load_whole zero2]
  exact slab_read (N := 512) _ _ _ _ _ _ _ _ _ _ _ _ _ _ _

end Stores

/-! ## Over the extended reals -/

section Value
variable (m : (ℓ : Loc nD τ sig) → Buf (Elt Ideal) ℓ) (c : Dev nD)

theorem index0 : ∀ t : Fin cfg0.N, (cfg0.win 0).index t = ![t.val % 4, 0] := by decide +kernel
theorem index1 : ∀ t : Fin cfg0.N, (cfg0.win 1).index t = ![t.val % 4, t.val / 4] := by decide +kernel
theorem index2 : ∀ t : Fin cfg0.N, (cfg0.win 2).index t = ![t.val / 4, 0, 0] := by decide +kernel

theorem product_at (t : Fin cfg0.N) (y : S1024x512.Idx) : k0_pay1 (F := Ideal) (iblk m c 0 t) (iblk m c 1 t) y = ∑ k : Fin 2048,
    el2 (M := 8192) (N := 1024) (m ((c.tc : Thread nD τ).loc main_arg0)) (2048 * (t.val % 4) + k.val) (y 0).val
      * el2 (M := 8192) (N := 2048) (m ((c.tc : Thread nD τ).loc main_arg1)) (2048 * (t.val % 4) + k.val) (512 * (t.val / 4) + (y 1).val) := by
  refine (rows_rows dot_S2048x1024_S2048x512_S1024x512_0_0_1_1_n_n rfl rfl (fun _ _ => rfl) (fun _ _ => rfl) (fun _ _ => rfl)
    (fun _ _ => rfl) (iblk m c 0 t) (iblk m c 1 t) y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 1024) _ _ (by blk_simp [index0 t]; simp; omega) (by blk_simp [index0 t])
  · unfold iblk
    show V m c main_arg1 (((cfg0.win 1).blk t).view.emb _) = _
    rw [V_main_arg1]
    exact at2 (M := 8192) (N := 2048) _ _ (by blk_simp [index1 t]; simp; omega) (by blk_simp [index1 t]; simp; omega)

theorem array_at : (dats m 0 c).arrAt 2 cfg0.N
    = rowsIntoSlabs (M := 1024) (W := 512) (C := 2048) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2, block_last m c t h3]
  refine (gathered (S := S1024x512) (K := 2048) (fun n hn => (outsAt0 m c n hn).2) (fun t => k0_pay1 (F := Ideal) (iblk m c 0 t) (iblk m c 1 t))
    (fun y q s => el2 (M := 8192) (N := 1024) (m ((c.tc : Thread nD τ).loc main_arg0)) s (y 0).val
      * el2 (M := 8192) (N := 2048) (m ((c.tc : Thread nD τ).loc main_arg1)) s (512 * q + (y 1).val)) (product_at m c)
    (fun t h => (scratch_first m c t h).trans (shapeCast_self _ _)) (fun t h => (scratch_next m c t h).trans (shapeCast_self _ _)) t h3 _).trans ?_
  exact rowsIntoSlabs_tile (M := 1024) (b := 512) (n := 1) (q := t.val / 4) (y := (y 2).val) (r := (y 1).val) _ _ _
    (by blk_simp [index2 t]; omega) (by blk_simp [index2 t]) (by blk_simp [index2 t]; omega)

end Value

section Reference
open Cert.ReferenceWcpIdeal.Read

theorem reference_at (X : S8192x1024.Idx → EReal) (D : S8192x2048.Idx → EReal) :
    val_main_v8 (F := Ideal) X D = rowsIntoSlabs (M := 1024) (W := 512) (C := 2048) X D := by
  funext i
  refine parted_at (M := 1024) (W := 512) (C := 2048) rfl (val_main_v4 (F := Ideal) X D)
    (fun a b => ∑ s ∈ Finset.range 8192, el2 (M := 8192) (N := 1024) X s b * el2 (M := 8192) (N := 2048) D s a) (fun z => ?_) _ _ _ i
  refine (val_main_v4_apply X D z).trans ?_
  rw [Finset.sum_range]
  exact Finset.sum_congr rfl fun k _ => (mul_comm _ _).trans (congrArg₂ (HMul.hMul (α := EReal))
    (at2 (M := 8192) (N := 1024) X _ rfl rfl) (at2 (M := 8192) (N := 2048) D _ rfl rfl))

end Reference

/-- The kernel's call and the reference end with the same gradient. -/
theorem algebraic : Cert.algebraic_KernelWcpIdeal_ReferenceWcpIdeal (hKernelWcpIdeal := Cert.KernelWcpIdeal.Gen.facts)
    (hReferenceWcpIdeal := Cert.ReferenceWcpIdeal.Gen.facts) := by
  intro m g m' g' _ hin
  refine ⟨_, Cert.KernelWcpIdeal.Value.run_blocks m g, (θ_run Cert.ReferenceWcpIdeal.defs _ _).mono (fun r hr c => ?_)
    (Cert.ReferenceWcpIdeal.Value.run m' g')⟩
  obtain ⟨i0, i1⟩ := hin c
  obtain ⟨h0, hrest⟩ := hr c
  refine ⟨h0.trans ?_, hrest⟩
  rw [Cert.ReferenceWcpIdeal.Read.val_main_v8_eq, i0, i1]
  exact (reference_at _ _).trans (array_at m c).symm

theorem frame_reference : Cert.quiescent_ReferenceWcpIdeal (hReferenceWcpIdeal := Cert.ReferenceWcpIdeal.Gen.facts) := fun m ρ _ =>
  (θ_run Cert.ReferenceWcpIdeal.defs _ _).mono (fun r h => ⟨fun c => (h c).2, sem_eq_zero_of_no_sems (by decide) r.2⟩)
    (Cert.ReferenceWcpIdeal.Value.run m ρ)

end Cert.DWcp

end
-- ==== Proof.DAct.lean ====
/-
  The gradient of the convolution branch's result, gathered over the four slabs the weight is laid in.
-/
module

public import proofs.«01_k».proof.Proof.Tiles
public import proofs.«01_k».proof.Proof.Gen.KernelActIdeal.Value
public import proofs.«01_k».proof.Proof.Gen.ReferenceActIdeal.Read
public import proofs.«01_k».proof.Defs

@[expose] public section

set_option maxRecDepth 16384

noncomputable section

namespace Cert.DAct

open Cert.KernelActIdeal Cert.KernelActIdeal.Gen Cert.Product Cert.Tiles
open Idealize.ShloMosaic Idealize.ShloMosaic.TcCoe Idealize.SL.Sem

/-! ## What the points store -/

section Stores
variable {F : FTy → Type} [FloatOps F] (m : (ℓ : Loc nD τ sig) → Buf (Elt F) ℓ) (c : Dev nD)

theorem scratch_first (t : Fin cfg0.N) (h : t.val % 4 = 0) :
    (outsAt0 m c t.val t.isLt).2 = k0_pay2 (iblk m c 0 t) (iblk m c 1 t) := by
  rw [outsAt0_A m c t h (by omega) (by omega)]
  dsimp only
  unfold sout0_A_0 kernelRun0_A
  dsimp only
  rw [read_stored zero2, load_whole zero2, load_whole zero3]

theorem scratch_next (t : Fin cfg0.N) (h : t.val % 4 ≠ 0) : (outsAt0 m c t.val t.isLt).2
    = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    unfold sout0_C_0 kernelRun0_C
    dsimp only
    unfold kernelRun0_C.sl.HS0_1
    rw [read_stored zero2, load_whole zero2, load_whole zero3, load_whole zero2]
  · rw [outsAt0_B m c t h (by omega) h3]
    dsimp only
    unfold sout0_B_0 kernelRun0_B
    dsimp only
    rw [read_stored zero2, load_whole zero2, load_whole zero3]
    exact congrArg (k0_pay3 _ _) (load_whole zero2 (Memref.isWhole_whole _) _ _)

theorem block_last (t : Fin cfg0.N) (h3 : t.val % 4 = 3) :
    (outsAt0 m c t.val t.isLt).1 = flat (N := 1024) (outsAt0 m c t.val t.isLt).2 := by
  rw [scratch_next m c t (by omega), outsAt0_C m c t (by omega) (by omega) h3]
  dsimp only
  unfold out0_C_2 kernelRun0_C
  dsimp only
  unfold kernelRun0_C.sl.v13 kernelRun0_C.sl.v16 kernelRun0_C.sl.v19 kernelRun0_C.sl.v22 kernelRun0_C.sl.HS0_1
  rw [load_whole zero2, load_whole zero3, load_whole zero2]
  exact flat_read (N := 1024) _ _ _ _ _ _ _ _ _ _

end Stores

/-! ## Over the extended reals -/

section Value
variable (m : (ℓ : Loc nD τ sig) → Buf (Elt Ideal) ℓ) (c : Dev nD)

theorem index0 : ∀ t : Fin cfg0.N, (cfg0.win 0).index t = ![t.val / 4, t.val % 4] := by decide +kernel
theorem index1 : ∀ t : Fin cfg0.N, (cfg0.win 1).index t = ![t.val % 4, 0, 0] := by decide +kernel
theorem index2 : ∀ t : Fin cfg0.N, (cfg0.win 2).index t = ![t.val / 4, 0] := by decide +kernel

theorem product_at (t : Fin cfg0.N) (y : S1024x1024.Idx) : k0_pay1 (F := Ideal) (iblk m c 0 t) (iblk m c 1 t) y = ∑ k : Fin 512,
    (fun s : ℕ => el2 (M := 8192) (N := 2048) (m ((c.tc : Thread nD τ).loc main_arg0)) (1024 * (t.val / 4) + (y 0).val) s
      * el3 (P := 4) (M := 1024) (N := 512) (m ((c.tc : Thread nD τ).loc main_arg1)) (s / 512) (y 1).val (s % 512))
      (512 * (t.val % 4) + k.val) := by
  refine (cols_cols dot_S1024x512_S1024x512_S1024x1024_1_1_0_0_n_n rfl rfl (fun _ _ => rfl) (fun _ _ => rfl) (fun _ _ => rfl)
    (fun _ _ => rfl) (iblk m c 0 t) _ y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 2048) _ _ (by blk_simp [index0 t]; simp; omega) (by blk_simp [index0 t]; simp; omega)
  · refine (unslab_at _ _ _).trans (Eq.trans ?_ (term_of_slab (H := 1024) (W := 512) _ _ _ k))
    unfold iblk
    show V m c main_arg1 (((cfg0.win 1).blk t).view.emb _) = _
    rw [V_main_arg1]
    exact at3 (P := 4) (M := 1024) (N := 512) _ _ (by blk_simp [index1 t]) (by blk_simp [index1 t]) (by blk_simp [index1 t])

theorem array_at : (dats m 0 c).arrAt 2 cfg0.N
    = colsOfSlabs (H := 1024) (W := 512) (C := 2048) (m ((c.tc : Thread nD τ).loc main_arg0)) (m ((c.tc : Thread nD τ).loc main_arg1)) := by
  refine (dats m 0 c).arrAt_eq_of_covers 2 _ (by decide +kernel) fun t hf y => ?_
  have h3 := (flush0_2 t).mp hf
  blk_simp
  rw [after0_2, block_last m c t h3]
  refine (gathered (S := S1024x1024) (K := 512) (fun n hn => (outsAt0 m c n hn).2) (fun t => k0_pay1 (F := Ideal) (iblk m c 0 t) (iblk m c 1 t))
    (fun y q s => el2 (M := 8192) (N := 2048) (m ((c.tc : Thread nD τ).loc main_arg0)) (1024 * q + (y 0).val) s
      * el3 (P := 4) (M := 1024) (N := 512) (m ((c.tc : Thread nD τ).loc main_arg1)) (s / 512) (y 1).val (s % 512))
    (product_at m c) (fun t h => (scratch_first m c t h).trans (shapeCast_self _ _))
    (fun t h => (scratch_next m c t h).trans (shapeCast_self _ _)) t h3 y).trans ?_
  exact colsOfSlabs_tile (H := 1024) (W := 512) (C := 2048) _ _ _ (by blk_simp [index2 t]; omega) (by blk_simp [index2 t])

end Value

section Reference
open Cert.ReferenceActIdeal.Read

theorem reference_at (D : S8192x2048.Idx → EReal) (B : S4x1024x512.Idx → EReal) :
    val_main_v7 (F := Ideal) D B = colsOfSlabs (H := 1024) (W := 512) (C := 2048) D B := by
  funext i
  rw [val_main_v7_apply]
  refine (val_main_v6_apply _ _ i).trans ?_
  unfold colsOfSlabs
  rw [Finset.sum_range]
  exact Finset.sum_congr rfl fun k _ => congrArg₂ (HMul.hMul (α := EReal)) (at2 (M := 8192) (N := 2048) D _ rfl rfl)
    (joined_at (H := 1024) (W := 512) (C := 2048) rfl B _ _ _)

end Reference

/-- The kernel's call and the reference end with the same gradient. -/
theorem algebraic : Cert.algebraic_KernelActIdeal_ReferenceActIdeal (hKernelActIdeal := Cert.KernelActIdeal.Gen.facts)
    (hReferenceActIdeal := Cert.ReferenceActIdeal.Gen.facts) := by
  intro m g m' g' _ hin
  refine ⟨_, Cert.KernelActIdeal.Value.run_blocks m g, (θ_run Cert.ReferenceActIdeal.defs _ _).mono (fun r hr c => ?_)
    (Cert.ReferenceActIdeal.Value.run m' g')⟩
  obtain ⟨i0, i1⟩ := hin c
  obtain ⟨h0, hrest⟩ := hr c
  refine ⟨h0.trans ?_, hrest⟩
  rw [Cert.ReferenceActIdeal.Read.val_main_v7_eq, i0, i1]
  exact (reference_at _ _).trans (array_at m c).symm

theorem frame_reference : Cert.quiescent_ReferenceActIdeal (hReferenceActIdeal := Cert.ReferenceActIdeal.Gen.facts) := fun m ρ _ =>
  (θ_run Cert.ReferenceActIdeal.defs _ _).mono (fun r h => ⟨fun c => (h c).2, sem_eq_zero_of_no_sems (by decide) r.2⟩)
    (Cert.ReferenceActIdeal.Value.run m ρ)

end Cert.DAct

end
-- ==== Proof.DZ.lean ====
/-
  The combined projection of the forward pass, whose weight is laid in four slabs of columns.
-/
module

public import proofs.«01_k».proof.Proof.Tiles
public import proofs.«01_k».proof.Proof.Gen.KernelZIdeal.Value
public import proofs.«01_k».proof.Proof.Gen.ReferenceZIdeal.Read
public import proofs.«01_k».proof.Defs

@[expose] public section

set_option maxRecDepth 16384

noncomputable section

namespace Cert.DZ

open Cert.KernelZIdeal Cert.KernelZIdeal.Gen Cert.Product Cert.Tiles
open Idealize.ShloMosaic Idealize.ShloMosaic.TcCoe Idealize.SL.Sem

section Value
variable (m : (ℓ : Loc nD τ sig) → Buf (Elt Ideal) ℓ) (c : Dev nD)

theorem index0 : ∀ t : Fin cfg0.N, (cfg0.win 0).index t = ![t.val / 12, 0] := by decide +kernel
theorem index1 : ∀ t : Fin cfg0.N, (cfg0.win 1).index t = ![t.val % 12 / 3, 0, t.val % 12 % 3] := by decide +kernel
theorem index2 : ∀ t : Fin cfg0.N, (cfg0.win 2).index t = ![t.val / 12, t.val % 12] := by decide +kernel

theorem out_at (t : Fin cfg0.N) (y : S1024x768.Idx) : out0_2 (F := Ideal) (iblk m c 0 t) (iblk m c 1 t) y = ∑ k : Fin 2048,
    el2 (M := 8192) (N := 2048) (m ((c.tc : Thread nD τ).loc main_arg0)) (1024 * (t.val / 12) + (y 0).val) k.val
      * el3 (P := 4) (M := 2048) (N := 2304) (m ((c.tc : Thread nD τ).loc main_arg1)) (t.val % 12 / 3) k.val (768 * (t.val % 12 % 3) + (y 1).val) := by
  unfold out0_2 r0_2 r0_1 r0_0
  rw [View.canon_unit_zero zero2, View.ld_unit_zero zero2, View.ld_unit_zero zero3]
  refine (cols_rows dot_S1024x2048_S2048x768_S1024x768_1_0_0_1_n_n rfl rfl (fun _ _ => rfl) (fun _ _ => rfl) (fun _ _ => rfl)
    (fun _ _ => rfl) (iblk m c 0 t) _ y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 2048) _ _ (by blk_simp [index0 t]; simp; omega) (by blk_simp [index0 t])
  · refine (unslab_at _ _ _).trans ?_
    unfold iblk
    show V m c main_arg1 (((cfg0.win 1).blk t).view.emb _) = _
    rw [V_main_arg1]
    exact at3 (P := 4) (M := 2048) (N := 2304) _ _ (by blk_simp [index1 t]) (by blk_simp [index1 t])
      (by blk_simp [index1 t]; simp; omega)

theorem array_at : (dats m 0 c).arrAt 2 cfg0.N
    = rowsOfSlabs (H := 2048) (W := 2304) (C := 9216) (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (out_at m c t y).trans ?_
  exact rowsOfSlabs_tile (H := 2048) (b := 768) (n := 3) (q := t.val % 12) _ _ _ (y 1).isLt (by blk_simp [index2 t]; omega)
    (by blk_simp [index2 t]; omega)

end Value

section Reference
open Cert.ReferenceZIdeal.Read

theorem reference_at (X : S8192x2048.Idx → EReal) (B : S4x2048x2304.Idx → EReal) :
    val_main_v5 (F := Ideal) X B = rowsOfSlabs (H := 2048) (W := 2304) (C := 9216) X B := by
  funext i
  rw [val_main_v5_apply]
  refine (val_main_v4_apply _ _ i).trans ?_
  exact Finset.sum_congr rfl fun k _ => congrArg₂ (HMul.hMul (α := EReal)) (at2 (M := 8192) (N := 2048) X _ rfl rfl)
    (joined_at (H := 2048) (W := 2304) (C := 9216) rfl B _ _ _)

end Reference

/-- The kernel's call and the reference end with the same product. -/
theorem algebraic : Cert.algebraic_KernelZIdeal_ReferenceZIdeal (hKernelZIdeal := Cert.KernelZIdeal.Gen.facts)
    (hReferenceZIdeal := Cert.ReferenceZIdeal.Gen.facts) := by
  intro m g m' g' _ hin
  refine ⟨_, Cert.KernelZIdeal.Value.run_blocks m g, (θ_run Cert.ReferenceZIdeal.defs _ _).mono (fun r hr c => ?_)
    (Cert.ReferenceZIdeal.Value.run m' g')⟩
  obtain ⟨i0, i1⟩ := hin c
  obtain ⟨h0, hrest⟩ := hr c
  refine ⟨h0.trans ?_, hrest⟩
  rw [Cert.ReferenceZIdeal.Read.val_main_v5_eq, i0, i1]
  exact (reference_at _ _).trans (array_at m c).symm

theorem frame_reference : Cert.quiescent_ReferenceZIdeal (hReferenceZIdeal := Cert.ReferenceZIdeal.Gen.facts) := fun m ρ _ =>
  (θ_run Cert.ReferenceZIdeal.defs _ _).mono (fun r h => ⟨fun c => (h c).2, sem_eq_zero_of_no_sems (by decide) r.2⟩)
    (Cert.ReferenceZIdeal.Value.run m ρ)

end Cert.DZ

end
-- ==== Proof.DFf.lean ====
/-
  The first product of the forward pass's squared block, whose weight is laid in four slabs of columns.
-/
module

public import proofs.«01_k».proof.Proof.Tiles
public import proofs.«01_k».proof.Proof.Gen.KernelFfIdeal.Value
public import proofs.«01_k».proof.Proof.Gen.ReferenceFfIdeal.Read
public import proofs.«01_k».proof.Defs

@[expose] public section

set_option maxRecDepth 16384

noncomputable section

namespace Cert.DFf

open Cert.KernelFfIdeal Cert.KernelFfIdeal.Gen Cert.Product Cert.Tiles
open Idealize.ShloMosaic Idealize.ShloMosaic.TcCoe Idealize.SL.Sem

section Value
variable (m : (ℓ : Loc nD τ sig) → Buf (Elt Ideal) ℓ) (c : Dev nD)

theorem index0 : ∀ t : Fin cfg0.N, (cfg0.win 0).index t = ![t.val / 8, 0] := by decide +kernel
theorem index1 : ∀ t : Fin cfg0.N, (cfg0.win 1).index t = ![t.val % 8 / 2, 0, t.val % 8 % 2] := by decide +kernel
theorem index2 : ∀ t : Fin cfg0.N, (cfg0.win 2).index t = ![t.val / 8, t.val % 8] := by decide +kernel

theorem out_at (t : Fin cfg0.N) (y : S1024x1024.Idx) : out0_2 (F := Ideal) (iblk m c 0 t) (iblk m c 1 t) y = ∑ k : Fin 2048,
    el2 (M := 8192) (N := 2048) (m ((c.tc : Thread nD τ).loc main_arg0)) (1024 * (t.val / 8) + (y 0).val) k.val
      * el3 (P := 4) (M := 2048) (N := 2048) (m ((c.tc : Thread nD τ).loc main_arg1)) (t.val % 8 / 2) k.val (1024 * (t.val % 8 % 2) + (y 1).val) := by
  unfold out0_2 r0_2 r0_1 r0_0
  rw [View.canon_unit_zero zero2, View.ld_unit_zero zero2, View.ld_unit_zero zero3]
  refine (cols_rows dot_S1024x2048_S2048x1024_S1024x1024_1_0_0_1_n_n rfl rfl (fun _ _ => rfl) (fun _ _ => rfl) (fun _ _ => rfl)
    (fun _ _ => rfl) (iblk m c 0 t) _ y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 2048) _ _ (by blk_simp [index0 t]; simp; omega) (by blk_simp [index0 t])
  · refine (unslab_at _ _ _).trans ?_
    unfold iblk
    show V m c main_arg1 (((cfg0.win 1).blk t).view.emb _) = _
    rw [V_main_arg1]
    exact at3 (P := 4) (M := 2048) (N := 2048) _ _ (by blk_simp [index1 t]) (by blk_simp [index1 t]) (by blk_simp [index1 t]; simp; omega)

theorem array_at : (dats m 0 c).arrAt 2 cfg0.N
    = rowsOfSlabs (H := 2048) (W := 2048) (C := 8192) (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (out_at m c t y).trans ?_
  exact rowsOfSlabs_tile (H := 2048) (b := 1024) (n := 2) (q := t.val % 8) _ _ _ (y 1).isLt (by blk_simp [index2 t]; omega)
    (by blk_simp [index2 t]; omega)

end Value

section Reference
open Cert.ReferenceFfIdeal.Read

theorem reference_at (X : S8192x2048.Idx → EReal) (B : S4x2048x2048.Idx → EReal) :
    val_main_v5 (F := Ideal) X B = rowsOfSlabs (H := 2048) (W := 2048) (C := 8192) X B := by
  funext i
  rw [val_main_v5_apply]
  refine (val_main_v4_apply _ _ i).trans ?_
  exact Finset.sum_congr rfl fun k _ => congrArg₂ (HMul.hMul (α := EReal)) (at2 (M := 8192) (N := 2048) X _ rfl rfl)
    (joined_at (H := 2048) (W := 2048) (C := 8192) rfl B _ _ _)

end Reference

/-- The kernel's call and the reference end with the same product. -/
theorem algebraic : Cert.algebraic_KernelFfIdeal_ReferenceFfIdeal (hKernelFfIdeal := Cert.KernelFfIdeal.Gen.facts)
    (hReferenceFfIdeal := Cert.ReferenceFfIdeal.Gen.facts) := by
  intro m g m' g' _ hin
  refine ⟨_, Cert.KernelFfIdeal.Value.run_blocks m g, (θ_run Cert.ReferenceFfIdeal.defs _ _).mono (fun r hr c => ?_)
    (Cert.ReferenceFfIdeal.Value.run m' g')⟩
  obtain ⟨i0, i1⟩ := hin c
  obtain ⟨h0, hrest⟩ := hr c
  refine ⟨h0.trans ?_, hrest⟩
  rw [Cert.ReferenceFfIdeal.Read.val_main_v5_eq, i0, i1]
  exact (reference_at _ _).trans (array_at m c).symm

theorem frame_reference : Cert.quiescent_ReferenceFfIdeal (hReferenceFfIdeal := Cert.ReferenceFfIdeal.Gen.facts) := fun m ρ _ =>
  (θ_run Cert.ReferenceFfIdeal.defs _ _).mono (fun r h => ⟨fun c => (h c).2, sem_eq_zero_of_no_sems (by decide) r.2⟩)
    (Cert.ReferenceFfIdeal.Value.run m ρ)

end Cert.DFf

end
-- ==== Proof.Halves.lean ====
/-
  What the calls with a pointwise end have in common: a block stored half of its rows at a time, the norm of a row, and a gate.
-/
module

public import proofs.«01_k».proof.Proof.Tiles

@[expose] public section

set_option maxRecDepth 16384

noncomputable section

namespace Cert.Rows

open Idealize.ShloMosaic Idealize.ShloMosaic.ValueIdx Idealize.ShloMosaic.TcCoe Cert.Product Cert.Tiles

/-! ## Some rows of a buffer -/

section Load
variable {sig : RefSig} {Val : EltTy → Type} {κ : Kind} {sp : Space} {e : EltTy} {H N : ℕ} {m : Memref sig κ sp (Mat H N) e}
  (h : m.IsWhole) (X : (Mat H N).Idx → Val e) (f : ℕ → ℕ → Val e)

/-- Loading a part of a buffer that holds `X` gives that part of `X`. -/
theorem load_part {H' N' : ℕ} (hf : ∀ y, X y = f (y 0).val (y 1).val) (off : Fin 2 → ℕ)
    (io : ∀ b, off b + (Mat H' N').size b ≤ (Mat H N).size b) (x : (Mat H' N').Idx) :
    m.view.readAt Val (Rect.unit (s := Mat H N) off (Mat H' N').size io).toLoadRect (h.unread X) x
      = f (off 0 + (x 0).val) (off 1 + (x 1).val) :=
  (congrFun (congrArg (fun Y => View.ld Y (Rect.unit (s := Mat H N) off (Mat H' N').size io)) (h.read_unread X)) x).trans
    ((hf _).trans (congrArg₂ f (congrArg (off 0 + ·) (Nat.one_mul _)) (congrArg (off 1 + ·) (Nat.one_mul _))))

/-- Loading the rows from `o` on. -/
theorem load_rows {H' : ℕ} (b : ℕ) (hf : ∀ y, X y = f (b + (y 0).val) (y 1).val) (o : ℕ)
    (io : ∀ b, ![o, 0] b + (Mat H' N).size b ≤ (Mat H N).size b) (x : (Mat H' N).Idx) :
    m.view.readAt Val (Rect.unit (s := Mat H N) ![o, 0] (Mat H' N).size io).toLoadRect (h.unread X) x
      = f (b + o + (x 0).val) (x 1).val :=
  (load_part h X (fun i j => f (b + i) j) hf ![o, 0] io x).trans (congrArg₂ f (Nat.add_assoc ..).symm (Nat.zero_add _))

end Load

/-- Two stores that together fill a buffer, each from its own elements of `G`, leave `G` there. -/
theorem two_stored {sig : RefSig} {Val : EltTy → Type} [∀ e, Nonempty (Val e)] {κ : Kind} {sp : Space} {S : Shape} {e : EltTy}
    (out : View sig κ sp S e) (f : out.ty.Contents Val) (G : S.Idx → Val e) (p1 p0 : View.Piece Val S e)
    (cov : ∀ y, y ∈ p1.1.set ∨ y ∈ p0.1.set) (h1 : ∀ x, p1.2 x = G (p1.1.emb x)) (h0 : ∀ x, p0.2 x = G (p0.1.emb x)) :
    out.read Val (out.writes Val f [p1, p0]) = G := by
  have hcov : ∀ y, ∃ p ∈ [p1, p0], y ∈ p.1.set := fun y => by
    rcases cov y with h | h
    · exact ⟨p1, by simp, h⟩
    · exact ⟨p0, by simp, h⟩
  refine (View.read_writes_eq_canon _ _ _ hcov).trans (funext fun y => View.canon_apply_of_pieces G _ ?_ y (hcov y))
  intro p hp
  simp only [List.mem_cons, List.not_mem_nil, or_false] at hp
  rcases hp with rfl | rfl
  · exact h1
  · exact h0

theorem half_mem {N : ℕ} (o : ℕ) (io : ∀ b, ![o, 0] b + (Mat 256 N).size b ≤ (Mat 512 N).size b) (y : (Mat 512 N).Idx)
    (h : o ≤ (y 0).val ∧ (y 0).val < o + 256) : y ∈ (Rect.unit (s := Mat 512 N) ![o, 0] (Mat 256 N).size io).set := by
  refine Rect.mem_set_unit.mpr fun b => ?_
  match b with
  | ⟨0, _⟩ => exact h
  | ⟨1, _⟩ => exact ⟨Nat.zero_le _, by have h1 : (y 1).val < N := (y 1).isLt; show (y 1).val < 0 + N; omega⟩

theorem half_of {r : ℕ} (h : r < 512) : (256 ≤ r ∧ r < 256 + 256) ∨ (0 ≤ r ∧ r < 0 + 256) := by omega

theorem half_emb {N : ℕ} {α : Type} (f : ℕ → ℕ → α) (b o : ℕ) (io : ∀ b, ![o, 0] b + (Mat 256 N).size b ≤ (Mat 512 N).size b)
    (x : (Mat 256 N).Idx) : f (b + o + (x 0).val) (x 1).val
      = (fun y : (Mat 512 N).Idx => f (b + (y 0).val) (y 1).val) ((Rect.unit (s := Mat 512 N) ![o, 0] (Mat 256 N).size io).emb x) :=
  congrArg₂ f ((Nat.add_assoc ..).trans (congrArg (fun z => b + (o + z)) (Nat.one_mul _).symm))
    ((Nat.zero_add _).trans (Nat.one_mul _)).symm

/-- Two stores that each fill half of a buffer's rows with those rows of `f` leave its 512 rows there. -/
theorem halves_read {N : ℕ} {sig : RefSig} {Val : EltTy → Type} [∀ e, Nonempty (Val e)] {κ : Kind} {sp : Space} {e : EltTy}
    (out : View sig κ sp (Mat 512 N) e) (w : out.ty.Contents Val) (f : ℕ → ℕ → Val e) (b : ℕ)
    (i1 : ∀ b, ![256, 0] b + (Mat 256 N).size b ≤ (Mat 512 N).size b) (i0 : ∀ b, ![0, 0] b + (Mat 256 N).size b ≤ (Mat 512 N).size b)
    (w1 w0 : (Mat 256 N).Idx → Val e) (h1 : ∀ x, w1 x = f (b + 256 + (x 0).val) (x 1).val)
    (h0 : ∀ x, w0 x = f (b + 0 + (x 0).val) (x 1).val) :
    out.read Val (out.writes Val w [⟨Rect.unit (s := Mat 512 N) ![256, 0] (Mat 256 N).size i1, w1⟩,
      ⟨Rect.unit (s := Mat 512 N) ![0, 0] (Mat 256 N).size i0, w0⟩]) = fun y => f (b + (y 0).val) (y 1).val :=
  two_stored out w _ _ _ (fun y => (half_of (show (y 0).val < 512 from (y 0).isLt)).imp (half_mem 256 i1 y) (half_mem 0 i0 y))
    (fun x => (h1 x).trans (half_emb f b 256 i1 x)) (fun x => (h0 x).trans (half_emb f b 0 i0 x))

/-! ## A product -/

/-- The element in row `i` and column `j` of a product. -/
def prodAt {M K N : ℕ} (A : (Mat M K).Idx → EReal) (B : (Mat K N).Idx → EReal) (i j : ℕ) : EReal :=
  ∑ k : Fin K, el2 A i k.val * el2 B k.val j

/-- Some rows of `A` from `b` on against some columns of `B` from `q` on. -/
theorem prod_at {M' K N' M N : ℕ} (d : DotDims (Mat M' K) (Mat K N') (Mat M' N')) (h : d.contr.rank = 1)
    (hn : d.contr.size ⟨0, by rw [h]; decide⟩ = K)
    (l0 : ∀ j k, (d.lhsIdx j k 0).val = (j 0).val) (l1 : ∀ j k, (d.lhsIdx j k 1).val = (k ⟨0, by rw [h]; decide⟩).val)
    (r0 : ∀ j k, (d.rhsIdx j k 0).val = (k ⟨0, by rw [h]; decide⟩).val) (r1 : ∀ j k, (d.rhsIdx j k 1).val = (j 1).val)
    (A : (Mat M K).Idx → EReal) (B : (Mat K N).Idx → EReal) (b q : ℕ) (v : FVec Ideal (Mat M' K) .bf16) (w : FVec Ideal (Mat K N') .bf16)
    (hv : ∀ z, v z = el2 A (b + (z 0).val) (z 1).val) (hw : ∀ z, w z = el2 B (z 0).val (q + (z 1).val)) (x : (Mat M' N').Idx) :
    matmul (F := Ideal) d none v w (constant (Mat M' N') .f32 0x00000000#32) x = prodAt A B (b + (x 0).val) (q + (x 1).val) :=
  (cols_rows d h hn l0 l1 r0 r1 v w x).trans (Finset.sum_congr rfl fun k _ => congrArg₂ (HMul.hMul (α := EReal)) (hv _) (hw _))

/-! ## The norm of a row -/

/-- A row's length. -/
def length : EReal := Ideal.ofBits .f32 0x45000000#32
/-- What keeps the norm of a zero row away from zero. -/
def small : EReal := Ideal.ofBits .f32 0x358637BD#32

/-- The element in row `i` and column `j` of the rows `r`, each divided by the root of its mean square and scaled by `g`. -/
def normAt (r : ℕ → ℕ → EReal) (g : (Mat 1 2048).Idx → EReal) (i j : ℕ) : EReal :=
  r i j * Ideal.rsqrt (Ideal.div (∑ s : Fin 2048, r i s.val * r i s.val) length + small) * el2 g 0 j

/-- A block of rows normed, as the kernel does it. -/
def normRows {F : FTy → Type} [FloatOps F] (hr : (Mat 256 2048).Reduces [1] ⟨1, ![256]⟩) (hs : (⟨1, ![256]⟩ : Shape).ShapeCasts (Mat 256 1))
    (hb : (Mat 256 1).Broadcasts (Mat 256 2048)) (hg : (Mat 1 2048).Broadcasts (Mat 256 2048))
    (v : FVec F (Mat 256 2048) .f32) (g : FVec F (Mat 1 2048) .f32) : FVec F (Mat 256 2048) .f32 :=
  mulf (mulf v (broadcastTo (Mat 256 2048) (rsqrt (addf (divf (shapeCast (Mat 256 1)
    (multiReduction .add [1] ⟨1, ![256]⟩ (mulf v v) 0x00000000#32 hr (.inl rfl) rfl) hs) (broadcast (Mat 256 1) (Scalar.ofBits .f32 0x45000000#32)))
    (broadcast (Mat 256 1) (Scalar.ofBits .f32 0x358637BD#32)))) hb)) (broadcastTo (Mat 256 2048) g hg)

theorem normRows_at (hr : (Mat 256 2048).Reduces [1] ⟨1, ![256]⟩) (hs : (⟨1, ![256]⟩ : Shape).ShapeCasts (Mat 256 1))
    (hb : (Mat 256 1).Broadcasts (Mat 256 2048)) (hg : (Mat 1 2048).Broadcasts (Mat 256 2048))
    (v : FVec Ideal (Mat 256 2048) .f32) (g : FVec Ideal (Mat 1 2048) .f32) (r : ℕ → ℕ → EReal) (G : (Mat 1 2048).Idx → EReal) (b : ℕ)
    (hv : ∀ z, v z = r (b + (z 0).val) (z 1).val) (hG : ∀ z, g z = el2 G 0 (z 1).val) (x : (Mat 256 2048).Idx) :
    normRows hr hs hb hg v g x = normAt r G (b + (x 0).val) (x 1).val := by
  refine congrArg₂ (HMul.hMul (α := EReal)) (congrArg₂ (HMul.hMul (α := EReal)) (hv x) ?_) ?_
  · refine (broadcastTo_apply _ hb x (ValueIdx.ix2 (n0 := 256) (n1 := 1) (x 0) 0) (fun a => match a with
      | ⟨0, _⟩ => rfl
      | ⟨1, _⟩ => rfl)).trans (congrArg (fun z => Ideal.rsqrt (Ideal.div z length + small)) ?_)
    refine (shapeCast_apply _ hs _ (ValueIdx.ix1 (n := 256) (x 0)) ?_).trans ?_
    · rw [Shape.rowMajor_val_two (d := ![256, 1])]
      refine (Shape.rowMajor_val_one (d := ![256]) _).trans ?_
      show (x 0).val = (x 0).val * 1 + 0
      omega
    · refine (Ideal.multiReduction_add_single _ _ hr _ _ _).trans (Finset.sum_congr rfl fun s _ => ?_)
      exact congrArg₂ (HMul.hMul (α := EReal)) (hv _) (hv _)
  · refine (broadcastTo_apply _ hg x (ValueIdx.ix2 (n0 := 1) (n1 := 2048) 0 (x 1)) (fun a => match a with
      | ⟨0, _⟩ => rfl
      | ⟨1, _⟩ => rfl)).trans (hG _)

/-! ## A gate -/

/-- The constant one. -/
def one : EReal := Ideal.ofBits .f32 0x3F800000#32

/-- The logistic function. -/
def sigmoid (x : EReal) : EReal := Ideal.div one (one + Ideal.exp (-x))

/-- The kernel takes the number from zero to change its sign. -/
theorem sigmoid_sub (x : EReal) : Ideal.div one (one + Ideal.exp (Ideal.ofBits .f32 0x00000000#32 - x)) = sigmoid x := by
  rw [Ideal.ofBits_zero_f32, zero_sub]
  rfl

end Cert.Rows

end
-- ==== Proof.DM.lean ====
/-
  The gradients passed back through the gated sum of the two branches.
-/
module

public import proofs.«01_k».proof.Proof.Halves
public import proofs.«01_k».proof.Proof.Gen.KernelMIdeal.Value
public import proofs.«01_k».proof.Proof.Gen.ReferenceMIdeal.Read
public import proofs.«01_k».proof.Defs

@[expose] public section

set_option maxRecDepth 16384

noncomputable section

namespace Cert.DM

open Cert.KernelMIdeal Cert.KernelMIdeal.Gen Cert.Product Cert.Tiles Cert.Rows
open Idealize.ShloMosaic Idealize.ShloMosaic.TcCoe Idealize.SL.Sem

/-! ## Two arrays side by side -/

/-- The columns of `f`, then those of `g`. -/
def besides (N : ℕ) (f g : ℕ → ℕ → EReal) (i j : ℕ) : EReal := if j < N then f i j else g i (j - N)

theorem besides_at {M N L : ℕ} (hL : L = N + N) (v w : (Mat M N).Idx → EReal) (f g : ℕ → ℕ → EReal) (b : ℕ)
    (hv : ∀ x, v x = f (b + (x 0).val) (x 1).val) (hw : ∀ x, w x = g (b + (x 0).val) (x 1).val)
    (hc : Shape.Concatenates [Mat M N, Mat M N] (Mat M L) (1 : Fin 2)) (y : (Mat M L).Idx) :
    concatenate (Mat M L) (1 : Fin 2) [⟨Mat M N, v⟩, ⟨Mat M N, w⟩] hc y = besides N f g (b + (y 0).val) (y 1).val := by
  have hy : (y 1).val < L := (y 1).isLt
  unfold besides
  split
  · next h =>
    refine (concatenate_pair_apply_left (t := Mat M L) (1 : Fin 2) v w hc y rfl
      (ValueIdx.ix2 (n0 := M) (n1 := N) (y 0) ⟨(y 1).val, h⟩) (fun a => ?_)).trans (hv _)
    match a with
    | ⟨0, _⟩ => rfl
    | ⟨1, _⟩ => rfl
  · next h =>
    refine (concatenate_pair_apply_right (t := Mat M L) (1 : Fin 2) v w hc y rfl rfl
      (ValueIdx.ix2 (n0 := M) (n1 := N) (y 0) ⟨(y 1).val - N, by omega⟩) (fun a ha => ?_) ?_).trans (hw _)
    · match a, ha with
      | ⟨0, _⟩, _ => rfl
      | ⟨1, _⟩, ha => exact absurd rfl ha
    · show (y 1).val - N + N = (y 1).val
      omega

/-! ## The gradients -/

/-- The gradient of the gated sum. -/
def backAt (D : S8192x2048.Idx → EReal) (W : S2048x2048.Idx → EReal) (i j : ℕ) : EReal :=
  ∑ k : Fin 2048, el2 (M := 8192) (N := 2048) D i k * el2 (M := 2048) (N := 2048) W j k

/-- The gate whose columns begin at `o`. -/
def gateAt (Z : S8192x9216.Idx → EReal) (o i j : ℕ) : EReal := sigmoid (el2 (M := 8192) (N := 9216) Z i (o + j))

/-- The gradient of a branch. -/
def branchAt (D : S8192x2048.Idx → EReal) (W : S2048x2048.Idx → EReal) (Z : S8192x9216.Idx → EReal) (o i j : ℕ) : EReal :=
  backAt D W i j * gateAt Z o i j

/-- The gradient of a gate's argument. -/
def slopeAt (D : S8192x2048.Idx → EReal) (W : S2048x2048.Idx → EReal) (Z : S8192x9216.Idx → EReal) (Y : S8192x2048.Idx → EReal)
    (o i j : ℕ) : EReal :=
  backAt D W i j * el2 (M := 8192) (N := 2048) Y i j * gateAt Z o i j * (one - gateAt Z o i j)

/-- The gradient of the two gates' arguments. -/
def slopesAt (D : S8192x2048.Idx → EReal) (W : S2048x2048.Idx → EReal) (Z : S8192x9216.Idx → EReal) (Y Y' : S8192x2048.Idx → EReal) :
    ℕ → ℕ → EReal :=
  besides 2048 (slopeAt D W Z Y 5120) (slopeAt D W Z Y' 7168)

section Value
variable (m : (ℓ : Loc nD τ sig) → Buf (Elt Ideal) ℓ) (c : Dev nD)

theorem index0 : ∀ t : Fin cfg0.N, (cfg0.win 0).index t = ![t.val, 0] := by decide +kernel
theorem index1 : ∀ t : Fin cfg0.N, (cfg0.win 1).index t = ![0, 0] := by decide +kernel
theorem index2 : ∀ t : Fin cfg0.N, (cfg0.win 2).index t = ![256 * t.val, 5120] := by decide +kernel
theorem index3 : ∀ t : Fin cfg0.N, (cfg0.win 3).index t = ![256 * t.val, 7168] := by decide +kernel
theorem index4 : ∀ t : Fin cfg0.N, (cfg0.win 4).index t = ![t.val, 0] := by decide +kernel
theorem index5 : ∀ t : Fin cfg0.N, (cfg0.win 5).index t = ![t.val, 0] := by decide +kernel
theorem index6 : ∀ t : Fin cfg0.N, (cfg0.win 6).index t = ![t.val, 0] := by decide +kernel
theorem index7 : ∀ t : Fin cfg0.N, (cfg0.win 7).index t = ![t.val, 0] := by decide +kernel
theorem index8 : ∀ t : Fin cfg0.N, (cfg0.win 8).index t = ![t.val, 0] := by decide +kernel
theorem offset1 : ∀ t : Fin cfg0.N, k0_off1 (grid0.coords t) = ![0, 0] := by decide +kernel

/-- The call's gradient of the gated sum. -/
abbrev back : ℕ → ℕ → EReal := backAt (m ((c.tc : Thread nD τ).loc main_arg0)) (m ((c.tc : Thread nD τ).loc main_arg1))
/-- The call's gates. -/
abbrev gate : ℕ → ℕ → ℕ → EReal := gateAt (m ((c.tc : Thread nD τ).loc main_arg2))
/-- The call's gradient of a branch. -/
abbrev branch : ℕ → ℕ → ℕ → EReal := branchAt (m ((c.tc : Thread nD τ).loc main_arg0)) (m ((c.tc : Thread nD τ).loc main_arg1))
  (m ((c.tc : Thread nD τ).loc main_arg2))
/-- The call's gradient of the gates' arguments. -/
abbrev slopes : ℕ → ℕ → EReal := slopesAt (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))

theorem blk0 (t : Fin cfg0.N) (y : S256x2048.Idx) :
    iblk m c 0 t y = el2 (M := 8192) (N := 2048) (m ((c.tc : Thread nD τ).loc main_arg0)) (256 * t.val + (y 0).val) (y 1).val := by
  unfold iblk
  show V m c main_arg0 (((cfg0.win 0).blk t).view.emb _) = _
  rw [V_main_arg0]
  exact at2 (M := 8192) (N := 2048) _ _ (by blk_simp [index0 t]; omega) (by blk_simp [index0 t])

theorem blk1 (t : Fin cfg0.N) (y : S2048x2048.Idx) :
    iblk m c 1 t y = el2 (M := 2048) (N := 2048) (m ((c.tc : Thread nD τ).loc main_arg1)) (y 0).val (y 1).val := by
  unfold iblk
  show V m c main_arg1 (((cfg0.win 1).blk t).view.emb _) = _
  rw [V_main_arg1]
  exact at2 (M := 2048) (N := 2048) _ _ (by blk_simp [index1 t]) (by blk_simp [index1 t])

theorem blk2 (t : Fin cfg0.N) (y : S256x2048.Idx) : iblk m c 2 t y = el2 (M := 8192) (N := 9216)
    (m ((c.tc : Thread nD τ).loc main_arg2)) (256 * t.val + (y 0).val) (5120 + (y 1).val) := by
  unfold iblk
  show V m c main_arg2 (((cfg0.win 2).blk t).view.emb _) = _
  rw [V_main_arg2]
  refine at2 (M := 8192) (N := 9216) _ _ ?_ ?_
  · show (cfg0.win 2).index t 0 + 1 * (y 0).val = _
    rw [index2 t, Nat.one_mul]
    rfl
  · show (cfg0.win 2).index t 1 + 1 * (y 1).val = _
    rw [index2 t, Nat.one_mul]
    rfl

theorem blk3 (t : Fin cfg0.N) (y : S256x2048.Idx) : iblk m c 3 t y = el2 (M := 8192) (N := 9216)
    (m ((c.tc : Thread nD τ).loc main_arg2)) (256 * t.val + (y 0).val) (7168 + (y 1).val) := by
  unfold iblk
  show V m c main_arg2 (((cfg0.win 3).blk t).view.emb _) = _
  rw [V_main_arg2]
  refine at2 (M := 8192) (N := 9216) _ _ ?_ ?_
  · show (cfg0.win 3).index t 0 + 1 * (y 0).val = _
    rw [index3 t, Nat.one_mul]
    rfl
  · show (cfg0.win 3).index t 1 + 1 * (y 1).val = _
    rw [index3 t, Nat.one_mul]
    rfl

theorem blk4 (t : Fin cfg0.N) (y : S256x2048.Idx) :
    iblk m c 4 t y = el2 (M := 8192) (N := 2048) (m ((c.tc : Thread nD τ).loc main_arg3)) (256 * t.val + (y 0).val) (y 1).val := by
  unfold iblk
  show V m c main_arg3 (((cfg0.win 4).blk t).view.emb _) = _
  rw [V_main_arg3]
  exact at2 (M := 8192) (N := 2048) _ _ (by blk_simp [index4 t]; omega) (by blk_simp [index4 t])

theorem blk5 (t : Fin cfg0.N) (y : S256x2048.Idx) :
    iblk m c 5 t y = el2 (M := 8192) (N := 2048) (m ((c.tc : Thread nD τ).loc main_arg4)) (256 * t.val + (y 0).val) (y 1).val := by
  unfold iblk
  show V m c main_arg4 (((cfg0.win 5).blk t).view.emb _) = _
  rw [V_main_arg4]
  exact at2 (M := 8192) (N := 2048) _ _ (by blk_simp [index5 t]; omega) (by blk_simp [index5 t])

/-- The weight, loaded whole at the point's own offset. -/
abbrev weight (t : Fin cfg0.N) : Vec Ideal S2048x2048 .bf16 :=
  (ms0_1 t).view.readAt (Elt Ideal) (Rect.unit (s := S2048x2048) (k0_off1 (grid0.coords t)) S2048x2048.size (k0_off1_inb _)).toLoadRect
    ((hs0_1 t).unread (iblk m c 1 t))

theorem weight_at (t : Fin cfg0.N) (z : S2048x2048.Idx) :
    weight m c t z = el2 (M := 2048) (N := 2048) (m ((c.tc : Thread nD τ).loc main_arg1)) (z 0).val (z 1).val := by
  refine (load_part (H := 2048) (N := 2048) (H' := 2048) (N' := 2048) (Val := Elt Ideal) (e := .bf16) (hs0_1 t) _ _ (blk1 m c t) _ _ z).trans ?_
  rw [offset1 t]
  exact congrArg₂ (el2 (M := 2048) (N := 2048) _) (Nat.zero_add _) (Nat.zero_add _)

theorem back_at (t : Fin cfg0.N) (x : S256x2048.Idx) :
    k0_pay4 (F := Ideal) (weight m c t) (iblk m c 0 t) x = back m c (256 * t.val + (x 0).val) (x 1).val :=
  (cols_cols dot_S256x2048_S2048x2048_S256x2048_1_1_0_0_n_n rfl rfl (fun _ _ => rfl) (fun _ _ => rfl) (fun _ _ => rfl) (fun _ _ => rfl)
    (iblk m c 0 t) (weight m c t) x).trans (Finset.sum_congr rfl fun k _ =>
    congrArg₂ (HMul.hMul (α := EReal)) (blk0 m c t _) (weight_at m c t _))

theorem first_gate (t : Fin cfg0.N) (x : S256x2048.Idx) :
    k0_pay5 (F := Ideal) (iblk m c 2 t) x = gate m c 5120 (256 * t.val + (x 0).val) (x 1).val :=
  (sigmoid_sub _).trans (congrArg sigmoid (blk2 m c t x))

theorem second_gate (t : Fin cfg0.N) (x : S256x2048.Idx) :
    k0_pay6 (F := Ideal) (iblk m c 3 t) x = gate m c 7168 (256 * t.val + (x 0).val) (x 1).val :=
  (sigmoid_sub _).trans (congrArg sigmoid (blk3 m c t x))

theorem first_out (t : Fin cfg0.N) : (outsAt0 m c t).1 = fun y => branch m c 5120 (256 * t.val + (y 0).val) (y 1).val := by
  unfold outsAt0
  dsimp only
  unfold out0_A_6 kernelRun0_A
  dsimp only
  unfold kernelRun0_A.sl.r_1
  rw [read_stored zero2, load_whole (m := ms0_0 t) zero2, load_whole (m := ms0_2 t) zero2]
  exact funext fun y => congrArg₂ (HMul.hMul (α := EReal)) (back_at m c t y) (first_gate m c t y)

theorem second_out (t : Fin cfg0.N) : (outsAt0 m c t).2.1 = fun y => branch m c 7168 (256 * t.val + (y 0).val) (y 1).val := by
  unfold outsAt0
  dsimp only
  unfold out0_A_7 kernelRun0_A
  dsimp only
  unfold kernelRun0_A.sl.r_2
  rw [read_stored zero2, load_whole (m := ms0_0 t) zero2, load_whole (m := ms0_3 t) zero2]
  exact funext fun y => congrArg₂ (HMul.hMul (α := EReal)) (back_at m c t y) (second_gate m c t y)

/-- A gate's argument's gradient from the values it is made of. -/
theorem slope_eq {b y g : EReal} {o i j : ℕ} {Y : S8192x2048.Idx → EReal} (hb : b = back m c i j)
    (hy : y = el2 (M := 8192) (N := 2048) Y i j) (hg : g = gate m c o i j) : b * y * g * (one - g)
      = slopeAt (m ((c.tc : Thread nD τ).loc main_arg0)) (m ((c.tc : Thread nD τ).loc main_arg1)) (m ((c.tc : Thread nD τ).loc main_arg2)) Y o i j := by
  rw [hb, hy, hg]
  rfl

theorem third_out (t : Fin cfg0.N) : (outsAt0 m c t).2.2 = fun y => slopes m c (256 * t.val + (y 0).val) (y 1).val := by
  unfold outsAt0
  dsimp only
  unfold out0_A_8 kernelRun0_A
  dsimp only
  unfold kernelRun0_A.sl.r kernelRun0_A.sl.r_3 kernelRun0_A.sl.r_4 kernelRun0_A.sl.cst_17
  rw [read_stored zero2, load_whole (m := ms0_0 t) zero2, load_whole (m := ms0_2 t) zero2, load_whole (m := ms0_3 t) zero2,
    load_whole (m := ms0_4 t) zero2, load_whole (m := ms0_5 t) zero2]
  exact funext fun y => besides_at (M := 256) (N := 2048) (L := 4096) rfl _ _ _ _ (256 * t.val)
    (fun x => slope_eq m c (back_at m c t x) (blk4 m c t x) (first_gate m c t x))
    (fun x => slope_eq m c (back_at m c t x) (blk5 m c t x) (second_gate m c t x)) concatenates_S256x2048_S256x2048_S256x4096_d1 y

theorem first_array : (dats m 0 c).arrAt 6 cfg0.N = fun i => branch m c 5120 (i 0).val (i 1).val := by
  refine (dats m 0 c).arrAt_eq_of_covers 6 _ (by decide +kernel) fun t hf y => ?_
  blk_simp
  rw [after0_6]
  exact (congrFun (first_out m c t) y).trans (congrArg₂ (branch m c 5120) (by blk_simp [index6 t]; omega) (by blk_simp [index6 t]))

theorem second_array : (dats m 0 c).arrAt 7 cfg0.N = fun i => branch m c 7168 (i 0).val (i 1).val := by
  refine (dats m 0 c).arrAt_eq_of_covers 7 _ (by decide +kernel) fun t hf y => ?_
  blk_simp
  rw [after0_7]
  exact (congrFun (second_out m c t) y).trans (congrArg₂ (branch m c 7168) (by blk_simp [index7 t]; omega) (by blk_simp [index7 t]))

theorem third_array : (dats m 0 c).arrAt 8 cfg0.N = fun i => slopes m c (i 0).val (i 1).val := by
  refine (dats m 0 c).arrAt_eq_of_covers 8 _ (by decide +kernel) fun t hf y => ?_
  blk_simp
  rw [after0_8]
  exact (congrFun (third_out m c t) y).trans (congrArg₂ (slopes m c) (by blk_simp [index8 t]; omega) (by blk_simp [index8 t]))

end Value

section Reference
open Cert.ReferenceMIdeal.Read
variable (D : S8192x2048.Idx → EReal) (W : S2048x2048.Idx → EReal) (Z : S8192x9216.Idx → EReal) (Y Y' : S8192x2048.Idx → EReal)

theorem reference_back (i : S8192x2048.Idx) : val_main_v29 (F := Ideal) D W i = backAt D W (i 0).val (i 1).val := by
  refine (val_main_v29_apply _ _ i).trans ?_
  exact Finset.sum_congr rfl fun k _ => congrArg₂ (HMul.hMul (α := EReal)) (at2 (M := 8192) (N := 2048) D _ rfl rfl)
    (at2 (M := 2048) (N := 2048) W _ rfl rfl)

theorem reference_gate (i : S8192x2048.Idx) : val_main_v10 (F := Ideal) Z i = gateAt Z 5120 (i 0).val (i 1).val := by
  rw [val_main_v10_apply, val_main_v9_apply, val_main_cst_0_apply, val_main_v8_apply, val_main_v7_apply, val_main_cst_apply,
    val_main_v6_apply, val_main_v5_apply, val_main_v1_apply, val_main_v0_apply]
  exact congrArg sigmoid (at2 (M := 8192) (N := 9216) Z _ rfl rfl)

theorem reference_gate' (i : S8192x2048.Idx) : val_main_v20 (F := Ideal) Z i = gateAt Z 7168 (i 0).val (i 1).val := by
  rw [val_main_v20_apply, val_main_v19_apply, val_main_cst_3_apply, val_main_v18_apply, val_main_v17_apply, val_main_cst_2_apply,
    val_main_v16_apply, val_main_v15_apply, val_main_v3_apply, val_main_v2_apply]
  exact congrArg sigmoid (at2 (M := 8192) (N := 9216) Z _ rfl rfl)

theorem reference_branch (i : S8192x2048.Idx) : val_main_v36 (F := Ideal) D W Z i = branchAt D W Z 5120 (i 0).val (i 1).val := by
  rw [val_main_v36_apply, val_main_v33_apply]
  exact (mul_comm _ _).trans (congrArg₂ (HMul.hMul (α := EReal)) (reference_back D W i) (reference_gate Z i))

theorem reference_branch' (i : S8192x2048.Idx) : val_main_v37 (F := Ideal) D W Z i = branchAt D W Z 7168 (i 0).val (i 1).val := by
  rw [val_main_v37_apply, val_main_v30_apply]
  exact (mul_comm _ _).trans (congrArg₂ (HMul.hMul (α := EReal)) (reference_back D W i) (reference_gate' Z i))

theorem reference_slope (i : S8192x2048.Idx) : val_main_v35 (F := Ideal) D W Z Y i = slopeAt D W Z Y 5120 (i 0).val (i 1).val := by
  rw [val_main_v35_apply, val_main_v34_apply, val_main_v13_apply, val_main_v12_apply, val_main_v11_apply, val_main_cst_1_apply,
    reference_back, reference_gate]
  exact (mul_assoc (G := EReal) _ _ _).symm.trans (congrArg (fun z => backAt D W (i 0).val (i 1).val * z * gateAt Z 5120 (i 0).val (i 1).val
    * (one - gateAt Z 5120 (i 0).val (i 1).val)) (at2 (M := 8192) (N := 2048) Y i rfl rfl))

theorem reference_slope' (i : S8192x2048.Idx) : val_main_v32 (F := Ideal) D W Z Y i = slopeAt D W Z Y 7168 (i 0).val (i 1).val := by
  rw [val_main_v32_apply, val_main_v31_apply, val_main_v23_apply, val_main_v22_apply, val_main_v21_apply, val_main_cst_4_apply,
    val_main_v4_apply, reference_back, reference_gate']
  exact (mul_assoc (G := EReal) _ _ _).symm.trans (congrArg (fun z => backAt D W (i 0).val (i 1).val * z * gateAt Z 7168 (i 0).val (i 1).val
    * (one - gateAt Z 7168 (i 0).val (i 1).val)) (at2 (M := 8192) (N := 2048) Y i rfl rfl))

theorem reference_slopes (i : S8192x4096.Idx) : val_main_v39 (F := Ideal) D W Z Y Y' i = slopesAt D W Z Y Y' (i 0).val (i 1).val := by
  rw [val_main_v39_apply]
  unfold val_main_v38
  exact (besides_at (M := 8192) (N := 2048) (L := 4096) rfl _ _ (slopeAt D W Z Y 5120) (slopeAt D W Z Y' 7168) 0
    (fun x => (reference_slope D W Z Y x).trans (congrArg (fun a => slopeAt D W Z Y 5120 a (x 1).val) (Nat.zero_add _).symm))
    (fun x => (reference_slope' D W Z Y' x).trans (congrArg (fun a => slopeAt D W Z Y' 7168 a (x 1).val) (Nat.zero_add _).symm)) _ i).trans
    (congrArg (fun a => slopesAt D W Z Y Y' a (i 1).val) (Nat.zero_add _))

end Reference

/-- The kernel's call and the reference end with the same three gradients. -/
theorem algebraic : Cert.algebraic_KernelMIdeal_ReferenceMIdeal (hKernelMIdeal := Cert.KernelMIdeal.Gen.facts)
    (hReferenceMIdeal := Cert.ReferenceMIdeal.Gen.facts) := by
  intro m g m' g' _ hin
  refine ⟨_, _, _, Cert.KernelMIdeal.Value.run_blocks m g, (θ_run Cert.ReferenceMIdeal.defs _ _).mono (fun r hr c => ?_)
    (Cert.ReferenceMIdeal.Value.run m' g')⟩
  obtain ⟨i0, i1, i2, i3, i4⟩ := hin c
  obtain ⟨h0, h1, h2, hrest⟩ := hr c
  refine ⟨h0.trans ?_, h1.trans ?_, h2.trans ?_, hrest⟩
  · rw [Cert.ReferenceMIdeal.Read.val_main_v36_eq, i0, i1, i2]
    exact (funext (reference_branch _ _ _)).trans (first_array m c).symm
  · rw [Cert.ReferenceMIdeal.Read.val_main_v37_eq, i0, i1, i2]
    exact (funext (reference_branch' _ _ _)).trans (second_array m c).symm
  · rw [Cert.ReferenceMIdeal.Read.val_main_v39_eq, i0, i1, i2, i3, i4]
    exact (funext (reference_slopes _ _ _ _ _)).trans (third_array m c).symm

theorem frame_reference : Cert.quiescent_ReferenceMIdeal (hReferenceMIdeal := Cert.ReferenceMIdeal.Gen.facts) := fun m ρ _ =>
  (θ_run Cert.ReferenceMIdeal.defs _ _).mono (fun r h => ⟨fun c => (h c).2.2.2, sem_eq_zero_of_no_sems (by decide) r.2⟩)
    (Cert.ReferenceMIdeal.Value.run m ρ)

end Cert.DM

end
-- ==== Proof.DO.lean ====
/-
  The feed-forward layer's second product, gathered over four tiles, added to the residual stream and normed in two pieces of rows.
-/
module

public import proofs.«01_k».proof.Proof.Halves
public import proofs.«01_k».proof.Proof.Gen.KernelOIdeal.Value
public import proofs.«01_k».proof.Proof.Gen.ReferenceOIdeal.Read
public import proofs.«01_k».proof.Defs

@[expose] public section

set_option maxRecDepth 16384

noncomputable section

namespace Cert.DO

open Cert.KernelOIdeal Cert.KernelOIdeal.Gen Cert.Product Cert.Tiles Cert.Rows
open Idealize.ShloMosaic Idealize.ShloMosaic.TcCoe Idealize.SL.Sem

/-! ## What the points store -/

section Stores
variable {F : FTy → Type} [FloatOps F] (m : (ℓ : Loc nD τ sig) → Buf (Elt F) ℓ) (c : Dev nD)

theorem scratch_first (t : Fin cfg0.N) (h : t.val % 4 = 0) :
    (outsAt0 m c t.val t.isLt).2.2 = k0_pay2 (iblk m c 0 t) (iblk m c 1 t) := by
  rw [outsAt0_A m c t h (by omega) (by omega)]
  dsimp only
  unfold sout0_A_0 kernelRun0_A
  dsimp only
  rw [read_stored zero2, load_whole zero2, load_whole zero2]

theorem scratch_next (t : Fin cfg0.N) (h : t.val % 4 ≠ 0) : (outsAt0 m c t.val t.isLt).2.2
    = k0_pay3 (iblk m c 0 t) (iblk m c 1 t) (outsAt0 m c (t.val - 1) (Nat.lt_of_le_of_lt (Nat.sub_le _ _) t.isLt)).2.2 := by
  by_cases h3 : t.val % 4 = 3
  · rw [outsAt0_C m c t h (by omega) h3]
    dsimp only
    unfold sout0_C_0 kernelRun0_C
    dsimp only
    unfold kernelRun0_C.sl.HS0_1
    rw [read_stored zero2, load_whole zero2, load_whole zero2, load_whole zero2]
  · rw [outsAt0_B m c t h (by omega) h3]
    dsimp only
    unfold sout0_B_0 kernelRun0_B
    dsimp only
    rw [read_stored zero2, load_whole zero2, load_whole zero2]
    exact congrArg (k0_pay3 _ _) (load_whole zero2 (Memref.isWhole_whole _) _ _)

end Stores

/-! ## Over the extended reals -/

/-- The positive part, squared. -/
def act (x : EReal) : EReal := max x 0 * max x 0

/-- One term of an element of the product. -/
def termAt (A : S8192x8192.Idx → EReal) (W : S8192x2048.Idx → EReal) (i j s : ℕ) : EReal :=
  act (el2 (M := 8192) (N := 8192) A i s) * el2 (M := 8192) (N := 2048) W s j

/-- The product. -/
def outAt (A : S8192x8192.Idx → EReal) (W : S8192x2048.Idx → EReal) (i j : ℕ) : EReal := ∑ s ∈ Finset.range (2048 * 4), termAt A W i j s

/-- The residual stream with the product added. -/
def sumAt (A : S8192x8192.Idx → EReal) (W : S8192x2048.Idx → EReal) (X : S8192x2048.Idx → EReal) (i j : ℕ) : EReal :=
  el2 (M := 8192) (N := 2048) X i j + outAt A W i j

section Value
variable (m : (ℓ : Loc nD τ sig) → Buf (Elt Ideal) ℓ) (c : Dev nD)

theorem index0 : ∀ t : Fin cfg0.N, (cfg0.win 0).index t = ![t.val / 4, t.val % 4] := by decide +kernel
theorem index1 : ∀ t : Fin cfg0.N, (cfg0.win 1).index t = ![t.val % 4, 0] := by decide +kernel
theorem index2 : ∀ t : Fin cfg0.N, (cfg0.win 2).index t = ![t.val / 4, 0] := by decide +kernel
theorem index3 : ∀ t : Fin cfg0.N, (cfg0.win 3).index t = ![0, 0] := by decide +kernel
theorem index4 : ∀ t : Fin cfg0.N, (cfg0.win 4).index t = ![t.val / 4, 0] := by decide +kernel
theorem index5 : ∀ t : Fin cfg0.N, (cfg0.win 5).index t = ![t.val / 4, 0] := by decide +kernel

/-- The call's product. -/
abbrev out : ℕ → ℕ → EReal := outAt (m ((c.tc : Thread nD τ).loc main_arg0)) (m ((c.tc : Thread nD τ).loc main_arg1))
/-- The call's sum. -/
abbrev total : ℕ → ℕ → EReal := sumAt (m ((c.tc : Thread nD τ).loc main_arg0)) (m ((c.tc : Thread nD τ).loc main_arg1))
  (m ((c.tc : Thread nD τ).loc main_arg2))

theorem blk0 (t : Fin cfg0.N) (y : S512x2048.Idx) : iblk m c 0 t y = el2 (M := 8192) (N := 8192)
    (m ((c.tc : Thread nD τ).loc main_arg0)) (512 * (t.val / 4) + (y 0).val) (2048 * (t.val % 4) + (y 1).val) := by
  unfold iblk
  show V m c main_arg0 (((cfg0.win 0).blk t).view.emb _) = _
  rw [V_main_arg0]
  exact at2 (M := 8192) (N := 8192) _ _ (by blk_simp [index0 t]; omega) (by blk_simp [index0 t]; omega)

theorem blk1 (t : Fin cfg0.N) (y : S2048x2048.Idx) : iblk m c 1 t y = el2 (M := 8192) (N := 2048)
    (m ((c.tc : Thread nD τ).loc main_arg1)) (2048 * (t.val % 4) + (y 0).val) (y 1).val := by
  unfold iblk
  show V m c main_arg1 (((cfg0.win 1).blk t).view.emb _) = _
  rw [V_main_arg1]
  exact at2 (M := 8192) (N := 2048) _ _ (by blk_simp [index1 t]; omega) (by blk_simp [index1 t])

theorem blk2 (t : Fin cfg0.N) (y : S512x2048.Idx) :
    iblk m c 2 t y = el2 (M := 8192) (N := 2048) (m ((c.tc : Thread nD τ).loc main_arg2)) (512 * (t.val / 4) + (y 0).val) (y 1).val := by
  unfold iblk
  show V m c main_arg2 (((cfg0.win 2).blk t).view.emb _) = _
  rw [V_main_arg2]
  exact at2 (M := 8192) (N := 2048) _ _ (by blk_simp [index2 t]; omega) (by blk_simp [index2 t])

theorem blk3 (t : Fin cfg0.N) (y : S1x2048.Idx) :
    iblk m c 3 t y = el2 (M := 1) (N := 2048) (m ((c.tc : Thread nD τ).loc main_arg3)) 0 (y 1).val := by
  unfold iblk
  show V m c main_arg3 (((cfg0.win 3).blk t).view.emb _) = _
  rw [V_main_arg3]
  exact at2 (M := 1) (N := 2048) _ _ (by blk_simp [index3 t]) (by blk_simp [index3 t])

theorem product_at (t : Fin cfg0.N) (y : S512x2048.Idx) : k0_pay1 (F := Ideal) (iblk m c 0 t) (iblk m c 1 t) y = ∑ k : Fin 2048,
    termAt (m ((c.tc : Thread nD τ).loc main_arg0)) (m ((c.tc : Thread nD τ).loc main_arg1)) (512 * (t.val / 4) + (y 0).val) (y 1).val
      (2048 * (t.val % 4) + k.val) := by
  refine (cols_rows dot_S512x2048_S2048x2048_S512x2048_1_0_0_1_n_n rfl rfl (fun _ _ => rfl) (fun _ _ => rfl) (fun _ _ => rfl)
    (fun _ _ => rfl) _ (iblk m c 1 t) y).trans (Finset.sum_congr rfl fun k _ => congrArg₂ (HMul.hMul (α := EReal)) ?_ (blk1 m c t _))
  refine Eq.trans ?_ (congrArg act (blk0 m c t (ValueIdx.ix2 (n0 := 512) (n1 := 2048) (y 0) k)))
  show max (α := EReal) (iblk m c 0 t _) (Ideal.ofBits .bf16 0x0000#16) * max (α := EReal) (iblk m c 0 t _) (Ideal.ofBits .bf16 0x0000#16) = _
  rw [zero_bf16]
  rfl

theorem scratch_last (t : Fin cfg0.N) (h3 : t.val % 4 = 3) (y : S512x2048.Idx) :
    (outsAt0 m c t.val t.isLt).2.2 y = out m c (512 * (t.val / 4) + (y 0).val) (y 1).val :=
  gathered (S := S512x2048) (K := 2048) (fun n hn => (outsAt0 m c n hn).2.2) (fun t => k0_pay1 (F := Ideal) (iblk m c 0 t) (iblk m c 1 t))
    (fun y q s => termAt (m ((c.tc : Thread nD τ).loc main_arg0)) (m ((c.tc : Thread nD τ).loc main_arg1)) (512 * q + (y 0).val) (y 1).val s)
    (product_at m c) (fun t h => (scratch_first m c t h).trans (shapeCast_self _ _)) (fun t h => (scratch_next m c t h).trans (shapeCast_self _ _))
    t h3 y

section Pieces
variable (t : Fin cfg0.N) (S : FVec Ideal S512x2048 .f32)
  (hs : ∀ y, S y = out m c (512 * (t.val / 4) + (y 0).val) (y 1).val)
  (o : ℕ) (io : ∀ b, ![o, 0] b + S256x2048.size b ≤ S512x2048.size b)

/-- The sum's rows from `o` on. -/
abbrev piece : FVec Ideal S256x2048 .f32 :=
  k0_pay5 (F := Ideal)
    (scM0_0.view.readCov [⟨Rect.unit (s := S512x2048) ![0, 0] S512x2048.size inb_S512x2048_S512x2048_0_0, S⟩]
      (Rect.unit (s := S512x2048) ![o, 0] S256x2048.size io).toLoadRect)
    ((ms0_2 t).view.readAt (Elt Ideal) (Rect.unit (s := S512x2048) ![o, 0] S256x2048.size io).toLoadRect ((hs0_2 t).unread (iblk m c 2 t)))

include hs in
theorem stored_at (x : S256x2048.Idx) :
    View.readCov (Val := Elt Ideal) scM0_0.view [⟨Rect.unit (s := S512x2048) ![0, 0] S512x2048.size inb_S512x2048_S512x2048_0_0, S⟩]
      (Rect.unit (s := S512x2048) ![o, 0] S256x2048.size io).toLoadRect x = out m c (512 * (t.val / 4) + o + (x 0).val) (x 1).val := by
  rw [load_stored zero2, hs]
  refine congrArg₂ (out m c) ?_ ?_
  · show 512 * (t.val / 4) + (o + 1 * (x 0).val) = _
    omega
  · show 0 + 1 * (x 1).val = _
    omega

theorem added (v w : FVec Ideal S256x2048 .f32) (b : ℕ) (hv : ∀ x, v x = out m c (b + (x 0).val) (x 1).val)
    (hw : ∀ x, w x = el2 (M := 8192) (N := 2048) (m ((c.tc : Thread nD τ).loc main_arg2)) (b + (x 0).val) (x 1).val) (x : S256x2048.Idx) :
    k0_pay5 (F := Ideal) v w x = total m c (b + (x 0).val) (x 1).val :=
  congrArg₂ (HAdd.hAdd (α := EReal)) (hw x) (hv x)

include hs in
theorem piece_at (x : S256x2048.Idx) : piece m c t S o io x = total m c (512 * (t.val / 4) + o + (x 0).val) (x 1).val :=
  added m c _ _ _ (stored_at m c t S hs o io)
    (load_rows (H := 512) (N := 2048) (H' := 256) (Val := Elt Ideal) (e := .f32) (hs0_2 t) _ _ _ (blk2 m c t) o io) x

theorem gain_at (z : S1x2048.Idx) :
    (ms0_3 t).view.readAt (Elt Ideal) (Rect.unit (s := S1x2048) ![0, 0] S1x2048.size inb_S1x2048_S1x2048_0_0).toLoadRect
      ((hs0_3 t).unread (iblk m c 3 t)) z = el2 (M := 1) (N := 2048) (m ((c.tc : Thread nD τ).loc main_arg3)) 0 (z 1).val := by
  rw [load_whole zero2]
  exact blk3 m c t z

include hs in
theorem normed_at (x : S256x2048.Idx) :
    normRows (F := Ideal) reduces_S256x2048_S256 shapeCasts_S256_S256x1 broadcasts_S256x1_S256x2048 broadcasts_S1x2048_S256x2048
      (piece m c t S o io) ((ms0_3 t).view.readAt (Elt Ideal) (Rect.unit (s := S1x2048) ![0, 0] S1x2048.size inb_S1x2048_S1x2048_0_0).toLoadRect
      ((hs0_3 t).unread (iblk m c 3 t))) x
      = normAt (total m c) (m ((c.tc : Thread nD τ).loc main_arg3)) (512 * (t.val / 4) + o + (x 0).val) (x 1).val :=
  normRows_at _ _ _ _ _ _ _ _ _ (piece_at m c t S hs o io) (gain_at m c t) x

end Pieces

theorem sum_out (t : Fin cfg0.N) (h3 : t.val % 4 = 3) :
    (outsAt0 m c t.val t.isLt).1 = fun y => total m c (512 * (t.val / 4) + (y 0).val) (y 1).val := by
  have hs := scratch_last m c t h3
  rw [scratch_next m c t (by omega)] at hs
  rw [outsAt0_C m c t (by omega) (by omega) h3]
  dsimp only
  unfold out0_C_4 kernelRun0_C
  dsimp only
  unfold kernelRun0_C.sl.r kernelRun0_C.sl.v15 kernelRun0_C.sl.v34 kernelRun0_C.sl.HS0_1
  rw [load_whole zero2, load_whole zero2, load_whole zero2]
  exact halves_read (N := 2048) (Val := Elt Ideal) (e := .f32) _ _ (total m c) _ _ _ _ _
    (piece_at m c t _ hs 256 inb_S512x2048_S256x2048_256_0) (piece_at m c t _ hs 0 inb_S512x2048_S256x2048_0_0)

theorem norm_out (t : Fin cfg0.N) (h3 : t.val % 4 = 3) : (outsAt0 m c t.val t.isLt).2.1 = fun y =>
    normAt (total m c) (m ((c.tc : Thread nD τ).loc main_arg3)) (512 * (t.val / 4) + (y 0).val) (y 1).val := by
  have hs := scratch_last m c t h3
  rw [scratch_next m c t (by omega)] at hs
  rw [outsAt0_C m c t (by omega) (by omega) h3]
  dsimp only
  unfold out0_C_5 kernelRun0_C
  dsimp only
  unfold kernelRun0_C.sl.r_1 kernelRun0_C.sl.v15 kernelRun0_C.sl.v34 kernelRun0_C.sl.HS0_1
  rw [load_whole zero2 (hs0_0 t), load_whole zero2 (hs0_1 t), load_whole (m := scM0_0) zero2]
  exact halves_read (N := 2048) (Val := Elt Ideal) (e := .bf16) _ _ (normAt (total m c) (m ((c.tc : Thread nD τ).loc main_arg3))) _ _ _ _ _
    (normed_at m c t _ hs 256 inb_S512x2048_S256x2048_256_0) (normed_at m c t _ hs 0 inb_S512x2048_S256x2048_0_0)

theorem sum_array : (dats m 0 c).arrAt 4 cfg0.N = fun i => total m c (i 0).val (i 1).val := by
  refine (dats m 0 c).arrAt_eq_of_covers 4 _ (by decide +kernel) fun t hf y => ?_
  have h3 := (flush0_4 t).mp hf
  blk_simp
  rw [after0_4]
  exact (congrFun (sum_out m c t h3) y).trans (congrArg₂ (total m c) (by blk_simp [index4 t]; omega) (by blk_simp [index4 t]))

theorem norm_array : (dats m 0 c).arrAt 5 cfg0.N
    = fun i => normAt (total m c) (m ((c.tc : Thread nD τ).loc main_arg3)) (i 0).val (i 1).val := by
  refine (dats m 0 c).arrAt_eq_of_covers 5 _ (by decide +kernel) fun t hf y => ?_
  have h3 := (flush0_5 t).mp hf
  blk_simp
  rw [after0_5]
  exact (congrFun (norm_out m c t h3) y).trans (congrArg₂ (normAt (total m c) _) (by blk_simp [index5 t]; omega) (by blk_simp [index5 t]))

end Value

section Reference
open Cert.ReferenceOIdeal.Read
variable (A : S8192x8192.Idx → EReal) (W : S8192x2048.Idx → EReal) (X : S8192x2048.Idx → EReal) (G : S1x2048.Idx → EReal)

theorem reference_act (i : S8192x8192.Idx) : val_main_v2 (F := Ideal) A i = act (A i) := by
  rw [val_main_v2_apply, val_main_v1_apply, val_main_v0_apply, val_main_call0_v0_apply, val_main_call0_cst_apply]
  show max (α := EReal) (A i) (Ideal.ofBits .f32 0x00000000#32) * max (α := EReal) (A i) (Ideal.ofBits .f32 0x00000000#32) = _
  rw [Ideal.ofBits_zero_f32]
  rfl

theorem reference_sum (i : S8192x2048.Idx) : val_main_v5 (F := Ideal) A W X i = sumAt A W X (i 0).val (i 1).val := by
  rw [val_main_v5_apply]
  refine congrArg₂ (HAdd.hAdd (α := EReal)) (at2 (M := 8192) (N := 2048) X _ rfl rfl) ((val_main_v4_apply _ _ i).trans ?_)
  unfold outAt
  rw [Finset.sum_range]
  exact Finset.sum_congr rfl fun k _ => congrArg₂ (HMul.hMul (α := EReal))
    ((reference_act A _).trans (congrArg act (at2 (M := 8192) (N := 8192) A _ rfl rfl))) (at2 (M := 8192) (N := 2048) W _ rfl rfl)

theorem reference_norm (i : S8192x2048.Idx) : val_main_v20 (F := Ideal) A W X G i = normAt (sumAt A W X) G (i 0).val (i 1).val := by
  rw [val_main_v20_apply, val_main_v19_apply, val_main_v16_apply, val_main_v15_apply, val_main_v14_apply, val_main_v13_apply,
    val_main_v11_apply, val_main_v9_apply, val_main_v8_apply, val_main_v10_apply, val_main_v12_apply, val_main_v18_apply, val_main_v17_apply,
    val_main_v6_apply, val_main_cst_apply, val_main_cst_0_apply, val_main_cst_1_apply]
  refine congrArg₂ (HMul.hMul (α := EReal)) (congrArg₂ (HMul.hMul (α := EReal)) (reference_sum A W X i)
    (congrArg (fun z => Ideal.rsqrt (Ideal.div z length + small)) ?_)) (at2 (M := 1) (N := 2048) G _ ?_ ?_)
  · refine (congrArg (· + _) Ideal.ofBits_zero_f32).trans ((zero_add _).trans (Finset.sum_congr rfl fun s _ => ?_))
    exact congrArg₂ (HMul.hMul (α := EReal)) (reference_sum A W X _) (reference_sum A W X _)
  · rfl
  · exact Nat.mod_eq_of_lt (i 1).isLt

end Reference

/-- The kernel's call and the reference end with the same sum and the same norm. -/
theorem algebraic : Cert.algebraic_KernelOIdeal_ReferenceOIdeal (hKernelOIdeal := Cert.KernelOIdeal.Gen.facts)
    (hReferenceOIdeal := Cert.ReferenceOIdeal.Gen.facts) := by
  intro m g m' g' _ hin
  refine ⟨_, _, Cert.KernelOIdeal.Value.run_blocks m g, (θ_run Cert.ReferenceOIdeal.defs _ _).mono (fun r hr c => ?_)
    (Cert.ReferenceOIdeal.Value.run m' g')⟩
  obtain ⟨i0, i1, i2, i3⟩ := hin c
  obtain ⟨h0, h1, hrest⟩ := hr c
  refine ⟨h0.trans ?_, h1.trans ?_, hrest⟩
  · rw [Cert.ReferenceOIdeal.Read.val_main_v5_eq, i0, i1, i2]
    exact (funext (reference_sum _ _ _)).trans (sum_array m c).symm
  · rw [Cert.ReferenceOIdeal.Read.val_main_v20_eq, i0, i1, i2, i3]
    exact (funext (reference_norm _ _ _ _)).trans (norm_array m c).symm

theorem frame_reference : Cert.quiescent_ReferenceOIdeal (hReferenceOIdeal := Cert.ReferenceOIdeal.Gen.facts) := fun m ρ _ =>
  (θ_run Cert.ReferenceOIdeal.defs _ _).mono (fun r h => ⟨fun c => (h c).2.2, sem_eq_zero_of_no_sems (by decide) r.2⟩)
    (Cert.ReferenceOIdeal.Value.run m ρ)

end Cert.DO

end
-- ==== Proof.DX.lean ====
/-
  The output projection added to the residual stream, with the norm of the sum: two pieces of rows at each point.
-/
module

public import proofs.«01_k».proof.Proof.Halves
public import proofs.«01_k».proof.Proof.Gen.KernelXIdeal.Value
public import proofs.«01_k».proof.Proof.Gen.ReferenceXIdeal.Read
public import proofs.«01_k».proof.Defs

@[expose] public section

set_option maxRecDepth 16384

noncomputable section

namespace Cert.DX

open Cert.KernelXIdeal Cert.KernelXIdeal.Gen Cert.Product Cert.Tiles Cert.Rows
open Idealize.ShloMosaic Idealize.ShloMosaic.TcCoe Idealize.SL.Sem

/-- The residual stream with the product of `A` and `B` added. -/
def sumAt (A : S8192x2048.Idx → EReal) (B : S2048x2048.Idx → EReal) (X : S8192x2048.Idx → EReal) (i j : ℕ) : EReal :=
  el2 (M := 8192) (N := 2048) X i j + prodAt (M := 8192) (K := 2048) (N := 2048) A B i j

section Value
variable (m : (ℓ : Loc nD τ sig) → Buf (Elt Ideal) ℓ) (c : Dev nD)

theorem index0 : ∀ t : Fin cfg0.N, (cfg0.win 0).index t = ![t.val, 0] := by decide +kernel
theorem index1 : ∀ t : Fin cfg0.N, (cfg0.win 1).index t = ![0, 0] := by decide +kernel
theorem index2 : ∀ t : Fin cfg0.N, (cfg0.win 2).index t = ![t.val, 0] := by decide +kernel
theorem index3 : ∀ t : Fin cfg0.N, (cfg0.win 3).index t = ![0, 0] := by decide +kernel
theorem index4 : ∀ t : Fin cfg0.N, (cfg0.win 4).index t = ![t.val, 0] := by decide +kernel
theorem index5 : ∀ t : Fin cfg0.N, (cfg0.win 5).index t = ![t.val, 0] := by decide +kernel
theorem offset1 : ∀ t : Fin cfg0.N, k0_off1 (grid0.coords t) = ![0, 0] := by decide +kernel

/-- The call's sum. -/
abbrev total : ℕ → ℕ → EReal := sumAt (m ((c.tc : Thread nD τ).loc main_arg0)) (m ((c.tc : Thread nD τ).loc main_arg1))
  (m ((c.tc : Thread nD τ).loc main_arg2))

theorem blk0 (t : Fin cfg0.N) (y : S512x2048.Idx) :
    iblk m c 0 t y = el2 (M := 8192) (N := 2048) (m ((c.tc : Thread nD τ).loc main_arg0)) (512 * t.val + (y 0).val) (y 1).val := by
  unfold iblk
  show V m c main_arg0 (((cfg0.win 0).blk t).view.emb _) = _
  rw [V_main_arg0]
  exact at2 (M := 8192) (N := 2048) _ _ (by blk_simp [index0 t]; omega) (by blk_simp [index0 t])

theorem blk1 (t : Fin cfg0.N) (y : S2048x2048.Idx) :
    iblk m c 1 t y = el2 (M := 2048) (N := 2048) (m ((c.tc : Thread nD τ).loc main_arg1)) (y 0).val (y 1).val := by
  unfold iblk
  show V m c main_arg1 (((cfg0.win 1).blk t).view.emb _) = _
  rw [V_main_arg1]
  exact at2 (M := 2048) (N := 2048) _ _ (by blk_simp [index1 t]) (by blk_simp [index1 t])

theorem blk2 (t : Fin cfg0.N) (y : S512x2048.Idx) :
    iblk m c 2 t y = el2 (M := 8192) (N := 2048) (m ((c.tc : Thread nD τ).loc main_arg2)) (512 * t.val + (y 0).val) (y 1).val := by
  unfold iblk
  show V m c main_arg2 (((cfg0.win 2).blk t).view.emb _) = _
  rw [V_main_arg2]
  exact at2 (M := 8192) (N := 2048) _ _ (by blk_simp [index2 t]; omega) (by blk_simp [index2 t])

theorem blk3 (t : Fin cfg0.N) (y : S1x2048.Idx) :
    iblk m c 3 t y = el2 (M := 1) (N := 2048) (m ((c.tc : Thread nD τ).loc main_arg3)) 0 (y 1).val := by
  unfold iblk
  show V m c main_arg3 (((cfg0.win 3).blk t).view.emb _) = _
  rw [V_main_arg3]
  exact at2 (M := 1) (N := 2048) _ _ (by blk_simp [index3 t]) (by blk_simp [index3 t])

/-- The sum's rows from `o` on. -/
abbrev piece (t : Fin cfg0.N) (o : ℕ) (io : ∀ b, ![o, 0] b + S256x2048.size b ≤ S512x2048.size b) : FVec Ideal S256x2048 .f32 :=
  k0_pay2 (F := Ideal)
    ((ms0_1 t).view.readAt (Elt Ideal) (Rect.unit (s := S2048x2048) (k0_off1 (grid0.coords t)) S2048x2048.size (k0_off1_inb _)).toLoadRect
      ((hs0_1 t).unread (iblk m c 1 t)))
    ((ms0_0 t).view.readAt (Elt Ideal) (Rect.unit (s := S512x2048) ![o, 0] S256x2048.size io).toLoadRect ((hs0_0 t).unread (iblk m c 0 t)))
    ((ms0_2 t).view.readAt (Elt Ideal) (Rect.unit (s := S512x2048) ![o, 0] S256x2048.size io).toLoadRect ((hs0_2 t).unread (iblk m c 2 t)))

theorem piece_at (t : Fin cfg0.N) (o : ℕ) (io : ∀ b, ![o, 0] b + S256x2048.size b ≤ S512x2048.size b) (x : S256x2048.Idx) :
    piece m c t o io x = total m c (512 * t.val + o + (x 0).val) (x 1).val := by
  refine congrArg₂ (HAdd.hAdd (α := EReal)) (load_rows (H := 512) (N := 2048) (H' := 256) (Val := Elt Ideal) (e := .f32) (hs0_2 t) _ _ _ (blk2 m c t) o io x) ?_
  refine (prod_at dot_S256x2048_S2048x2048_S256x2048_1_0_0_1_n_n rfl rfl (fun _ _ => rfl) (fun _ _ => rfl) (fun _ _ => rfl)
    (fun _ _ => rfl) (m ((c.tc : Thread nD τ).loc main_arg0)) (m ((c.tc : Thread nD τ).loc main_arg1)) (512 * t.val + o) 0 _ _
    (load_rows (H := 512) (N := 2048) (H' := 256) (Val := Elt Ideal) (e := .bf16) (hs0_0 t) _ _ _ (blk0 m c t) o io) (fun z => ?_) x).trans
    (congrArg (prodAt _ _ _) (Nat.zero_add _))
  refine (load_part (H := 2048) (N := 2048) (H' := 2048) (N' := 2048) (Val := Elt Ideal) (e := .bf16) (hs0_1 t) _ _ (blk1 m c t) _ _ z).trans ?_
  rw [offset1 t]
  exact congrArg (fun i => el2 (M := 2048) (N := 2048) _ i (0 + (z 1).val)) (Nat.zero_add _)

theorem gain_at (t : Fin cfg0.N) (z : S1x2048.Idx) :
    (ms0_3 t).view.readAt (Elt Ideal) (Rect.unit (s := S1x2048) ![0, 0] S1x2048.size inb_S1x2048_S1x2048_0_0).toLoadRect
      ((hs0_3 t).unread (iblk m c 3 t)) z = el2 (M := 1) (N := 2048) (m ((c.tc : Thread nD τ).loc main_arg3)) 0 (z 1).val := by
  rw [load_whole zero2]
  exact blk3 m c t z

theorem normed_at (t : Fin cfg0.N) (o : ℕ) (io : ∀ b, ![o, 0] b + S256x2048.size b ≤ S512x2048.size b) (x : S256x2048.Idx) :
    normRows (F := Ideal) reduces_S256x2048_S256 shapeCasts_S256_S256x1 broadcasts_S256x1_S256x2048 broadcasts_S1x2048_S256x2048
      (piece m c t o io) ((ms0_3 t).view.readAt (Elt Ideal) (Rect.unit (s := S1x2048) ![0, 0] S1x2048.size inb_S1x2048_S1x2048_0_0).toLoadRect
      ((hs0_3 t).unread (iblk m c 3 t))) x
      = normAt (total m c) (m ((c.tc : Thread nD τ).loc main_arg3)) (512 * t.val + o + (x 0).val) (x 1).val :=
  normRows_at _ _ _ _ _ _ _ _ _ (piece_at m c t o io) (gain_at m c t) x

theorem sum_out (t : Fin cfg0.N) : (outsAt0 m c t).1 = fun y => total m c (512 * t.val + (y 0).val) (y 1).val := by
  unfold outsAt0
  dsimp only
  unfold out0_A_4 kernelRun0_A
  dsimp only
  exact halves_read (N := 2048) (Val := Elt Ideal) (e := .f32) _ _ (total m c) _ _ _ _ _
    (piece_at m c t 256 inb_S512x2048_S256x2048_256_0) (piece_at m c t 0 inb_S512x2048_S256x2048_0_0)

theorem norm_out (t : Fin cfg0.N) : (outsAt0 m c t).2 = fun y =>
    normAt (total m c) (m ((c.tc : Thread nD τ).loc main_arg3)) (512 * t.val + (y 0).val) (y 1).val := by
  unfold outsAt0
  dsimp only
  unfold out0_A_5 kernelRun0_A
  dsimp only
  exact halves_read (N := 2048) (Val := Elt Ideal) (e := .bf16) _ _ (normAt (total m c) (m ((c.tc : Thread nD τ).loc main_arg3))) _ _ _ _ _
    (normed_at m c t 256 inb_S512x2048_S256x2048_256_0) (normed_at m c t 0 inb_S512x2048_S256x2048_0_0)

theorem sum_array : (dats m 0 c).arrAt 4 cfg0.N = fun i => total m c (i 0).val (i 1).val := by
  refine (dats m 0 c).arrAt_eq_of_covers 4 _ (by decide +kernel) fun t hf y => ?_
  blk_simp
  rw [after0_4]
  exact (congrFun (sum_out m c t) y).trans (congrArg₂ (total m c) (by blk_simp [index4 t]; omega) (by blk_simp [index4 t]))

theorem norm_array : (dats m 0 c).arrAt 5 cfg0.N
    = fun i => normAt (total m c) (m ((c.tc : Thread nD τ).loc main_arg3)) (i 0).val (i 1).val := by
  refine (dats m 0 c).arrAt_eq_of_covers 5 _ (by decide +kernel) fun t hf y => ?_
  blk_simp
  rw [after0_5]
  exact (congrFun (norm_out m c t) y).trans (congrArg₂ (normAt (total m c) _) (by blk_simp [index5 t]; omega) (by blk_simp [index5 t]))

end Value

section Reference
open Cert.ReferenceXIdeal.Read
variable (A : S8192x2048.Idx → EReal) (B : S2048x2048.Idx → EReal) (X : S8192x2048.Idx → EReal) (G : S1x2048.Idx → EReal)

theorem reference_sum (i : S8192x2048.Idx) : val_main_v3 (F := Ideal) A B X i = sumAt A B X (i 0).val (i 1).val := by
  rw [val_main_v3_apply]
  refine congrArg₂ (HAdd.hAdd (α := EReal)) (at2 (M := 8192) (N := 2048) X _ rfl rfl) ((val_main_v2_apply _ _ i).trans ?_)
  exact Finset.sum_congr rfl fun k _ => congrArg₂ (HMul.hMul (α := EReal)) (at2 (M := 8192) (N := 2048) A _ rfl rfl)
    (at2 (M := 2048) (N := 2048) B _ rfl rfl)

theorem reference_norm (i : S8192x2048.Idx) : val_main_v18 (F := Ideal) A B X G i = normAt (sumAt A B X) G (i 0).val (i 1).val := by
  rw [val_main_v18_apply, val_main_v17_apply, val_main_v14_apply, val_main_v13_apply, val_main_v12_apply, val_main_v11_apply,
    val_main_v9_apply, val_main_v7_apply, val_main_v6_apply, val_main_v8_apply, val_main_v10_apply, val_main_v16_apply, val_main_v15_apply,
    val_main_v4_apply, val_main_cst_apply, val_main_cst_0_apply, val_main_cst_1_apply]
  refine congrArg₂ (HMul.hMul (α := EReal)) (congrArg₂ (HMul.hMul (α := EReal)) (reference_sum A B X i)
    (congrArg (fun z => Ideal.rsqrt (Ideal.div z length + small)) ?_)) (at2 (M := 1) (N := 2048) G _ ?_ ?_)
  · refine (congrArg (· + _) Ideal.ofBits_zero_f32).trans ((zero_add _).trans (Finset.sum_congr rfl fun s _ => ?_))
    exact congrArg₂ (HMul.hMul (α := EReal)) (reference_sum A B X _) (reference_sum A B X _)
  · rfl
  · exact Nat.mod_eq_of_lt (i 1).isLt

end Reference

/-- The kernel's call and the reference end with the same sum and the same norm. -/
theorem algebraic : Cert.algebraic_KernelXIdeal_ReferenceXIdeal (hKernelXIdeal := Cert.KernelXIdeal.Gen.facts)
    (hReferenceXIdeal := Cert.ReferenceXIdeal.Gen.facts) := by
  intro m g m' g' _ hin
  refine ⟨_, _, Cert.KernelXIdeal.Value.run_blocks m g, (θ_run Cert.ReferenceXIdeal.defs _ _).mono (fun r hr c => ?_)
    (Cert.ReferenceXIdeal.Value.run m' g')⟩
  obtain ⟨i0, i1, i2, i3⟩ := hin c
  obtain ⟨h0, h1, hrest⟩ := hr c
  refine ⟨h0.trans ?_, h1.trans ?_, hrest⟩
  · rw [Cert.ReferenceXIdeal.Read.val_main_v3_eq, i0, i1, i2]
    exact (funext (reference_sum _ _ _)).trans (sum_array m c).symm
  · rw [Cert.ReferenceXIdeal.Read.val_main_v18_eq, i0, i1, i2, i3]
    exact (funext (reference_norm _ _ _ _)).trans (norm_array m c).symm

theorem frame_reference : Cert.quiescent_ReferenceXIdeal (hReferenceXIdeal := Cert.ReferenceXIdeal.Gen.facts) := fun m ρ _ =>
  (θ_run Cert.ReferenceXIdeal.defs _ _).mono (fun r h => ⟨fun c => (h c).2.2, sem_eq_zero_of_no_sems (by decide) r.2⟩)
    (Cert.ReferenceXIdeal.Value.run m ρ)

end Cert.DX

end
-- ==== Proof.DY.lean ====
/-
  The attention branch's projection and the two branches' gated sum, in two pieces of rows at each point.
-/
module

public import proofs.«01_k».proof.Proof.Halves
public import proofs.«01_k».proof.Proof.Gen.KernelYIdeal.Value
public import proofs.«01_k».proof.Proof.Gen.ReferenceYIdeal.Read
public import proofs.«01_k».proof.Defs

@[expose] public section

set_option maxRecDepth 16384

noncomputable section

namespace Cert.DY

open Cert.KernelYIdeal Cert.KernelYIdeal.Gen Cert.Product Cert.Tiles Cert.Rows
open Idealize.ShloMosaic Idealize.ShloMosaic.TcCoe Idealize.SL.Sem

/-- The projected branch. -/
abbrev branchAt (O : S8192x2048.Idx → EReal) (W : S2048x2048.Idx → EReal) (i j : ℕ) : EReal :=
  prodAt (M := 8192) (K := 2048) (N := 2048) O W i j

/-- The gated sum of the two branches. -/
def mergedAt (O : S8192x2048.Idx → EReal) (W : S2048x2048.Idx → EReal) (Y : S8192x2048.Idx → EReal) (Z : S8192x9216.Idx → EReal)
    (i j : ℕ) : EReal :=
  sigmoid (el2 (M := 8192) (N := 9216) Z i (5120 + j)) * el2 (M := 8192) (N := 2048) Y i j
    + sigmoid (el2 (M := 8192) (N := 9216) Z i (7168 + j)) * branchAt O W i j

section Value
variable (m : (ℓ : Loc nD τ sig) → Buf (Elt Ideal) ℓ) (c : Dev nD)

theorem index0 : ∀ t : Fin cfg0.N, (cfg0.win 0).index t = ![t.val / 2, 0] := by decide +kernel
theorem index1 : ∀ t : Fin cfg0.N, (cfg0.win 1).index t = ![0, 0] := by decide +kernel
theorem index2 : ∀ t : Fin cfg0.N, (cfg0.win 2).index t = ![t.val / 2, t.val % 2] := by decide +kernel
theorem index3 : ∀ t : Fin cfg0.N, (cfg0.win 3).index t = ![t.val / 2, 5 + t.val % 2] := by decide +kernel
theorem index4 : ∀ t : Fin cfg0.N, (cfg0.win 4).index t = ![t.val / 2, 7 + t.val % 2] := by decide +kernel
theorem index5 : ∀ t : Fin cfg0.N, (cfg0.win 5).index t = ![t.val / 2, t.val % 2] := by decide +kernel
theorem index6 : ∀ t : Fin cfg0.N, (cfg0.win 6).index t = ![t.val / 2, t.val % 2] := by decide +kernel
theorem offset1 : ∀ t : Fin cfg0.N, k0_off1 (grid0.coords t) = ![0, 1024 * (t.val % 2)] := by decide +kernel

/-- The call's projected branch. -/
abbrev branch : ℕ → ℕ → EReal := branchAt (m ((c.tc : Thread nD τ).loc main_arg0)) (m ((c.tc : Thread nD τ).loc main_arg1))
/-- The call's gated sum. -/
abbrev merged : ℕ → ℕ → EReal := mergedAt (m ((c.tc : Thread nD τ).loc main_arg0)) (m ((c.tc : Thread nD τ).loc main_arg1))
  (m ((c.tc : Thread nD τ).loc main_arg2)) (m ((c.tc : Thread nD τ).loc main_arg3))

theorem blk0 (t : Fin cfg0.N) (y : S512x2048.Idx) :
    iblk m c 0 t y = el2 (M := 8192) (N := 2048) (m ((c.tc : Thread nD τ).loc main_arg0)) (512 * (t.val / 2) + (y 0).val) (y 1).val := by
  unfold iblk
  show V m c main_arg0 (((cfg0.win 0).blk t).view.emb _) = _
  rw [V_main_arg0]
  exact at2 (M := 8192) (N := 2048) _ _ (by blk_simp [index0 t]; omega) (by blk_simp [index0 t])

theorem blk1 (t : Fin cfg0.N) (y : S2048x2048.Idx) :
    iblk m c 1 t y = el2 (M := 2048) (N := 2048) (m ((c.tc : Thread nD τ).loc main_arg1)) (y 0).val (y 1).val := by
  unfold iblk
  show V m c main_arg1 (((cfg0.win 1).blk t).view.emb _) = _
  rw [V_main_arg1]
  exact at2 (M := 2048) (N := 2048) _ _ (by blk_simp [index1 t]) (by blk_simp [index1 t])

theorem blk2 (t : Fin cfg0.N) (y : S512x1024.Idx) : iblk m c 2 t y = el2 (M := 8192) (N := 2048)
    (m ((c.tc : Thread nD τ).loc main_arg2)) (512 * (t.val / 2) + (y 0).val) (1024 * (t.val % 2) + (y 1).val) := by
  unfold iblk
  show V m c main_arg2 (((cfg0.win 2).blk t).view.emb _) = _
  rw [V_main_arg2]
  exact at2 (M := 8192) (N := 2048) _ _ (by blk_simp [index2 t]; omega) (by blk_simp [index2 t]; omega)

theorem blk3 (t : Fin cfg0.N) (y : S512x1024.Idx) : iblk m c 3 t y = el2 (M := 8192) (N := 9216)
    (m ((c.tc : Thread nD τ).loc main_arg3)) (512 * (t.val / 2) + (y 0).val) (5120 + (1024 * (t.val % 2) + (y 1).val)) := by
  unfold iblk
  show V m c main_arg3 (((cfg0.win 3).blk t).view.emb _) = _
  rw [V_main_arg3]
  exact at2 (M := 8192) (N := 9216) _ _ (by blk_simp [index3 t]; omega) (by blk_simp [index3 t]; omega)

theorem blk4 (t : Fin cfg0.N) (y : S512x1024.Idx) : iblk m c 4 t y = el2 (M := 8192) (N := 9216)
    (m ((c.tc : Thread nD τ).loc main_arg3)) (512 * (t.val / 2) + (y 0).val) (7168 + (1024 * (t.val % 2) + (y 1).val)) := by
  unfold iblk
  show V m c main_arg3 (((cfg0.win 4).blk t).view.emb _) = _
  rw [V_main_arg3]
  exact at2 (M := 8192) (N := 9216) _ _ (by blk_simp [index4 t]; omega) (by blk_simp [index4 t]; omega)

section Pieces
variable (t : Fin cfg0.N) (o : ℕ) (io : ∀ b, ![o, 0] b + S256x2048.size b ≤ S512x2048.size b)
  (io' : ∀ b, ![o, 0] b + S256x1024.size b ≤ S512x1024.size b)

theorem branch_at (x : S256x1024.Idx) :
    k0_pay5 (F := Ideal)
      ((ms0_1 t).view.readAt (Elt Ideal) (Rect.unit (s := S2048x2048) (k0_off1 (grid0.coords t)) S2048x1024.size (k0_off1_inb _)).toLoadRect
        ((hs0_1 t).unread (iblk m c 1 t)))
      ((ms0_0 t).view.readAt (Elt Ideal) (Rect.unit (s := S512x2048) ![o, 0] S256x2048.size io).toLoadRect ((hs0_0 t).unread (iblk m c 0 t))) x
      = branch m c (512 * (t.val / 2) + o + (x 0).val) (1024 * (t.val % 2) + (x 1).val) := by
  refine prod_at dot_S256x2048_S2048x1024_S256x1024_1_0_0_1_n_n rfl rfl (fun _ _ => rfl) (fun _ _ => rfl) (fun _ _ => rfl)
    (fun _ _ => rfl) (m ((c.tc : Thread nD τ).loc main_arg0)) (m ((c.tc : Thread nD τ).loc main_arg1)) (512 * (t.val / 2) + o) _ _ _
    (load_rows (H := 512) (N := 2048) (H' := 256) (Val := Elt Ideal) (e := .bf16) (hs0_0 t) _ _ _ (blk0 m c t) o io) (fun z => ?_) x
  refine (load_part (H := 2048) (N := 2048) (H' := 2048) (N' := 1024) (Val := Elt Ideal) (e := .bf16) (hs0_1 t) _ _ (blk1 m c t) _ _ z).trans ?_
  rw [offset1 t]
  exact congrArg (fun i => el2 (M := 2048) (N := 2048) _ i (1024 * (t.val % 2) + (z 1).val)) (Nat.zero_add _)

theorem merged_at (x : S256x1024.Idx) :
    k0_pay6 (F := Ideal)
      ((ms0_1 t).view.readAt (Elt Ideal) (Rect.unit (s := S2048x2048) (k0_off1 (grid0.coords t)) S2048x1024.size (k0_off1_inb _)).toLoadRect
        ((hs0_1 t).unread (iblk m c 1 t)))
      ((ms0_0 t).view.readAt (Elt Ideal) (Rect.unit (s := S512x2048) ![o, 0] S256x2048.size io).toLoadRect ((hs0_0 t).unread (iblk m c 0 t)))
      ((ms0_2 t).view.readAt (Elt Ideal) (Rect.unit (s := S512x1024) ![o, 0] S256x1024.size io').toLoadRect ((hs0_2 t).unread (iblk m c 2 t)))
      ((ms0_3 t).view.readAt (Elt Ideal) (Rect.unit (s := S512x1024) ![o, 0] S256x1024.size io').toLoadRect ((hs0_3 t).unread (iblk m c 3 t)))
      ((ms0_4 t).view.readAt (Elt Ideal) (Rect.unit (s := S512x1024) ![o, 0] S256x1024.size io').toLoadRect ((hs0_4 t).unread (iblk m c 4 t))) x
      = merged m c (512 * (t.val / 2) + o + (x 0).val) (1024 * (t.val % 2) + (x 1).val) :=
  congrArg₂ (HAdd.hAdd (α := EReal))
    (congrArg₂ (HMul.hMul (α := EReal))
      ((sigmoid_sub _).trans (congrArg sigmoid (load_rows (H := 512) (N := 1024) (H' := 256) (Val := Elt Ideal) (e := .bf16) (hs0_3 t) _
        (fun i j => el2 (M := 8192) (N := 9216) (m ((c.tc : Thread nD τ).loc main_arg3)) i (5120 + (1024 * (t.val % 2) + j))) _
        (blk3 m c t) o io' x)))
      (load_rows (H := 512) (N := 1024) (H' := 256) (Val := Elt Ideal) (e := .f32) (hs0_2 t) _
        (fun i j => el2 (M := 8192) (N := 2048) (m ((c.tc : Thread nD τ).loc main_arg2)) i (1024 * (t.val % 2) + j)) _ (blk2 m c t) o io' x))
    (congrArg₂ (HMul.hMul (α := EReal))
      ((sigmoid_sub _).trans (congrArg sigmoid (load_rows (H := 512) (N := 1024) (H' := 256) (Val := Elt Ideal) (e := .bf16) (hs0_4 t) _
        (fun i j => el2 (M := 8192) (N := 9216) (m ((c.tc : Thread nD τ).loc main_arg3)) i (7168 + (1024 * (t.val % 2) + j))) _
        (blk4 m c t) o io' x)))
      (branch_at m c t o io x))

end Pieces

theorem branch_out (t : Fin cfg0.N) : (outsAt0 m c t).1
    = fun y => branch m c (512 * (t.val / 2) + (y 0).val) (1024 * (t.val % 2) + (y 1).val) := by
  unfold outsAt0
  dsimp only
  unfold out0_A_5 kernelRun0_A
  dsimp only
  exact halves_read (N := 1024) (Val := Elt Ideal) (e := .bf16) _ _ (fun i j => branch m c i (1024 * (t.val % 2) + j)) _ _ _ _ _
    (branch_at m c t 256 inb_S512x2048_S256x2048_256_0) (branch_at m c t 0 inb_S512x2048_S256x2048_0_0)

theorem merged_out (t : Fin cfg0.N) : (outsAt0 m c t).2
    = fun y => merged m c (512 * (t.val / 2) + (y 0).val) (1024 * (t.val % 2) + (y 1).val) := by
  unfold outsAt0
  dsimp only
  unfold out0_A_6 kernelRun0_A
  dsimp only
  exact halves_read (N := 1024) (Val := Elt Ideal) (e := .bf16) _ _ (fun i j => merged m c i (1024 * (t.val % 2) + j)) _ _ _ _ _
    (merged_at m c t 256 inb_S512x2048_S256x2048_256_0 inb_S512x1024_S256x1024_256_0)
    (merged_at m c t 0 inb_S512x2048_S256x2048_0_0 inb_S512x1024_S256x1024_0_0)

theorem branch_array : (dats m 0 c).arrAt 5 cfg0.N = fun i => branch m c (i 0).val (i 1).val := by
  refine (dats m 0 c).arrAt_eq_of_covers 5 _ (by decide +kernel) fun t hf y => ?_
  blk_simp
  rw [after0_5]
  exact (congrFun (branch_out m c t) y).trans (congrArg₂ (branch m c) (by blk_simp [index5 t]; omega) (by blk_simp [index5 t]; omega))

theorem merged_array : (dats m 0 c).arrAt 6 cfg0.N = fun i => merged m c (i 0).val (i 1).val := by
  refine (dats m 0 c).arrAt_eq_of_covers 6 _ (by decide +kernel) fun t hf y => ?_
  blk_simp
  rw [after0_6]
  exact (congrFun (merged_out m c t) y).trans (congrArg₂ (merged m c) (by blk_simp [index6 t]; omega) (by blk_simp [index6 t]; omega))

end Value

section Reference
open Cert.ReferenceYIdeal.Read
variable (O : S8192x2048.Idx → EReal) (W : S2048x2048.Idx → EReal) (Y : S8192x2048.Idx → EReal) (Z : S8192x9216.Idx → EReal)

theorem reference_product (i : S8192x2048.Idx) : val_main_v6 (F := Ideal) O W i = branchAt O W (i 0).val (i 1).val := by
  refine (val_main_v6_apply _ _ i).trans ?_
  exact Finset.sum_congr rfl fun k _ => congrArg₂ (HMul.hMul (α := EReal)) (at2 (M := 8192) (N := 2048) O _ rfl rfl)
    (at2 (M := 2048) (N := 2048) W _ rfl rfl)

theorem reference_branch (i : S8192x2048.Idx) : val_main_v7 (F := Ideal) O W i = branchAt O W (i 0).val (i 1).val := by
  rw [val_main_v7_apply]
  exact reference_product O W i

theorem reference_first (i : S8192x2048.Idx) :
    val_main_v13 (F := Ideal) Z i = sigmoid (el2 (M := 8192) (N := 9216) Z (i 0).val (5120 + (i 1).val)) := by
  rw [val_main_v13_apply, val_main_v12_apply, val_main_cst_0_apply, val_main_v11_apply, val_main_v10_apply, val_main_cst_apply,
    val_main_v9_apply, val_main_v8_apply, val_main_v1_apply, val_main_v0_apply]
  exact congrArg sigmoid (at2 (M := 8192) (N := 9216) Z _ rfl rfl)

theorem reference_second (i : S8192x2048.Idx) :
    val_main_v20 (F := Ideal) Z i = sigmoid (el2 (M := 8192) (N := 9216) Z (i 0).val (7168 + (i 1).val)) := by
  rw [val_main_v20_apply, val_main_v19_apply, val_main_cst_2_apply, val_main_v18_apply, val_main_v17_apply, val_main_cst_1_apply,
    val_main_v16_apply, val_main_v15_apply, val_main_v3_apply, val_main_v2_apply]
  exact congrArg sigmoid (at2 (M := 8192) (N := 9216) Z _ rfl rfl)

theorem reference_merged (i : S8192x2048.Idx) : val_main_v23 (F := Ideal) O W Y Z i = mergedAt O W Y Z (i 0).val (i 1).val := by
  rw [val_main_v23_apply, val_main_v22_apply, val_main_v14_apply, val_main_v21_apply]
  exact congrArg₂ (HAdd.hAdd (α := EReal))
    (congrArg₂ (HMul.hMul (α := EReal)) (reference_first Z i) (at2 (M := 8192) (N := 2048) Y _ rfl rfl))
    (congrArg₂ (HMul.hMul (α := EReal)) (reference_second Z i) (reference_product O W i))

end Reference

/-- The kernel's call and the reference end with the same branch and the same gated sum. -/
theorem algebraic : Cert.algebraic_KernelYIdeal_ReferenceYIdeal (hKernelYIdeal := Cert.KernelYIdeal.Gen.facts)
    (hReferenceYIdeal := Cert.ReferenceYIdeal.Gen.facts) := by
  intro m g m' g' _ hin
  refine ⟨_, _, Cert.KernelYIdeal.Value.run_blocks m g, (θ_run Cert.ReferenceYIdeal.defs _ _).mono (fun r hr c => ?_)
    (Cert.ReferenceYIdeal.Value.run m' g')⟩
  obtain ⟨i0, i1, i2, i3⟩ := hin c
  obtain ⟨h0, h1, hrest⟩ := hr c
  refine ⟨h0.trans ?_, h1.trans ?_, hrest⟩
  · rw [Cert.ReferenceYIdeal.Read.val_main_v7_eq, i0, i1]
    exact (funext (reference_branch _ _)).trans (branch_array m c).symm
  · rw [Cert.ReferenceYIdeal.Read.val_main_v23_eq, i0, i1, i2, i3]
    exact (funext (reference_merged _ _ _ _)).trans (merged_array m c).symm

theorem frame_reference : Cert.quiescent_ReferenceYIdeal (hReferenceYIdeal := Cert.ReferenceYIdeal.Gen.facts) := fun m ρ _ =>
  (θ_run Cert.ReferenceYIdeal.defs _ _).mono (fun r h => ⟨fun c => (h c).2.2, sem_eq_zero_of_no_sems (by decide) r.2⟩)
    (Cert.ReferenceYIdeal.Value.run m ρ)

end Cert.DY

end
-- ==== Proof.DG.lean ====
/-
  The gate of the per-layer input: a product's logistic function, kept and applied, in two pieces of rows at each point.
-/
module

public import proofs.«01_k».proof.Proof.Halves
public import proofs.«01_k».proof.Proof.Gen.KernelGIdeal.Value
public import proofs.«01_k».proof.Proof.Gen.ReferenceGIdeal.Read
public import proofs.«01_k».proof.Defs

@[expose] public section

set_option maxRecDepth 16384

noncomputable section

namespace Cert.DG

open Cert.KernelGIdeal Cert.KernelGIdeal.Gen Cert.Product Cert.Tiles Cert.Rows
open Idealize.ShloMosaic Idealize.ShloMosaic.TcCoe Idealize.SL.Sem

/-- The gate. -/
def gateAt (A : S8192x2048.Idx → EReal) (B : S2048x2048.Idx → EReal) (i j : ℕ) : EReal :=
  sigmoid (prodAt (M := 8192) (K := 2048) (N := 2048) A B i j)

/-- The residual stream with the gated input added. -/
def sumAt (A : S8192x2048.Idx → EReal) (B : S2048x2048.Idx → EReal) (E X : S8192x2048.Idx → EReal) (i j : ℕ) : EReal :=
  el2 (M := 8192) (N := 2048) X i j + gateAt A B i j * el2 (M := 8192) (N := 2048) E i j

section Value
variable (m : (ℓ : Loc nD τ sig) → Buf (Elt Ideal) ℓ) (c : Dev nD)

theorem index0 : ∀ t : Fin cfg0.N, (cfg0.win 0).index t = ![t.val / 2, 0] := by decide +kernel
theorem index1 : ∀ t : Fin cfg0.N, (cfg0.win 1).index t = ![0, 0] := by decide +kernel
theorem index2 : ∀ t : Fin cfg0.N, (cfg0.win 2).index t = ![t.val / 2, t.val % 2] := by decide +kernel
theorem index3 : ∀ t : Fin cfg0.N, (cfg0.win 3).index t = ![t.val / 2, t.val % 2] := by decide +kernel
theorem index4 : ∀ t : Fin cfg0.N, (cfg0.win 4).index t = ![t.val / 2, t.val % 2] := by decide +kernel
theorem index5 : ∀ t : Fin cfg0.N, (cfg0.win 5).index t = ![t.val / 2, t.val % 2] := by decide +kernel
theorem offset1 : ∀ t : Fin cfg0.N, k0_off1 (grid0.coords t) = ![0, 1024 * (t.val % 2)] := by decide +kernel

/-- The call's gate. -/
abbrev gate : ℕ → ℕ → EReal := gateAt (m ((c.tc : Thread nD τ).loc main_arg0)) (m ((c.tc : Thread nD τ).loc main_arg1))
/-- The call's sum. -/
abbrev total : ℕ → ℕ → EReal := sumAt (m ((c.tc : Thread nD τ).loc main_arg0)) (m ((c.tc : Thread nD τ).loc main_arg1))
  (m ((c.tc : Thread nD τ).loc main_arg2)) (m ((c.tc : Thread nD τ).loc main_arg3))

theorem blk0 (t : Fin cfg0.N) (y : S512x2048.Idx) :
    iblk m c 0 t y = el2 (M := 8192) (N := 2048) (m ((c.tc : Thread nD τ).loc main_arg0)) (512 * (t.val / 2) + (y 0).val) (y 1).val := by
  unfold iblk
  show V m c main_arg0 (((cfg0.win 0).blk t).view.emb _) = _
  rw [V_main_arg0]
  exact at2 (M := 8192) (N := 2048) _ _ (by blk_simp [index0 t]; omega) (by blk_simp [index0 t])

theorem blk1 (t : Fin cfg0.N) (y : S2048x2048.Idx) :
    iblk m c 1 t y = el2 (M := 2048) (N := 2048) (m ((c.tc : Thread nD τ).loc main_arg1)) (y 0).val (y 1).val := by
  unfold iblk
  show V m c main_arg1 (((cfg0.win 1).blk t).view.emb _) = _
  rw [V_main_arg1]
  exact at2 (M := 2048) (N := 2048) _ _ (by blk_simp [index1 t]) (by blk_simp [index1 t])

theorem blk2 (t : Fin cfg0.N) (y : S512x1024.Idx) : iblk m c 2 t y = el2 (M := 8192) (N := 2048)
    (m ((c.tc : Thread nD τ).loc main_arg2)) (512 * (t.val / 2) + (y 0).val) (1024 * (t.val % 2) + (y 1).val) := by
  unfold iblk
  show V m c main_arg2 (((cfg0.win 2).blk t).view.emb _) = _
  rw [V_main_arg2]
  exact at2 (M := 8192) (N := 2048) _ _ (by blk_simp [index2 t]; omega) (by blk_simp [index2 t]; omega)

theorem blk3 (t : Fin cfg0.N) (y : S512x1024.Idx) : iblk m c 3 t y = el2 (M := 8192) (N := 2048)
    (m ((c.tc : Thread nD τ).loc main_arg3)) (512 * (t.val / 2) + (y 0).val) (1024 * (t.val % 2) + (y 1).val) := by
  unfold iblk
  show V m c main_arg3 (((cfg0.win 3).blk t).view.emb _) = _
  rw [V_main_arg3]
  exact at2 (M := 8192) (N := 2048) _ _ (by blk_simp [index3 t]; omega) (by blk_simp [index3 t]; omega)

section Pieces
variable (t : Fin cfg0.N) (o : ℕ) (io : ∀ b, ![o, 0] b + S256x2048.size b ≤ S512x2048.size b)
  (io' : ∀ b, ![o, 0] b + S256x1024.size b ≤ S512x1024.size b)

/-- The gate's rows from `o` on. -/
abbrev piece : FVec Ideal S256x1024 .f32 :=
  k0_pay4 (F := Ideal)
    ((ms0_1 t).view.readAt (Elt Ideal) (Rect.unit (s := S2048x2048) (k0_off1 (grid0.coords t)) S2048x1024.size (k0_off1_inb _)).toLoadRect
      ((hs0_1 t).unread (iblk m c 1 t)))
    ((ms0_0 t).view.readAt (Elt Ideal) (Rect.unit (s := S512x2048) ![o, 0] S256x2048.size io).toLoadRect ((hs0_0 t).unread (iblk m c 0 t)))

theorem gate_at (x : S256x1024.Idx) :
    piece m c t o io x = gate m c (512 * (t.val / 2) + o + (x 0).val) (1024 * (t.val % 2) + (x 1).val) := by
  refine (sigmoid_sub _).trans (congrArg sigmoid ?_)
  refine prod_at dot_S256x2048_S2048x1024_S256x1024_1_0_0_1_n_n rfl rfl (fun _ _ => rfl) (fun _ _ => rfl) (fun _ _ => rfl)
    (fun _ _ => rfl) (m ((c.tc : Thread nD τ).loc main_arg0)) (m ((c.tc : Thread nD τ).loc main_arg1)) (512 * (t.val / 2) + o) _ _ _
    (load_rows (H := 512) (N := 2048) (H' := 256) (Val := Elt Ideal) (e := .bf16) (hs0_0 t) _ _ _ (blk0 m c t) o io) (fun z => ?_) x
  refine (load_part (H := 2048) (N := 2048) (H' := 2048) (N' := 1024) (Val := Elt Ideal) (e := .bf16) (hs0_1 t) _ _ (blk1 m c t) _ _ z).trans ?_
  rw [offset1 t]
  exact congrArg (fun i => el2 (M := 2048) (N := 2048) _ i (1024 * (t.val % 2) + (z 1).val)) (Nat.zero_add _)

theorem sum_at (x : S256x1024.Idx) :
    k0_pay5 (F := Ideal)
      ((ms0_1 t).view.readAt (Elt Ideal) (Rect.unit (s := S2048x2048) (k0_off1 (grid0.coords t)) S2048x1024.size (k0_off1_inb _)).toLoadRect
        ((hs0_1 t).unread (iblk m c 1 t)))
      ((ms0_0 t).view.readAt (Elt Ideal) (Rect.unit (s := S512x2048) ![o, 0] S256x2048.size io).toLoadRect ((hs0_0 t).unread (iblk m c 0 t)))
      ((ms0_2 t).view.readAt (Elt Ideal) (Rect.unit (s := S512x1024) ![o, 0] S256x1024.size io').toLoadRect ((hs0_2 t).unread (iblk m c 2 t)))
      ((ms0_3 t).view.readAt (Elt Ideal) (Rect.unit (s := S512x1024) ![o, 0] S256x1024.size io').toLoadRect ((hs0_3 t).unread (iblk m c 3 t))) x
      = total m c (512 * (t.val / 2) + o + (x 0).val) (1024 * (t.val % 2) + (x 1).val) :=
  congrArg₂ (HAdd.hAdd (α := EReal))
    (load_rows (H := 512) (N := 1024) (H' := 256) (Val := Elt Ideal) (e := .f32) (hs0_3 t) _
      (fun i j => el2 (M := 8192) (N := 2048) (m ((c.tc : Thread nD τ).loc main_arg3)) i (1024 * (t.val % 2) + j)) _ (blk3 m c t) o io' x)
    (congrArg₂ (HMul.hMul (α := EReal)) (gate_at m c t o io x) (load_rows (H := 512) (N := 1024) (H' := 256) (Val := Elt Ideal) (e := .bf16) (hs0_2 t) _
      (fun i j => el2 (M := 8192) (N := 2048) (m ((c.tc : Thread nD τ).loc main_arg2)) i (1024 * (t.val % 2) + j)) _ (blk2 m c t) o io' x))

end Pieces

theorem sum_out (t : Fin cfg0.N) : (outsAt0 m c t).1
    = fun y => total m c (512 * (t.val / 2) + (y 0).val) (1024 * (t.val % 2) + (y 1).val) := by
  unfold outsAt0
  dsimp only
  unfold out0_A_4 kernelRun0_A
  dsimp only
  exact halves_read (N := 1024) (Val := Elt Ideal) (e := .f32) _ _ (fun i j => total m c i (1024 * (t.val % 2) + j)) _ _ _ _ _
    (sum_at m c t 256 inb_S512x2048_S256x2048_256_0 inb_S512x1024_S256x1024_256_0)
    (sum_at m c t 0 inb_S512x2048_S256x2048_0_0 inb_S512x1024_S256x1024_0_0)

theorem gate_out (t : Fin cfg0.N) : (outsAt0 m c t).2
    = fun y => gate m c (512 * (t.val / 2) + (y 0).val) (1024 * (t.val % 2) + (y 1).val) := by
  unfold outsAt0
  dsimp only
  unfold out0_A_5 kernelRun0_A
  dsimp only
  exact halves_read (N := 1024) (Val := Elt Ideal) (e := .bf16) _ _ (fun i j => gate m c i (1024 * (t.val % 2) + j)) _ _ _ _ _
    (gate_at m c t 256 inb_S512x2048_S256x2048_256_0) (gate_at m c t 0 inb_S512x2048_S256x2048_0_0)

theorem sum_array : (dats m 0 c).arrAt 4 cfg0.N = fun i => total m c (i 0).val (i 1).val := by
  refine (dats m 0 c).arrAt_eq_of_covers 4 _ (by decide +kernel) fun t hf y => ?_
  blk_simp
  rw [after0_4]
  exact (congrFun (sum_out m c t) y).trans (congrArg₂ (total m c) (by blk_simp [index4 t]; omega) (by blk_simp [index4 t]; omega))

theorem gate_array : (dats m 0 c).arrAt 5 cfg0.N = fun i => gate m c (i 0).val (i 1).val := by
  refine (dats m 0 c).arrAt_eq_of_covers 5 _ (by decide +kernel) fun t hf y => ?_
  blk_simp
  rw [after0_5]
  exact (congrFun (gate_out m c t) y).trans (congrArg₂ (gate m c) (by blk_simp [index5 t]; omega) (by blk_simp [index5 t]; omega))

end Value

section Reference
open Cert.ReferenceGIdeal.Read
variable (A : S8192x2048.Idx → EReal) (B : S2048x2048.Idx → EReal) (E X : S8192x2048.Idx → EReal)

theorem reference_logistic (i : S8192x2048.Idx) : val_main_v8 (F := Ideal) A B i = gateAt A B (i 0).val (i 1).val := by
  rw [val_main_v8_apply, val_main_v7_apply, val_main_cst_0_apply, val_main_v6_apply, val_main_v5_apply, val_main_cst_apply,
    val_main_v4_apply, val_main_v3_apply]
  refine congrArg sigmoid ((val_main_v2_apply _ _ i).trans ?_)
  exact Finset.sum_congr rfl fun k _ => congrArg₂ (HMul.hMul (α := EReal)) (at2 (M := 8192) (N := 2048) A _ rfl rfl)
    (at2 (M := 2048) (N := 2048) B _ rfl rfl)

theorem reference_gate (i : S8192x2048.Idx) : val_main_v12 (F := Ideal) A B i = gateAt A B (i 0).val (i 1).val := by
  rw [val_main_v12_apply]
  exact reference_logistic A B i

theorem reference_sum (i : S8192x2048.Idx) : val_main_v11 (F := Ideal) A B E X i = sumAt A B E X (i 0).val (i 1).val := by
  rw [val_main_v11_apply, val_main_v10_apply, val_main_v9_apply]
  exact congrArg₂ (HAdd.hAdd (α := EReal)) (at2 (M := 8192) (N := 2048) X _ rfl rfl)
    (congrArg₂ (HMul.hMul (α := EReal)) (reference_logistic A B i) (at2 (M := 8192) (N := 2048) E _ rfl rfl))

end Reference

/-- The kernel's call and the reference end with the same sum and the same gate. -/
theorem algebraic : Cert.algebraic_KernelGIdeal_ReferenceGIdeal (hKernelGIdeal := Cert.KernelGIdeal.Gen.facts)
    (hReferenceGIdeal := Cert.ReferenceGIdeal.Gen.facts) := by
  intro m g m' g' _ hin
  refine ⟨_, _, Cert.KernelGIdeal.Value.run_blocks m g, (θ_run Cert.ReferenceGIdeal.defs _ _).mono (fun r hr c => ?_)
    (Cert.ReferenceGIdeal.Value.run m' g')⟩
  obtain ⟨i0, i1, i2, i3⟩ := hin c
  obtain ⟨h0, h1, hrest⟩ := hr c
  refine ⟨h0.trans ?_, h1.trans ?_, hrest⟩
  · rw [Cert.ReferenceGIdeal.Read.val_main_v11_eq, i0, i1, i2, i3]
    exact (funext (reference_sum _ _ _ _)).trans (sum_array m c).symm
  · rw [Cert.ReferenceGIdeal.Read.val_main_v12_eq, i0, i1]
    exact (funext (reference_gate _ _)).trans (gate_array m c).symm

theorem frame_reference : Cert.quiescent_ReferenceGIdeal (hReferenceGIdeal := Cert.ReferenceGIdeal.Gen.facts) := fun m ρ _ =>
  (θ_run Cert.ReferenceGIdeal.defs _ _).mono (fun r h => ⟨fun c => (h c).2.2, sem_eq_zero_of_no_sems (by decide) r.2⟩)
    (Cert.ReferenceGIdeal.Value.run m ρ)

end Cert.DG

end
-- ==== Proof.DC.lean ====
/-
  The convolution branch's projection, whose weight is laid in four slabs of columns.
-/
module

public import proofs.«01_k».proof.Proof.Tiles
public import proofs.«01_k».proof.Proof.Gen.KernelCIdeal.Value
public import proofs.«01_k».proof.Proof.Gen.ReferenceCIdeal.Read
public import proofs.«01_k».proof.Defs

@[expose] public section

set_option maxRecDepth 16384

noncomputable section

namespace Cert.DC

open Cert.KernelCIdeal Cert.KernelCIdeal.Gen Cert.Product Cert.Tiles
open Idealize.ShloMosaic Idealize.ShloMosaic.TcCoe Idealize.SL.Sem

section Value
variable (m : (ℓ : Loc nD τ sig) → Buf (Elt Ideal) ℓ) (c : Dev nD)

theorem index0 : ∀ t : Fin cfg0.N, (cfg0.win 0).index t = ![t.val / 4, 0] := by decide +kernel
theorem index1 : ∀ t : Fin cfg0.N, (cfg0.win 1).index t = ![t.val % 4, 0, 0] := by decide +kernel
theorem index2 : ∀ t : Fin cfg0.N, (cfg0.win 2).index t = ![t.val / 4, t.val % 4] := by decide +kernel

theorem out_at (t : Fin cfg0.N) (y : S1024x512.Idx) : out0_2 (F := Ideal) (iblk m c 0 t) (iblk m c 1 t) y = ∑ k : Fin 1024,
    el2 (M := 8192) (N := 1024) (m ((c.tc : Thread nD τ).loc main_arg0)) (1024 * (t.val / 4) + (y 0).val) k.val
      * el3 (P := 4) (M := 1024) (N := 512) (m ((c.tc : Thread nD τ).loc main_arg1)) (t.val % 4 / 1) k.val (512 * (t.val % 4 % 1) + (y 1).val) := by
  unfold out0_2 r0_2 r0_1 r0_0
  rw [View.canon_unit_zero zero2, View.ld_unit_zero zero2, View.ld_unit_zero zero3]
  refine (cols_rows dot_S1024x1024_S1024x512_S1024x512_1_0_0_1_n_n rfl rfl (fun _ _ => rfl) (fun _ _ => rfl) (fun _ _ => rfl)
    (fun _ _ => rfl) (iblk m c 0 t) _ y).trans (Finset.sum_congr rfl fun k _ => congrArg₂ (HMul.hMul (α := EReal)) ?_ ?_)
  · unfold iblk
    show V m c main_arg0 (((cfg0.win 0).blk t).view.emb _) = _
    rw [V_main_arg0]
    exact at2 (M := 8192) (N := 1024) _ _ (by blk_simp [index0 t]; simp; omega) (by blk_simp [index0 t])
  · refine (unslab_at _ _ _).trans ?_
    unfold iblk
    show V m c main_arg1 (((cfg0.win 1).blk t).view.emb _) = _
    rw [V_main_arg1]
    exact at3 (P := 4) (M := 1024) (N := 512) _ _ (by blk_simp [index1 t]; simp) (by blk_simp [index1 t]) (by blk_simp [index1 t]; simp; omega)

theorem array_at : (dats m 0 c).arrAt 2 cfg0.N
    = rowsOfSlabs (H := 1024) (W := 512) (C := 2048) (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (out_at m c t y).trans ?_
  exact rowsOfSlabs_tile (H := 1024) (b := 512) (n := 1) (q := t.val % 4) _ _ _ (y 1).isLt (by blk_simp [index2 t]; omega)
    (by blk_simp [index2 t]; omega)

end Value

section Reference
open Cert.ReferenceCIdeal.Read

theorem reference_at (X : S8192x1024.Idx → EReal) (B : S4x1024x512.Idx → EReal) :
    val_main_v4 (F := Ideal) X B = rowsOfSlabs (H := 1024) (W := 512) (C := 2048) X B := by
  funext i
  refine (val_main_v4_apply _ _ i).trans ?_
  exact Finset.sum_congr rfl fun k _ => congrArg₂ (HMul.hMul (α := EReal)) (at2 (M := 8192) (N := 1024) X _ rfl rfl)
    (joined_at (H := 1024) (W := 512) (C := 2048) rfl B _ _ _)

end Reference

/-- The kernel's call and the reference end with the same product. -/
theorem algebraic : Cert.algebraic_KernelCIdeal_ReferenceCIdeal (hKernelCIdeal := Cert.KernelCIdeal.Gen.facts)
    (hReferenceCIdeal := Cert.ReferenceCIdeal.Gen.facts) := by
  intro m g m' g' _ hin
  refine ⟨_, Cert.KernelCIdeal.Value.run_blocks m g, (θ_run Cert.ReferenceCIdeal.defs _ _).mono (fun r hr c => ?_)
    (Cert.ReferenceCIdeal.Value.run m' g')⟩
  obtain ⟨i0, i1⟩ := hin c
  obtain ⟨h0, hrest⟩ := hr c
  refine ⟨h0.trans ?_, hrest⟩
  rw [Cert.ReferenceCIdeal.Read.val_main_v4_eq, i0, i1]
  exact (reference_at _ _).trans (array_at m c).symm

theorem frame_reference : Cert.quiescent_ReferenceCIdeal (hReferenceCIdeal := Cert.ReferenceCIdeal.Gen.facts) := fun m ρ _ =>
  (θ_run Cert.ReferenceCIdeal.defs _ _).mono (fun r h => ⟨fun c => (h c).2, sem_eq_zero_of_no_sems (by decide) r.2⟩)
    (Cert.ReferenceCIdeal.Value.run m ρ)

end Cert.DC

end
-- ==== Proof.FSpec.lean ====
/-
  What one grid point of the attention's forward call computes, as functions of the blocks it reads, at every float
  instance: one tile of keys takes the row maximum and the two halves of the accumulator (the weighted values and the
  weights' sum) a step further.
-/
module

public import proofs.«01_k».proof.Proof.Rows
public import proofs.«01_k».proof.Proof.Gen.KernelFwdIdeal.Skeleton

@[expose] public section

set_option maxRecDepth 16384

noncomputable section

namespace Cert.KernelFwdIdeal.Hand

open Cert.KernelFwdIdeal Cert.KernelFwdIdeal.Gen
open Idealize.ShloMosaic Idealize.ShloMosaic.ValueIdx Idealize.SL.Sem

variable {F : FTy → Type} [FloatOps F]

theorem trips_eq : k0_t1_loop.trips = 8 := by decide +kernel

theorem off1_val (k : Fin k0_t1_loop.trips) : k0_off1 k = ![512 * (2 * k.val + 1), 0] := by revert k; decide +kernel
theorem off2_val (k : Fin k0_t1_loop.trips) : k0_off2 k = ![512 * (2 * k.val), 0] := by revert k; decide +kernel
theorem off3_val (k : Fin k0_t1_loop.trips) : k0_off3 k = ![512 * min (2 * k.val + 2) 15, 0] := by revert k; decide +kernel
theorem off4_val (k : Fin k0_t1_loop.trips) : k0_off4 k = ![512 * (2 * k.val + 1), 0] := by revert k; decide +kernel

/-- Rows `512 j …` of a block of 8192, `j` below sixteen. -/
def tile {n : ℕ} {e : EltTy} (X : Vec F ⟨2, ![8192, n]⟩ e) (j : ℕ) : Vec F ⟨2, ![512, n]⟩ e := fun x =>
  X (ix2 (n0 := 8192) (n1 := n) ⟨(512 * j + (x 0).val) % 8192, Nat.mod_lt _ (by decide)⟩ (x 1))

theorem ld_tile {n : ℕ} {e : EltTy} (X : Vec F ⟨2, ![8192, n]⟩ e) (j : ℕ) (hj : j < 16) (off : Fin 2 → ℕ) (ho : off = ![512 * j, 0]) (inb) :
    View.ld X (Rect.unit (s := ⟨2, ![8192, n]⟩) off (![512, n] : Fin 2 → ℕ) inb) = tile X j := by
  subst ho; funext x
  have hx : (x 0).val < 512 := (x 0).isLt
  refine congrArg X (funext fun a => Fin.ext ?_)
  match a with
  | ⟨0, _⟩ => show 512 * j + 1 * (x 0).val = (512 * j + (x 0).val) % 8192; omega
  | ⟨1, _⟩ => show 0 + 1 * (x 1).val = (x 1).val; omega

/-- 128 of a score tile's columns. -/
def cut {e : EltTy} (S : Vec F S1x2048x512 e) (o : ℕ) : Vec F S1x2048x128 e := fun x =>
  S (ix3 (n0 := 1) (n1 := 2048) (n2 := 512) 0 (x 1) ⟨(o + (x 2).val) % 512, Nat.mod_lt _ (by decide)⟩)

/-- The row maximum after a tile of scores. -/
def mNext (S : Vec F S1x2048x512 .f32) (M : Vec F S2048x128 .f32) : Vec F S2048x128 .f32 :=
  k0_pay7 (cut S 0) (cut S 128) (cut S 256) (cut S 384) M
/-- What the accumulator is scaled by. -/
def scale (S : Vec F S1x2048x512 .f32) (M : Vec F S2048x128 .f32) : Vec F S2048x128 .f32 :=
  k0_pay8 (cut S 0) (cut S 128) (cut S 256) (cut S 384) M
/-- A tile's weights over the new maximum. -/
def weights (S : Vec F S1x2048x512 .f32) (M : Vec F S2048x128 .f32) : Vec F S2048x512 .bf16 := fun j =>
  k0_pay9 M (cut S (128 * ((j 1).val / 128))) (ix2 (n0 := 2048) (n1 := 128) (j 0) ⟨(j 1).val % 128, Nat.mod_lt _ (by decide)⟩)

/-- The row maximum, the weighted values and the weights' sum. -/
structure Acc (F : FTy → Type) where
  top : Vec F S2048x128 .f32
  num : Vec F S2048x128 .f32
  sum : Vec F S2048x128 .f32

/-- One tile of keys: its scores and its values (with ones beside them). -/
def Acc.next (a : Acc F) (S : Vec F S1x2048x512 .f32) (W : Vec F S512x256 .bf16) : Acc F where
  top := mNext S a.top
  num := k0_pay14 (scale S a.top) (weights S (mNext S a.top)) W a.num
  sum := k0_pay15 (scale S a.top) (weights S (mNext S a.top)) W a.sum

/-- The accumulator's left and right halves. -/
def lft (x : S2048x128.Idx) : S2048x256.Idx := ix2 (n0 := 2048) (n1 := 256) (x 0) ⟨(x 1).val, by have : (x 1).val < 128 := (x 1).isLt; omega⟩
def rgt (x : S2048x128.Idx) : S2048x256.Idx := ix2 (n0 := 2048) (n1 := 256) (x 0) ⟨128 + (x 1).val, by have : (x 1).val < 128 := (x 1).isLt; omega⟩

/-- The accumulators after the first `n` tiles. -/
def acc (Q : Vec F S2048x128 .bf16) (K : Vec F S8192x128 .bf16) (V1 : Vec F S8192x256 .bf16) : ℕ → Acc F
  | 0 => ⟨k0_pay34, fun x => k0_pay36 k0_pay35 (lft x), fun x => k0_pay36 k0_pay35 (rgt x)⟩
  | n + 1 => (acc Q K V1 n).next (k0_pay6 Q (tile K n)) (tile V1 n)

theorem acc_trip (Q : Vec F S2048x128 .bf16) (K : Vec F S8192x128 .bf16) (V1 : Vec F S8192x256 .bf16) (k : ℕ) :
    acc Q K V1 (2 * (k + 1)) = ((acc Q K V1 (2 * k)).next (k0_pay6 Q (tile K (2 * k))) (tile V1 (2 * k))).next
      (k0_pay6 Q (tile K (2 * k + 1))) (tile V1 (2 * k + 1)) := by
  rw [show 2 * (k + 1) = 2 * k + 1 + 1 by omega]; rfl

/-! ## The second half of a trip is the first half's arithmetic -/

theorem pay17_eq (Q : Vec F S2048x128 .bf16) (K : Vec F S512x128 .bf16) : k0_pay17 Q K = k0_pay6 Q K := rfl
theorem pay37_eq (Q : Vec F S2048x128 .bf16) (K : Vec F S512x128 .bf16) : k0_pay37 Q K = k0_pay6 Q K := rfl
theorem pay18_eq (a b c d : Vec F S1x2048x128 .f32) (M : Vec F S2048x128 .f32) : k0_pay18 a b c d M = k0_pay7 a b c d M := rfl
theorem pay19_eq (a b c d : Vec F S1x2048x128 .f32) (M : Vec F S2048x128 .f32) : k0_pay19 a b c d M = k0_pay8 a b c d M := rfl
theorem pay20_eq (a b c d p : Vec F S1x2048x128 .f32) (M : Vec F S2048x128 .f32) : k0_pay20 a b c d M p = k0_pay9 (k0_pay7 a b c d M) p := rfl
theorem pay22_eq (a b c d p : Vec F S1x2048x128 .f32) (M : Vec F S2048x128 .f32) : k0_pay22 (k0_pay21 a b c d M p) = k0_pay9 (k0_pay7 a b c d M) p := rfl
theorem pay10_eq (M : Vec F S2048x128 .f32) (p : Vec F S1x2048x128 .f32) : k0_pay10 M p = k0_pay9 M p := rfl
theorem pay11_eq (M : Vec F S2048x128 .f32) (p : Vec F S1x2048x128 .f32) : k0_pay11 M p = k0_pay9 M p := rfl
theorem pay12_eq (M : Vec F S2048x128 .f32) (p : Vec F S1x2048x128 .f32) : k0_pay12 M p = k0_pay9 M p := rfl
theorem pay23_eq (M : Vec F S2048x128 .f32) (p : Vec F S1x2048x128 .f32) : k0_pay23 M p = k0_pay9 M p := rfl
theorem pay24_eq (M : Vec F S2048x128 .f32) (p : Vec F S1x2048x128 .f32) : k0_pay24 M p = k0_pay9 M p := rfl
theorem pay26_eq (s : Vec F S2048x128 .f32) (P : Vec F S2048x512 .bf16) (W : Vec F S512x256 .bf16) (a : Vec F S2048x128 .f32) :
    k0_pay26 s P W a = k0_pay14 s P W a := rfl
theorem pay38_eq (s : Vec F S2048x128 .f32) (P : Vec F S2048x512 .bf16) (W : Vec F S512x256 .bf16) (a : Vec F S2048x128 .f32) :
    k0_pay38 (k0_pay27 s P W a) = k0_pay15 s P W a := rfl
theorem pay39_eq (M : Vec F S2048x128 .f32) : k0_pay39 M = M := by unfold k0_pay39; simp only [shapeCast_self]
theorem pay16_eq (M : Vec F S2048x128 .f32) : k0_pay16 M = M := by unfold k0_pay16; simp only [shapeCast_self]

/-- A stored piece of 128 weights is the tile's. -/
theorem weights_piece (S : Vec F S1x2048x512 .f32) (M : Vec F S2048x128 .f32) (o : ℕ) (ho : o % 128 = 0) (ho' : o < 512) (inb)
    (x : S2048x128.Idx) : k0_pay9 M (cut S o) x = weights S M ((Rect.unit (s := S2048x512) ![0, o] S2048x128.size inb).emb x) := by
  have hx : (x 1).val < 128 := (x 1).isLt
  unfold weights
  have e1 : 128 * ((((Rect.unit (s := S2048x512) ![0, o] S2048x128.size inb).emb x) 1).val / 128) = o := by
    show 128 * ((o + 1 * (x 1).val) / 128) = o; omega
  rw [e1]
  refine congrArg (k0_pay9 M (cut S o)) (funext fun a => Fin.ext ?_)
  match a with
  | ⟨0, _⟩ => show (x 0).val = 0 + 1 * (x 0).val; omega
  | ⟨1, _⟩ => show (x 1).val = (o + 1 * (x 1).val) % 128; omega

/-- A slot of the two score tiles, as the buffer holds it. -/
def Slot {sp : Space} (v : View sig .tc sp S2x2048x512 .f32) (f : v.ty.Contents (Elt F)) (s : ℕ) (S : Vec F S1x2048x512 .f32) : Prop :=
  ∀ y : S2x2048x512.Idx, (y 0).val = s → v.read (Elt F) f y = S (ix3 (n0 := 1) (n1 := 2048) (n2 := 512) 0 (y 1) (y 2))

/-- A piece of a slot, loaded. -/
theorem Slot.load {sp : Space} {v : View sig .tc sp S2x2048x512 .f32} {f : v.ty.Contents (Elt F)} {s : ℕ} {S : Vec F S1x2048x512 .f32}
    (h : Slot v f s S) (o : ℕ) (ho : o + 128 ≤ 512) (inb) :
    View.readAt (Elt F) v (Rect.unit (s := S2x2048x512) ![s, 0, o] S1x2048x128.size inb).toLoadRect f = cut S o := by
  funext x
  have hx0 : (x 0).val < 1 := (x 0).isLt
  have hx2 : (x 2).val < 128 := (x 2).isLt
  refine (h ((Rect.unit (s := S2x2048x512) ![s, 0, o] S1x2048x128.size inb).emb x) ?_).trans ?_
  · show s + 1 * (x 0).val = s; omega
  · refine congrArg S (funext fun a => Fin.ext ?_)
    match a with
    | ⟨0, _⟩ => rfl
    | ⟨1, _⟩ => show 0 + 1 * (x 1).val = (x 1).val; omega
    | ⟨2, _⟩ => show o + 1 * (x 2).val = (o + (x 2).val) % 512; omega

/-- A slot just stored. -/
theorem Slot.stored {sp : Space} (v : View sig .tc sp S2x2048x512 .f32) (f : v.ty.Contents (Elt F)) (s : ℕ) (S : Vec F S1x2048x512 .f32) (inb)
    (L : List (View.Piece (Elt F) S2x2048x512 .f32)) :
    Slot v (v.writes (Elt F) f (⟨Rect.unit (s := S2x2048x512) ![s, 0, 0] S1x2048x512.size inb, S⟩ :: L)) s S := by
  intro y hy
  have e : (Rect.unit (s := S2x2048x512) ![s, 0, 0] S1x2048x512.size inb).emb (ix3 (n0 := 1) (n1 := 2048) (n2 := 512) 0 (y 1) (y 2)) = y := by
    funext a
    match a with
    | ⟨0, _⟩ => exact Fin.ext hy.symm
    | ⟨1, _⟩ => refine Fin.ext ?_; show 0 + 1 * (y 1).val = (y 1).val; omega
    | ⟨2, _⟩ => refine Fin.ext ?_; show 0 + 1 * (y 2).val = (y 2).val; omega
  refine Eq.trans (congrArg _ e.symm) ?_
  exact View.read_writes_cons_emb v f (Rect.unit (s := S2x2048x512) ![s, 0, 0] S1x2048x512.size inb) S L _

/-- A slot beside the one just stored. -/
theorem Slot.kept {sp : Space} (v : View sig .tc sp S2x2048x512 .f32) (f : v.ty.Contents (Elt F)) (s s' : ℕ) (hs : s ≠ s') (S S' : Vec F S1x2048x512 .f32)
    (inb) (L : List (View.Piece (Elt F) S2x2048x512 .f32)) (h : Slot v (v.writes (Elt F) f L) s S) :
    Slot v (v.writes (Elt F) f (⟨Rect.unit (s := S2x2048x512) ![s', 0, 0] S1x2048x512.size inb, S'⟩ :: L)) s S := by
  intro y hy
  refine (View.read_writes_cons_miss_of_axis v f _ L y (0 : Fin 3) s' 1 rfl rfl rfl ?_).trans (h y hy)
  omega

theorem emb_lft (inb) (x : S2048x128.Idx) : (Rect.unit (s := S2048x256) ![0, 0] S2048x128.size inb).emb x = lft x := by
  funext a
  refine Fin.ext ?_
  match a with
  | ⟨0, _⟩ => show 0 + 1 * (x 0).val = (x 0).val; omega
  | ⟨1, _⟩ => show 0 + 1 * (x 1).val = (x 1).val; omega
theorem emb_rgt (inb) (x : S2048x128.Idx) : (Rect.unit (s := S2048x256) ![0, 128] S2048x128.size inb).emb x = rgt x := by
  funext a
  refine Fin.ext ?_
  match a with
  | ⟨0, _⟩ => show 0 + 1 * (x 0).val = (x 0).val; omega
  | ⟨1, _⟩ => show 128 + 1 * (x 1).val = 128 + (x 1).val; omega

/-- What they hold. -/
structure Halves {sp : Space} (v : View sig .tc sp S2048x256 .f32) (f : v.ty.Contents (Elt F)) (N D : Vec F S2048x128 .f32) : Prop where
  num : ∀ x, v.read (Elt F) f (lft x) = N x
  sum : ∀ x, v.read (Elt F) f (rgt x) = D x

theorem Halves.left {sp : Space} {v : View sig .tc sp S2048x256 .f32} {f : v.ty.Contents (Elt F)} {N D : Vec F S2048x128 .f32} (h : Halves v f N D) (inb) :
    View.readAt (Elt F) v (Rect.unit (s := S2048x256) ![0, 0] S2048x128.size inb).toLoadRect f = N :=
  funext fun x => (congrArg (v.read (Elt F) f) (emb_lft inb x)).trans (h.num x)

theorem Halves.right {sp : Space} {v : View sig .tc sp S2048x256 .f32} {f : v.ty.Contents (Elt F)} {N D : Vec F S2048x128 .f32} (h : Halves v f N D) (inb) :
    View.readAt (Elt F) v (Rect.unit (s := S2048x256) ![0, 128] S2048x128.size inb).toLoadRect f = D :=
  funext fun x => (congrArg (v.read (Elt F) f) (emb_rgt inb x)).trans (h.sum x)

/-- Both halves stored, the right one last. -/
theorem Halves.stored {sp : Space} (v : View sig .tc sp S2048x256 .f32) (f : v.ty.Contents (Elt F)) (N D : Vec F S2048x128 .f32) (i0 i1)
    (L : List (View.Piece (Elt F) S2048x256 .f32)) :
    Halves v (v.writes (Elt F) f (⟨Rect.unit (s := S2048x256) ![0, 128] S2048x128.size i1, D⟩
      :: ⟨Rect.unit (s := S2048x256) ![0, 0] S2048x128.size i0, N⟩ :: L)) N D where
  num x := by
    rw [View.read_writes_cons_miss_of_axis v f ⟨Rect.unit (s := S2048x256) ![0, 128] S2048x128.size i1, D⟩ _ (lft x) (1 : Fin 2) 128 128 rfl rfl rfl (Or.inl (x 1).isLt)]
    rw [← emb_lft i0 x]
    exact View.read_writes_cons_emb v f (Rect.unit (s := S2048x256) ![0, 0] S2048x128.size i0) N L x
  sum x := by
    rw [← emb_rgt i1 x]
    exact View.read_writes_cons_emb v f (Rect.unit (s := S2048x256) ![0, 128] S2048x128.size i1) D _ x

/-- The right half read past a store of the left. -/
theorem readCov_right {sp : Space} (v : View sig .tc sp S2048x256 .f32) (N D : Vec F S2048x128 .f32) (i0 i1 i2)
    (L : List (View.Piece (Elt F) S2048x256 .f32)) :
    v.readCov (Val := Elt F) (⟨Rect.unit (s := S2048x256) ![0, 0] S2048x128.size i0, N⟩ :: ⟨Rect.unit (s := S2048x256) ![0, 128] S2048x128.size i1, D⟩ :: L)
      (Rect.unit (s := S2048x256) ![0, 128] S2048x128.size i2).toLoadRect = D := by
  funext x
  refine (congrArg (View.read (Elt F) v _) (emb_rgt i2 x)).trans ?_
  rw [View.read_writes_cons_miss_of_axis v v.junk ⟨Rect.unit (s := S2048x256) ![0, 0] S2048x128.size i0, N⟩ _ (rgt x) (1 : Fin 2) 0 128 rfl rfl rfl
    (Or.inr (by show 0 + 128 ≤ 128 + (x 1).val; omega))]
  rw [← emb_rgt i1 x]
  exact View.read_writes_cons_emb v v.junk (Rect.unit (s := S2048x256) ![0, 128] S2048x128.size i1) D _ x

end Cert.KernelFwdIdeal.Hand
-- ==== Proof.FTrip.lean ====
/-
  One trip of the forward call's loop, run through once: two tiles of keys, the accumulators at the functions of FSpec.
-/
module

public import proofs.«01_k».proof.Proof.FSpec
public import proofs.«01_k».proof.Proof.Trip
public import proofs.«01_k».proof.Proof.Gen.KernelFwdIdeal.Frame
public import Idealize.ShloMosaic.Lib.Exec
public import Idealize.ShloMosaic.Lib.Tactic
public import Idealize.ShloMosaic.Lib.Pipeline.Kit

@[expose] public section

set_option maxRecDepth 16384

noncomputable section

namespace Cert.KernelFwdIdeal.Hand

open Cert.KernelFwdIdeal Cert.KernelFwdIdeal.Gen
open Cert.KernelIdeal.Hand (zero2 readCov_tile4)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer read after a store of the whole of it. -/
theorem read_stored {sp : Space} (v : View sig .tc sp S2048x128 .f32) (f) (w : Vec F S2048x128 .f32) (inb)
    (L : List (View.Piece (Elt F) S2048x128 .f32)) :
    View.read (Elt F) v (v.writes (Elt F) f (⟨Rect.unit (s := S2048x128) ![0, 0] S2048x128.size inb, w⟩ :: L)) = w := by
  refine (View.ld_unit_zero zero2 inb _).symm.trans ?_
  funext y
  exact View.read_writes_cons_emb v f (Rect.unit (s := S2048x128) ![0, 0] S2048x128.size inb) w L y

variable (𝒱 : Variants) (c : Dev nD) (bd : Option 𝒱.V) (E : Set ℕ) (i : grid0.Coords)
  (arg2 : Memref sig .tc .vmem S512x512 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x512 .bf16) (harg5 : arg5.IsWhole)
  (arg6 : Memref sig .tc .vmem S4x512x128 .f32) (harg6 : arg6.IsWhole)
  (arg7 : Memref sig .tc .vmem S2048x128 .bf16) (harg7 : arg7.IsWhole)
  (arg8 : Memref sig .tc .vmem S8192x256 .bf16) (harg8 : arg8.IsWhole)
  (arg9 : Memref sig .tc .vmem S2048x512 .bf16) (harg9 : arg9.IsWhole)
  (arg10 : Memref sig .tc .vmem S2048x128 .f32) (harg10 : arg10.IsWhole)
  (arg11 : Memref sig .tc .vmem S2048x256 .f32) (harg11 : arg11.IsWhole)
  (arg12 : Memref sig .tc .vmem S2x2048x512 .f32) (harg12 : arg12.IsWhole)
  (Q : Vec F S2048x128 .bf16) (K : Vec F S8192x128 .bf16) (V1 : Vec F S8192x256 .bf16)

/-- What the loop holds before trip `n`: its operands, the accumulators after `2 n` tiles, and the next tile's scores. -/
def inv (n : ℕ) : sProp 𝕄 :=
  iprop(owns (c : Thread nD τ) arg3 fullShare K ∗ owns (c : Thread nD τ) arg7 fullShare Q ∗ owns (c : Thread nD τ) arg8 fullShare V1
    ∗ (∃ f, arg9.view.loc (c : Thread nD τ) ↦[arg9.view.set]{fullShare} f) ∗ owns (c : Thread nD τ) arg10 fullShare (acc Q K V1 (2 * n)).top
    ∗ (∃ f, ⌜Halves arg11.view f (acc Q K V1 (2 * n)).num (acc Q K V1 (2 * n)).sum⌝ ∗ arg11.view.loc (c : Thread nD τ) ↦[arg11.view.set]{fullShare} f)
    ∗ (∃ f, ⌜Slot arg12.view f 0 (k0_pay6 Q (tile K (min (2 * n) 15)))⌝ ∗ arg12.view.loc (c : Thread nD τ) ↦[arg12.view.set]{fullShare} f))

theorem trip (v27 : FVec F S2048x256 .f32) (k : Fin k0_t1_loop.trips) :
    inv c arg3 arg7 arg8 arg9 arg10 arg11 arg12 Q K V1 k.val
      ⊢ (wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 v27 k PUnit.unit)
        (fun _ => inv c arg3 arg7 arg8 arg9 arg10 arg11 arg12 Q K V1 (k.val + 1)) : sProp 𝕄) := by
  have hk : k.val < 8 := lt_of_lt_of_eq k.isLt trips_eq
  unfold inv owns k0_t1_body
  iintro ⟨⟨%f3, %h3, H3⟩, ⟨%f7, %h7, H7⟩, ⟨%f8, %h8, H8⟩, ⟨%f9, H9⟩, ⟨%f10, %h10, H10⟩, ⟨%f11, %h11, H11⟩, ⟨%f12, %h12, H12⟩⟩
  sl_exec
  sl_step
  set a : Acc F := acc Q K V1 (2 * k.val) with ha
  set S0 : Vec F S1x2048x512 .f32 := k0_pay6 Q (tile K (2 * k.val)) with hS0
  set S1 : Vec F S1x2048x512 .f32 := k0_pay6 Q (tile K (2 * k.val + 1)) with hS1
  rw [show min (2 * k.val) 15 = 2 * k.val by omega, ← hS0] at h12
  rw [acc_trip, ← ha, ← hS0, ← hS1]
  have hK : ∀ r : Rect S8192x128, View.readAt (Elt F) arg3.view r.toLoadRect f3 = View.ld K r := fun r => by subst h3; rfl
  have hV : ∀ r : Rect S8192x256, View.readAt (Elt F) arg8.view r.toLoadRect f8 = View.ld V1 r := fun r => by subst h8; rfl
  have hQ : View.readAt (Elt F) arg7.view (Rect.unit (s := S2048x128) ![0, 0] S2048x128.size inb_S2048x128_S2048x128_0_0).toLoadRect f7 = Q := by
    rw [← h7]; exact View.ld_unit_zero zero2 _ _
  have hM : View.readAt (Elt F) arg10.view (Rect.unit (s := S2048x128) ![0, 0] S2048x128.size inb_S2048x128_S2048x128_0_0).toLoadRect f10 = a.top := by
    rw [← h10]; exact View.ld_unit_zero zero2 _ _
  have k1 := (hK (Rect.unit (k0_off1 k) S512x128.size (k0_off1_inb k))).trans (ld_tile K (2 * k.val + 1) (by omega) _ (off1_val k) _)
  have k3 := (hK (Rect.unit (k0_off3 k) S512x128.size (k0_off3_inb k))).trans (ld_tile K (min (2 * k.val + 2) 15) (by omega) _ (off3_val k) _)
  have k2 := (hV (Rect.unit (k0_off2 k) S512x256.size (k0_off2_inb k))).trans (ld_tile V1 (2 * k.val) (by omega) _ (off2_val k) _)
  have k4 := (hV (Rect.unit (k0_off4 k) S512x256.size (k0_off4_inb k))).trans (ld_tile V1 (2 * k.val + 1) (by omega) _ (off4_val k) _)
  -- the first tile
  have e92 : trip.sl.v92 arg12 f12 = cut S0 0 := h12.load 0 (by decide) _
  have e94 : trip.sl.v94 arg12 f12 = cut S0 128 := h12.load 128 (by decide) _
  have e97 : trip.sl.v97 arg12 f12 = cut S0 256 := h12.load 256 (by decide) _
  have e100 : trip.sl.v100 arg12 f12 = cut S0 384 := h12.load 384 (by decide) _
  have er : trip.sl.r c arg10 arg12 f10 f12 = mNext S0 a.top := by
    delta trip.sl.r; rw [e92, e94, e97, e100, hM]; rfl
  have er1 : trip.sl.r_1 c arg10 arg12 f10 f12 = scale S0 a.top := by
    delta trip.sl.r_1; rw [e92, e94, e97, e100, hM]; rfl
  have e142 : trip.sl.v142 c arg9 arg10 arg12 f10 f12 = weights S0 (mNext S0 a.top) := by
    delta trip.sl.v142 trip.sl.H9_4
    rw [er, e92, e94, e97, e100]
    exact readCov_tile4 arg9.view (weights S0 (mNext S0 a.top)) _ _ _ _ _ _ _ _ _ _ (weights_piece S0 _ 0 (by decide) (by decide) _)
      (weights_piece S0 _ 128 (by decide) (by decide) _) (weights_piece S0 _ 256 (by decide) (by decide) _) (weights_piece S0 _ 384 (by decide) (by decide) _)
  set a1 : Acc F := a.next S0 (tile V1 (2 * k.val)) with ha1
  have e153 : trip.sl.v153 arg11 f11 = a.sum := h11.right inb_S2048x256_S2048x128_0_128
  have hH : Halves arg11.view (arg11.view.writes (Elt F) arg11.view.junk (trip.sl.H11_2 c arg8 arg9 arg10 arg11 arg12 k f8 f10 f11 f12)) a1.num a1.sum := by
    have e146 := h11.left inb_S2048x256_S2048x128_0_0
    delta trip.sl.H11_2
    rw [er1, e142, k2, e146, e153]
    exact Halves.stored arg11.view _ a1.num a1.sum _ _ _
  -- the second
  have hslot : Slot arg12.view (arg12.view.writes (Elt F) arg12.view.junk (trip.sl.H12_2 c arg3 arg7 k f3 f7)) 1 S1 := by
    delta trip.sl.H12_2
    rw [hQ, k1]
    exact Slot.kept arg12.view _ 1 0 (by decide) S1 _ _ _ (Slot.stored arg12.view _ 1 S1 _ _)
  have e178 : trip.sl.v178 c arg3 arg7 arg12 k f3 f7 = cut S1 0 := hslot.load 0 (by decide) _
  have e180 : trip.sl.v180 c arg3 arg7 arg12 k f3 f7 = cut S1 128 := hslot.load 128 (by decide) _
  have e183 : trip.sl.v183 c arg3 arg7 arg12 k f3 f7 = cut S1 256 := hslot.load 256 (by decide) _
  have e186 : trip.sl.v186 c arg3 arg7 arg12 k f3 f7 = cut S1 384 := hslot.load 384 (by decide) _
  have e189 : trip.sl.v189 c arg10 arg12 f10 f12 = a1.top := by
    delta trip.sl.v189 trip.sl.H10_1
    rw [er, pay16_eq]
    exact View.readCov_cons_toLoadRect _ _ _ _
  have er2 : trip.sl.r_2 c arg3 arg7 arg10 arg12 k f3 f7 f10 f12 = mNext S1 a1.top := by
    delta trip.sl.r_2; rw [e178, e180, e183, e186, e189]; rfl
  have er3 : trip.sl.r_3 c arg3 arg7 arg10 arg12 k f3 f7 f10 f12 = scale S1 a1.top := by
    delta trip.sl.r_3; rw [e178, e180, e183, e186, e189]; rfl
  have e228 : trip.sl.v228 c arg3 arg7 arg9 arg10 arg12 k f3 f7 f10 f12 = weights S1 (mNext S1 a1.top) := by
    delta trip.sl.v228 trip.sl.H9_8 trip.sl.H9_5 trip.sl.r_4
    rw [er2, e178, e180, e183, e186, e189]
    exact readCov_tile4 arg9.view (weights S1 (mNext S1 a1.top)) _ _ _ _ _ _ _ _ _ _ (weights_piece S1 _ 0 (by decide) (by decide) _)
      (weights_piece S1 _ 128 (by decide) (by decide) _) (weights_piece S1 _ 256 (by decide) (by decide) _) (weights_piece S1 _ 384 (by decide) (by decide) _)
  have e232 : trip.sl.v232 c arg8 arg9 arg10 arg11 arg12 k f8 f10 f11 f12 = a1.num := hH.left _
  have e239 : trip.sl.v239 c arg3 arg7 arg8 arg9 arg10 arg11 arg12 k f3 f7 f8 f10 f11 f12 = a1.sum := by
    delta trip.sl.v239 trip.sl.H11_3 trip.sl.H11_2
    refine (readCov_right arg11.view _ _ _ _ _ _).trans ?_
    rw [er1, e142, k2, e153]
    rfl
  have er5 : trip.sl.r_5 c arg3 arg7 arg8 arg9 arg10 arg11 arg12 k f3 f7 f8 f10 f11 f12
      = k0_pay27 (scale S1 a1.top) (weights S1 (mNext S1 a1.top)) (tile V1 (2 * k.val + 1)) a1.sum := by
    delta trip.sl.r_5; rw [er3, e228, k4, e239]
  isplitl [H3]; · iexists f3; isplitr; · ipureintro; exact h3
                  · iexact H3
  isplitl [H7]; · iexists f7; isplitr; · ipureintro; exact h7
                  · iexact H7
  isplitl [H8]; · iexists f8; isplitr; · ipureintro; exact h8
                  · iexact H8
  isplitl [H9]; · iexists _; iexact H9
  isplitl [H10]
  · iexists _; isplitr; swap; · iexact H10
    ipureintro
    refine (read_stored arg10.view f10 _ _ _).trans ?_
    rw [er2, pay39_eq]
    rfl
  isplitl [H11]
  · iexists _; isplitr; swap; · iexact H11
    ipureintro
    delta trip.sl.H11_3
    rw [er5, er3, e228, k4, e232]
    exact Halves.stored arg11.view f11 (a1.next S1 (tile V1 (2 * k.val + 1))).num (a1.next S1 (tile V1 (2 * k.val + 1))).sum _ _ _
  iexists _; isplitr; swap; · iexact H12
  ipureintro
  delta trip.sl.H12_2
  rw [hQ, k3, show 2 * (k.val + 1) = 2 * k.val + 2 by omega]
  exact Slot.stored arg12.view f12 0 _ _ _

end Cert.KernelFwdIdeal.Hand
-- ==== Proof.FBody.lean ====
/-
  One grid point of the attention's forward call, run through once: what it leaves in its two output blocks and in the
  buffer of values it keeps between points.
-/
module

public import proofs.«01_k».proof.Proof.FTrip
public import proofs.«01_k».proof.Proof.Body

@[expose] public section

set_option maxRecDepth 16384

noncomputable section

namespace Cert.KernelFwdIdeal.Hand

open Cert.KernelFwdIdeal Cert.KernelFwdIdeal.Gen
open Cert.KernelIdeal.Hand (zero2 read_whole read_stack4 read_beside4 stack beside colOf colOf_ld)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The values with ones beside them. -/
def v1Of (V : Vec F S8192x128 .bf16) : Vec F S8192x256 .bf16 := fun j =>
  if h : (j 1).val < 128 then k0_pay28 V (ix2 (n0 := 8192) (n1 := 128) (j 0) ⟨(j 1).val, h⟩)
  else k0_pay29 (ix2 (n0 := 8192) (n1 := 128) (j 0) ⟨(j 1).val - 128, by have : (j 1).val < 256 := (j 1).isLt; omega⟩)

theorem v1Of_left (V : Vec F S8192x128 .bf16) (j : S8192x256.Idx) (x : S8192x128.Idx) (e0 : (j 0).val = (x 0).val) (e1 : (j 1).val = (x 1).val) :
    v1Of V j = k0_pay28 V x := by
  have hx : (x 1).val < 128 := (x 1).isLt
  unfold v1Of
  rw [dif_pos (by omega)]
  refine congrArg (k0_pay28 V) (funext fun a => Fin.ext ?_)
  match a with
  | ⟨0, _⟩ => exact e0
  | ⟨1, _⟩ => exact e1
theorem v1Of_right (V : Vec F S8192x128 .bf16) (j : S8192x256.Idx) (x : S8192x128.Idx) (e0 : (j 0).val = (x 0).val) (e1 : (j 1).val = 128 + (x 1).val) :
    v1Of V j = k0_pay29 x := by
  unfold v1Of
  rw [dif_neg (by omega)]
  refine congrArg k0_pay29 (funext fun a => Fin.ext ?_)
  match a with
  | ⟨0, _⟩ => exact e0
  | ⟨1, _⟩ => show (j 1).val - 128 = (x 1).val; omega

theorem read_v1 {sp : Space} (v : View sig .tc sp S8192x256 .bf16) (f) (V : Vec F S8192x128 .bf16) (i0 i1) :
    View.read (Elt F) v (v.writes (Elt F) f [⟨Rect.unit (s := S8192x256) ![0, 128] S8192x128.size i1, k0_pay29⟩,
      ⟨Rect.unit (s := S8192x256) ![0, 0] S8192x128.size i0, k0_pay28 V⟩]) = v1Of V := by
  have hm : ∀ (y : S8192x256.Idx) (o : ℕ) (i), o ≤ (y 1).val → (y 1).val < o + 128 → y ∈ (Rect.unit (s := S8192x256) ![0, o] S8192x128.size i).set := by
    intro y o i ho ho'
    rw [Rect.mem_set_unit]
    intro a
    match a with
    | ⟨0, _⟩ => exact ⟨Nat.zero_le _, (y 0).isLt.trans_le (Nat.le_add_left _ _)⟩
    | ⟨1, _⟩ => exact ⟨ho, ho'⟩
  have hc : ∀ y : S8192x256.Idx, ∃ p ∈ ([⟨Rect.unit (s := S8192x256) ![0, 128] S8192x128.size i1, k0_pay29⟩,
      ⟨Rect.unit (s := S8192x256) ![0, 0] S8192x128.size i0, k0_pay28 V⟩] : List (View.Piece (Elt F) S8192x256 .bf16)), y ∈ p.1.set := by
    intro y
    have hy : (y 1).val < 256 := (y 1).isLt
    by_cases c1 : 128 ≤ (y 1).val
    · exact ⟨_, .head _, hm y 128 i1 c1 (by omega)⟩
    · exact ⟨_, .tail _ (.head _), hm y 0 i0 (Nat.zero_le _) (by omega)⟩
  rw [View.read_writes_eq_canon _ _ _ hc]
  funext y
  refine View.canon_apply_of_pieces (v1Of V) _ ?_ y (hc y)
  intro p hp
  simp only [List.mem_cons, List.not_mem_nil, or_false] at hp
  rcases hp with rfl | rfl
  · exact fun x => (v1Of_right V _ x (by show 0 + 1 * (x 0).val = _; omega) (by show 128 + 1 * (x 1).val = _; omega)).symm
  · exact fun x => (v1Of_left V _ x (by show 0 + 1 * (x 0).val = _; omega) (by show 0 + 1 * (x 1).val = _; omega)).symm

/-- The accumulators' two halves as the loop finds them. -/
theorem halves_start {sp : Space} (v : View sig .tc sp S2048x256 .f32) (f) (Q : Vec F S2048x128 .bf16) (K : Vec F S8192x128 .bf16) (V1 : Vec F S8192x256 .bf16) (inb) :
    Halves v (v.writes (Elt F) f [⟨Rect.unit (s := S2048x256) ![0, 0] S2048x256.size inb, k0_pay36 k0_pay35⟩]) (acc Q K V1 (2 * 0)).num (acc Q K V1 (2 * 0)).sum := by
  have h := read_whole zero2 v f (k0_pay36 k0_pay35) inb
  exact ⟨fun x => congrFun h (lft x), fun x => congrFun h (rgt x)⟩

/-- Four planes, one behind the other. -/
def planes (g : Fin 4 → Vec F S1x512x128 .f32) : Vec F S4x512x128 .f32 := fun j =>
  g (j 0) (ix3 (n0 := 1) (n1 := 512) (n2 := 128) 0 (j 1) (j 2))

theorem planes_piece (g : Fin 4 → Vec F S1x512x128 .f32) (h : Fin 4) (o : ℕ) (ho : o = h.val) (inb) (x : S1x512x128.Idx) :
    g h x = planes g ((Rect.unit (s := S4x512x128) ![o, 0, 0] S1x512x128.size inb).emb x) := by
  subst ho
  have h0 : (x 0).val < 1 := (x 0).isLt
  unfold planes
  have e : ((Rect.unit (s := S4x512x128) ![h.val, 0, 0] S1x512x128.size inb).emb x) 0 = h := Fin.ext (by show h.val + 1 * (x 0).val = h.val; omega)
  rw [e]
  refine congrArg (g h) (funext fun a => Fin.ext ?_)
  match a with
  | ⟨0, _⟩ => show (x 0).val = 0; omega
  | ⟨1, _⟩ => show (x 1).val = 0 + 1 * (x 1).val; omega
  | ⟨2, _⟩ => show (x 2).val = 0 + 1 * (x 2).val; omega

/-- Four stores of a plane each leave the four planes. -/
theorem read_planes4 {sp : Space} (v : View sig .tc sp S4x512x128 .f32) (f) (g : Fin 4 → Vec F S1x512x128 .f32) (w0 w1 w2 w3 : Vec F S1x512x128 .f32)
    (h0 : w0 = g 0) (h1 : w1 = g 1) (h2 : w2 = g 2) (h3 : w3 = g 3) (i0 i1 i2 i3) :
    View.read (Elt F) v (v.writes (Elt F) f [⟨Rect.unit (s := S4x512x128) ![3, 0, 0] S1x512x128.size i3, w3⟩,
      ⟨Rect.unit (s := S4x512x128) ![2, 0, 0] S1x512x128.size i2, w2⟩, ⟨Rect.unit (s := S4x512x128) ![1, 0, 0] S1x512x128.size i1, w1⟩,
      ⟨Rect.unit (s := S4x512x128) ![0, 0, 0] S1x512x128.size i0, w0⟩]) = planes g := by
  subst h0 h1 h2 h3
  have hm : ∀ (y : S4x512x128.Idx) (o : ℕ) (i), (y 0).val = o → y ∈ (Rect.unit (s := S4x512x128) ![o, 0, 0] S1x512x128.size i).set := by
    intro y o i ho
    rw [Rect.mem_set_unit]
    intro a
    match a with
    | ⟨0, _⟩ => exact ⟨ho.ge, by show (y 0).val < o + 1; omega⟩
    | ⟨1, _⟩ => exact ⟨Nat.zero_le _, (y 1).isLt.trans_le (Nat.le_add_left _ _)⟩
    | ⟨2, _⟩ => exact ⟨Nat.zero_le _, (y 2).isLt.trans_le (Nat.le_add_left _ _)⟩
  have hc : ∀ y : S4x512x128.Idx, ∃ p ∈ ([⟨Rect.unit (s := S4x512x128) ![3, 0, 0] S1x512x128.size i3, g 3⟩,
      ⟨Rect.unit (s := S4x512x128) ![2, 0, 0] S1x512x128.size i2, g 2⟩, ⟨Rect.unit (s := S4x512x128) ![1, 0, 0] S1x512x128.size i1, g 1⟩,
      ⟨Rect.unit (s := S4x512x128) ![0, 0, 0] S1x512x128.size i0, g 0⟩] : List (View.Piece (Elt F) S4x512x128 .f32)), y ∈ p.1.set := by
    intro y
    have hy : (y 0).val < 4 := (y 0).isLt
    by_cases c3 : (y 0).val = 3
    · exact ⟨_, .head _, hm y 3 i3 c3⟩
    by_cases c2 : (y 0).val = 2
    · exact ⟨_, .tail _ (.head _), hm y 2 i2 c2⟩
    by_cases c1 : (y 0).val = 1
    · exact ⟨_, .tail _ (.tail _ (.head _)), hm y 1 i1 c1⟩
    · exact ⟨_, .tail _ (.tail _ (.tail _ (.head _))), hm y 0 i0 (by omega)⟩
  rw [View.read_writes_eq_canon _ _ _ hc]
  funext y
  refine View.canon_apply_of_pieces (planes g) _ ?_ y (hc y)
  intro p hp
  simp only [List.mem_cons, List.not_mem_nil, or_false] at hp
  rcases hp with rfl | rfl | rfl | rfl
  · exact planes_piece g 3 3 rfl i3
  · exact planes_piece g 2 2 rfl i2
  · exact planes_piece g 1 1 rfl i1
  · exact planes_piece g 0 0 rfl i0

/-- The point's query rows, head under head. -/
def qAll (X : Vec F S512x512 .bf16) : Vec F S2048x128 .bf16 := stack (fun h => k0_pay30 (colOf X h))

/-- The point's rows of the output and of the logarithms, from the last accumulators. -/
def oRows (a : Acc F) : Vec F S512x512 .bf16 :=
  beside ![k0_pay41 a.sum a.num, k0_pay42 a.sum a.num, k0_pay43 a.sum a.num, k0_pay44 a.sum a.num]
def lseRows (a : Acc F) : Vec F S4x512x128 .f32 :=
  planes ![k0_pay2 a.sum a.top, k0_pay3 a.sum a.top, k0_pay4 a.sum a.top, k0_pay5 a.sum a.top]

/-- The first point of a group of heads. -/
abbrev isFirst (i : grid0.Coords) : Prop :=
  Scalar.cmpi .ne (Scalar.extui (Scalar.cmpi .eq (BitVec.ofNat 32 (i 1).val) 0#32) : BitVec 32) 0#32 = 1#1

/-- The values as a point's trips find them: its own at a group's first point. -/
def from0 (i : grid0.Coords) (V : Vec F S8192x128 .bf16) (B : Vec F S8192x256 .bf16) : Vec F S8192x256 .bf16 := if isFirst i then v1Of V else B

variable (𝒱 : Variants) (c : Dev nD) (bd : Option 𝒱.V) (E : Set ℕ) (i : grid0.Coords)
  (arg2 : Memref sig .tc .vmem S512x512 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x512 .bf16) (harg5 : arg5.IsWhole)
  (arg6 : Memref sig .tc .vmem S4x512x128 .f32) (harg6 : arg6.IsWhole)
  (arg7 : Memref sig .tc .vmem S2048x128 .bf16) (harg7 : arg7.IsWhole)
  (arg8 : Memref sig .tc .vmem S8192x256 .bf16) (harg8 : arg8.IsWhole)
  (arg9 : Memref sig .tc .vmem S2048x512 .bf16) (harg9 : arg9.IsWhole)
  (arg10 : Memref sig .tc .vmem S2048x128 .f32) (harg10 : arg10.IsWhole)
  (arg11 : Memref sig .tc .vmem S2048x256 .f32) (harg11 : arg11.IsWhole)
  (arg12 : Memref sig .tc .vmem S2x2048x512 .f32) (harg12 : arg12.IsWhole)
  (X : Vec F S512x512 .bf16) (K V : Vec F S8192x128 .bf16) (B8 : Vec F S8192x256 .bf16)

/-- What a point holds: its three blocks, its two output blocks and its six buffers. -/
def holds (B5 B6 : sProp 𝕄) (B8 : Vec F S8192x256 .bf16) : sProp 𝕄 :=
  iprop(owns (c : Thread nD τ) arg2 fullShare X ∗ owns (c : Thread nD τ) arg3 fullShare K ∗ owns (c : Thread nD τ) arg4 fullShare V
    ∗ B5 ∗ B6
    ∗ (∃ f, arg7.view.loc (c : Thread nD τ) ↦[arg7.view.set]{fullShare} f) ∗ owns (c : Thread nD τ) arg8 fullShare B8
    ∗ (∃ f, arg9.view.loc (c : Thread nD τ) ↦[arg9.view.set]{fullShare} f) ∗ (∃ f, arg10.view.loc (c : Thread nD τ) ↦[arg10.view.set]{fullShare} f)
    ∗ (∃ f, arg11.view.loc (c : Thread nD τ) ↦[arg11.view.set]{fullShare} f) ∗ (∃ f, arg12.view.loc (c : Thread nD τ) ↦[arg12.view.set]{fullShare} f))

theorem body_pt :
    holds c arg2 arg3 arg4 arg7 arg8 arg9 arg10 arg11 arg12 X K V iprop(∃ d, owns (c : Thread nD τ) arg5 fullShare d) iprop(∃ d, owns (c : Thread nD τ) arg6 fullShare d) B8
      ⊢ (wp frame (wpE (defs₀ (F := F)) 𝒱 (c : Thread nD τ) bd) E (cc0_flash_fwd (F := F) i arg2 harg2 arg3 harg3 arg4 harg4 arg5 harg5 arg6 harg6 arg7 harg7 arg8 harg8 arg9 harg9 arg10 harg10 arg11 harg11 arg12 harg12)
        (fun _ => holds c arg2 arg3 arg4 arg7 arg8 arg9 arg10 arg11 arg12 X K V (owns (c : Thread nD τ) arg5 fullShare (oRows (acc (qAll X) K (from0 i V B8) 16)))
          (owns (c : Thread nD τ) arg6 fullShare (lseRows (acc (qAll X) K (from0 i V B8) 16))) (from0 i V B8)) : sProp 𝕄) := by
  rw [cc0_flash_fwd_eq_skeleton]
  unfold holds owns
  iintro ⟨⟨%f2, %e2, H2⟩, ⟨%f3, %e3, H3⟩, ⟨%f4, %e4, H4⟩, ⟨%d5, %f5, %e5, H5⟩, ⟨%d6, %f6, %e6, H6⟩, ⟨%f7, H7⟩, ⟨%f8, %e8, H8⟩, ⟨%f9, H9⟩, ⟨%f10, H10⟩, ⟨%f11, H11⟩, ⟨%f12, H12⟩⟩
  sl_exec
  sl_for (fun n _ => inv c arg3 arg7 arg8 arg9 arg10 arg11 arg12 (qAll X) K (from0 i V B8) n) $$ [H3 H7 H8 H9 H10 H11 H12]
  case region =>
    intro k acc
    exact trip 𝒱 c bd E i arg2 harg2 arg3 harg3 arg4 harg4 arg5 harg5 arg6 harg6 arg7 harg7 arg8 harg8 arg9 harg9 arg10 harg10 arg11 harg11 arg12 harg12 (qAll X) K (from0 i V B8) _ k
  · have hX : ∀ (h : Fin 4) (o : ℕ) (ho : o = 128 * h.val) (inb), View.readAt (Elt F) arg2.view (Rect.unit (s := S512x512) ![0, o] S512x128.size inb).toLoadRect f2 = colOf X h :=
      fun h o ho inb => by subst e2; exact colOf_ld _ h o ho inb
    have hQ : ∀ f, View.read (Elt F) arg7.view (arg7.view.writes (Elt F) f (body_pt.sl.H7_4 c arg2 f2)) = qAll X := fun f => by
      delta body_pt.sl.H7_4
      exact read_stack4 arg7.view _ (fun h => k0_pay30 (colOf X h)) _ _ _ _ (congrArg k0_pay30 (hX 0 0 rfl _)) (congrArg k0_pay31 (hX 1 128 rfl _))
        (congrArg k0_pay32 (hX 2 256 rfl _)) (congrArg k0_pay33 (hX 3 384 rfl _)) _ _ _ _
    have h31 : body_pt.sl.v31 c arg2 arg7 f2 = qAll X := by
      delta body_pt.sl.v31
      exact (View.ld_unit_zero zero2 _ _).trans (hQ _)
    have hK : View.readAt (Elt F) arg3.view (Rect.unit (s := S8192x128) ![0, 0] S512x128.size inb_S8192x128_S512x128_0_0).toLoadRect f3 = tile K 0 := by
      subst e3; exact ld_tile _ 0 (by decide) _ rfl _
    unfold inv owns
    isplitl [H3]
    · iexists f3; isplitr
      · ipureintro; exact e3
      · iexact H3
    isplitl [H7]
    · iexists _; isplitr; swap; · iexact H7
      ipureintro
      exact hQ _
    isplitl [H8]
    · iexists _; isplitr; swap; · iexact H8
      ipureintro
      unfold from0
      by_cases h1 : isFirst i
      · rw [if_pos h1]
        refine (congrArg (View.read (Elt F) arg8.view) (dif_pos h1)).trans ?_
        subst e4
        refine (read_v1 arg8.view f8 _ _ _).trans ?_
        exact congrArg v1Of (View.ld_unit_zero zero2 _ _)
      · rw [if_neg h1]
        exact (congrArg (View.read (Elt F) arg8.view) (dif_neg h1)).trans e8
    isplitl [H9]; · iexists _; iexact H9
    isplitl [H10]
    · iexists _; isplitr; swap; · iexact H10
      ipureintro
      delta body_pt.sl.H10_1
      exact read_whole zero2 arg10.view _ k0_pay34 _
    isplitl [H11]
    · iexists _; isplitr; swap; · iexact H11
      ipureintro
      delta body_pt.sl.H11_1
      exact halves_start arg11.view _ (qAll X) K (from0 i V B8) _
    iexists _; isplitr; swap; · iexact H12
    ipureintro
    rw [h31, hK]
    exact Slot.stored arg12.view f12 0 _ _ _
  · iintro %acc HI
    delta inv owns
    icases HI with ⟨⟨%f3', %e3', H3⟩, ⟨%f7', %e7', H7⟩, ⟨%f8', %e8', H8⟩, ⟨%f9', H9⟩, ⟨%f10', %e10', H10⟩, ⟨%f11', %h11', H11⟩, ⟨%f12', %h12', H12⟩⟩
    have ht : Scf.trips k0_t1_loop.lb k0_t1_loop.ub k0_t1_loop.st = 8 := trips_eq
    rw [ht] at e10' h11'
    sl_exec
    sl_step
    rw [show 2 * 8 = 16 from rfl] at e10' h11'
    generalize Hand.acc (qAll X) K (from0 i V B8) 16 = A at e10' h11' ⊢
    have hN := h11'.left inb_S2048x256_S2048x128_0_0
    have hD := h11'.right inb_S2048x256_S2048x128_0_128
    have hT : View.readAt (Elt F) arg10.view (Rect.unit (s := S2048x128) ![0, 0] S2048x128.size inb_S2048x128_S2048x128_0_0).toLoadRect f10' = A.top := by
      rw [← e10']; exact View.ld_unit_zero zero2 _ _
    have hr : body_pt.sl.r arg11 f11' = A.sum := hD
    isplitl [H2]
    · iexists f2; isplitr
      · ipureintro; exact e2
      · iexact H2
    isplitl [H3]
    · iexists f3'; isplitr
      · ipureintro; exact e3'
      · iexact H3
    isplitl [H4]
    · iexists f4; isplitr
      · ipureintro; exact e4
      · iexact H4
    isplitl [H5]
    · iexists _; isplitr; swap; · iexact H5
      ipureintro
      rw [hN, hD]
      unfold oRows
      exact read_beside4 arg5.view _ ![k0_pay41 A.sum A.num, k0_pay42 A.sum A.num, k0_pay43 A.sum A.num, k0_pay44 A.sum A.num] _ _ _ _ rfl rfl rfl rfl _ _ _ _
    isplitl [H6]
    · iexists _; isplitr; swap; · iexact H6
      ipureintro
      rw [hT, hr]
      unfold lseRows
      exact read_planes4 arg6.view _ ![k0_pay2 A.sum A.top, k0_pay3 A.sum A.top, k0_pay4 A.sum A.top, k0_pay5 A.sum A.top] _ _ _ _ rfl rfl rfl rfl _ _ _ _
    isplitl [H7]; · iexists _; iexact H7
    isplitl [H8]
    · iexists f8'; isplitr
      · ipureintro; exact e8'
      · iexact H8
    isplitl [H9]; · iexists _; iexact H9
    isplitl [H10]; · iexists _; iexact H10
    isplitl [H11]; · iexists _; iexact H11
    iexists _; iexact H12

end Cert.KernelFwdIdeal.Hand
-- ==== Proof.FPoint.lean ====
/-
  What one grid point of the forward call computes over the extended reals, from queries and keys that are numbers and any
  values. The row maximum is only used as some number per row: the sums are kept relative to it, and it falls out at the end.
-/
module

public import proofs.«01_k».proof.Proof.PointValue
public import proofs.«01_k».proof.Proof.FBody

@[expose] public section

set_option maxRecDepth 16384

noncomputable section

namespace Cert.FPoint

open Cert.KernelFwdIdeal Cert.KernelFwdIdeal.Gen Cert.KernelFwdIdeal.Hand Cert.Model
open Cert.KernelIdeal.Hand (stack beside colOf)
open Cert.PointValue (sc)
open Idealize.ShloMosaic Idealize.ShloMosaic.ValueIdx

/-! ## Constants -/

theorem bits_low : Ideal.ofBits .f32 0xF149F2CA#32 = ((-(13234890 * 2 ^ 76) : ℝ) : EReal) := by
  simp [Ideal.ofBits, Ideal.ieee, -EReal.coe_mul]
theorem bits_one16 : Ideal.ofBits .bf16 0x3F80#16 = ((1 : ℝ) : EReal) := by
  simp [Ideal.ofBits, Ideal.ieee, -EReal.coe_mul]
  norm_num

/-! ## The payloads at an index -/

theorem pay6_at (Q : Vec Ideal S2048x128 .bf16) (Kk : Vec Ideal S512x128 .bf16) (r : Fin 2048) (t : Fin 512) :
    k0_pay6 Q Kk (ix3 (n0 := 1) (n1 := 2048) (n2 := 512) 0 r t)
      = ∑ d : Fin 128, Q (ix2 (n0 := 2048) (n1 := 128) r d) * Kk (ix2 (n0 := 512) (n1 := 128) t d) := by
  unfold k0_pay6
  simp only [shapeCast_self]
  refine (shapeCast_addUnit_apply ![2048, 512] _ shapeCasts_S2048x512_S1x2048x512 _).trans ?_
  refine (Ideal.matmul_constant_zero_apply (φ₁ := .bf16) (φ₂ := .bf16) dot_S2048x128_S512x128_S2048x512_1_1_0_0_n_n none Q Kk _).trans ?_
  rw [← Equiv.sum_comp (contrEquiv1 dot_S2048x128_S512x128_S2048x512_1_1_0_0_n_n 128 rfl rfl).symm]
  refine Finset.sum_congr rfl fun u _ => ?_
  have h0 := contrEquiv1_symm_val dot_S2048x128_S512x128_S2048x512_1_1_0_0_n_n 128 rfl rfl u
  refine congrArg₂ (HMul.hMul (α := EReal)) (congrArg Q ?_) (congrArg Kk ?_) <;> (funext a; apply Fin.ext)
  · match a with
    | ⟨0, _⟩ => rfl
    | ⟨1, _⟩ => exact h0
  · match a with
    | ⟨0, _⟩ => rfl
    | ⟨1, _⟩ => exact h0

theorem pay13_at (P : Vec Ideal S2048x512 .bf16) (W : Vec Ideal S512x256 .bf16) (j : S2048x256.Idx) :
    k0_pay13 P W j = ∑ t : Fin 512, P (ix2 (n0 := 2048) (n1 := 512) (j 0) t) * W (ix2 (n0 := 512) (n1 := 256) t (j 1)) := by
  unfold k0_pay13
  refine (Ideal.matmul_constant_zero_apply (φ₁ := .bf16) (φ₂ := .bf16) dot_S2048x512_S512x256_S2048x256_1_0_0_1_n_n none P W j).trans ?_
  rw [← Equiv.sum_comp (contrEquiv1 dot_S2048x512_S512x256_S2048x256_1_0_0_1_n_n 512 rfl rfl).symm]
  refine Finset.sum_congr rfl fun u _ => ?_
  have h0 := contrEquiv1_symm_val dot_S2048x512_S512x256_S2048x256_1_0_0_1_n_n 512 rfl rfl u
  refine congrArg₂ (HMul.hMul (α := EReal)) (congrArg P ?_) (congrArg W ?_) <;> (funext a; apply Fin.ext)
  · match a with
    | ⟨0, _⟩ => rfl
    | ⟨1, _⟩ => exact h0
  · match a with
    | ⟨0, _⟩ => exact h0
    | ⟨1, _⟩ => rfl

theorem pay14_at (s : Vec Ideal S2048x128 .f32) (P : Vec Ideal S2048x512 .bf16) (W : Vec Ideal S512x256 .bf16) (a : Vec Ideal S2048x128 .f32)
    (x : S2048x128.Idx) : k0_pay14 s P W a x = s x * a x + k0_pay13 P W (lft x) := by
  unfold k0_pay14
  simp only [shapeCast_self]
  refine congrArg (fun y : EReal => s x * a x + y) ?_
  exact extractStridedSlice_apply ![0, 0] _ slices_S2048x256_o0_0_S2048x128 x (lft x) (fun b => match b with
    | ⟨0, _⟩ => (Nat.zero_add _).symm
    | ⟨1, _⟩ => (Nat.zero_add _).symm)

theorem pay15_at (s : Vec Ideal S2048x128 .f32) (P : Vec Ideal S2048x512 .bf16) (W : Vec Ideal S512x256 .bf16) (a : Vec Ideal S2048x128 .f32)
    (x : S2048x128.Idx) : k0_pay15 s P W a x = s x * a x + k0_pay13 P W (rgt x) := by
  unfold k0_pay15
  simp only [shapeCast_self]
  refine congrArg (fun y : EReal => s x * a x + y) ?_
  exact extractStridedSlice_apply ![0, 128] _ slices_S2048x256_o0_128_S2048x128 x (rgt x) (fun b => match b with
    | ⟨0, _⟩ => (Nat.zero_add _).symm
    | ⟨1, _⟩ => rfl)

theorem drop_at (C : Vec Ideal S1x2048x128 .f32) (x : S2048x128.Idx) :
    shapeCast S2048x128 C shapeCasts_S1x2048x128_S2048x128 x = C (ix3 (n0 := 1) (n1 := 2048) (n2 := 128) 0 (x 0) (x 1)) := by
  refine (shapeCast_dropUnit_apply ![2048, 128] C shapeCasts_S1x2048x128_S2048x128 x).trans (congrArg C (funext fun a => ?_))
  match a with
  | ⟨0, _⟩ => rfl
  | ⟨1, _⟩ => rfl
  | ⟨2, _⟩ => rfl

theorem pay9_at (M : Vec Ideal S2048x128 .f32) (C : Vec Ideal S1x2048x128 .f32) (x : S2048x128.Idx) :
    k0_pay9 M C x = Ideal.exp2 (C (ix3 (n0 := 1) (n1 := 2048) (n2 := 128) 0 (x 0) (x 1)) - M x) := by
  unfold k0_pay9
  simp only [shapeCast_self]
  refine congrArg (fun y : EReal => Ideal.exp2 (y - M x)) ?_
  exact drop_at C x

/-- The new maximum of a row, the same in every lane, is a number. -/
theorem pay7_at (A B C D : Vec Ideal S1x2048x128 .f32) (M : Vec Ideal S2048x128 .f32) (M0 : Fin 2048 → ℝ)
    (hA : ∀ i, ∃ r : ℝ, A i = (r : EReal)) (hB : ∀ i, ∃ r : ℝ, B i = (r : EReal)) (hC : ∀ i, ∃ r : ℝ, C i = (r : EReal))
    (hD : ∀ i, ∃ r : ℝ, D i = (r : EReal)) (hM : ∀ x : S2048x128.Idx, M x = ((M0 (x 0) : ℝ) : EReal)) :
    ∃ M1 : Fin 2048 → ℝ, ∀ x : S2048x128.Idx, k0_pay7 A B C D M x = ((M1 (x 0) : ℝ) : EReal) := by
  have hmax : ∀ {a b : EReal}, (∃ r : ℝ, a = (r : EReal)) → (∃ r : ℝ, b = (r : EReal)) → ∃ r : ℝ, max a b = (r : EReal) := by
    rintro a b ⟨r, rfl⟩ ⟨s, rfl⟩
    rcases le_total (r : EReal) (s : EReal) with h | h
    · exact ⟨s, max_eq_right h⟩
    · exact ⟨r, max_eq_left h⟩
  set N : FVec Ideal S2048x128 .f32 := maximumf (maximumf (maximumf (shapeCast S2048x128 A shapeCasts_S1x2048x128_S2048x128)
    (shapeCast S2048x128 B shapeCasts_S1x2048x128_S2048x128)) (shapeCast S2048x128 C shapeCasts_S1x2048x128_S2048x128))
    (shapeCast S2048x128 D shapeCasts_S1x2048x128_S2048x128) with hN
  have hNr : ∀ x, ∃ r : ℝ, N x = (r : EReal) := fun x => by
    show ∃ r : ℝ, max (max (max (shapeCast S2048x128 A shapeCasts_S1x2048x128_S2048x128 x) (shapeCast S2048x128 B shapeCasts_S1x2048x128_S2048x128 x))
      (shapeCast S2048x128 C shapeCasts_S1x2048x128_S2048x128 x)) (shapeCast S2048x128 D shapeCasts_S1x2048x128_S2048x128 x) = (r : EReal)
    rw [drop_at, drop_at, drop_at, drop_at]
    exact hmax (hmax (hmax (hA _) (hB _)) (hC _)) (hD _)
  have hR : ∀ r : Fin 2048, ∃ v : ℝ, max ((M0 r : ℝ) : EReal)
      (multiReduction .maximumf [1] S2048 N 0xFF800000#32 reduces_S2048x128_S2048 (.inl rfl) rfl (ix1 (n := 2048) r)) = (v : EReal) := by
    intro r
    refine hmax ⟨_, rfl⟩ ?_
    haveI : Nonempty (Fin (S2048x128.size 1)) := ⟨⟨0, by decide⟩⟩
    obtain ⟨v, hv⟩ := fold_max_coe (fun t => N (reduces_S2048x128_S2048.lift (ix1 (n := 2048) r) t)) fun t => hNr _
    exact ⟨v, (Ideal.multiReduction_maximumf_single N _ reduces_S2048x128_S2048 _ _ _).trans hv⟩
  choose M1 hM1 using hR
  refine ⟨M1, fun x => ?_⟩
  refine Eq.trans ?_ (hM1 (x 0))
  show max (M x) (broadcastTo S2048x128 (shapeCast S2048x1 (multiReduction .maximumf [1] S2048 N 0xFF800000#32 reduces_S2048x128_S2048 (.inl rfl) rfl)
    shapeCasts_S2048_S2048x1) broadcasts_S2048x1_S2048x128 x) = _
  rw [hM]
  refine congrArg (max _) ?_
  refine (broadcastTo_apply _ broadcasts_S2048x1_S2048x128 x (ix2 (n0 := 2048) (n1 := 1) (x 0) 0) ?_).trans ?_
  · intro a
    match a with
    | ⟨0, _⟩ => rfl
    | ⟨1, _⟩ => rfl
  refine shapeCast_apply _ shapeCasts_S2048_S2048x1 (ix2 (n0 := 2048) (n1 := 1) (x 0) 0) (ix1 (n := 2048) (x 0)) ?_
  rw [Shape.rowMajor_val_two (d := ![2048, 1])]
  refine (Shape.rowMajor_val_one (d := ![2048]) _).trans ?_
  show (x 0).val = (x 0).val * 1 + 0
  omega

/-! ## One tile -/

/-- Two to a power, by the exponential. -/
theorem rpow_two (x : ℝ) : Real.rpow 2 x = Real.exp (x * Real.log 2) := by
  rw [Real.rpow_eq_pow, Real.rpow_def_of_pos (by norm_num), mul_comm]

/-- The sums after `n` tiles, relative to `M`. -/
def part (s : ℕ → ℝ) (w : ℕ → ℝ) (M : ℝ) (n : ℕ) : ℝ := ∑ t ∈ Finset.range (512 * n), Real.rpow 2 (s t - M) * w t

theorem part_succ (s w : ℕ → ℝ) (M M' : ℝ) (n : ℕ) : part s w M' (n + 1)
    = Real.rpow 2 (M - M') * part s w M n + ∑ t : Fin 512, Real.rpow 2 (s (512 * n + t.val) - M') * w (512 * n + t.val) := by
  unfold part
  rw [Nat.mul_succ, Finset.sum_range_add, Finset.mul_sum, Finset.sum_range (fun t => Real.rpow 2 (s (512 * n + t) - M') * w (512 * n + t))]
  refine congrArg (· + _) (Finset.sum_congr rfl fun t _ => ?_)
  rw [← mul_assoc, rpow_two, rpow_two, rpow_two, ← Real.exp_add]
  congr 2
  ring

/-- A nonnegative number distributes over a sum of extended reals. -/
theorem mul_sum_of_nonneg {ι : Type} {c : ℝ} (hc : 0 ≤ c) (S : Finset ι) (f : ι → EReal) : ((c : ℝ) : EReal) * ∑ i ∈ S, f i = ∑ i ∈ S, ((c : ℝ) : EReal) * f i := by
  classical
  induction S using Finset.induction_on with
  | empty => simp
  | insert a S ha ih =>
    rw [Finset.sum_insert ha, Finset.sum_insert ha, EReal.left_distrib_of_nonneg_of_ne_top (EReal.coe_nonneg.mpr hc) (EReal.coe_ne_top c), ih]

/-- The same sums, of extended reals. -/
def partE (s : ℕ → ℝ) (w : ℕ → EReal) (M : ℝ) (n : ℕ) : EReal := ∑ t ∈ Finset.range (512 * n), ((Real.rpow 2 (s t - M) : ℝ) : EReal) * w t

theorem partE_succ (s : ℕ → ℝ) (w : ℕ → EReal) (M M' : ℝ) (n : ℕ) : partE s w M' (n + 1)
    = ((Real.rpow 2 (M - M') : ℝ) : EReal) * partE s w M n
      + ∑ t : Fin 512, ((Real.rpow 2 (s (512 * n + t.val) - M') : ℝ) : EReal) * w (512 * n + t.val) := by
  unfold partE
  rw [Nat.mul_succ, Finset.sum_range_add, mul_sum_of_nonneg (by rw [rpow_two]; exact (Real.exp_pos _).le),
    Finset.sum_range (fun t => ((Real.rpow 2 (s (512 * n + t) - M') : ℝ) : EReal) * w (512 * n + t))]
  refine congrArg (· + _) (Finset.sum_congr rfl fun t _ => ?_)
  rw [← mul_assoc, ← EReal.coe_mul, rpow_two, rpow_two, rpow_two, ← Real.exp_add]
  refine congrArg (fun y : ℝ => ((Real.exp y : ℝ) : EReal) * w t) ?_
  ring

section Tile
variable (s : ℕ → ℕ → ℝ) (V : ℕ → ℕ → EReal)

/-- The accumulators after `n` tiles: some number per row, and the sums relative to it. -/
structure Sums (a : Acc Ideal) (n : ℕ) (M : Fin 2048 → ℝ) : Prop where
  top : ∀ x : S2048x128.Idx, a.top x = ((M (x 0) : ℝ) : EReal)
  num : ∀ x : S2048x128.Idx, a.num x = partE (s (x 0).val) (fun t => V t (x 1).val) (M (x 0)) n
  sum : ∀ x : S2048x128.Idx, a.sum x = ((part (s (x 0).val) (fun _ => 1) (M (x 0)) n : ℝ) : EReal)

variable {s V} {a : Acc Ideal} {n : ℕ} {M : Fin 2048 → ℝ} {S : Vec Ideal S1x2048x512 .f32} {W : Vec Ideal S512x256 .bf16}

theorem Sums.next (h : Sums s V a n M)
    (hS : ∀ (r : Fin 2048) (t : Fin 512), S (ix3 (n0 := 1) (n1 := 2048) (n2 := 512) 0 r t) = ((s r.val (512 * n + t.val) : ℝ) : EReal))
    (hL : ∀ (t : Fin 512) (d : Fin 256), d.val < 128 → W (ix2 (n0 := 512) (n1 := 256) t d) = V (512 * n + t.val) d.val)
    (hR : ∀ (t : Fin 512) (d : Fin 256), 128 ≤ d.val → W (ix2 (n0 := 512) (n1 := 256) t d) = ((1 : ℝ) : EReal)) :
    ∃ M' : Fin 2048 → ℝ, Sums s V (a.next S W) (n + 1) M' := by
  have hcut : ∀ o i, ∃ r : ℝ, cut S o i = (r : EReal) := fun o i => ⟨_, hS _ _⟩
  obtain ⟨M', hM'⟩ := pay7_at (cut S 0) (cut S 128) (cut S 256) (cut S 384) a.top M (hcut 0) (hcut 128) (hcut 256) (hcut 384) h.top
  refine ⟨M', ?_⟩
  have hsc : ∀ x : S2048x128.Idx, scale S a.top x = ((Real.rpow 2 (M (x 0) - M' (x 0)) : ℝ) : EReal) := fun x => by
    show Ideal.exp2 (a.top x - k0_pay7 (cut S 0) (cut S 128) (cut S 256) (cut S 384) a.top x) = _
    rw [hM', h.top, ← EReal.coe_sub, Ideal.exp2_coe]
  have hw : ∀ (r : Fin 2048) (t : Fin 512), weights S (mNext S a.top) (ix2 (n0 := 2048) (n1 := 512) r t)
      = ((Real.rpow 2 (s r.val (512 * n + t.val) - M' r) : ℝ) : EReal) := fun r t => by
    unfold weights
    rw [pay9_at]
    have e1 : mNext S a.top (ix2 (n0 := 2048) (n1 := 128) r ⟨t.val % 128, Nat.mod_lt _ (by decide)⟩) = ((M' r : ℝ) : EReal) := hM' _
    have e2 : cut S (128 * (t.val / 128)) (ix3 (n0 := 1) (n1 := 2048) (n2 := 128) 0 r ⟨t.val % 128, Nat.mod_lt _ (by decide)⟩)
        = ((s r.val (512 * n + t.val) : ℝ) : EReal) := by
      refine Eq.trans ?_ (hS r t)
      unfold cut
      refine congrArg S (funext fun b => Fin.ext ?_)
      have ht := t.isLt
      match b with
      | ⟨0, _⟩ => rfl
      | ⟨1, _⟩ => rfl
      | ⟨2, _⟩ => show (128 * (t.val / 128) + t.val % 128) % 512 = t.val; omega
    refine (congrArg₂ (fun y z : EReal => Ideal.exp2 (y - z)) e2 e1).trans ?_
    rw [← EReal.coe_sub, Ideal.exp2_coe]
  refine ⟨hM', fun x => ?_, fun x => ?_⟩
  · refine (pay14_at _ _ _ _ x).trans ?_
    rw [pay13_at, hsc, h.num, partE_succ _ _ (M (x 0))]
    refine congrArg₂ (HAdd.hAdd (α := EReal) (β := EReal)) rfl (Finset.sum_congr rfl fun t _ => ?_)
    exact congrArg₂ (HMul.hMul (α := EReal)) (hw (x 0) t) (hL t ((lft x) 1) (x 1).isLt)
  · refine (pay15_at _ _ _ _ x).trans ?_
    rw [pay13_at, hsc, h.sum, part_succ _ _ (M (x 0)), EReal.coe_add, EReal.coe_mul, ← sum_mul_coe]
    refine congrArg (fun y : EReal => _ + y) (Finset.sum_congr rfl fun t _ => ?_)
    exact congrArg₂ (HMul.hMul (α := EReal)) (hw (x 0) t) (hR t ((rgt x) 1) (Nat.le_add_right _ _))

end Tile

/-! ## All the tiles -/

section Point
variable {bX : Vec Ideal S512x512 .bf16} {bK bV : Vec Ideal S8192x128 .bf16} {X K : ℕ → ℕ → ℝ} {V : ℕ → ℕ → EReal}

theorem qAll_at (hX : ∀ i, bX i = ((X (i 0).val (i 1).val : ℝ) : EReal)) (j : S2048x128.Idx) :
    qAll bX j = ((X ((j 0).val % 512) (128 * ((j 0).val / 512) + (j 1).val) : ℝ) : EReal) := by
  unfold qAll stack k0_pay30 colOf
  simp only [shapeCast_self]
  exact hX _

theorem acc_sums (hX : ∀ i, bX i = ((X (i 0).val (i 1).val : ℝ) : EReal)) (hK : ∀ i, bK i = ((K (i 0).val (i 1).val : ℝ) : EReal))
    (hV : ∀ i, bV i = V (i 0).val (i 1).val) (n : ℕ) (hn : n ≤ 16) :
    ∃ M : Fin 2048 → ℝ, Sums (sc X K) V (acc (qAll bX) bK (v1Of bV) n) n M := by
  induction n with
  | zero =>
    refine ⟨fun _ => -(13234890 * 2 ^ 76), fun x => ?_, fun x => ?_, fun x => ?_⟩
    · show k0_pay34 (F := Ideal) x = _
      unfold k0_pay34
      simp only [shapeCast_self]
      exact bits_low
    · show k0_pay36 (F := Ideal) k0_pay35 (lft x) = _
      unfold k0_pay36 k0_pay35 partE
      simp only [shapeCast_self]
      rw [Nat.mul_zero, Finset.sum_range_zero]
      exact bits_zero
    · show k0_pay36 (F := Ideal) k0_pay35 (rgt x) = _
      unfold k0_pay36 k0_pay35 part
      simp only [shapeCast_self]
      rw [Nat.mul_zero, Finset.sum_range_zero]
      exact bits_zero
  | succ n ih =>
    obtain ⟨M, hM⟩ := ih (by omega)
    refine hM.next (fun r t => ?_) (fun t d hd => ?_) (fun t d hd => ?_)
    · rw [pay6_at]
      unfold sc
      rw [← sum_mul_coe]
      refine Finset.sum_congr rfl fun d _ => ?_
      refine congrArg₂ (HMul.hMul (α := EReal)) (qAll_at hX _) ((hK _).trans ?_)
      have ht := t.isLt
      show ((K ((512 * n + t.val) % 8192) d.val : ℝ) : EReal) = _
      rw [Nat.mod_eq_of_lt (by omega)]
    · have ht := t.isLt
      unfold tile
      rw [v1Of_left bV _ (ix2 (n0 := 8192) (n1 := 128) ⟨512 * n + t.val, by omega⟩ ⟨d.val, hd⟩) (Nat.mod_eq_of_lt (by show 512 * n + t.val < 8192; omega)) rfl]
      unfold k0_pay28
      simp only [shapeCast_self]
      exact hV _
    · have ht := t.isLt
      have hd' := d.isLt
      unfold tile
      rw [v1Of_right bV _ (ix2 (n0 := 8192) (n1 := 128) ⟨512 * n + t.val, by omega⟩ ⟨d.val - 128, by omega⟩)
        (Nat.mod_eq_of_lt (by show 512 * n + t.val < 8192; omega)) (by show d.val = 128 + (d.val - 128); omega)]
      unfold k0_pay29
      simp only [shapeCast_self]
      exact bits_one16

end Point

/-! ## The point's rows -/

/-- The four heads' quotients, at an index. -/
theorem quot_at (a : Acc Ideal) (h : Fin 4) (x : S512x128.Idx) :
    (![k0_pay41 a.sum a.num, k0_pay42 a.sum a.num, k0_pay43 a.sum a.num, k0_pay44 a.sum a.num] : Fin 4 → Vec Ideal S512x128 .bf16) h x
      = Ideal.div (a.num (ix2 (n0 := 2048) (n1 := 128) ⟨512 * h.val + (x 0).val, by have : (x 0).val < 512 := (x 0).isLt; have := h.isLt; omega⟩ (x 1)))
        (a.sum (ix2 (n0 := 2048) (n1 := 128) ⟨512 * h.val + (x 0).val, by have : (x 0).val < 512 := (x 0).isLt; have := h.isLt; omega⟩ (x 1))) := by
  have e : ∀ (h : Fin 4) (o : ℕ) (hs : S2048x128.Slices ![o, 0] S512x128) (ho : o = 512 * h.val), extractStridedSlice S512x128 ![o, 0] (k0_pay40 a.sum a.num) hs x
      = k0_pay40 a.sum a.num (ix2 (n0 := 2048) (n1 := 128) ⟨512 * h.val + (x 0).val, by have : (x 0).val < 512 := (x 0).isLt; have := h.isLt; omega⟩ (x 1)) := by
    intro h o hs ho
    subst ho
    exact extractStridedSlice_apply _ _ hs x _ (fun b => match b with
      | ⟨0, _⟩ => rfl
      | ⟨1, _⟩ => (Nat.zero_add _).symm)
  match h with
  | ⟨0, _⟩ => exact e 0 0 slices_S2048x128_o0_0_S512x128 rfl
  | ⟨1, _⟩ => exact e 1 512 slices_S2048x128_o512_0_S512x128 rfl
  | ⟨2, _⟩ => exact e 2 1024 slices_S2048x128_o1024_0_S512x128 rfl
  | ⟨3, _⟩ => exact e 3 1536 slices_S2048x128_o1536_0_S512x128 rfl

/-- The four heads' logarithms, at an index. -/
theorem log_rows_at (a : Acc Ideal) (h : Fin 4) (x : S1x512x128.Idx) :
    (![k0_pay2 a.sum a.top, k0_pay3 a.sum a.top, k0_pay4 a.sum a.top, k0_pay5 a.sum a.top] : Fin 4 → Vec Ideal S1x512x128 .f32) h x
      = a.top (ix2 (n0 := 2048) (n1 := 128) ⟨512 * h.val + (x 1).val, by have : (x 1).val < 512 := (x 1).isLt; have := h.isLt; omega⟩ (x 2))
        + Ideal.div (Ideal.log (a.sum (ix2 (n0 := 2048) (n1 := 128) ⟨512 * h.val + (x 1).val, by have : (x 1).val < 512 := (x 1).isLt; have := h.isLt; omega⟩ (x 2))))
          (Ideal.log (Ideal.ofBits .f32 0x40000000#32)) := by
  have e : ∀ (h : Fin 4) (o : ℕ) (hs : S2048x128.Slices ![o, 0] S512x128) (ho : o = 512 * h.val),
      shapeCast S1x512x128 (extractStridedSlice S512x128 ![o, 0] (k0_pay1 a.sum a.top) hs) shapeCasts_S512x128_S1x512x128 x
      = k0_pay1 a.sum a.top (ix2 (n0 := 2048) (n1 := 128) ⟨512 * h.val + (x 1).val, by have : (x 1).val < 512 := (x 1).isLt; have := h.isLt; omega⟩ (x 2)) := by
    intro h o hs ho
    subst ho
    refine (shapeCast_addUnit_apply ![512, 128] _ shapeCasts_S512x128_S1x512x128 x).trans ?_
    exact extractStridedSlice_apply _ _ hs _ _ (fun b => match b with
      | ⟨0, _⟩ => rfl
      | ⟨1, _⟩ => (Nat.zero_add _).symm)
  match h with
  | ⟨0, _⟩ => exact e 0 0 slices_S2048x128_o0_0_S512x128 rfl
  | ⟨1, _⟩ => exact e 1 512 slices_S2048x128_o512_0_S512x128 rfl
  | ⟨2, _⟩ => exact e 2 1024 slices_S2048x128_o1024_0_S512x128 rfl
  | ⟨3, _⟩ => exact e 3 1536 slices_S2048x128_o1536_0_S512x128 rfl

/-! ## As the model's -/

section Model
variable (q k : ℕ → ℕ → ℝ) (w : ℕ → ℕ → EReal) (g : ℕ)

/-- The sums over every key, from any number on, are the model's from that number on. -/
theorem part_model (h r : ℕ) (w : ℕ → ℝ) (M : ℝ) (s : ℕ → ℝ) (hs : ∀ t, s t = dot q k g h r t * σ / Real.log 2) :
    part s w M 16 = (∑ t : Fin 8192, w t.val * wgt q k g h r t.val) * (den q k g h r * Real.exp (-(M * Real.log 2))) := by
  unfold part
  rw [show 512 * 16 = 8192 from rfl, Finset.sum_range, Finset.sum_mul]
  refine Finset.sum_congr rfl fun t _ => ?_
  have h2 := log2_ne
  have hd := den_ne q k g h r
  rw [hs, rpow_two, show (dot q k g h r t.val * σ / Real.log 2 - M) * Real.log 2 = dot q k g h r t.val * σ - M * Real.log 2 by field_simp,
    shifted, wgt]
  field_simp

theorem wgt_sum (h r : ℕ) : ∑ t : Fin 8192, (1 : ℝ) * wgt q k g h r t.val = 1 := by
  simp only [one_mul]
  unfold wgt
  rw [← Finset.sum_div]
  exact div_self (den_ne q k g h r)

/-- The weights' mean of values that may be infinite. -/
def outE (h r d : ℕ) : EReal := ∑ t : Fin 8192, w t.val (128 * g + d) * ((wgt q k g h r t.val : ℝ) : EReal)

theorem out_of_parts (h r d : ℕ) (M : ℝ) (s : ℕ → ℝ) (hs : ∀ t, s t = dot q k g h r t * σ / Real.log 2) :
    Ideal.div (partE s (fun t => w t (128 * g + d)) M 16) ((part s (fun _ => 1) M 16 : ℝ) : EReal) = outE q k w g h r d := by
  have hc : 0 < den q k g h r * Real.exp (-(M * Real.log 2)) := mul_pos (den_pos q k g h r) (Real.exp_pos _)
  rw [part_model q k g h r (fun _ => 1) M s hs, wgt_sum, one_mul]
  unfold Ideal.div partE outE
  rw [if_neg (by exact_mod_cast hc.ne'), ← EReal.coe_inv, mul_comm, mul_sum_of_nonneg (inv_nonneg.mpr hc.le), show 512 * 16 = 8192 from rfl, Finset.sum_range]
  refine Finset.sum_congr rfl fun t _ => ?_
  rw [← mul_assoc, ← EReal.coe_mul, mul_comm]
  refine congrArg (fun y : ℝ => w t.val (128 * g + d) * ((y : ℝ) : EReal)) ?_
  have h2 := log2_ne
  have hd := den_ne q k g h r
  rw [hs, rpow_two, show (dot q k g h r t.val * σ / Real.log 2 - M) * Real.log 2 = dot q k g h r t.val * σ - M * Real.log 2 by field_simp,
    shifted, wgt]
  field_simp

theorem lse_of_parts (h r : ℕ) (M : ℝ) (s : ℕ → ℝ) (hs : ∀ t, s t = dot q k g h r t * σ / Real.log 2) :
    ((M : ℝ) : EReal) + Ideal.div (Ideal.log ((part s (fun _ => 1) M 16 : ℝ) : EReal)) (Ideal.log (Ideal.ofBits .f32 0x40000000#32))
      = ((lse q k g h r : ℝ) : EReal) := by
  have hc : 0 < den q k g h r * Real.exp (-(M * Real.log 2)) := mul_pos (den_pos q k g h r) (Real.exp_pos _)
  rw [part_model q k g h r (fun _ => 1) M s hs, wgt_sum, one_mul, bits_two, log_coe_pos hc, log_coe_pos (show (0 : ℝ) < 2 by norm_num), div_coe_coe _ log2_ne,
    ← EReal.coe_add, lse]
  refine congrArg Real.toEReal ?_
  have h2 := log2_ne
  rw [← log_shift q k g h r (M * Real.log 2)]
  field_simp

end Model

end Cert.FPoint
-- ==== Proof.FRun.lean ====
/-
  The whole forward call: the proof data of its pipeline, each point by the run of FBody, and the frame.
-/
module

public import proofs.«01_k».proof.Proof.FBody
public import proofs.«01_k».proof.Proof.Gen.KernelFwdIdeal.Frame
public import Idealize.ShloMosaic.Lib.Exec
public import Idealize.ShloMosaic.Lib.Tactic
public import Idealize.ShloMosaic.Lib.Pipeline.Kit

@[expose] public section

set_option maxRecDepth 16384

noncomputable section

namespace Cert.KernelFwdIdeal.Hand

open Cert.KernelFwdIdeal Cert.KernelFwdIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sepm {P P' Q Q' : sProp 𝕄} (h : P ⊢ P') (h' : Q ⊢ Q') : iprop(P ∗ Q) ⊢ iprop(P' ∗ Q') := BI.sep_mono h h'

/-- Point `n` of the grid. -/
def pt (n : ℕ) : Fin cfg0.N := ⟨n % 64, lt_of_lt_of_eq (Nat.mod_lt n (by decide : 64 > 0)) N_0.symm⟩
theorem pt_val (t : Fin cfg0.N) : pt t.val = t := Fin.ext (Nat.mod_eq_of_lt (lt_of_lt_of_eq t.isLt N_0))

abbrev blk0 (c : Dev nD) (t : Fin cfg0.N) : Vec F S512x512 .bf16 := iblk m c 0 t
abbrev blk1 (c : Dev nD) (t : Fin cfg0.N) : Vec F S8192x128 .bf16 := iblk m c 1 t
abbrev blk2 (c : Dev nD) (t : Fin cfg0.N) : Vec F S8192x128 .bf16 := iblk m c 2 t

/-- The values kept after point `n`. -/
def v1N (c : Dev nD) : ℕ → Vec F S8192x256 .bf16
  | 0 => v1Of (blk2 m c (pt 0))
  | n + 1 => from0 (grid0.coords (pt (n + 1))) (blk2 m c (pt (n + 1))) (v1N c n)

/-- The accumulators at the end of point `t`. -/
def accAt (c : Dev nD) (t : Fin cfg0.N) : Acc F := acc (qAll (blk0 m c t)) (blk1 m c t) (v1N m c t.val) 16

theorem isFirst_iff : ∀ t : Fin grid0.N, isFirst (grid0.coords t) ↔ t.val % 16 = 0 := by decide +kernel

/-- A buffer at any contents. -/
abbrev free (c : Dev nD) (b : Ref sig .tc) : sProp 𝕄 :=
  iprop(∃ f, (Memref.whole b).view.loc (c : Thread nD τ) ↦[(Memref.whole b).view.set]{fullShare} f)

/-- The six buffers between points: the values at named contents, the others at any. -/
def scr (c : Dev nD) (B : Vec F S8192x256 .bf16) : sProp 𝕄 :=
  iprop(free c cc0_scratch0 ∗ owns (c : Thread nD τ) (Memref.whole cc0_scratch1) fullShare B ∗ free c cc0_scratch2 ∗ free c cc0_scratch3 ∗ free c cc0_scratch4 ∗ free c cc0_scratch5)

def Phi (c : Dev nD) (n : ℕ) : sProp 𝕄 :=
  iprop((∃ B, ⌜n % 16 ≠ 0 → B = v1N m c (n - 1)⌝ ∗ scr c B) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oRows (accAt m c t)
    | ⟨4, _⟩ => lseRows (accAt m c t)
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oRows (accAt m c t) := by dsimp only [dats]
theorem after0_4 (c : Dev nD) (t : Fin cfg0.N) : (dats m 0 c).after 4 t = lseRows (accAt m c t) := by dsimp only [dats]
theorem Phi_eq (c : Dev nD) (t : Fin (cfg0.N + 1)) : (dats m 0 c).Φ t = Phi m c t.val := by dsimp only [dats]

/-- The values a point's trips find are those kept after it. -/
theorem v1N_step (c : Dev nD) (t : Fin cfg0.N) (B : Vec F S8192x256 .bf16) (hB : t.val % 16 ≠ 0 → B = v1N m c (t.val - 1)) :
    from0 (grid0.coords t) (blk2 m c t) B = v1N m c t.val := by
  obtain ⟨n, hn⟩ := t
  have e : pt n = ⟨n, hn⟩ := pt_val ⟨n, hn⟩
  cases n with
  | zero =>
    show _ = v1N m c 0
    unfold v1N
    rw [e]
    unfold from0
    rw [if_pos ((isFirst_iff ⟨0, hn⟩).mpr rfl)]
  | succ n =>
    show _ = v1N m c (n + 1)
    unfold v1N
    rw [e]
    unfold from0
    by_cases h : isFirst (grid0.coords ⟨n + 1, hn⟩)
    · rw [if_pos h, if_pos h]
    · rw [if_neg h, if_neg h, hB (fun h' => h ((isFirst_iff ⟨n + 1, hn⟩).mpr h'))]
      rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_core (c : Dev nD) (t : Fin cfg0.N) (W : Waits sig Unit) (X : Vec F S512x512 .bf16) (K V : Vec F S8192x128 .bf16) (Y : Vec F S512x512 .bf16)
    (L : Vec F S4x512x128 .f32) (B : Vec F S8192x256 .bf16) (h8 : from0 (grid0.coords t) V B = v1N m c t.val) :
    (iprop((∃ r, prngReg c r) ∗ owes (c : Thread nD τ) 0 W ∗ owns (c : Thread nD τ) (st0_0 t) fullShare X ∗ owns (c : Thread nD τ) (st0_1 t) fullShare K ∗ owns (c : Thread nD τ) (st0_2 t) fullShare V ∗ owns (c : Thread nD τ) (st0_3 t) fullShare Y ∗ owns (c : Thread nD τ) (st0_4 t) fullShare L ∗ scr c B) : sProp 𝕄)
      ⊢ wp frame (wpE (defs₀ (F := F)) Variants.none c none) Set.univ (bodyAt0 t) (fun _ => iprop(((∃ B', ⌜(t.val + 1) % 16 ≠ 0 → B' = v1N m c (t.val + 1 - 1)⌝ ∗ scr c B') ∗ ∃ r, prngReg c r)
        ∗ (∃ W, ⌜↑W ⊆ (dats m 0 c).bound () t.succ⌝ ∗ owes (c : Thread nD τ) 0 W)
        ∗ owns (c : Thread nD τ) (st0_0 t) fullShare X ∗ owns (c : Thread nD τ) (st0_1 t) fullShare K ∗ owns (c : Thread nD τ) (st0_2 t) fullShare V
        ∗ owns (c : Thread nD τ) (st0_3 t) fullShare (oRows (acc (qAll X) K (from0 (grid0.coords t) V B) 16))
        ∗ owns (c : Thread nD τ) (st0_4 t) fullShare (lseRows (acc (qAll X) K (from0 (grid0.coords t) V B) 16)))) := by
  unfold bodyAt0 scr
  iintro ⟨Hg, HW, H0, H1, H2, H3, H4, S0, S1, S2, S3, S4, S5⟩
  ihave Hwp := (body_pt (F := F) Variants.none c none Set.univ (grid0.coords t) (stage0_0 (cfg0.slots t 0)) (hstage0_0 ((cfg0.slots t 0).cast nbuf0_0)) (stage0_1 (cfg0.slots t 1)) (hstage0_1 ((cfg0.slots t 1).cast nbuf0_1)) (stage0_2 (cfg0.slots t 2)) (hstage0_2 ((cfg0.slots t 2).cast nbuf0_2)) (stage0_3 (cfg0.slots t 3)) (hstage0_3 ((cfg0.slots t 3).cast nbuf0_3)) (stage0_4 (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) X K V B) $$ [H0 H1 H2 H3 H4 S0 S1 S2 S3 S4 S5]
  · unfold holds
    isplitl [H0]; · iexact H0
    isplitl [H1]; · iexact H1
    isplitl [H2]; · iexact H2
    isplitl [H3]; · iexists _; iexact H3
    isplitl [H4]; · iexists _; iexact H4
    isplitl [S0]; · iexact S0
    isplitl [S1]; · iexact S1
    isplitl [S2]; · iexact S2
    isplitl [S3]; · iexact S3
    isplitl [S4]; · iexact S4
    iexact S5
  iapply (wp_wand frame (wpE (defs₀ (F := F)) Variants.none c none) Set.univ) $$ Hwp
  iintro %_ Hh
  unfold holds
  icases Hh with ⟨H0, H1, H2, H3, H4, S0, S1, S2, S3, S4, S5⟩
  isplitl [Hg S0 S1 S2 S3 S4 S5]
  · isplitr [Hg]
    · iexists _
      isplitr
      · ipureintro; exact fun _ => h8
      · isplitl [S0]; · iexact S0
        isplitl [S1]; · iexact S1
        isplitl [S2]; · iexact S2
        isplitl [S3]; · iexact S3
        isplitl [S4]; · iexact S4
        iexact S5
    · iexact Hg
  isplitl [HW]
  · iexists W; isplitr
    · ipureintro; exact fun _ _ => Or.inl trivial
    · iexact HW
  isplitl [H0]; · iexact H0
  isplitl [H1]; · iexact H1
  isplitl [H2]; · iexact H2
  isplitl [H3]; · iexact H3
  iexact H4

theorem sound_at (c : Dev nD) (t : Fin cfg0.N) (W : Waits sig Unit) (Y : Vec F S512x512 .bf16) (L : Vec F S4x512x128 .f32) (B : Vec F S8192x256 .bf16)
    (hB : t.val % 16 ≠ 0 → B = v1N m c (t.val - 1)) :
    (iprop((∃ r, prngReg c r) ∗ owes (c : Thread nD τ) 0 W ∗ owns (c : Thread nD τ) (st0_0 t) fullShare (blk0 m c t) ∗ owns (c : Thread nD τ) (st0_1 t) fullShare (blk1 m c t) ∗ owns (c : Thread nD τ) (st0_2 t) fullShare (blk2 m c t) ∗ owns (c : Thread nD τ) (st0_3 t) fullShare Y ∗ owns (c : Thread nD τ) (st0_4 t) fullShare L ∗ scr c B) : sProp 𝕄)
      ⊢ wp frame (wpE (defs₀ (F := F)) Variants.none c none) Set.univ (bodyAt0 t) (fun _ => iprop(((∃ B', ⌜(t.val + 1) % 16 ≠ 0 → B' = v1N m c (t.val + 1 - 1)⌝ ∗ scr c B') ∗ ∃ r, prngReg c r)
        ∗ (∃ W, ⌜↑W ⊆ (dats m 0 c).bound () t.succ⌝ ∗ owes (c : Thread nD τ) 0 W)
        ∗ owns (c : Thread nD τ) (st0_0 t) fullShare (blk0 m c t) ∗ owns (c : Thread nD τ) (st0_1 t) fullShare (blk1 m c t) ∗ owns (c : Thread nD τ) (st0_2 t) fullShare (blk2 m c t)
        ∗ owns (c : Thread nD τ) (st0_3 t) fullShare (oRows (accAt m c t))
        ∗ owns (c : Thread nD τ) (st0_4 t) fullShare (lseRows (accAt m c t)))) := by
  have h := sound_core m c t W (blk0 m c t) (blk1 m c t) (blk2 m c t) Y L B (v1N_step m c t B hB)
  rw [v1N_step m c t B hB] at h
  exact h

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_eq, Phi_eq, show (t.castSucc : Fin (cfg0.N + 1)).val = t.val from rfl, show (t.succ : Fin (cfg0.N + 1)).val = t.val + 1 from rfl]
  unfold Phi Dat.owesAt Pipeline.owesWithin
  rw [show (dats m 0 c).owed t.castSucc = 0 from rfl, show (dats m 0 c).owed t.succ = 0 from rfl]
  simp only [after0_0, after0_1, after0_2, after0_3, after0_4,
    before0_0_of m (dats m 0 c) (A_eq m c 0) (after0_0 m c), before0_1_of m (dats m 0 c) (A_eq m c 1) (after0_1 m c),
    before0_2_of m (dats m 0 c) (A_eq m c 2) (after0_2 m c)]
  iintro ⟨⟨⟨%B, %hB, HS⟩, Hg⟩, ⟨%W, -, HW⟩, ⟨%d0, H0⟩, ⟨%d1, H1⟩, ⟨%d2, H2⟩, ⟨%d3, H3⟩, ⟨%d4, H4⟩⟩
  iapply (sound_at m c t W ((dats m 0 c).before 3 t d3) ((dats m 0 c).before 4 t d4) B hB)
  isplitl [Hg]; · iexact Hg
  isplitl [HW]; · iexact HW
  isplitl [H0]; · iexact H0
  isplitl [H1]; · iexact H1
  isplitl [H2]; · iexact H2
  isplitl [H3]; · iexact H3
  isplitl [H4]; · iexact H4
  iexact HS

theorem defs₀_row (t : Fin cfg0.N) : defs₀ (F := F) .tc cfg0.body (cfg0.bodyArgs t (cfg0.slots t)) = bodyAt0 t := by
  unfold defs₀; rw [Defs.onTc_tc]

theorem window_leaves (c : Dev nD) (t : Fin cfg0.N) (w : Fin cfg0.W) (h : cfg0.idle w (cfg0.grid.coords t) = false) :
    owns (c : Thread nD τ) ((cfg0.win w).stage (cfg0.slots t w)) fullShare ((dats m 0 c).after w t) ⊢
    (match cfg0.idle w (cfg0.grid.coords t) with
      | true => match (cfg0.win w).flush t with
        | false => iprop(∃ d, owns (c : Thread nD τ) ((cfg0.win w).stage (cfg0.slots t w)) fullShare ((dats m 0 c).before w t d))
        | true => owns (c : Thread nD τ) ((cfg0.win w).stage (cfg0.slots t w)) fullShare ((dats m 0 c).after w t)
      | false => owns (c : Thread nD τ) ((cfg0.win w).stage (cfg0.slots t w)) fullShare ((dats m 0 c).after w t) : sProp 𝕄) := by
  rw [h]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sepm .rfl (sepm .rfl (sepm (window_leaves m c t 0 rfl) (sepm (window_leaves m c t 1 rfl) (sepm (window_leaves m c t 2 rfl) (sepm (window_leaves m c t 3 rfl) (window_leaves m c t 4 rfl))))))

theorem whole_to (c : Dev nD) (b : Ref sig .tc) : iprop(∃ f : Buf (Elt F) ((c : Thread nD τ).loc b), ((c : Thread nD τ).loc b) ↦{fullShare} f)
    ⊢ (free c b : sProp 𝕄) := by
  unfold free
  rw [(Memref.isWhole_whole b).set_eq_univ]
theorem whole_from (c : Dev nD) (b : Ref sig .tc) : (free c b : sProp 𝕄)
    ⊢ iprop(∃ f : Buf (Elt F) ((c : Thread nD τ).loc b), ((c : Thread nD τ).loc b) ↦{fullShare} f) := by
  unfold free
  rw [(Memref.isWhole_whole b).set_eq_univ]
theorem own_to (c : Dev nD) (b : Ref sig .tc) : iprop(∃ f : Buf (Elt F) ((c : Thread nD τ).loc b), ((c : Thread nD τ).loc b) ↦{fullShare} f)
    ⊢ (iprop(∃ f, owns (c : Thread nD τ) (Memref.whole b) fullShare f) : sProp 𝕄) := by
  simp only [owns_whole]
  exact .rfl
theorem own_from (c : Dev nD) (b : Ref sig .tc) : (iprop(∃ f, owns (c : Thread nD τ) (Memref.whole b) fullShare f) : sProp 𝕄)
    ⊢ iprop(∃ f : Buf (Elt F) ((c : Thread nD τ).loc b), ((c : Thread nD τ).loc b) ↦{fullShare} f) := by
  simp only [owns_whole]
  exact .rfl

/-- The six buffers at any contents, as the body's memrefs hold them. -/
def scrAny (c : Dev nD) : sProp 𝕄 :=
  iprop(free c cc0_scratch0 ∗ (∃ f, owns (c : Thread nD τ) (Memref.whole cc0_scratch1 : Memref sig .tc .vmem S8192x256 .bf16) fullShare f) ∗ free c cc0_scratch2 ∗ free c cc0_scratch3 ∗ free c cc0_scratch4 ∗ free c cc0_scratch5)

theorem scr_to (c : Dev nD) : Pipeline.scopedRest (Ix := Unit) (Val := Elt F) (Name := ℕ) (U := UR sig nD τ) (Lvl := ℕ) spec0 c ⊢ (scrAny c : sProp 𝕄) := by
  rw [scopedRest0_eq]
  exact sepm (whole_to c cc0_scratch0) (sepm (own_to c cc0_scratch1) (sepm (whole_to c cc0_scratch2) (sepm (whole_to c cc0_scratch3) (sepm (whole_to c cc0_scratch4) (whole_to c cc0_scratch5)))))
theorem scr_from (c : Dev nD) : (scrAny c : sProp 𝕄) ⊢ Pipeline.scopedRest (Ix := Unit) (Val := Elt F) (Name := ℕ) (U := UR sig nD τ) (Lvl := ℕ) spec0 c := by
  rw [scopedRest0_eq]
  exact sepm (whole_from c cc0_scratch0) (sepm (own_from c cc0_scratch1) (sepm (whole_from c cc0_scratch2) (sepm (whole_from c cc0_scratch3) (sepm (whole_from c cc0_scratch4) (whole_from c cc0_scratch5)))))

theorem to_phi (c : Dev nD) : Pipeline.ΦA spec0 c ⊢ (dats (F := F) m 0 c).Φ 0 := by
  rw [Phi_eq]
  unfold Pipeline.ΦA
  refine (sepm (scr_to c) .rfl).trans ?_
  unfold scrAny Phi scr
  iintro ⟨⟨S0, ⟨%f, S1⟩, S2⟩, Hg⟩
  isplitr [Hg]; swap; · iexact Hg
  iexists f
  isplitr
  · ipureintro; exact fun h => absurd rfl h
  isplitl [S0]; · iexact S0
  isplitl [S1]; · iexact S1
  iexact S2

theorem of_phi (c : Dev nD) : (dats (F := F) m 0 c).Φ (Fin.last cfg0.N) ⊢ Pipeline.ΦA spec0 c := by
  rw [Phi_eq]
  unfold Pipeline.ΦA
  refine Idealize.SL.BI.BIBase.Entails.trans ?_ (sepm (scr_from c) .rfl)
  unfold scrAny Phi scr
  iintro ⟨⟨%B, -, S0, S1, S2⟩, Hg⟩
  isplitr [Hg]; swap; · iexact Hg
  isplitl [S0]; · iexact S0
  isplitl [S1]; · iexists B; iexact S1
  iexact S2

set_option backward.isDefEq.respectTransparency.types false in
/-- Every execution ends with the launch's arrays at the pipeline's final contents and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := to_phi m) (hout := of_phi m) (hQ' := fun _ h => h)

/-- The arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c)))⟩, h.2⟩) (run_main m ρ)

end Cert.KernelFwdIdeal.Hand
-- ==== Proof.FValue.lean ====
/-
  The forward call's two results over the extended reals, from queries and keys that are numbers and any values: point `t` is group
  `t / 16` and query tile `t % 16`.
-/
module

public import proofs.«01_k».proof.Proof.FPoint
public import proofs.«01_k».proof.Proof.FRun
public import proofs.«01_k».proof.Proof.HostValue
public import proofs.«01_k».proof.Proof.GridValue
public import Idealize.ShloMosaic.Lib.Pipeline.ValueKit

@[expose] public section

set_option maxRecDepth 16384

noncomputable section

namespace Cert.FValue

open Cert.KernelFwdIdeal Cert.KernelFwdIdeal.Gen Cert.KernelFwdIdeal.Hand Cert.Model Cert.RefValue Cert.FPoint
open Cert.HostValue (hQt hOut hLse hQt_eq hOut_at hDot_of hLse_eq)
open Cert.PointValue (sc)
open Cert.GridValue (pX pK sc_eq)
open Idealize.ShloMosaic Idealize.ShloMosaic.ValueIdx Idealize.ShloMosaic.TcCoe

section Host
variable {F : FTy → Type} [FloatOps F] (m : (ℓ : Loc nD τ sig) → Buf (Elt F) ℓ) (c : Dev nD)

theorem read_v5 : V m c main_v5 = hQt (m (c.tc.loc main_arg0)) := by
  unfold V hostOps0
  after_reads_simp
  rfl
theorem read_v6 : V m c main_v6 = truncf .bf16 (m (c.tc.loc main_arg1)) Facts₀.bitsLt_bf16_f32 := by
  unfold V hostOps0
  after_reads_simp

end Host

theorem index0 : ∀ t : Fin cfg0.N, (cfg0.win 0).index t = ![t.val % 16, t.val / 16] := by decide +kernel
theorem index1 : ∀ t : Fin cfg0.N, (cfg0.win 1).index t = ![0, t.val / 16] := by decide +kernel
theorem index2 : ∀ t : Fin cfg0.N, (cfg0.win 2).index t = ![0, 36 + t.val / 16] := by decide +kernel
theorem index3 : ∀ t : Fin cfg0.N, (cfg0.win 3).index t = ![t.val % 16, t.val / 16] := by decide +kernel
theorem index4 : ∀ t : Fin cfg0.N, (cfg0.win 4).index t = ![t.val / 16, t.val % 16, 0] := by decide +kernel

section Blocks
variable (m : (ℓ : Loc nD τ sig) → Buf (Elt Ideal) ℓ) (c : Dev nD) {q k v o : ℕ → ℕ → ℝ}
  {x2 : Cert.ReferenceIdeal.S8192x9216.Idx → EReal} {x3 : Cert.ReferenceIdeal.S8192x2048.Idx → EReal} {w : ℕ → ℕ → EReal}
  (R : Reads (m ((c.tc : Thread nD τ).loc main_arg0)) (m ((c.tc : Thread nD τ).loc main_arg1)) x2 x3 q k v o)
  (hw : ∀ i : Cert.ReferenceIdeal.S8192x512.Idx,
    (m ((c.tc : Thread nD τ).loc main_arg2) : Cert.ReferenceIdeal.S8192x9216.Idx → EReal) (Cert.ReferenceIdeal.Read.idx_main_v0 i) = w (i 0).val (i 1).val)

section Scores
include R

theorem blk0_at (t : Fin cfg0.N) (i : S512x512.Idx) : blk0 m c t i
    = ((pX q (t.val / 16) (t.val % 16) (i 0).val (i 1).val : ℝ) : EReal) := by
  unfold blk0 iblk pX
  show V m c main_v5 (((cfg0.win 0).blk t).view.emb i) = _
  rw [read_v5]
  refine (hQt_eq R _).trans ?_
  have e0 : ((((cfg0.win 0).blk t).view.emb i) 0).val = 512 * (t.val % 16) + (i 0).val := by
    blk_simp [index0 t]; omega
  have e1 : ((((cfg0.win 0).blk t).view.emb i) 1).val = 512 * (t.val / 16) + (i 1).val := by
    blk_simp [index0 t]; omega
  exact congrArg₂ (fun a b : ℕ => ((q a b * σ / Real.log 2 : ℝ) : EReal)) e0 e1

theorem blk1_at (t : Fin cfg0.N) (i : S8192x128.Idx) : blk1 m c t i = ((pK k (t.val / 16) (i 0).val (i 1).val : ℝ) : EReal) := by
  unfold blk1 iblk pK
  show V m c main_v6 (((cfg0.win 1).blk t).view.emb i) = _
  rw [read_v6]
  refine (R.hk _).trans ?_
  have e0 : ((((cfg0.win 1).blk t).view.emb i) 0).val = (i 0).val := by
    blk_simp [index1 t]
  have e1 : ((((cfg0.win 1).blk t).view.emb i) 1).val = 128 * (t.val / 16) + (i 1).val := by
    blk_simp [index1 t]; omega
  exact congrArg₂ (fun a b : ℕ => ((k a b : ℝ) : EReal)) e0 e1

end Scores

/-- Group `g`'s values. -/
def pW (w : ℕ → ℕ → EReal) (g t d : ℕ) : EReal := w t (128 * g + d)

/-- Group `g`'s values, as a block. -/
def vals (w : ℕ → ℕ → EReal) (g : ℕ) : Vec Ideal S8192x128 .bf16 := fun i => pW w g (i 0).val (i 1).val

section Values
include hw

theorem blk2_eq (t : Fin cfg0.N) : blk2 m c t = vals w (t.val / 16) := by
  funext i
  have ht : t.val < 64 := lt_of_lt_of_eq t.isLt N_0
  have hi : (i 1).val < 128 := (i 1).isLt
  unfold blk2 iblk vals pW
  show V m c main_arg2 (((cfg0.win 2).blk t).view.emb i) = _
  rw [V_main_arg2]
  have e0 : ((((cfg0.win 2).blk t).view.emb i) 0).val = (i 0).val := by
    blk_simp [index2 t]
  have e1 : ((((cfg0.win 2).blk t).view.emb i) 1).val = 4608 + (128 * (t.val / 16) + (i 1).val) := by
    blk_simp [index2 t]; omega
  refine Eq.trans (congrArg (m ((c.tc : Thread nD τ).loc main_arg2)) ?_)
    (hw (ValueIdx.ix2 (n0 := 8192) (n1 := 512) (i 0) ⟨128 * (t.val / 16) + (i 1).val, by omega⟩))
  funext a
  apply Fin.ext
  match a with
  | ⟨0, _⟩ => exact e0
  | ⟨1, _⟩ => exact e1

/-- The values kept between points are the group's. -/
theorem v1N_eq (n : ℕ) (hn : n < 64) : v1N m c n = v1Of (vals w (n / 16)) := by
  induction n with
  | zero =>
    unfold v1N
    rw [blk2_eq m c hw]
    rfl
  | succ n ih =>
    unfold v1N from0
    have e : (pt (n + 1)).val = n + 1 := Nat.mod_eq_of_lt hn
    by_cases h : (n + 1) % 16 = 0
    · rw [if_pos ((isFirst_iff (pt (n + 1))).mpr (by rw [e]; exact h)), blk2_eq m c hw, e]
    · rw [if_neg (fun h' => h (by have := (isFirst_iff (pt (n + 1))).mp h'; rwa [e] at this)), ih (by omega),
        show (n + 1) / 16 = n / 16 by omega]

end Values

include R hw

theorem accAt_sums (t : Fin cfg0.N) :
    ∃ M : Fin 2048 → ℝ, Sums (sc (pX q (t.val / 16) (t.val % 16)) (pK k (t.val / 16))) (pW w (t.val / 16)) (accAt m c t) 16 M := by
  unfold accAt
  rw [v1N_eq m c hw t.val (lt_of_lt_of_eq t.isLt N_0)]
  exact acc_sums (blk0_at m c R t) (blk1_at m c R t) (fun i => rfl) 16 le_rfl

theorem oRows_at (t : Fin cfg0.N) (y : S512x512.Idx) : oRows (accAt m c t) y
    = outE q k w (t.val / 16) ((y 1).val / 128) (512 * (t.val % 16) + (y 0).val) ((y 1).val % 128) := by
  have hy : (y 0).val < 512 := (y 0).isLt
  obtain ⟨M, hM⟩ := accAt_sums m c R hw t
  unfold oRows Cert.KernelIdeal.Hand.beside
  rw [quot_at, hM.num, hM.sum]
  refine out_of_parts q k w (t.val / 16) ((y 1).val / 128) (512 * (t.val % 16) + (y 0).val) ((y 1).val % 128) _ _ (fun u => ?_)
  refine (sc_eq q k (t.val / 16) (t.val % 16) (512 * ((y 1).val / 128) + (y 0).val) u).trans ?_
  rw [show (512 * ((y 1).val / 128) + (y 0).val) / 512 = (y 1).val / 128 by omega,
    show (512 * ((y 1).val / 128) + (y 0).val) % 512 = (y 0).val by omega]

theorem lseRows_at (t : Fin cfg0.N) (y : S4x512x128.Idx) : lseRows (accAt m c t) y
    = ((lse q k (t.val / 16) (y 0).val (512 * (t.val % 16) + (y 1).val) : ℝ) : EReal) := by
  have hy : (y 1).val < 512 := (y 1).isLt
  obtain ⟨M, hM⟩ := accAt_sums m c R hw t
  unfold lseRows planes
  refine (log_rows_at (accAt m c t) (y 0) _).trans ?_
  rw [hM.top, hM.sum]
  refine lse_of_parts q k (t.val / 16) (y 0).val (512 * (t.val % 16) + (y 1).val) _ _ (fun u => ?_)
  refine (sc_eq q k (t.val / 16) (t.val % 16) (512 * (y 0).val + (y 1).val) u).trans ?_
  rw [show (512 * (y 0).val + (y 1).val) / 512 = (y 0).val by omega, show (512 * (y 0).val + (y 1).val) % 512 = (y 1).val by omega]

/-- The output. -/
theorem arr3 : (dats m 0 c).arrAt 3 cfg0.N = hOut (F := Ideal) (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  blk_simp
  rw [after0_3]
  refine (oRows_at m c R hw t y).trans (Eq.symm ((hOut_at _ _).trans ((hDot_of R hw _).trans ?_)))
  have hy0 : (y 0).val < 512 := (y 0).isLt
  have hy1 : (y 1).val < 512 := (y 1).isLt
  have e0 : ((((cfg0.win 3).blk t).view.emb y) 0).val = 512 * (t.val % 16) + (y 0).val := by
    blk_simp [index3 t]; omega
  have e1 : ((((cfg0.win 3).blk t).view.emb y) 1).val = 512 * (t.val / 16) + (y 1).val := by
    blk_simp [index3 t]; omega
  refine (congrArg₂ (fun a b : ℕ => outE q k w (b / 512) (b / 128 % 4) a (b % 128)) e0 e1).trans ?_
  rw [show (512 * (t.val / 16) + (y 1).val) / 512 = t.val / 16 by omega,
    show (512 * (t.val / 16) + (y 1).val) / 128 % 4 = (y 1).val / 128 by omega,
    show (512 * (t.val / 16) + (y 1).val) % 128 = (y 1).val % 128 by omega]

/-- The rows' logarithms. -/
theorem arr4 : (dats m 0 c).arrAt 4 cfg0.N = hLse (F := Ideal) (m ((c.tc : Thread nD τ).loc main_arg0))
    (m ((c.tc : Thread nD τ).loc main_arg1)) := by
  refine (dats m 0 c).arrAt_eq_of_covers 4 _ (by decide +kernel) fun t hf y => ?_
  blk_simp
  rw [after0_4]
  refine (lseRows_at m c R hw t y).trans (Eq.symm ((hLse_eq R _).trans ?_))
  have hy0 : (y 0).val < 4 := (y 0).isLt
  have hy1 : (y 1).val < 512 := (y 1).isLt
  have e0 : ((((cfg0.win 4).blk t).view.emb y) 0).val = 4 * (t.val / 16) + (y 0).val := by
    blk_simp [index4 t]; omega
  have e1 : ((((cfg0.win 4).blk t).view.emb y) 1).val = 512 * (t.val % 16) + (y 1).val := by
    blk_simp [index4 t]; omega
  refine (congrArg₂ (fun a b : ℕ => ((lse q k (a / 4) (a % 4) b : ℝ) : EReal)) e0 e1).trans ?_
  rw [show (4 * (t.val / 16) + (y 0).val) / 4 = t.val / 16 by omega,
    show (4 * (t.val / 16) + (y 0).val) % 4 = (y 0).val by omega]

end Blocks

end Cert.FValue
-- ==== Proof.FAlgebra.lean ====
/-
  The forward call's claims: its frames, its precondition read, and that over the extended reals, from queries and keys that are
  numbers, the kernel and the reference end with the same two results.
-/
module

public import proofs.«01_k».proof.Proof.FValue
public import proofs.«01_k».proof.Proof.Finite
public import proofs.«01_k».proof.Proof.Gen.KernelFwd
public import proofs.«01_k».proof.Proof.Gen.KernelFwdIdeal
public import proofs.«01_k».proof.Proof.Gen.ReferenceFwdIdeal
public import proofs.«01_k».proof.Proof.Gen.ReferenceFwdIdeal.Run
public import proofs.«01_k».proof.Proof.Gen.ReferenceFwdIdeal.Read

@[expose] public section

set_option maxRecDepth 16384

noncomputable section

namespace Cert.FAlgebra

open Cert.RefValue Cert.HostValue Cert.Finite
open Idealize.ShloMosaic Idealize.ShloMosaic.TcCoe Idealize.SL.Sem

/-! The frames. -/

theorem frame_ideal : Cert.quiescent_KernelFwdIdeal (hKernelFwdIdeal := Cert.KernelFwdIdeal.Gen.facts) := fun m ρ _ =>
  Cert.KernelFwdIdeal.Hand.frame_main (F := Ideal) m ρ

/-! What was printed twice is one text. -/

theorem same_defs : Cert.KernelFwd.defs (F := Bits) = Cert.KernelFwdIdeal.defs (F := Bits) := by chain_rfl

theorem same_main : Cert.KernelFwd.main (F := Bits) = Cert.KernelFwdIdeal.main (F := Bits) := by chain_rfl

theorem frame_kernel : Cert.quiescent_KernelFwd (hKernelFwd := Cert.KernelFwd.Gen.facts) := by
  unfold Cert.quiescent_KernelFwd
  rw [same_defs, same_main]
  intro m ρ _
  exact Cert.KernelFwdIdeal.Hand.frame_main (F := Bits) m ρ

theorem frame_reference : Cert.quiescent_ReferenceFwdIdeal (hReferenceFwdIdeal := Cert.ReferenceFwdIdeal.Gen.facts) := fun m ρ _ =>
  (θ_run Cert.ReferenceFwdIdeal.defs _ _).mono (fun r h => ⟨fun c => (h c).2.2, Idealize.ShloMosaic.sem_eq_zero_of_no_sems (by decide) r.2⟩)
    (Cert.ReferenceFwdIdeal.Value.run m ρ)

/-! The precondition: the queries and the keys hold numbers. -/

instance preFacts : Cert.Pre_finite_qk.Facts where
  bcast_S_S8192x2048 := by decide
  reducesTo_S8192x2048_S_d0_1 := by decide
  h_S_ := by decide
  bcast_S_S8192x512 := by decide
  reducesTo_S8192x512_S_d0_1 := by decide

theorem reads_of (x0 : FVec Ideal Cert.Pre_finite_qk.S8192x2048 .f32) (x1 : FVec Ideal Cert.Pre_finite_qk.S8192x512 .f32)
    (x2 : FVec Ideal Cert.Pre_finite_qk.S8192x9216 .bf16) (h : Cert.Pre_finite_qk.fn (F := Ideal) x0 x1 x2 = fun _ => 1#1) :
    Reads x0 x1 (fun _ => ((0 : ℝ) : EReal)) (fun _ => ((0 : ℝ) : EReal)) (rows x0) (rows x1) (fun _ _ => 0) (fun _ _ => 0) := by
  have h' := congrFun h (fun a => a.elim0)
  unfold Cert.Pre_finite_qk.fn at h'
  obtain ⟨h1, h2⟩ := IntOp.andi_eq_one.mp h'
  refine ⟨fun i => ?_, fun i => ?_, fun i => rfl, fun i => rfl⟩
  · rw [rows_at]; exact (numbers32 _ _ _ _ x0 h1 i).symm
  · rw [rows_at]; exact (numbers32 _ _ _ _ x1 h2 i).symm

/-- The values' columns as a function of natural numbers. -/
def cols (x : Cert.ReferenceIdeal.S8192x9216.Idx → EReal) (a b : ℕ) : EReal :=
  if h : a < 8192 ∧ b < 512 then x (Cert.ReferenceIdeal.Read.idx_main_v0 (ValueIdx.ix2 (n0 := 8192) (n1 := 512) ⟨a, h.1⟩ ⟨b, h.2⟩)) else 0

theorem cols_at (x : Cert.ReferenceIdeal.S8192x9216.Idx → EReal) (i : Cert.ReferenceIdeal.S8192x512.Idx) :
    x (Cert.ReferenceIdeal.Read.idx_main_v0 i) = cols x (i 0).val (i 1).val := by
  have h0 : (i 0).val < 8192 := (i 0).isLt
  have h1 : (i 1).val < 512 := (i 1).isLt
  unfold cols
  rw [dif_pos ⟨h0, h1⟩]

/-! The two results: the reference computes what the backward kernel's host lines save. -/

theorem ref_out (x0 : FVec Ideal Cert.ReferenceFwdIdeal.S8192x2048 .f32) (x1 : FVec Ideal Cert.ReferenceFwdIdeal.S8192x512 .f32)
    (x2 : FVec Ideal Cert.ReferenceFwdIdeal.S8192x9216 .bf16) :
    Cert.ReferenceFwdIdeal.Read.val_main_v21 (F := Ideal) x0 x1 x2 = hOut (F := Ideal) x0 x1 x2 := by chain_rfl

theorem ref_lse (x0 : FVec Ideal Cert.ReferenceFwdIdeal.S8192x2048 .f32) (x1 : FVec Ideal Cert.ReferenceFwdIdeal.S8192x512 .f32) :
    Cert.ReferenceFwdIdeal.Read.val_main_v28 (F := Ideal) x0 x1 = hLse (F := Ideal) x0 x1 := by chain_rfl

section Kernel
open Cert.KernelFwdIdeal Cert.KernelFwdIdeal.Gen Cert.KernelFwdIdeal.Hand
variable (m : (ℓ : Loc nD τ sig) → Buf (Elt Ideal) ℓ) (ρ : Dev nD → PrngReg)

/-- The kernel's run, its results named. -/
theorem kernel_run (h : Cert.Pre_KernelFwdIdeal_finite_qk m) :
    θ_run defs (onTc (τ := τ) (main (F := Ideal))) ⟨m, fun _ => 0, ρ⟩ (fun r => ∀ c : Dev nD,
      r.2.mem ((c.tc : Thread nD τ).loc main_v7_0) = hOut (F := Ideal) (m ((c.tc : Thread nD τ).loc main_arg0))
        (m ((c.tc : Thread nD τ).loc main_arg1)) (m ((c.tc : Thread nD τ).loc main_arg2))
      ∧ r.2.mem ((c.tc : Thread nD τ).loc main_v7_1) = hLse (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => by
    have R := reads_of _ _ _ (h c)
    exact ⟨((hr.1 c).1 3).trans (Cert.FValue.arr3 m c R (cols_at _)), ((hr.1 c).1 4).trans (Cert.FValue.arr4 m c R (cols_at _)),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).1 2).trans (((dats m 0 c).arrAt_in 2 rfl _).trans ((A_eq m c 2).trans (V_main_arg2 m c)))⟩) (run_main m ρ)

end Kernel

theorem algebraic : Cert.algebraic_KernelFwdIdeal_ReferenceFwdIdeal_pre_finite_qk (hKernelFwdIdeal := Cert.KernelFwdIdeal.Gen.facts)
    (hReferenceFwdIdeal := Cert.ReferenceFwdIdeal.Gen.facts) (hPre_finite_qk := preFacts) := by
  intro m g m' g' h hin
  refine ⟨_, _, kernel_run m g h, ?_⟩
  refine (θ_run Cert.ReferenceFwdIdeal.defs _ _).mono (fun r hr c => ?_) (Cert.ReferenceFwdIdeal.Value.run m' g')
  obtain ⟨i0, i1, i2⟩ := hin c
  obtain ⟨h0, h1, hrest⟩ := hr c
  refine ⟨h0.trans ?_, h1.trans ?_, hrest⟩
  · refine (Cert.ReferenceFwdIdeal.Read.val_main_v21_eq _ _ _).trans ((ref_out _ _ _).trans ?_)
    rw [i0, i1, i2]
  · refine (Cert.ReferenceFwdIdeal.Read.val_main_v28_eq _ _).trans ((ref_lse _ _).trans ?_)
    rw [i0, i1]

theorem frame_ideal_finite : Cert.quiescent_KernelFwdIdeal_pre_finite_qk (hKernelFwdIdeal := Cert.KernelFwdIdeal.Gen.facts)
    (hPre_finite_qk := preFacts) := fun m g _ => frame_ideal m g trivial
theorem frame_reference_finite : Cert.quiescent_ReferenceFwdIdeal_pre_finite_qk (hReferenceFwdIdeal := Cert.ReferenceFwdIdeal.Gen.facts)
    (hPre_finite_qk := preFacts) := fun m g _ => frame_reference m g trivial

end Cert.FAlgebra

end
-- ==== Proof.lean ====
module

public import proofs.«01_k».proof.Proof.Gen.KernelFwd
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Loops
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Gen.KernelW1
public import proofs.«01_k».proof.Proof.Gen.KernelW1.Frame
public import proofs.«01_k».proof.Proof.Gen.KernelW1Ideal
public import proofs.«01_k».proof.Proof.Gen.KernelW1Ideal.Frame
public import proofs.«01_k».proof.Proof.Gen.KernelW1Ideal.Value
public import proofs.«01_k».proof.Proof.Gen.ReferenceW1Ideal
public import proofs.«01_k».proof.Proof.Gen.ReferenceW1Ideal.Run
public import proofs.«01_k».proof.Proof.Gen.ReferenceW1Ideal.Read
public import proofs.«01_k».proof.Proof.Gen.KernelH1
public import proofs.«01_k».proof.Proof.Gen.KernelH1.Frame
public import proofs.«01_k».proof.Proof.Gen.KernelH1Ideal
public import proofs.«01_k».proof.Proof.Gen.KernelH1Ideal.Frame
public import proofs.«01_k».proof.Proof.Gen.KernelH1Ideal.Value
public import proofs.«01_k».proof.Proof.Gen.ReferenceH1Ideal
public import proofs.«01_k».proof.Proof.Gen.ReferenceH1Ideal.Run
public import proofs.«01_k».proof.Proof.Gen.ReferenceH1Ideal.Read
public import proofs.«01_k».proof.Proof.Gen.KernelA
public import proofs.«01_k».proof.Proof.Gen.KernelA.Frame
public import proofs.«01_k».proof.Proof.Gen.KernelAIdeal
public import proofs.«01_k».proof.Proof.Gen.KernelAIdeal.Frame
public import proofs.«01_k».proof.Proof.Gen.KernelAIdeal.Value
public import proofs.«01_k».proof.Proof.Gen.ReferenceAIdeal
public import proofs.«01_k».proof.Proof.Gen.ReferenceAIdeal.Run
public import proofs.«01_k».proof.Proof.Gen.ReferenceAIdeal.Read
public import proofs.«01_k».proof.Proof.Gen.KernelW2
public import proofs.«01_k».proof.Proof.Gen.KernelW2.Frame
public import proofs.«01_k».proof.Proof.Gen.KernelW2Ideal
public import proofs.«01_k».proof.Proof.Gen.KernelW2Ideal.Frame
public import proofs.«01_k».proof.Proof.Gen.KernelW2Ideal.Value
public import proofs.«01_k».proof.Proof.Gen.ReferenceW2Ideal
public import proofs.«01_k».proof.Proof.Gen.ReferenceW2Ideal.Run
public import proofs.«01_k».proof.Proof.Gen.ReferenceW2Ideal.Read
public import proofs.«01_k».proof.Proof.Gen.KernelWin
public import proofs.«01_k».proof.Proof.Gen.KernelWin.Frame
public import proofs.«01_k».proof.Proof.Gen.KernelWinIdeal
public import proofs.«01_k».proof.Proof.Gen.KernelWinIdeal.Frame
public import proofs.«01_k».proof.Proof.Gen.KernelWinIdeal.Value
public import proofs.«01_k».proof.Proof.Gen.ReferenceWinIdeal
public import proofs.«01_k».proof.Proof.Gen.ReferenceWinIdeal.Run
public import proofs.«01_k».proof.Proof.Gen.ReferenceWinIdeal.Read
public import proofs.«01_k».proof.Proof.Gen.KernelH0
public import proofs.«01_k».proof.Proof.Gen.KernelH0.Frame
public import proofs.«01_k».proof.Proof.Gen.KernelH0Ideal
public import proofs.«01_k».proof.Proof.Gen.KernelH0Ideal.Frame
public import proofs.«01_k».proof.Proof.Gen.KernelH0Ideal.Value
public import proofs.«01_k».proof.Proof.Gen.ReferenceH0Ideal
public import proofs.«01_k».proof.Proof.Gen.ReferenceH0Ideal.Run
public import proofs.«01_k».proof.Proof.Gen.ReferenceH0Ideal.Read
public import proofs.«01_k».proof.Proof.Gen.KernelWpg
public import proofs.«01_k».proof.Proof.Gen.KernelWpg.Frame
public import proofs.«01_k».proof.Proof.Gen.KernelWpgIdeal
public import proofs.«01_k».proof.Proof.Gen.KernelWpgIdeal.Frame
public import proofs.«01_k».proof.Proof.Gen.KernelWpgIdeal.Value
public import proofs.«01_k».proof.Proof.Gen.ReferenceWpgIdeal
public import proofs.«01_k».proof.Proof.Gen.ReferenceWpgIdeal.Run
public import proofs.«01_k».proof.Proof.Gen.ReferenceWpgIdeal.Read
public import proofs.«01_k».proof.Proof.Gen.KernelH2
public import proofs.«01_k».proof.Proof.Gen.KernelH2.Frame
public import proofs.«01_k».proof.Proof.Gen.KernelH2Ideal
public import proofs.«01_k».proof.Proof.Gen.KernelH2Ideal.Frame
public import proofs.«01_k».proof.Proof.Gen.KernelH2Ideal.Value
public import proofs.«01_k».proof.Proof.Gen.ReferenceH2Ideal
public import proofs.«01_k».proof.Proof.Gen.ReferenceH2Ideal.Run
public import proofs.«01_k».proof.Proof.Gen.ReferenceH2Ideal.Read
public import proofs.«01_k».proof.Proof.Gen.KernelWcp
public import proofs.«01_k».proof.Proof.Gen.KernelWcp.Frame
public import proofs.«01_k».proof.Proof.Gen.KernelWcpIdeal
public import proofs.«01_k».proof.Proof.Gen.KernelWcpIdeal.Frame
public import proofs.«01_k».proof.Proof.Gen.KernelWcpIdeal.Value
public import proofs.«01_k».proof.Proof.Gen.ReferenceWcpIdeal
public import proofs.«01_k».proof.Proof.Gen.ReferenceWcpIdeal.Run
public import proofs.«01_k».proof.Proof.Gen.ReferenceWcpIdeal.Read
public import proofs.«01_k».proof.Proof.Gen.KernelAct
public import proofs.«01_k».proof.Proof.Gen.KernelAct.Frame
public import proofs.«01_k».proof.Proof.Gen.KernelActIdeal
public import proofs.«01_k».proof.Proof.Gen.KernelActIdeal.Frame
public import proofs.«01_k».proof.Proof.Gen.KernelActIdeal.Value
public import proofs.«01_k».proof.Proof.Gen.ReferenceActIdeal
public import proofs.«01_k».proof.Proof.Gen.ReferenceActIdeal.Run
public import proofs.«01_k».proof.Proof.Gen.ReferenceActIdeal.Read
public import proofs.«01_k».proof.Proof.Gen.KernelZ
public import proofs.«01_k».proof.Proof.Gen.KernelZ.Frame
public import proofs.«01_k».proof.Proof.Gen.KernelZIdeal
public import proofs.«01_k».proof.Proof.Gen.KernelZIdeal.Frame
public import proofs.«01_k».proof.Proof.Gen.KernelZIdeal.Value
public import proofs.«01_k».proof.Proof.Gen.ReferenceZIdeal
public import proofs.«01_k».proof.Proof.Gen.ReferenceZIdeal.Run
public import proofs.«01_k».proof.Proof.Gen.ReferenceZIdeal.Read
public import proofs.«01_k».proof.Proof.Gen.KernelFf
public import proofs.«01_k».proof.Proof.Gen.KernelFf.Frame
public import proofs.«01_k».proof.Proof.Gen.KernelFfIdeal
public import proofs.«01_k».proof.Proof.Gen.KernelFfIdeal.Frame
public import proofs.«01_k».proof.Proof.Gen.KernelFfIdeal.Value
public import proofs.«01_k».proof.Proof.Gen.ReferenceFfIdeal
public import proofs.«01_k».proof.Proof.Gen.ReferenceFfIdeal.Run
public import proofs.«01_k».proof.Proof.Gen.ReferenceFfIdeal.Read
public import proofs.«01_k».proof.Proof.Gen.KernelM
public import proofs.«01_k».proof.Proof.Gen.KernelM.Frame
public import proofs.«01_k».proof.Proof.Gen.KernelMIdeal
public import proofs.«01_k».proof.Proof.Gen.KernelMIdeal.Frame
public import proofs.«01_k».proof.Proof.Gen.KernelMIdeal.Value
public import proofs.«01_k».proof.Proof.Gen.ReferenceMIdeal
public import proofs.«01_k».proof.Proof.Gen.ReferenceMIdeal.Run
public import proofs.«01_k».proof.Proof.Gen.ReferenceMIdeal.Read
public import proofs.«01_k».proof.Proof.Gen.KernelO
public import proofs.«01_k».proof.Proof.Gen.KernelO.Frame
public import proofs.«01_k».proof.Proof.Gen.KernelOIdeal
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.Gen.ReferenceOIdeal.Read
public import proofs.«01_k».proof.Proof.Gen.KernelX
public import proofs.«01_k».proof.Proof.Gen.KernelX.Frame
public import proofs.«01_k».proof.Proof.Gen.KernelXIdeal
public import proofs.«01_k».proof.Proof.Gen.KernelXIdeal.Frame
public import proofs.«01_k».proof.Proof.Gen.KernelXIdeal.Value
public import proofs.«01_k».proof.Proof.Gen.ReferenceXIdeal
public import proofs.«01_k».proof.Proof.Gen.ReferenceXIdeal.Run
public import proofs.«01_k».proof.Proof.Gen.ReferenceXIdeal.Read
public import proofs.«01_k».proof.Proof.Gen.KernelY
public import proofs.«01_k».proof.Proof.Gen.KernelY.Frame
public import proofs.«01_k».proof.Proof.Gen.KernelYIdeal
public import proofs.«01_k».proof.Proof.Gen.KernelYIdeal.Frame
public import proofs.«01_k».proof.Proof.Gen.KernelYIdeal.Value
public import proofs.«01_k».proof.Proof.Gen.ReferenceYIdeal
public import proofs.«01_k».proof.Proof.Gen.ReferenceYIdeal.Run
public import proofs.«01_k».proof.Proof.Gen.ReferenceYIdeal.Read
public import proofs.«01_k».proof.Proof.Gen.KernelG
public import proofs.«01_k».proof.Proof.Gen.KernelG.Frame
public import proofs.«01_k».proof.Proof.Gen.KernelGIdeal
public import proofs.«01_k».proof.Proof.Gen.KernelGIdeal.Frame
public import proofs.«01_k».proof.Proof.Gen.KernelGIdeal.Value
public import proofs.«01_k».proof.Proof.Gen.ReferenceGIdeal
public import proofs.«01_k».proof.Proof.Gen.ReferenceGIdeal.Run
public import proofs.«01_k».proof.Proof.Gen.ReferenceGIdeal.Read
public import proofs.«01_k».proof.Proof.Gen.KernelC
public import proofs.«01_k».proof.Proof.Gen.KernelC.Frame
public import proofs.«01_k».proof.Proof.Gen.KernelCIdeal
public import proofs.«01_k».proof.Proof.Gen.KernelCIdeal.Frame
public import proofs.«01_k».proof.Proof.Gen.KernelCIdeal.Value
public import proofs.«01_k».proof.Proof.Gen.ReferenceCIdeal
public import proofs.«01_k».proof.Proof.Gen.ReferenceCIdeal.Run
public import proofs.«01_k».proof.Proof.Gen.ReferenceCIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebra
public import proofs.«01_k».proof.Proof.DW1
public import proofs.«01_k».proof.Proof.DH1
public import proofs.«01_k».proof.Proof.DA
public import proofs.«01_k».proof.Proof.DW2
public import proofs.«01_k».proof.Proof.DWin
public import proofs.«01_k».proof.Proof.DH0
public import proofs.«01_k».proof.Proof.DWpg
public import proofs.«01_k».proof.Proof.DH2
public import proofs.«01_k».proof.Proof.DWcp
public import proofs.«01_k».proof.Proof.DAct
public import proofs.«01_k».proof.Proof.DZ
public import proofs.«01_k».proof.Proof.DFf
public import proofs.«01_k».proof.Proof.DM
public import proofs.«01_k».proof.Proof.DO
public import proofs.«01_k».proof.Proof.DX
public import proofs.«01_k».proof.Proof.DY
public import proofs.«01_k».proof.Proof.DG
public import proofs.«01_k».proof.Proof.DC
public import proofs.«01_k».proof.Proof.FAlgebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelW1.Gen.facts, Cert.KernelW1Ideal.Gen.facts, Cert.ReferenceW1Ideal.Gen.facts,
  Cert.KernelH1.Gen.facts, Cert.KernelH1Ideal.Gen.facts, Cert.ReferenceH1Ideal.Gen.facts,
  Cert.KernelA.Gen.facts, Cert.KernelAIdeal.Gen.facts, Cert.ReferenceAIdeal.Gen.facts,
  Cert.KernelW2.Gen.facts, Cert.KernelW2Ideal.Gen.facts, Cert.ReferenceW2Ideal.Gen.facts,
  Cert.KernelWin.Gen.facts, Cert.KernelWinIdeal.Gen.facts, Cert.ReferenceWinIdeal.Gen.facts,
  Cert.KernelH0.Gen.facts, Cert.KernelH0Ideal.Gen.facts, Cert.ReferenceH0Ideal.Gen.facts,
  Cert.KernelWpg.Gen.facts, Cert.KernelWpgIdeal.Gen.facts, Cert.ReferenceWpgIdeal.Gen.facts,
  Cert.KernelH2.Gen.facts, Cert.KernelH2Ideal.Gen.facts, Cert.ReferenceH2Ideal.Gen.facts,
  Cert.KernelWcp.Gen.facts, Cert.KernelWcpIdeal.Gen.facts, Cert.ReferenceWcpIdeal.Gen.facts,
  Cert.KernelAct.Gen.facts, Cert.KernelActIdeal.Gen.facts, Cert.ReferenceActIdeal.Gen.facts,
  Cert.KernelZ.Gen.facts, Cert.KernelZIdeal.Gen.facts, Cert.ReferenceZIdeal.Gen.facts,
  Cert.KernelFf.Gen.facts, Cert.KernelFfIdeal.Gen.facts, Cert.ReferenceFfIdeal.Gen.facts,
  Cert.KernelM.Gen.facts, Cert.KernelMIdeal.Gen.facts, Cert.ReferenceMIdeal.Gen.facts,
  Cert.KernelO.Gen.facts, Cert.KernelOIdeal.Gen.facts, Cert.ReferenceOIdeal.Gen.facts,
  Cert.KernelX.Gen.facts, Cert.KernelXIdeal.Gen.facts, Cert.ReferenceXIdeal.Gen.facts,
  Cert.KernelY.Gen.facts, Cert.KernelYIdeal.Gen.facts, Cert.ReferenceYIdeal.Gen.facts,
  Cert.KernelG.Gen.facts, Cert.KernelGIdeal.Gen.facts, Cert.ReferenceGIdeal.Gen.facts,
  Cert.KernelC.Gen.facts, Cert.KernelCIdeal.Gen.facts, Cert.ReferenceCIdeal.Gen.facts,
  Cert.KernelFwd.Gen.facts, Cert.KernelFwdIdeal.Gen.facts, Cert.ReferenceFwdIdeal.Gen.facts,
  Cert.Finite.preFacts, Cert.FAlgebra.preFacts,
  Cert.Frames.frame_kernel, Cert.Frames.frame_ideal, Cert.Algebra.frame_ideal_finite, Cert.Frames.frame_reference,
  Cert.Algebra.frame_reference_finite,
  fun m g _ => Cert.KernelW1.Gen.frame m g, fun m g _ => Cert.KernelW1Ideal.Gen.frame m g, Cert.DW1.frame_reference,
  fun m g _ => Cert.KernelH1.Gen.frame m g, fun m g _ => Cert.KernelH1Ideal.Gen.frame m g, Cert.DH1.frame_reference,
  fun m g _ => Cert.KernelA.Gen.frame m g, fun m g _ => Cert.KernelAIdeal.Gen.frame m g, Cert.DA.frame_reference,
  fun m g _ => Cert.KernelW2.Gen.frame m g, fun m g _ => Cert.KernelW2Ideal.Gen.frame m g, Cert.DW2.frame_reference,
  fun m g _ => Cert.KernelWin.Gen.frame m g, fun m g _ => Cert.KernelWinIdeal.Gen.frame m g, Cert.DWin.frame_reference,
  fun m g _ => Cert.KernelH0.Gen.frame m g, fun m g _ => Cert.KernelH0Ideal.Gen.frame m g, Cert.DH0.frame_reference,
  fun m g _ => Cert.KernelWpg.Gen.frame m g, fun m g _ => Cert.KernelWpgIdeal.Gen.frame m g, Cert.DWpg.frame_reference,
  fun m g _ => Cert.KernelH2.Gen.frame m g, fun m g _ => Cert.KernelH2Ideal.Gen.frame m g, Cert.DH2.frame_reference,
  fun m g _ => Cert.KernelWcp.Gen.frame m g, fun m g _ => Cert.KernelWcpIdeal.Gen.frame m g, Cert.DWcp.frame_reference,
  fun m g _ => Cert.KernelAct.Gen.frame m g, fun m g _ => Cert.KernelActIdeal.Gen.frame m g, Cert.DAct.frame_reference,
  fun m g _ => Cert.KernelZ.Gen.frame m g, fun m g _ => Cert.KernelZIdeal.Gen.frame m g, Cert.DZ.frame_reference,
  fun m g _ => Cert.KernelFf.Gen.frame m g, fun m g _ => Cert.KernelFfIdeal.Gen.frame m g, Cert.DFf.frame_reference,
  fun m g _ => Cert.KernelM.Gen.frame m g, fun m g _ => Cert.KernelMIdeal.Gen.frame m g, Cert.DM.frame_reference,
  fun m g _ => Cert.KernelO.Gen.frame m g, fun m g _ => Cert.KernelOIdeal.Gen.frame m g, Cert.DO.frame_reference,
  fun m g _ => Cert.KernelX.Gen.frame m g, fun m g _ => Cert.KernelXIdeal.Gen.frame m g, Cert.DX.frame_reference,
  fun m g _ => Cert.KernelY.Gen.frame m g, fun m g _ => Cert.KernelYIdeal.Gen.frame m g, Cert.DY.frame_reference,
  fun m g _ => Cert.KernelG.Gen.frame m g, fun m g _ => Cert.KernelGIdeal.Gen.frame m g, Cert.DG.frame_reference,
  fun m g _ => Cert.KernelC.Gen.frame m g, fun m g _ => Cert.KernelCIdeal.Gen.frame m g, Cert.DC.frame_reference,
  Cert.FAlgebra.frame_kernel, Cert.FAlgebra.frame_ideal, Cert.FAlgebra.frame_ideal_finite, Cert.FAlgebra.frame_reference,
  Cert.FAlgebra.frame_reference_finite,
  trivial, Cert.Algebra.algebraic, trivial, Cert.DW1.algebraic, trivial, Cert.DH1.algebraic, trivial, Cert.DA.algebraic,
  trivial, Cert.DW2.algebraic, trivial, Cert.DWin.algebraic, trivial, Cert.DH0.algebraic, trivial, Cert.DWpg.algebraic,
  trivial, Cert.DH2.algebraic, trivial, Cert.DWcp.algebraic, trivial, Cert.DAct.algebraic, trivial, Cert.DZ.algebraic,
  trivial, Cert.DFf.algebraic, trivial, Cert.DM.algebraic, trivial, Cert.DO.algebraic, trivial, Cert.DX.algebraic,
  trivial, Cert.DY.algebraic, trivial, Cert.DG.algebraic, trivial, Cert.DC.algebraic,
  trivial, Cert.FAlgebra.algebraic⟩

end Cert.Proof

end
